-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_hyena [hPre_finite_hyena : Cert.Pre_finite_hyena.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_hyena.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_hyena [hPre_finite_hyena : Cert.Pre_finite_hyena.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_hyena.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_taps [hPre_finite_taps : Cert.Pre_finite_taps.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_taps.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_taps [hPre_finite_taps : Cert.Pre_finite_taps.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_taps.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite_hyena [hKernel2Ideal : Cert.Kernel2Ideal.Facts] [hPre_finite_hyena : Cert.Pre_finite_hyena.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_hyena m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite_hyena [hReference2Ideal : Cert.Reference2Ideal.Facts] [hPre_finite_hyena : Cert.Pre_finite_hyena.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_hyena m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_taps [hKernel5Ideal : Cert.Kernel5Ideal.Facts] [hPre_finite_taps : Cert.Pre_finite_taps.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_taps m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_taps [hReference5Ideal : Cert.Reference5Ideal.Facts] [hPre_finite_taps : Cert.Pre_finite_taps.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_taps m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_hyena [hKernel2Ideal : Cert.Kernel2Ideal.Facts] [hReference2Ideal : Cert.Reference2Ideal.Facts] [hPre_finite_hyena : Cert.Pre_finite_hyena.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_hyena m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_taps [hKernel5Ideal : Cert.Kernel5Ideal.Facts] [hReference5Ideal : Cert.Reference5Ideal.Facts] [hPre_finite_taps : Cert.Pre_finite_taps.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_taps m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v38_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v38_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_hyena : Cert.Pre_finite_hyena.Facts) (hPre_finite_taps : Cert.Pre_finite_taps.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_hyena (hKernel2Ideal := hKernel2Ideal) (hPre_finite_hyena := hPre_finite_hyena)
    ∧ quiescent_Reference2Ideal (hReference2Ideal := hReference2Ideal)
    ∧ quiescent_Reference2Ideal_pre_finite_hyena (hReference2Ideal := hReference2Ideal) (hPre_finite_hyena := hPre_finite_hyena)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_taps (hKernel5Ideal := hKernel5Ideal) (hPre_finite_taps := hPre_finite_taps)
    ∧ quiescent_Reference5Ideal (hReference5Ideal := hReference5Ideal)
    ∧ quiescent_Reference5Ideal_pre_finite_taps (hReference5Ideal := hReference5Ideal) (hPre_finite_taps := hPre_finite_taps)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_hyena (hKernel2Ideal := hKernel2Ideal) (hReference2Ideal := hReference2Ideal) (hPre_finite_hyena := hPre_finite_hyena)
    ∧ preserves_Kernel3_Kernel3Ideal
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_taps (hKernel5Ideal := hKernel5Ideal) (hReference5Ideal := hReference5Ideal) (hPre_finite_taps := hPre_finite_taps)
-- ==== Pre_finite_hyena.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x1x512 : Shape := ⟨3, ![1, 1, 512]⟩

class Facts : Prop where
  bcast_S_S2x8192x512 : S_.BroadcastsInDim S2x8192x512 (![] : Fin 0 → Fin S2x8192x512.rank)
  bcast_S_S1x512 : S_.BroadcastsInDim S1x512 (![] : Fin 0 → Fin S1x512.rank)
  bcast_S1x512_S1x1x512_0_2 : S1x512.BroadcastsInDim S1x1x512 (![0, 2] : Fin 2 → Fin S1x1x512.rank)
  bcast_S1x1x512_S2x8192x512_0_1_2 : S1x1x512.BroadcastsInDim S2x8192x512 (![0, 1, 2] : Fin 3 → Fin S2x8192x512.rank)

variable [Facts]

def fn {F : FTy → Type} [FloatOps F] (main_arg0 : FVec F S2x8192x1024 .f32) (main_arg1 : FVec F S2x8192x512 .f32) (main_arg2 : FVec F S2x8192x512 .f32) (main_arg3 : FVec F S2x8192x512 .f32) (main_arg4 : FVec F S2x8192x512 .f32) (main_arg5 : FVec F S1x512 .f32) (main_arg6 : FVec F S1x512 .f32) (main_arg7 : FVec F S1x1024x1024 .f32) (main_arg8 : FVec F S1x1024 .f32) (main_arg9 : FVec F S1x1024x2816 .f32) (main_arg10 : FVec F S1x1024x2816 .f32) (main_arg11 : FVec F S1x2816x1024 .f32) (main_arg12 : FVec F S1024 .f32) : IVec S2x8192x512 1 :=
  let main_v0 : FVec F S2x8192x512 .f32 := Host.absf main_arg2
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x512 .f32 := Host.absf main_arg3
  let main_cst_0 : FVec F S_ .f32 := constant S_ .f32 0x7F800000#32
  let main_v4 : FVec F S2x8192x512 .f32 := broadcastInDim S2x8192x512 ![] bcast_S_S2x8192x512 main_cst_0
  let main_v5 : IVec S2x8192x512 1 := cmpf .olt main_v3 main_v4
  let main_v6 : IVec S2x8192x512 1 := andi main_v2 main_v5
  let main_v7 : FVec F S2x8192x512 .f32 := Host.absf main_arg4
  let main_cst_1 : FVec F S_ .f32 := constant S_ .f32 0x7F800000#32
  let main_v8 : FVec F S2x8192x512 .f32 := broadcastInDim S2x8192x512 ![] bcast_S_S2x8192x512 main_cst_1
  let main_v9 : IVec S2x8192x512 1 := cmpf .olt main_v7 main_v8
  let main_v10 : IVec S2x8192x512 1 := andi main_v6 main_v9
  let main_v11 : FVec F S1x512 .f32 := Host.absf main_arg5
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : IVec S1x1x512 1 := broadcastInDim S1x1x512 ![0, 2] bcast_S1x512_S1x1x512_0_2 main_v13
  let main_v15 : IVec S2x8192x512 1 := broadcastInDim S2x8192x512 ![0, 1, 2] bcast_S1x1x512_S2x8192x512_0_1_2 main_v14
  let main_v16 : IVec S2x8192x512 1 := andi main_v10 main_v15
  main_v16
-- ==== Pre_finite_taps.lean ====
abbrev S1x33x64 : Shape := ⟨3, ![1, 33, 64]⟩
abbrev S1x64 : Shape := ⟨2, ![1, 64]⟩
abbrev S1x64x64 : Shape := ⟨3, ![1, 64, 64]⟩
abbrev S1x64x1024 : Shape := ⟨3, ![1, 64, 1024]⟩
abbrev S_ : Shape := ⟨0, ![]⟩

class Facts : Prop where
  bcast_S_S1x64x1024 : S_.BroadcastsInDim S1x64x1024 (![] : Fin 0 → Fin S1x64x1024.rank)

variable [Facts]

def fn {F : FTy → Type} [FloatOps F] (main_arg0 : FVec F S1x33x64 .f32) (main_arg1 : FVec F S1x64 .f32) (main_arg2 : FVec F S1x64x64 .f32) (main_arg3 : FVec F S1x64 .f32) (main_arg4 : FVec F S1x64x64 .f32) (main_arg5 : FVec F S1x64 .f32) (main_arg6 : FVec F S1x64x1024 .f32) (main_arg7 : FVec F S1x64 .f32) : IVec S1x64x1024 1 :=
  let main_v0 : FVec F S1x64x1024 .f32 := Host.absf main_arg6
  let main_cst : FVec F S_ .f32 := constant S_ .f32 0x7F800000#32
  let main_v1 : FVec F S1x64x1024 .f32 := broadcastInDim S1x64x1024 ![] bcast_S_S1x64x1024 main_cst
  let main_v2 : IVec S1x64x1024 1 := cmpf .olt main_v0 main_v1
  main_v2
-- ==== Kernel.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S2x256x2816 : Shape := ⟨3, ![2, 256, 2816]⟩
abbrev S2x704x1024 : Shape := ⟨3, ![2, 704, 1024]⟩
abbrev S2 : Shape := ⟨1, ![2]⟩
abbrev S1 : Shape := ⟨1, ![1]⟩
abbrev S_ : Shape := ⟨0, ![]⟩
abbrev S1x256x2816 : Shape := ⟨3, ![1, 256, 2816]⟩
abbrev S256x2816 : Shape := ⟨2, ![256, 2816]⟩
abbrev S1x704x1024 : Shape := ⟨3, ![1, 704, 1024]⟩
abbrev S704x1024 : Shape := ⟨2, ![704, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16384x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S2x256x2816, .f32⟩
  | .local _ .vmem, ⟨9, _⟩ => ⟨S2x704x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x512 : Shape := ⟨2, ![16384, 512]⟩
abbrev S512 : Shape := ⟨1, ![512]⟩
abbrev S1024x1024 : Shape := ⟨2, ![1024, 1024]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S_ : Shape := ⟨0, ![]⟩
abbrev S512x1 : Shape := ⟨2, ![512, 1]⟩
abbrev S512x512 : Shape := ⟨2, ![512, 512]⟩
abbrev S2x256x2816 : Shape := ⟨3, ![2, 256, 2816]⟩
abbrev S2x704x1024 : Shape := ⟨3, ![2, 704, 1024]⟩
abbrev S2 : Shape := ⟨1, ![2]⟩
abbrev S1 : Shape := ⟨1, ![1]⟩
abbrev S1x256x2816 : Shape := ⟨3, ![1, 256, 2816]⟩
abbrev S256x2816 : Shape := ⟨2, ![256, 2816]⟩
abbrev S1x704x1024 : Shape := ⟨3, ![1, 704, 1024]⟩
abbrev S704x1024 : Shape := ⟨2, ![704, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 50
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S16384x512, .f32⟩
  | .hbm, ⟨14, _⟩ => ⟨S2x8192x512, .bf16⟩
  | .hbm, ⟨15, _⟩ => ⟨S16384x512, .bf16⟩
  | .hbm, ⟨16, _⟩ => ⟨S2x8192x512, .bf16⟩
  | .hbm, ⟨17, _⟩ => ⟨S16384x512, .bf16⟩
  | .hbm, ⟨18, _⟩ => ⟨S512, .f32⟩
  | .hbm, ⟨19, _⟩ => ⟨S512, .f32⟩
  | .hbm, ⟨20, _⟩ => ⟨S1024x1024, .f32⟩
  | .hbm, ⟨21, _⟩ => ⟨S1024x1024, .bf16⟩
  | .hbm, ⟨22, _⟩ => ⟨S16384x1024, .f32⟩
  | .hbm, ⟨23, _⟩ => ⟨S1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S2x8192x512, .bf16⟩
  | .hbm, ⟨28, _⟩ => ⟨S16384x512, .bf16⟩
  | .hbm, ⟨29, _⟩ => ⟨S512x1024, .bf16⟩
  | .hbm, ⟨30, _⟩ => ⟨S512x1024, .bf16⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .bf16⟩
  | .hbm, ⟨45, _⟩ => ⟨S1x512, .f32⟩
  | .hbm, ⟨46, _⟩ => ⟨S1x512, .f32⟩
  | .hbm, ⟨47, _⟩ => ⟨S1x1024, .f32⟩
  | .hbm, ⟨48, _⟩ => ⟨S1x1024, .f32⟩
  | .hbm, ⟨49, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S2x256x2816, .f32⟩
  | .local _ .vmem, ⟨23, _⟩ => ⟨S2x704x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512 : Shape := ⟨1, ![512]⟩
abbrev S1x1x512 : Shape := ⟨3, ![1, 1, 512]⟩
abbrev S2x8192x8x64 : Shape := ⟨4, ![2, 8192, 8, 64]⟩
abbrev S8x64 : Shape := ⟨2, ![8, 64]⟩
abbrev S_ : Shape := ⟨0, ![]⟩
abbrev S2x8192x8 : Shape := ⟨3, ![2, 8192, 8]⟩
abbrev S2x8192x8x1 : Shape := ⟨4, ![2, 8192, 8, 1]⟩
abbrev S1x1x8x64 : Shape := ⟨4, ![1, 1, 8, 64]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S512, .f32⟩
  | .hbm, ⟨14, _⟩ => ⟨S1x1x512, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S2x8192x8x64, .f32⟩
  | .hbm, ⟨20, _⟩ => ⟨S512, .f32⟩
  | .hbm, ⟨21, _⟩ => ⟨S8x64, .f32⟩
  | .hbm, ⟨22, _⟩ => ⟨S2x8192x8x64, .f32⟩
  | .hbm, ⟨23, _⟩ => ⟨S_, .f32⟩
  | .hbm, ⟨24, _⟩ => ⟨S2x8192x8, .f32⟩
  | .hbm, ⟨25, _⟩ => ⟨S2x8192x8x1, .f32⟩
  | .hbm, ⟨26, _⟩ => ⟨S_, .f32⟩
  | .hbm, ⟨27, _⟩ => ⟨S2x8192x8x1, .f32⟩
  | .hbm, ⟨28, _⟩ => ⟨S2x8192x8x1, .f32⟩
  | .hbm, ⟨29, _⟩ => ⟨S_, .f32⟩
  | .hbm, ⟨30, _⟩ => ⟨S2x8192x8x1, .f32⟩
  | .hbm, ⟨31, _⟩ => ⟨S2x8192x8x1, .f32⟩
  | .hbm, ⟨32, _⟩ => ⟨S2x8192x8x1, .f32⟩
  | .hbm, ⟨33, _⟩ => ⟨S2x8192x8x64, .f32⟩
  | .hbm, ⟨34, _⟩ => ⟨S2x8192x8x64, .f32⟩
  | .hbm, ⟨35, _⟩ => ⟨S1x1x8x64, .f32⟩
  | .hbm, ⟨36, _⟩ => ⟨S2x8192x8x64, .f32⟩
  | .hbm, ⟨37, _⟩ => ⟨S2x8192x8x64, .f32⟩
  | .hbm, ⟨38, _⟩ => ⟨S2x8192x512, .f32⟩
  | .hbm, ⟨39, _⟩ => ⟨S2x8192x1024, .f32⟩
  | .hbm, ⟨40, _⟩ => ⟨S1024x1024, .f32⟩
  | .hbm, ⟨41, _⟩ => ⟨S2x8192x1024, .f32⟩
  | .hbm, ⟨42, _⟩ => ⟨S2x8192x1024, .f32⟩
  | .hbm, ⟨43, _⟩ => ⟨S1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S1024x2816, .f32⟩
  | .hbm, ⟨61, _⟩ => ⟨S1024x2816, .f32⟩
  | .hbm, ⟨62, _⟩ => ⟨S2816x1024, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S2x8192x2816, .f32⟩
  | .hbm, ⟨74, _⟩ => ⟨S2x8192x2816, .f32⟩
  | .hbm, ⟨75, _⟩ => ⟨S2x8192x1024, .f32⟩
  | .hbm, ⟨76, _⟩ => ⟨S_, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S2x8192x1, .f32⟩
  | .hbm, ⟨91, _⟩ => ⟨S2x8192x1024, .f32⟩
  | .hbm, ⟨92, _⟩ => ⟨S2x8192x1024, .f32⟩
  | .hbm, ⟨93, _⟩ => ⟨S1x1x1024, .f32⟩
  | .hbm, ⟨94, _⟩ => ⟨S2x8192x1024, .f32⟩
  | .hbm, ⟨95, _⟩ => ⟨S2x8192x1024, .f32⟩
  | .hbm, ⟨96, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel3.lean ====
abbrev S2x8192x1536 : Shape := ⟨3, ![2, 8192, 1536]⟩
abbrev S4x5x512x512 : Shape := ⟨4, ![4, 5, 512, 512]⟩
abbrev S1x64 : Shape := ⟨2, ![1, 64]⟩
abbrev S1x128 : Shape := ⟨2, ![1, 128]⟩
abbrev S2x8192x512 : Shape := ⟨3, ![2, 8192, 512]⟩
abbrev S_ : Shape := ⟨0, ![]⟩
abbrev S2x8192x1024 : Shape := ⟨3, ![2, 8192, 1024]⟩
abbrev S64 : Shape := ⟨1, ![64]⟩
abbrev S128 : Shape := ⟨1, ![128]⟩
abbrev S1x1024x128 : Shape := ⟨3, ![1, 1024, 128]⟩
abbrev S1x8192x128 : Shape := ⟨3, ![1, 8192, 128]⟩
abbrev S1x5x512x512 : Shape := ⟨4, ![1, 5, 512, 512]⟩
abbrev S2048x128 : Shape := ⟨2, ![2048, 128]⟩
abbrev S8192x256 : Shape := ⟨2, ![8192, 256]⟩
abbrev S8192x128 : Shape := ⟨2, ![8192, 128]⟩
abbrev S1x1x64 : Shape := ⟨3, ![1, 1, 64]⟩
abbrev S1 : Shape := ⟨1, ![1]⟩
abbrev S1x1x1 : Shape := ⟨3, ![1, 1, 1]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256x128 : Shape := ⟨2, ![256, 128]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S512x256 : Shape := ⟨2, ![512, 256]⟩
abbrev S1x1x1x128 : Shape := ⟨4, ![1, 1, 1, 128]⟩
abbrev S1024x256 : Shape := ⟨2, ![1024, 256]⟩
abbrev S1024x128 : Shape := ⟨2, ![1024, 128]⟩
abbrev S1024x1 : Shape := ⟨2, ![1024, 1]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S2x8192x1536, .f32⟩
  | .hbm, ⟨1, _⟩ => ⟨S4x5x512x512, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S2x8192x512, .f32⟩
  | .hbm, ⟨8, _⟩ => ⟨S_, .f32⟩
  | .hbm, ⟨9, _⟩ => ⟨S2x8192x512, .f32⟩
  | .hbm, ⟨10, _⟩ => ⟨S2x8192x512, .f32⟩
  | .hbm, ⟨11, _⟩ => ⟨S2x8192x1024, .f32⟩
  | .hbm, ⟨12, _⟩ => ⟨S2x8192x1536, .f32⟩
  | .hbm, ⟨13, _⟩ => ⟨S2x8192x1536, .bf16⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x128, .f32⟩
  | .hbm, ⟨24, _⟩ => ⟨S2x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x5x512x512, .f32⟩
  | .local _ .vmem, ⟨7, _⟩ => ⟨S1x5x512x512, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x1024x128, .bf16⟩
  | .local _ .vmem, ⟨14, _⟩ => ⟨S1x1024x128, .bf16⟩
  | .local _ .vmem, ⟨15, _⟩ => ⟨S2048x128, .bf16⟩
  | .local _ .vmem, ⟨16, _⟩ => ⟨S8192x256, .bf16⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_28 : BitVec 32 := 0#32
  let v61 : BitVec 32 := Scalar.addi v26 c0_i32_28
  let c16_i32 : BitVec 32 := 16#32
  let v62 : BitVec 1 := Scalar.cmpi .sge v61 c16_i32
  let c0_i32_29 : BitVec 32 := 0#32
  let v63 : BitVec 32 := Scalar.addi v26 c0_i32_29
  let c16_i32_30 : BitVec 32 := 16#32
  let v64 : BitVec 32 := Scalar.subi v63 c16_i32_30
  let c0_i32_31 : BitVec 32 := 0#32
  let v65 : BitVec 32 := Scalar.addi v26 c0_i32_31
  let v66 : BitVec 32 := Scalar.select v62 v64 v65
  let c512_i32 : BitVec 32 := 512#32
  let v67 : BitVec 32 := Scalar.muli v66 c512_i32
  v67
def k0_off1 (i : grid0.Coords) (c0_i32_10 : BitVec 32) : Fin 3 → Nat :=
  let c0_32 : Index := 0#32
  let arg2 : BitVec 32 := BitVec.ofNat 32 (i 2).val
  let c2_i32 : BitVec 32 := 2#32
  let v25 : BitVec 32 := Scalar.muli arg2 c2_i32
  let v26 : BitVec 32 := Scalar.addi v25 c0_i32_10
  let c0_i32_28 : BitVec 32 := 0#32
  let v61 : BitVec 32 := Scalar.addi v26 c0_i32_28
  let c16_i32 : BitVec 32 := 16#32
  let v62 : BitVec 1 := Scalar.cmpi .sge v61 c16_i32
  let c0_i32_29 : BitVec 32 := 0#32
  let v63 : BitVec 32 := Scalar.addi v26 c0_i32_29
  let c16_i32_30 : BitVec 32 := 16#32
  let v64 : BitVec 32 := Scalar.subi v63 c16_i32_30
  let c0_i32_31 : BitVec 32 := 0#32
  let v65 : BitVec 32 := Scalar.addi v26 c0_i32_31
  let v66 : BitVec 32 := Scalar.select v62 v64 v65
  let c512_i32 : BitVec 32 := 512#32
  let v67 : BitVec 32 := Scalar.muli v66 c512_i32
  let v68 : BitVec 32 := v67
  let v69 : Index := Scalar.indexCast v68
  let c0_33 : Index := 0#32
  ![0, v69.toNat, 0]
def k0_off2 (i : grid0.Coords) (c0_i32_10 : BitVec 32) (c0_i32_28 : BitVec 32) (c0_i32_29 : BitVec 32) (c0_i32_31 : BitVec 32) : Fin 4 → Nat :=
  let c0_39 : Index := 0#32
  let c2_i32_37 : BitVec 32 := 2#32
  let c_m2_i32 : BitVec 32 := 4294967294#32
  let arg2 : BitVec 32 := BitVec.ofNat 32 (i 2).val
  let c2_i32 : BitVec 32 := 2#32
  let v25 : BitVec 32 := Scalar.muli arg2 c2_i32
  let v26 : BitVec 32 := Scalar.addi v25 c0_i32_10
  let v61 : BitVec 32 := Scalar.addi v26 c0_i32_28
  let c16_i32 : BitVec 32 := 16#32
  let v62 : BitVec 1 := Scalar.cmpi .sge v61 c16_i32
  let v63 : BitVec 32 := Scalar.addi v26 c0_i32_29
  let c16_i32_30 : BitVec 32 := 16#32
  let v64 : BitVec 32 := Scalar.subi v63 c16_i32_30
  let v65 : BitVec 32 := Scalar.addi v26 c0_i32_31
  let v66 : BitVec 32 := Scalar.select v62 v64 v65
  let v74 : BitVec 32 := Scalar.subi v66 v26
  let v75 : BitVec 32 := Scalar.maxsi c_m2_i32 v74
  let v76 : BitVec 32 := Scalar.minsi c2_i32_37 v75
  let c2_i32_38 : BitVec 32 := 2#32
  let v77 : BitVec 32 := Scalar.addi v76 c2_i32_38
  let v78 : Index := Scalar.indexCast v77
  let c0_40 : Index := 0#32
  let c0_41 : Index := 0#32
  ![0, v78.toNat, 0, 0]
def k0_off2_at (r : Fin 6) : BitVec 32 × BitVec 32 × BitVec 32 × BitVec 32 :=
  if r.val < 3 then
    if r.val < 1 then
      (0#32, 0#32, 0#32, 0#32)
    else
      if r.val < 2 then
        (1#32, 0#32, 0#32, 0#32)
      else
        (0#32, 1#32, 1#32, 1#32)
  else
    if r.val < 4 then
      (1#32, 1#32, 1#32, 1#32)
    else
      if r.val < 5 then
        (0#32, 15#32, 15#32, 15#32)
      else
        (1#32, 15#32, 15#32, 15#32)
def k0_mult2 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_44 : BitVec 32 := 0#32
  let v88 : BitVec 32 := Scalar.addi v26 c0_i32_44
  let c16_i32_45 : BitVec 32 := 16#32
  let v89 : BitVec 1 := Scalar.cmpi .sge v88 c16_i32_45
  let c0_i32_46 : BitVec 32 := 0#32
  let v90 : BitVec 32 := Scalar.addi v26 c0_i32_46
  let c16_i32_47 : BitVec 32 := 16#32
  let v91 : BitVec 32 := Scalar.subi v90 c16_i32_47
  let c0_i32_48 : BitVec 32 := 0#32
  let v92 : BitVec 32 := Scalar.addi v26 c0_i32_48
  let v93 : BitVec 32 := Scalar.select v89 v91 v92
  let c512_i32_49 : BitVec 32 := 512#32
  let v94 : BitVec 32 := Scalar.muli v93 c512_i32_49
  v94
def k0_off3 (i : grid0.Coords) (c0_i32_10 : BitVec 32) (c0_i32_44 : BitVec 32) (c0_i32_46 : BitVec 32) (c0_i32_48 : BitVec 32) : Fin 4 → Nat :=
  let c0_57 : Index := 0#32
  let c2_i32_55 : BitVec 32 := 2#32
  let c_m2_i32_54 : BitVec 32 := 4294967294#32
  let arg2 : BitVec 32 := BitVec.ofNat 32 (i 2).val
  let c2_i32 : BitVec 32 := 2#32
  let v25 : BitVec 32 := Scalar.muli arg2 c2_i32
  let v26 : BitVec 32 := Scalar.addi v25 c0_i32_10
  let v88 : BitVec 32 := Scalar.addi v26 c0_i32_44
  let c16_i32_45 : BitVec 32 := 16#32
  let v89 : BitVec 1 := Scalar.cmpi .sge v88 c16_i32_45
  let v90 : BitVec 32 := Scalar.addi v26 c0_i32_46
  let c16_i32_47 : BitVec 32 := 16#32
  let v91 : BitVec 32 := Scalar.subi v90 c16_i32_47
  let v92 : BitVec 32 := Scalar.addi v26 c0_i32_48
  let v93 : BitVec 32 := Scalar.select v89 v91 v92
  let v101 : BitVec 32 := Scalar.subi v93 v26
  let v102 : BitVec 32 := Scalar.maxsi c_m2_i32_54 v101
  let v103 : BitVec 32 := Scalar.minsi c2_i32_55 v102
  let c2_i32_56 : BitVec 32 := 2#32
  let v104 : BitVec 32 := Scalar.addi v103 c2_i32_56
  let v105 : Index := Scalar.indexCast v104
  let c256_58 : Index := 256#32
  let c0_59 : Index := 0#32
  ![0, v105.toNat, 256, 0]
def k0_off3_at (r : Fin 6) : BitVec 32 × BitVec 32 × BitVec 32 × BitVec 32 :=
  if r.val < 3 then
    if r.val < 1 then
      (0#32, 0#32, 0#32, 0#32)
    else
      if r.val < 2 then
        (1#32, 0#32, 0#32, 0#32)
      else
        (0#32, 1#32, 1#32, 1#32)
  else
    if r.val < 4 then
      (1#32, 1#32, 1#32, 1#32)
    else
      if r.val < 5 then
        (0#32, 15#32, 15#32, 15#32)
      else
        (1#32, 15#32, 15#32, 15#32)
def k0_mult3 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_62 : BitVec 32 := 0#32
  let v115 : BitVec 32 := Scalar.addi v26 c0_i32_62
  let c16_i32_63 : BitVec 32 := 16#32
  let v116 : BitVec 1 := Scalar.cmpi .sge v115 c16_i32_63
  let c0_i32_64 : BitVec 32 := 0#32
  let v117 : BitVec 32 := Scalar.addi v26 c0_i32_64
  let c16_i32_65 : BitVec 32 := 16#32
  let v118 : BitVec 32 := Scalar.subi v117 c16_i32_65
  let c0_i32_66 : BitVec 32 := 0#32
  let v119 : BitVec 32 := Scalar.addi v26 c0_i32_66
  let v120 : BitVec 32 := Scalar.select v116 v118 v119
  let c512_i32_67 : BitVec 32 := 512#32
  let v121 : BitVec 32 := Scalar.muli v120 c512_i32_67
  v121
def k0_mult4 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_81 : BitVec 32 := 0#32
  let v142 : BitVec 32 := Scalar.addi v26 c0_i32_81
  let c16_i32_82 : BitVec 32 := 16#32
  let v143 : BitVec 1 := Scalar.cmpi .sge v142 c16_i32_82
  let c0_i32_83 : BitVec 32 := 0#32
  let v144 : BitVec 32 := Scalar.addi v26 c0_i32_83
  let c16_i32_84 : BitVec 32 := 16#32
  let v145 : BitVec 32 := Scalar.subi v144 c16_i32_84
  let c0_i32_85 : BitVec 32 := 0#32
  let v146 : BitVec 32 := Scalar.addi v26 c0_i32_85
  let v147 : BitVec 32 := Scalar.select v143 v145 v146
  let c512_i32_86 : BitVec 32 := 512#32
  let v148 : BitVec 32 := Scalar.muli v147 c512_i32_86
  v148
def k0_mult5 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_99 : BitVec 32 := 0#32
  let v169 : BitVec 32 := Scalar.addi v44 c0_i32_99
  let c16_i32_100 : BitVec 32 := 16#32
  let v170 : BitVec 1 := Scalar.cmpi .sge v169 c16_i32_100
  let c0_i32_101 : BitVec 32 := 0#32
  let v171 : BitVec 32 := Scalar.addi v44 c0_i32_101
  let c16_i32_102 : BitVec 32 := 16#32
  let v172 : BitVec 32 := Scalar.subi v171 c16_i32_102
  let c0_i32_103 : BitVec 32 := 0#32
  let v173 : BitVec 32 := Scalar.addi v44 c0_i32_103
  let v174 : BitVec 32 := Scalar.select v170 v172 v173
  let c512_i32_104 : BitVec 32 := 512#32
  let v175 : BitVec 32 := Scalar.muli v174 c512_i32_104
  v175
def k0_mult6 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_118 : BitVec 32 := 0#32
  let v196 : BitVec 32 := Scalar.addi v44 c0_i32_118
  let c16_i32_119 : BitVec 32 := 16#32
  let v197 : BitVec 1 := Scalar.cmpi .sge v196 c16_i32_119
  let c0_i32_120 : BitVec 32 := 0#32
  let v198 : BitVec 32 := Scalar.addi v44 c0_i32_120
  let c16_i32_121 : BitVec 32 := 16#32
  let v199 : BitVec 32 := Scalar.subi v198 c16_i32_121
  let c0_i32_122 : BitVec 32 := 0#32
  let v200 : BitVec 32 := Scalar.addi v44 c0_i32_122
  let v201 : BitVec 32 := Scalar.select v197 v199 v200
  let c512_i32_123 : BitVec 32 := 512#32
  let v202 : BitVec 32 := Scalar.muli v201 c512_i32_123
  v202
def k0_mult7 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_136 : BitVec 32 := 0#32
  let v223 : BitVec 32 := Scalar.addi v44 c0_i32_136
  let c16_i32_137 : BitVec 32 := 16#32
  let v224 : BitVec 1 := Scalar.cmpi .sge v223 c16_i32_137
  let c0_i32_138 : BitVec 32 := 0#32
  let v225 : BitVec 32 := Scalar.addi v44 c0_i32_138
  let c16_i32_139 : BitVec 32 := 16#32
  let v226 : BitVec 32 := Scalar.subi v225 c16_i32_139
  let c0_i32_140 : BitVec 32 := 0#32
  let v227 : BitVec 32 := Scalar.addi v44 c0_i32_140
  let v228 : BitVec 32 := Scalar.select v224 v226 v227
  let c512_i32_141 : BitVec 32 := 512#32
  let v229 : BitVec 32 := Scalar.muli v228 c512_i32_141
  v229
def k0_mult8 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_155 : BitVec 32 := 0#32
  let v250 : BitVec 32 := Scalar.addi v44 c0_i32_155
  let c16_i32_156 : BitVec 32 := 16#32
  let v251 : BitVec 1 := Scalar.cmpi .sge v250 c16_i32_156
  let c0_i32_157 : BitVec 32 := 0#32
  let v252 : BitVec 32 := Scalar.addi v44 c0_i32_157
  let c16_i32_158 : BitVec 32 := 16#32
  let v253 : BitVec 32 := Scalar.subi v252 c16_i32_158
  let c0_i32_159 : BitVec 32 := 0#32
  let v254 : BitVec 32 := Scalar.addi v44 c0_i32_159
  let v255 : BitVec 32 := Scalar.select v251 v253 v254
  let c512_i32_160 : BitVec 32 := 512#32
  let v256 : BitVec 32 := Scalar.muli v255 c512_i32_160
  v256
def k0_mult9 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_173 : BitVec 32 := 0#32
  let v277 : BitVec 32 := Scalar.addi v26 c0_i32_173
  let c16_i32_174 : BitVec 32 := 16#32
  let v278 : BitVec 1 := Scalar.cmpi .sge v277 c16_i32_174
  let c0_i32_175 : BitVec 32 := 0#32
  let v279 : BitVec 32 := Scalar.addi v26 c0_i32_175
  let c16_i32_176 : BitVec 32 := 16#32
  let v280 : BitVec 32 := Scalar.subi v279 c16_i32_176
  let c0_i32_177 : BitVec 32 := 0#32
  let v281 : BitVec 32 := Scalar.addi v26 c0_i32_177
  let v282 : BitVec 32 := Scalar.select v278 v280 v281
  let c512_i32_178 : BitVec 32 := 512#32
  let v283 : BitVec 32 := Scalar.muli v282 c512_i32_178
  v283
def k0_off4 (i : grid0.Coords) (c0_i32_10 : BitVec 32) (c0_i32_173 : BitVec 32) (c0_i32_175 : BitVec 32) (c0_i32_177 : BitVec 32) : Fin 3 → Nat :=
  let c0_179 : Index := 0#32
  let arg2 : BitVec 32 := BitVec.ofNat 32 (i 2).val
  let c2_i32 : BitVec 32 := 2#32
  let v25 : BitVec 32 := Scalar.muli arg2 c2_i32
  let v26 : BitVec 32 := Scalar.addi v25 c0_i32_10
  let v277 : BitVec 32 := Scalar.addi v26 c0_i32_173
  let c16_i32_174 : BitVec 32 := 16#32
  let v278 : BitVec 1 := Scalar.cmpi .sge v277 c16_i32_174
  let v279 : BitVec 32 := Scalar.addi v26 c0_i32_175
  let c16_i32_176 : BitVec 32 := 16#32
  let v280 : BitVec 32 := Scalar.subi v279 c16_i32_176
  let v281 : BitVec 32 := Scalar.addi v26 c0_i32_177
  let v282 : BitVec 32 := Scalar.select v278 v280 v281
  let c512_i32_178 : BitVec 32 := 512#32
  let v283 : BitVec 32 := Scalar.muli v282 c512_i32_178
  let v284 : BitVec 32 := v283
  let v285 : Index := Scalar.indexCast v284
  let c0_180 : Index := 0#32
  ![0, v285.toNat, 0]
def k0_off4_at (r : Fin 32) : BitVec 32 × BitVec 32 × BitVec 32 × BitVec 32 :=
  if r.val < 16 then
    if r.val < 8 then
      if r.val < 4 then
        if r.val < 2 then
          if r.val < 1 then
            (0#32, 0#32, 0#32, 0#32)
          else
            (1#32, 0#32, 0#32, 0#32)
        else
          if r.val < 3 then
            (0#32, 1#32, 1#32, 1#32)
          else
            (1#32, 1#32, 1#32, 1#32)
      else
        if r.val < 6 then
          if r.val < 5 then
            (0#32, 2#32, 2#32, 2#32)
          else
            (1#32, 2#32, 2#32, 2#32)
        else
          if r.val < 7 then
            (0#32, 3#32, 3#32, 3#32)
          else
            (1#32, 3#32, 3#32, 3#32)
    else
      if r.val < 12 then
        if r.val < 10 then
          if r.val < 9 then
            (0#32, 4#32, 4#32, 4#32)
          else
            (1#32, 4#32, 4#32, 4#32)
        else
          if r.val < 11 then
            (0#32, 5#32, 5#32, 5#32)
          else
            (1#32, 5#32, 5#32, 5#32)
      else
        if r.val < 14 then
          if r.val < 13 then
            (0#32, 6#32, 6#32, 6#32)
          else
            (1#32, 6#32, 6#32, 6#32)
        else
          if r.val < 15 then
            (0#32, 7#32, 7#32, 7#32)
          else
            (1#32, 7#32, 7#32, 7#32)
  else
    if r.val < 24 then
      if r.val < 20 then
        if r.val < 18 then
          if r.val < 17 then
            (0#32, 8#32, 8#32, 8#32)
          else
            (1#32, 8#32, 8#32, 8#32)
        else
          if r.val < 19 then
            (0#32, 9#32, 9#32, 9#32)
          else
            (1#32, 9#32, 9#32, 9#32)
      else
        if r.val < 22 then
          if r.val < 21 then
            (0#32, 10#32, 10#32, 10#32)
          else
            (1#32, 10#32, 10#32, 10#32)
        else
          if r.val < 23 then
            (0#32, 11#32, 11#32, 11#32)
          else
            (1#32, 11#32, 11#32, 11#32)
    else
      if r.val < 28 then
        if r.val < 26 then
          if r.val < 25 then
            (0#32, 12#32, 12#32, 12#32)
          else
            (1#32, 12#32, 12#32, 12#32)
        else
          if r.val < 27 then
            (0#32, 13#32, 13#32, 13#32)
          else
            (1#32, 13#32, 13#32, 13#32)
      else
        if r.val < 30 then
          if r.val < 29 then
            (0#32, 14#32, 14#32, 14#32)
          else
            (1#32, 14#32, 14#32, 14#32)
        else
          if r.val < 31 then
            (0#32, 15#32, 15#32, 15#32)
          else
            (1#32, 15#32, 15#32, 15#32)
def k0_mult10 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_173 : BitVec 32 := 0#32
  let v277 : BitVec 32 := Scalar.addi v26 c0_i32_173
  let c16_i32_174 : BitVec 32 := 16#32
  let v278 : BitVec 1 := Scalar.cmpi .sge v277 c16_i32_174
  let c0_i32_175 : BitVec 32 := 0#32
  let v279 : BitVec 32 := Scalar.addi v26 c0_i32_175
  let c16_i32_176 : BitVec 32 := 16#32
  let v280 : BitVec 32 := Scalar.subi v279 c16_i32_176
  let c0_i32_177 : BitVec 32 := 0#32
  let v281 : BitVec 32 := Scalar.addi v26 c0_i32_177
  let v282 : BitVec 32 := Scalar.select v278 v280 v281
  let c512_i32_193 : BitVec 32 := 512#32
  let v343 : BitVec 32 := Scalar.muli v282 c512_i32_193
  v343
def k0_off5 (i : grid0.Coords) (c0_i32_10 : BitVec 32) (c0_i32_173 : BitVec 32) (c0_i32_175 : BitVec 32) (c0_i32_177 : BitVec 32) : Fin 2 → Nat :=
  let arg2 : BitVec 32 := BitVec.ofNat 32 (i 2).val
  let c2_i32 : BitVec 32 := 2#32
  let v25 : BitVec 32 := Scalar.muli arg2 c2_i32
  let v26 : BitVec 32 := Scalar.addi v25 c0_i32_10
  let v277 : BitVec 32 := Scalar.addi v26 c0_i32_173
  let c16_i32_174 : BitVec 32 := 16#32
  let v278 : BitVec 1 := Scalar.cmpi .sge v277 c16_i32_174
  let v279 : BitVec 32 := Scalar.addi v26 c0_i32_175
  let c16_i32_176 : BitVec 32 := 16#32
  let v280 : BitVec 32 := Scalar.subi v279 c16_i32_176
  let v281 : BitVec 32 := Scalar.addi v26 c0_i32_177
  let v282 : BitVec 32 := Scalar.select v278 v280 v281
  let c512_i32_193 : BitVec 32 := 512#32
  let v343 : BitVec 32 := Scalar.muli v282 c512_i32_193
  let v344 : BitVec 32 := v343
  let v345 : Index := Scalar.indexCast v344
  let c0_194 : Index := 0#32
  ![v345.toNat, 0]
def k0_off5_at (r : Fin 32) : BitVec 32 × BitVec 32 × BitVec 32 × BitVec 32 :=
  if r.val < 16 then
    if r.val < 8 then
      if r.val < 4 then
        if r.val < 2 then
          if r.val < 1 then
            (0#32, 0#32, 0#32, 0#32)
          else
            (1#32, 0#32, 0#32, 0#32)
        else
          if r.val < 3 then
            (0#32, 1#32, 1#32, 1#32)
          else
            (1#32, 1#32, 1#32, 1#32)
      else
        if r.val < 6 then
          if r.val < 5 then
            (0#32, 2#32, 2#32, 2#32)
          else
            (1#32, 2#32, 2#32, 2#32)
        else
          if r.val < 7 then
            (0#32, 3#32, 3#32, 3#32)
          else
            (1#32, 3#32, 3#32, 3#32)
    else
      if r.val < 12 then
        if r.val < 10 then
          if r.val < 9 then
            (0#32, 4#32, 4#32, 4#32)
          else
            (1#32, 4#32, 4#32, 4#32)
        else
          if r.val < 11 then
            (0#32, 5#32, 5#32, 5#32)
          else
            (1#32, 5#32, 5#32, 5#32)
      else
        if r.val < 14 then
          if r.val < 13 then
            (0#32, 6#32, 6#32, 6#32)
          else
            (1#32, 6#32, 6#32, 6#32)
        else
          if r.val < 15 then
            (0#32, 7#32, 7#32, 7#32)
          else
            (1#32, 7#32, 7#32, 7#32)
  else
    if r.val < 24 then
      if r.val < 20 then
        if r.val < 18 then
          if r.val < 17 then
            (0#32, 8#32, 8#32, 8#32)
          else
            (1#32, 8#32, 8#32, 8#32)
        else
          if r.val < 19 then
            (0#32, 9#32, 9#32, 9#32)
          else
            (1#32, 9#32, 9#32, 9#32)
      else
        if r.val < 22 then
          if r.val < 21 then
            (0#32, 10#32, 10#32, 10#32)
          else
            (1#32, 10#32, 10#32, 10#32)
        else
          if r.val < 23 then
            (0#32, 11#32, 11#32, 11#32)
          else
            (1#32, 11#32, 11#32, 11#32)
    else
      if r.val < 28 then
        if r.val < 26 then
          if r.val < 25 then
            (0#32, 12#32, 12#32, 12#32)
          else
            (1#32, 12#32, 12#32, 12#32)
        else
          if r.val < 27 then
            (0#32, 13#32, 13#32, 13#32)
          else
            (1#32, 13#32, 13#32, 13#32)
      else
        if r.val < 30 then
          if r.val < 29 then
            (0#32, 14#32, 14#32, 14#32)
          else
            (1#32, 14#32, 14#32, 14#32)
        else
          if r.val < 31 then
            (0#32, 15#32, 15#32, 15#32)
          else
            (1#32, 15#32, 15#32, 15#32)
def k0_mult11 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_196 : BitVec 32 := 0#32
  let v358 : BitVec 32 := Scalar.addi v26 c0_i32_196
  let c16_i32_197 : BitVec 32 := 16#32
  let v359 : BitVec 1 := Scalar.cmpi .sge v358 c16_i32_197
  let c0_i32_198 : BitVec 32 := 0#32
  let v360 : BitVec 32 := Scalar.addi v26 c0_i32_198
  let c16_i32_199 : BitVec 32 := 16#32
  let v361 : BitVec 32 := Scalar.subi v360 c16_i32_199
  let c0_i32_200 : BitVec 32 := 0#32
  let v362 : BitVec 32 := Scalar.addi v26 c0_i32_200
  let v363 : BitVec 32 := Scalar.select v359 v361 v362
  let c512_i32_201 : BitVec 32 := 512#32
  let v364 : BitVec 32 := Scalar.muli v363 c512_i32_201
  v364
def k0_mult12 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_196 : BitVec 32 := 0#32
  let v358 : BitVec 32 := Scalar.addi v26 c0_i32_196
  let c16_i32_197 : BitVec 32 := 16#32
  let v359 : BitVec 1 := Scalar.cmpi .sge v358 c16_i32_197
  let c0_i32_198 : BitVec 32 := 0#32
  let v360 : BitVec 32 := Scalar.addi v26 c0_i32_198
  let c16_i32_199 : BitVec 32 := 16#32
  let v361 : BitVec 32 := Scalar.subi v360 c16_i32_199
  let c0_i32_200 : BitVec 32 := 0#32
  let v362 : BitVec 32 := Scalar.addi v26 c0_i32_200
  let v363 : BitVec 32 := Scalar.select v359 v361 v362
  let c512_i32_216 : BitVec 32 := 512#32
  let v424 : BitVec 32 := Scalar.muli v363 c512_i32_216
  v424
def k0_mult13 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_219 : BitVec 32 := 0#32
  let v439 : BitVec 32 := Scalar.addi v26 c0_i32_219
  let c16_i32_220 : BitVec 32 := 16#32
  let v440 : BitVec 1 := Scalar.cmpi .sge v439 c16_i32_220
  let c0_i32_221 : BitVec 32 := 0#32
  let v441 : BitVec 32 := Scalar.addi v26 c0_i32_221
  let c16_i32_222 : BitVec 32 := 16#32
  let v442 : BitVec 32 := Scalar.subi v441 c16_i32_222
  let c0_i32_223 : BitVec 32 := 0#32
  let v443 : BitVec 32 := Scalar.addi v26 c0_i32_223
  let v444 : BitVec 32 := Scalar.select v440 v442 v443
  let c512_i32_224 : BitVec 32 := 512#32
  let v445 : BitVec 32 := Scalar.muli v444 c512_i32_224
  v445
def k0_mult14 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_219 : BitVec 32 := 0#32
  let v439 : BitVec 32 := Scalar.addi v26 c0_i32_219
  let c16_i32_220 : BitVec 32 := 16#32
  let v440 : BitVec 1 := Scalar.cmpi .sge v439 c16_i32_220
  let c0_i32_221 : BitVec 32 := 0#32
  let v441 : BitVec 32 := Scalar.addi v26 c0_i32_221
  let c16_i32_222 : BitVec 32 := 16#32
  let v442 : BitVec 32 := Scalar.subi v441 c16_i32_222
  let c0_i32_223 : BitVec 32 := 0#32
  let v443 : BitVec 32 := Scalar.addi v26 c0_i32_223
  let v444 : BitVec 32 := Scalar.select v440 v442 v443
  let c512_i32_239 : BitVec 32 := 512#32
  let v505 : BitVec 32 := Scalar.muli v444 c512_i32_239
  v505
def k0_mult15 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_242 : BitVec 32 := 0#32
  let v520 : BitVec 32 := Scalar.addi v26 c0_i32_242
  let c16_i32_243 : BitVec 32 := 16#32
  let v521 : BitVec 1 := Scalar.cmpi .sge v520 c16_i32_243
  let c0_i32_244 : BitVec 32 := 0#32
  let v522 : BitVec 32 := Scalar.addi v26 c0_i32_244
  let c16_i32_245 : BitVec 32 := 16#32
  let v523 : BitVec 32 := Scalar.subi v522 c16_i32_245
  let c0_i32_246 : BitVec 32 := 0#32
  let v524 : BitVec 32 := Scalar.addi v26 c0_i32_246
  let v525 : BitVec 32 := Scalar.select v521 v523 v524
  let c512_i32_247 : BitVec 32 := 512#32
  let v526 : BitVec 32 := Scalar.muli v525 c512_i32_247
  v526
def k0_mult16 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c0_i32_242 : BitVec 32 := 0#32
  let v520 : BitVec 32 := Scalar.addi v26 c0_i32_242
  let c16_i32_243 : BitVec 32 := 16#32
  let v521 : BitVec 1 := Scalar.cmpi .sge v520 c16_i32_243
  let c0_i32_244 : BitVec 32 := 0#32
  let v522 : BitVec 32 := Scalar.addi v26 c0_i32_244
  let c16_i32_245 : BitVec 32 := 16#32
  let v523 : BitVec 32 := Scalar.subi v522 c16_i32_245
  let c0_i32_246 : BitVec 32 := 0#32
  let v524 : BitVec 32 := Scalar.addi v26 c0_i32_246
  let v525 : BitVec 32 := Scalar.select v521 v523 v524
  let c512_i32_262 : BitVec 32 := 512#32
  let v586 : BitVec 32 := Scalar.muli v525 c512_i32_262
  v586
def k0_mult17 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_265 : BitVec 32 := 0#32
  let v601 : BitVec 32 := Scalar.addi v44 c0_i32_265
  let c16_i32_266 : BitVec 32 := 16#32
  let v602 : BitVec 1 := Scalar.cmpi .sge v601 c16_i32_266
  let c0_i32_267 : BitVec 32 := 0#32
  let v603 : BitVec 32 := Scalar.addi v44 c0_i32_267
  let c16_i32_268 : BitVec 32 := 16#32
  let v604 : BitVec 32 := Scalar.subi v603 c16_i32_268
  let c0_i32_269 : BitVec 32 := 0#32
  let v605 : BitVec 32 := Scalar.addi v44 c0_i32_269
  let v606 : BitVec 32 := Scalar.select v602 v604 v605
  let c512_i32_270 : BitVec 32 := 512#32
  let v607 : BitVec 32 := Scalar.muli v606 c512_i32_270
  v607
def k0_mult18 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_265 : BitVec 32 := 0#32
  let v601 : BitVec 32 := Scalar.addi v44 c0_i32_265
  let c16_i32_266 : BitVec 32 := 16#32
  let v602 : BitVec 1 := Scalar.cmpi .sge v601 c16_i32_266
  let c0_i32_267 : BitVec 32 := 0#32
  let v603 : BitVec 32 := Scalar.addi v44 c0_i32_267
  let c16_i32_268 : BitVec 32 := 16#32
  let v604 : BitVec 32 := Scalar.subi v603 c16_i32_268
  let c0_i32_269 : BitVec 32 := 0#32
  let v605 : BitVec 32 := Scalar.addi v44 c0_i32_269
  let v606 : BitVec 32 := Scalar.select v602 v604 v605
  let c512_i32_285 : BitVec 32 := 512#32
  let v667 : BitVec 32 := Scalar.muli v606 c512_i32_285
  v667
def k0_mult19 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_288 : BitVec 32 := 0#32
  let v682 : BitVec 32 := Scalar.addi v44 c0_i32_288
  let c16_i32_289 : BitVec 32 := 16#32
  let v683 : BitVec 1 := Scalar.cmpi .sge v682 c16_i32_289
  let c0_i32_290 : BitVec 32 := 0#32
  let v684 : BitVec 32 := Scalar.addi v44 c0_i32_290
  let c16_i32_291 : BitVec 32 := 16#32
  let v685 : BitVec 32 := Scalar.subi v684 c16_i32_291
  let c0_i32_292 : BitVec 32 := 0#32
  let v686 : BitVec 32 := Scalar.addi v44 c0_i32_292
  let v687 : BitVec 32 := Scalar.select v683 v685 v686
  let c512_i32_293 : BitVec 32 := 512#32
  let v688 : BitVec 32 := Scalar.muli v687 c512_i32_293
  v688
def k0_mult20 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_288 : BitVec 32 := 0#32
  let v682 : BitVec 32 := Scalar.addi v44 c0_i32_288
  let c16_i32_289 : BitVec 32 := 16#32
  let v683 : BitVec 1 := Scalar.cmpi .sge v682 c16_i32_289
  let c0_i32_290 : BitVec 32 := 0#32
  let v684 : BitVec 32 := Scalar.addi v44 c0_i32_290
  let c16_i32_291 : BitVec 32 := 16#32
  let v685 : BitVec 32 := Scalar.subi v684 c16_i32_291
  let c0_i32_292 : BitVec 32 := 0#32
  let v686 : BitVec 32 := Scalar.addi v44 c0_i32_292
  let v687 : BitVec 32 := Scalar.select v683 v685 v686
  let c512_i32_308 : BitVec 32 := 512#32
  let v748 : BitVec 32 := Scalar.muli v687 c512_i32_308
  v748
def k0_mult21 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_311 : BitVec 32 := 0#32
  let v763 : BitVec 32 := Scalar.addi v44 c0_i32_311
  let c16_i32_312 : BitVec 32 := 16#32
  let v764 : BitVec 1 := Scalar.cmpi .sge v763 c16_i32_312
  let c0_i32_313 : BitVec 32 := 0#32
  let v765 : BitVec 32 := Scalar.addi v44 c0_i32_313
  let c16_i32_314 : BitVec 32 := 16#32
  let v766 : BitVec 32 := Scalar.subi v765 c16_i32_314
  let c0_i32_315 : BitVec 32 := 0#32
  let v767 : BitVec 32 := Scalar.addi v44 c0_i32_315
  let v768 : BitVec 32 := Scalar.select v764 v766 v767
  let c512_i32_316 : BitVec 32 := 512#32
  let v769 : BitVec 32 := Scalar.muli v768 c512_i32_316
  v769
def k0_mult22 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_311 : BitVec 32 := 0#32
  let v763 : BitVec 32 := Scalar.addi v44 c0_i32_311
  let c16_i32_312 : BitVec 32 := 16#32
  let v764 : BitVec 1 := Scalar.cmpi .sge v763 c16_i32_312
  let c0_i32_313 : BitVec 32 := 0#32
  let v765 : BitVec 32 := Scalar.addi v44 c0_i32_313
  let c16_i32_314 : BitVec 32 := 16#32
  let v766 : BitVec 32 := Scalar.subi v765 c16_i32_314
  let c0_i32_315 : BitVec 32 := 0#32
  let v767 : BitVec 32 := Scalar.addi v44 c0_i32_315
  let v768 : BitVec 32 := Scalar.select v764 v766 v767
  let c512_i32_331 : BitVec 32 := 512#32
  let v829 : BitVec 32 := Scalar.muli v768 c512_i32_331
  v829
def k0_mult23 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_334 : BitVec 32 := 0#32
  let v844 : BitVec 32 := Scalar.addi v44 c0_i32_334
  let c16_i32_335 : BitVec 32 := 16#32
  let v845 : BitVec 1 := Scalar.cmpi .sge v844 c16_i32_335
  let c0_i32_336 : BitVec 32 := 0#32
  let v846 : BitVec 32 := Scalar.addi v44 c0_i32_336
  let c16_i32_337 : BitVec 32 := 16#32
  let v847 : BitVec 32 := Scalar.subi v846 c16_i32_337
  let c0_i32_338 : BitVec 32 := 0#32
  let v848 : BitVec 32 := Scalar.addi v44 c0_i32_338
  let v849 : BitVec 32 := Scalar.select v845 v847 v848
  let c512_i32_339 : BitVec 32 := 512#32
  let v850 : BitVec 32 := Scalar.muli v849 c512_i32_339
  v850
def k0_mult24 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c0_i32_334 : BitVec 32 := 0#32
  let v844 : BitVec 32 := Scalar.addi v44 c0_i32_334
  let c16_i32_335 : BitVec 32 := 16#32
  let v845 : BitVec 1 := Scalar.cmpi .sge v844 c16_i32_335
  let c0_i32_336 : BitVec 32 := 0#32
  let v846 : BitVec 32 := Scalar.addi v44 c0_i32_336
  let c16_i32_337 : BitVec 32 := 16#32
  let v847 : BitVec 32 := Scalar.subi v846 c16_i32_337
  let c0_i32_338 : BitVec 32 := 0#32
  let v848 : BitVec 32 := Scalar.addi v44 c0_i32_338
  let v849 : BitVec 32 := Scalar.select v845 v847 v848
  let c512_i32_354 : BitVec 32 := 512#32
  let v910 : BitVec 32 := Scalar.muli v849 c512_i32_354
  v910
def k0_mult25 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_357 : BitVec 32 := 1#32
  let v925 : BitVec 32 := Scalar.addi v26 c1_i32_357
  let c16_i32_358 : BitVec 32 := 16#32
  let v926 : BitVec 1 := Scalar.cmpi .sge v925 c16_i32_358
  let c1_i32_359 : BitVec 32 := 1#32
  let v927 : BitVec 32 := Scalar.addi v26 c1_i32_359
  let c16_i32_360 : BitVec 32 := 16#32
  let v928 : BitVec 32 := Scalar.subi v927 c16_i32_360
  let c1_i32_361 : BitVec 32 := 1#32
  let v929 : BitVec 32 := Scalar.addi v26 c1_i32_361
  let v930 : BitVec 32 := Scalar.select v926 v928 v929
  let c512_i32_362 : BitVec 32 := 512#32
  let v931 : BitVec 32 := Scalar.muli v930 c512_i32_362
  v931
def k0_mult26 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_357 : BitVec 32 := 1#32
  let v925 : BitVec 32 := Scalar.addi v26 c1_i32_357
  let c16_i32_358 : BitVec 32 := 16#32
  let v926 : BitVec 1 := Scalar.cmpi .sge v925 c16_i32_358
  let c1_i32_359 : BitVec 32 := 1#32
  let v927 : BitVec 32 := Scalar.addi v26 c1_i32_359
  let c16_i32_360 : BitVec 32 := 16#32
  let v928 : BitVec 32 := Scalar.subi v927 c16_i32_360
  let c1_i32_361 : BitVec 32 := 1#32
  let v929 : BitVec 32 := Scalar.addi v26 c1_i32_361
  let v930 : BitVec 32 := Scalar.select v926 v928 v929
  let c512_i32_377 : BitVec 32 := 512#32
  let v991 : BitVec 32 := Scalar.muli v930 c512_i32_377
  v991
def k0_mult27 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_380 : BitVec 32 := 1#32
  let v1006 : BitVec 32 := Scalar.addi v26 c1_i32_380
  let c16_i32_381 : BitVec 32 := 16#32
  let v1007 : BitVec 1 := Scalar.cmpi .sge v1006 c16_i32_381
  let c1_i32_382 : BitVec 32 := 1#32
  let v1008 : BitVec 32 := Scalar.addi v26 c1_i32_382
  let c16_i32_383 : BitVec 32 := 16#32
  let v1009 : BitVec 32 := Scalar.subi v1008 c16_i32_383
  let c1_i32_384 : BitVec 32 := 1#32
  let v1010 : BitVec 32 := Scalar.addi v26 c1_i32_384
  let v1011 : BitVec 32 := Scalar.select v1007 v1009 v1010
  let c512_i32_385 : BitVec 32 := 512#32
  let v1012 : BitVec 32 := Scalar.muli v1011 c512_i32_385
  v1012
def k0_mult28 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_380 : BitVec 32 := 1#32
  let v1006 : BitVec 32 := Scalar.addi v26 c1_i32_380
  let c16_i32_381 : BitVec 32 := 16#32
  let v1007 : BitVec 1 := Scalar.cmpi .sge v1006 c16_i32_381
  let c1_i32_382 : BitVec 32 := 1#32
  let v1008 : BitVec 32 := Scalar.addi v26 c1_i32_382
  let c16_i32_383 : BitVec 32 := 16#32
  let v1009 : BitVec 32 := Scalar.subi v1008 c16_i32_383
  let c1_i32_384 : BitVec 32 := 1#32
  let v1010 : BitVec 32 := Scalar.addi v26 c1_i32_384
  let v1011 : BitVec 32 := Scalar.select v1007 v1009 v1010
  let c512_i32_400 : BitVec 32 := 512#32
  let v1072 : BitVec 32 := Scalar.muli v1011 c512_i32_400
  v1072
def k0_mult29 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_403 : BitVec 32 := 1#32
  let v1087 : BitVec 32 := Scalar.addi v26 c1_i32_403
  let c16_i32_404 : BitVec 32 := 16#32
  let v1088 : BitVec 1 := Scalar.cmpi .sge v1087 c16_i32_404
  let c1_i32_405 : BitVec 32 := 1#32
  let v1089 : BitVec 32 := Scalar.addi v26 c1_i32_405
  let c16_i32_406 : BitVec 32 := 16#32
  let v1090 : BitVec 32 := Scalar.subi v1089 c16_i32_406
  let c1_i32_407 : BitVec 32 := 1#32
  let v1091 : BitVec 32 := Scalar.addi v26 c1_i32_407
  let v1092 : BitVec 32 := Scalar.select v1088 v1090 v1091
  let c512_i32_408 : BitVec 32 := 512#32
  let v1093 : BitVec 32 := Scalar.muli v1092 c512_i32_408
  v1093
def k0_mult30 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_403 : BitVec 32 := 1#32
  let v1087 : BitVec 32 := Scalar.addi v26 c1_i32_403
  let c16_i32_404 : BitVec 32 := 16#32
  let v1088 : BitVec 1 := Scalar.cmpi .sge v1087 c16_i32_404
  let c1_i32_405 : BitVec 32 := 1#32
  let v1089 : BitVec 32 := Scalar.addi v26 c1_i32_405
  let c16_i32_406 : BitVec 32 := 16#32
  let v1090 : BitVec 32 := Scalar.subi v1089 c16_i32_406
  let c1_i32_407 : BitVec 32 := 1#32
  let v1091 : BitVec 32 := Scalar.addi v26 c1_i32_407
  let v1092 : BitVec 32 := Scalar.select v1088 v1090 v1091
  let c512_i32_423 : BitVec 32 := 512#32
  let v1153 : BitVec 32 := Scalar.muli v1092 c512_i32_423
  v1153
def k0_mult31 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_426 : BitVec 32 := 1#32
  let v1168 : BitVec 32 := Scalar.addi v26 c1_i32_426
  let c16_i32_427 : BitVec 32 := 16#32
  let v1169 : BitVec 1 := Scalar.cmpi .sge v1168 c16_i32_427
  let c1_i32_428 : BitVec 32 := 1#32
  let v1170 : BitVec 32 := Scalar.addi v26 c1_i32_428
  let c16_i32_429 : BitVec 32 := 16#32
  let v1171 : BitVec 32 := Scalar.subi v1170 c16_i32_429
  let c1_i32_430 : BitVec 32 := 1#32
  let v1172 : BitVec 32 := Scalar.addi v26 c1_i32_430
  let v1173 : BitVec 32 := Scalar.select v1169 v1171 v1172
  let c512_i32_431 : BitVec 32 := 512#32
  let v1174 : BitVec 32 := Scalar.muli v1173 c512_i32_431
  v1174
def k0_mult32 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c1_i32_426 : BitVec 32 := 1#32
  let v1168 : BitVec 32 := Scalar.addi v26 c1_i32_426
  let c16_i32_427 : BitVec 32 := 16#32
  let v1169 : BitVec 1 := Scalar.cmpi .sge v1168 c16_i32_427
  let c1_i32_428 : BitVec 32 := 1#32
  let v1170 : BitVec 32 := Scalar.addi v26 c1_i32_428
  let c16_i32_429 : BitVec 32 := 16#32
  let v1171 : BitVec 32 := Scalar.subi v1170 c16_i32_429
  let c1_i32_430 : BitVec 32 := 1#32
  let v1172 : BitVec 32 := Scalar.addi v26 c1_i32_430
  let v1173 : BitVec 32 := Scalar.select v1169 v1171 v1172
  let c512_i32_446 : BitVec 32 := 512#32
  let v1234 : BitVec 32 := Scalar.muli v1173 c512_i32_446
  v1234
def k0_mult33 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_449 : BitVec 32 := 1#32
  let v1249 : BitVec 32 := Scalar.addi v44 c1_i32_449
  let c16_i32_450 : BitVec 32 := 16#32
  let v1250 : BitVec 1 := Scalar.cmpi .sge v1249 c16_i32_450
  let c1_i32_451 : BitVec 32 := 1#32
  let v1251 : BitVec 32 := Scalar.addi v44 c1_i32_451
  let c16_i32_452 : BitVec 32 := 16#32
  let v1252 : BitVec 32 := Scalar.subi v1251 c16_i32_452
  let c1_i32_453 : BitVec 32 := 1#32
  let v1253 : BitVec 32 := Scalar.addi v44 c1_i32_453
  let v1254 : BitVec 32 := Scalar.select v1250 v1252 v1253
  let c512_i32_454 : BitVec 32 := 512#32
  let v1255 : BitVec 32 := Scalar.muli v1254 c512_i32_454
  v1255
def k0_mult34 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_449 : BitVec 32 := 1#32
  let v1249 : BitVec 32 := Scalar.addi v44 c1_i32_449
  let c16_i32_450 : BitVec 32 := 16#32
  let v1250 : BitVec 1 := Scalar.cmpi .sge v1249 c16_i32_450
  let c1_i32_451 : BitVec 32 := 1#32
  let v1251 : BitVec 32 := Scalar.addi v44 c1_i32_451
  let c16_i32_452 : BitVec 32 := 16#32
  let v1252 : BitVec 32 := Scalar.subi v1251 c16_i32_452
  let c1_i32_453 : BitVec 32 := 1#32
  let v1253 : BitVec 32 := Scalar.addi v44 c1_i32_453
  let v1254 : BitVec 32 := Scalar.select v1250 v1252 v1253
  let c512_i32_469 : BitVec 32 := 512#32
  let v1315 : BitVec 32 := Scalar.muli v1254 c512_i32_469
  v1315
def k0_mult35 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_472 : BitVec 32 := 1#32
  let v1330 : BitVec 32 := Scalar.addi v44 c1_i32_472
  let c16_i32_473 : BitVec 32 := 16#32
  let v1331 : BitVec 1 := Scalar.cmpi .sge v1330 c16_i32_473
  let c1_i32_474 : BitVec 32 := 1#32
  let v1332 : BitVec 32 := Scalar.addi v44 c1_i32_474
  let c16_i32_475 : BitVec 32 := 16#32
  let v1333 : BitVec 32 := Scalar.subi v1332 c16_i32_475
  let c1_i32_476 : BitVec 32 := 1#32
  let v1334 : BitVec 32 := Scalar.addi v44 c1_i32_476
  let v1335 : BitVec 32 := Scalar.select v1331 v1333 v1334
  let c512_i32_477 : BitVec 32 := 512#32
  let v1336 : BitVec 32 := Scalar.muli v1335 c512_i32_477
  v1336
def k0_mult36 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_472 : BitVec 32 := 1#32
  let v1330 : BitVec 32 := Scalar.addi v44 c1_i32_472
  let c16_i32_473 : BitVec 32 := 16#32
  let v1331 : BitVec 1 := Scalar.cmpi .sge v1330 c16_i32_473
  let c1_i32_474 : BitVec 32 := 1#32
  let v1332 : BitVec 32 := Scalar.addi v44 c1_i32_474
  let c16_i32_475 : BitVec 32 := 16#32
  let v1333 : BitVec 32 := Scalar.subi v1332 c16_i32_475
  let c1_i32_476 : BitVec 32 := 1#32
  let v1334 : BitVec 32 := Scalar.addi v44 c1_i32_476
  let v1335 : BitVec 32 := Scalar.select v1331 v1333 v1334
  let c512_i32_492 : BitVec 32 := 512#32
  let v1396 : BitVec 32 := Scalar.muli v1335 c512_i32_492
  v1396
def k0_mult37 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_495 : BitVec 32 := 1#32
  let v1411 : BitVec 32 := Scalar.addi v44 c1_i32_495
  let c16_i32_496 : BitVec 32 := 16#32
  let v1412 : BitVec 1 := Scalar.cmpi .sge v1411 c16_i32_496
  let c1_i32_497 : BitVec 32 := 1#32
  let v1413 : BitVec 32 := Scalar.addi v44 c1_i32_497
  let c16_i32_498 : BitVec 32 := 16#32
  let v1414 : BitVec 32 := Scalar.subi v1413 c16_i32_498
  let c1_i32_499 : BitVec 32 := 1#32
  let v1415 : BitVec 32 := Scalar.addi v44 c1_i32_499
  let v1416 : BitVec 32 := Scalar.select v1412 v1414 v1415
  let c512_i32_500 : BitVec 32 := 512#32
  let v1417 : BitVec 32 := Scalar.muli v1416 c512_i32_500
  v1417
def k0_mult38 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_495 : BitVec 32 := 1#32
  let v1411 : BitVec 32 := Scalar.addi v44 c1_i32_495
  let c16_i32_496 : BitVec 32 := 16#32
  let v1412 : BitVec 1 := Scalar.cmpi .sge v1411 c16_i32_496
  let c1_i32_497 : BitVec 32 := 1#32
  let v1413 : BitVec 32 := Scalar.addi v44 c1_i32_497
  let c16_i32_498 : BitVec 32 := 16#32
  let v1414 : BitVec 32 := Scalar.subi v1413 c16_i32_498
  let c1_i32_499 : BitVec 32 := 1#32
  let v1415 : BitVec 32 := Scalar.addi v44 c1_i32_499
  let v1416 : BitVec 32 := Scalar.select v1412 v1414 v1415
  let c512_i32_515 : BitVec 32 := 512#32
  let v1477 : BitVec 32 := Scalar.muli v1416 c512_i32_515
  v1477
def k0_mult39 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_518 : BitVec 32 := 1#32
  let v1492 : BitVec 32 := Scalar.addi v44 c1_i32_518
  let c16_i32_519 : BitVec 32 := 16#32
  let v1493 : BitVec 1 := Scalar.cmpi .sge v1492 c16_i32_519
  let c1_i32_520 : BitVec 32 := 1#32
  let v1494 : BitVec 32 := Scalar.addi v44 c1_i32_520
  let c16_i32_521 : BitVec 32 := 16#32
  let v1495 : BitVec 32 := Scalar.subi v1494 c16_i32_521
  let c1_i32_522 : BitVec 32 := 1#32
  let v1496 : BitVec 32 := Scalar.addi v44 c1_i32_522
  let v1497 : BitVec 32 := Scalar.select v1493 v1495 v1496
  let c512_i32_523 : BitVec 32 := 512#32
  let v1498 : BitVec 32 := Scalar.muli v1497 c512_i32_523
  v1498
def k0_mult40 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c1_i32_518 : BitVec 32 := 1#32
  let v1492 : BitVec 32 := Scalar.addi v44 c1_i32_518
  let c16_i32_519 : BitVec 32 := 16#32
  let v1493 : BitVec 1 := Scalar.cmpi .sge v1492 c16_i32_519
  let c1_i32_520 : BitVec 32 := 1#32
  let v1494 : BitVec 32 := Scalar.addi v44 c1_i32_520
  let c16_i32_521 : BitVec 32 := 16#32
  let v1495 : BitVec 32 := Scalar.subi v1494 c16_i32_521
  let c1_i32_522 : BitVec 32 := 1#32
  let v1496 : BitVec 32 := Scalar.addi v44 c1_i32_522
  let v1497 : BitVec 32 := Scalar.select v1493 v1495 v1496
  let c512_i32_538 : BitVec 32 := 512#32
  let v1558 : BitVec 32 := Scalar.muli v1497 c512_i32_538
  v1558
def k0_mult41 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_541 : BitVec 32 := 2#32
  let v1573 : BitVec 32 := Scalar.addi v26 c2_i32_541
  let c16_i32_542 : BitVec 32 := 16#32
  let v1574 : BitVec 1 := Scalar.cmpi .sge v1573 c16_i32_542
  let c2_i32_543 : BitVec 32 := 2#32
  let v1575 : BitVec 32 := Scalar.addi v26 c2_i32_543
  let c16_i32_544 : BitVec 32 := 16#32
  let v1576 : BitVec 32 := Scalar.subi v1575 c16_i32_544
  let c2_i32_545 : BitVec 32 := 2#32
  let v1577 : BitVec 32 := Scalar.addi v26 c2_i32_545
  let v1578 : BitVec 32 := Scalar.select v1574 v1576 v1577
  let c512_i32_546 : BitVec 32 := 512#32
  let v1579 : BitVec 32 := Scalar.muli v1578 c512_i32_546
  v1579
def k0_mult42 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_541 : BitVec 32 := 2#32
  let v1573 : BitVec 32 := Scalar.addi v26 c2_i32_541
  let c16_i32_542 : BitVec 32 := 16#32
  let v1574 : BitVec 1 := Scalar.cmpi .sge v1573 c16_i32_542
  let c2_i32_543 : BitVec 32 := 2#32
  let v1575 : BitVec 32 := Scalar.addi v26 c2_i32_543
  let c16_i32_544 : BitVec 32 := 16#32
  let v1576 : BitVec 32 := Scalar.subi v1575 c16_i32_544
  let c2_i32_545 : BitVec 32 := 2#32
  let v1577 : BitVec 32 := Scalar.addi v26 c2_i32_545
  let v1578 : BitVec 32 := Scalar.select v1574 v1576 v1577
  let c512_i32_562 : BitVec 32 := 512#32
  let v1631 : BitVec 32 := Scalar.muli v1578 c512_i32_562
  v1631
def k0_mult43 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_565 : BitVec 32 := 2#32
  let v1646 : BitVec 32 := Scalar.addi v26 c2_i32_565
  let c16_i32_566 : BitVec 32 := 16#32
  let v1647 : BitVec 1 := Scalar.cmpi .sge v1646 c16_i32_566
  let c2_i32_567 : BitVec 32 := 2#32
  let v1648 : BitVec 32 := Scalar.addi v26 c2_i32_567
  let c16_i32_568 : BitVec 32 := 16#32
  let v1649 : BitVec 32 := Scalar.subi v1648 c16_i32_568
  let c2_i32_569 : BitVec 32 := 2#32
  let v1650 : BitVec 32 := Scalar.addi v26 c2_i32_569
  let v1651 : BitVec 32 := Scalar.select v1647 v1649 v1650
  let c512_i32_570 : BitVec 32 := 512#32
  let v1652 : BitVec 32 := Scalar.muli v1651 c512_i32_570
  v1652
def k0_mult44 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_565 : BitVec 32 := 2#32
  let v1646 : BitVec 32 := Scalar.addi v26 c2_i32_565
  let c16_i32_566 : BitVec 32 := 16#32
  let v1647 : BitVec 1 := Scalar.cmpi .sge v1646 c16_i32_566
  let c2_i32_567 : BitVec 32 := 2#32
  let v1648 : BitVec 32 := Scalar.addi v26 c2_i32_567
  let c16_i32_568 : BitVec 32 := 16#32
  let v1649 : BitVec 32 := Scalar.subi v1648 c16_i32_568
  let c2_i32_569 : BitVec 32 := 2#32
  let v1650 : BitVec 32 := Scalar.addi v26 c2_i32_569
  let v1651 : BitVec 32 := Scalar.select v1647 v1649 v1650
  let c512_i32_587 : BitVec 32 := 512#32
  let v1704 : BitVec 32 := Scalar.muli v1651 c512_i32_587
  v1704
def k0_mult45 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_590 : BitVec 32 := 2#32
  let v1719 : BitVec 32 := Scalar.addi v26 c2_i32_590
  let c16_i32_591 : BitVec 32 := 16#32
  let v1720 : BitVec 1 := Scalar.cmpi .sge v1719 c16_i32_591
  let c2_i32_592 : BitVec 32 := 2#32
  let v1721 : BitVec 32 := Scalar.addi v26 c2_i32_592
  let c16_i32_593 : BitVec 32 := 16#32
  let v1722 : BitVec 32 := Scalar.subi v1721 c16_i32_593
  let c2_i32_594 : BitVec 32 := 2#32
  let v1723 : BitVec 32 := Scalar.addi v26 c2_i32_594
  let v1724 : BitVec 32 := Scalar.select v1720 v1722 v1723
  let c512_i32_595 : BitVec 32 := 512#32
  let v1725 : BitVec 32 := Scalar.muli v1724 c512_i32_595
  v1725
def k0_mult46 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_590 : BitVec 32 := 2#32
  let v1719 : BitVec 32 := Scalar.addi v26 c2_i32_590
  let c16_i32_591 : BitVec 32 := 16#32
  let v1720 : BitVec 1 := Scalar.cmpi .sge v1719 c16_i32_591
  let c2_i32_592 : BitVec 32 := 2#32
  let v1721 : BitVec 32 := Scalar.addi v26 c2_i32_592
  let c16_i32_593 : BitVec 32 := 16#32
  let v1722 : BitVec 32 := Scalar.subi v1721 c16_i32_593
  let c2_i32_594 : BitVec 32 := 2#32
  let v1723 : BitVec 32 := Scalar.addi v26 c2_i32_594
  let v1724 : BitVec 32 := Scalar.select v1720 v1722 v1723
  let c512_i32_612 : BitVec 32 := 512#32
  let v1777 : BitVec 32 := Scalar.muli v1724 c512_i32_612
  v1777
def k0_mult47 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_615 : BitVec 32 := 2#32
  let v1792 : BitVec 32 := Scalar.addi v26 c2_i32_615
  let c16_i32_616 : BitVec 32 := 16#32
  let v1793 : BitVec 1 := Scalar.cmpi .sge v1792 c16_i32_616
  let c2_i32_617 : BitVec 32 := 2#32
  let v1794 : BitVec 32 := Scalar.addi v26 c2_i32_617
  let c16_i32_618 : BitVec 32 := 16#32
  let v1795 : BitVec 32 := Scalar.subi v1794 c16_i32_618
  let c2_i32_619 : BitVec 32 := 2#32
  let v1796 : BitVec 32 := Scalar.addi v26 c2_i32_619
  let v1797 : BitVec 32 := Scalar.select v1793 v1795 v1796
  let c512_i32_620 : BitVec 32 := 512#32
  let v1798 : BitVec 32 := Scalar.muli v1797 c512_i32_620
  v1798
def k0_mult48 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c2_i32_615 : BitVec 32 := 2#32
  let v1792 : BitVec 32 := Scalar.addi v26 c2_i32_615
  let c16_i32_616 : BitVec 32 := 16#32
  let v1793 : BitVec 1 := Scalar.cmpi .sge v1792 c16_i32_616
  let c2_i32_617 : BitVec 32 := 2#32
  let v1794 : BitVec 32 := Scalar.addi v26 c2_i32_617
  let c16_i32_618 : BitVec 32 := 16#32
  let v1795 : BitVec 32 := Scalar.subi v1794 c16_i32_618
  let c2_i32_619 : BitVec 32 := 2#32
  let v1796 : BitVec 32 := Scalar.addi v26 c2_i32_619
  let v1797 : BitVec 32 := Scalar.select v1793 v1795 v1796
  let c512_i32_637 : BitVec 32 := 512#32
  let v1850 : BitVec 32 := Scalar.muli v1797 c512_i32_637
  v1850
def k0_mult49 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_640 : BitVec 32 := 2#32
  let v1865 : BitVec 32 := Scalar.addi v44 c2_i32_640
  let c16_i32_641 : BitVec 32 := 16#32
  let v1866 : BitVec 1 := Scalar.cmpi .sge v1865 c16_i32_641
  let c2_i32_642 : BitVec 32 := 2#32
  let v1867 : BitVec 32 := Scalar.addi v44 c2_i32_642
  let c16_i32_643 : BitVec 32 := 16#32
  let v1868 : BitVec 32 := Scalar.subi v1867 c16_i32_643
  let c2_i32_644 : BitVec 32 := 2#32
  let v1869 : BitVec 32 := Scalar.addi v44 c2_i32_644
  let v1870 : BitVec 32 := Scalar.select v1866 v1868 v1869
  let c512_i32_645 : BitVec 32 := 512#32
  let v1871 : BitVec 32 := Scalar.muli v1870 c512_i32_645
  v1871
def k0_mult50 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_640 : BitVec 32 := 2#32
  let v1865 : BitVec 32 := Scalar.addi v44 c2_i32_640
  let c16_i32_641 : BitVec 32 := 16#32
  let v1866 : BitVec 1 := Scalar.cmpi .sge v1865 c16_i32_641
  let c2_i32_642 : BitVec 32 := 2#32
  let v1867 : BitVec 32 := Scalar.addi v44 c2_i32_642
  let c16_i32_643 : BitVec 32 := 16#32
  let v1868 : BitVec 32 := Scalar.subi v1867 c16_i32_643
  let c2_i32_644 : BitVec 32 := 2#32
  let v1869 : BitVec 32 := Scalar.addi v44 c2_i32_644
  let v1870 : BitVec 32 := Scalar.select v1866 v1868 v1869
  let c512_i32_662 : BitVec 32 := 512#32
  let v1923 : BitVec 32 := Scalar.muli v1870 c512_i32_662
  v1923
def k0_mult51 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_665 : BitVec 32 := 2#32
  let v1938 : BitVec 32 := Scalar.addi v44 c2_i32_665
  let c16_i32_666 : BitVec 32 := 16#32
  let v1939 : BitVec 1 := Scalar.cmpi .sge v1938 c16_i32_666
  let c2_i32_667 : BitVec 32 := 2#32
  let v1940 : BitVec 32 := Scalar.addi v44 c2_i32_667
  let c16_i32_668 : BitVec 32 := 16#32
  let v1941 : BitVec 32 := Scalar.subi v1940 c16_i32_668
  let c2_i32_669 : BitVec 32 := 2#32
  let v1942 : BitVec 32 := Scalar.addi v44 c2_i32_669
  let v1943 : BitVec 32 := Scalar.select v1939 v1941 v1942
  let c512_i32_670 : BitVec 32 := 512#32
  let v1944 : BitVec 32 := Scalar.muli v1943 c512_i32_670
  v1944
def k0_mult52 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_665 : BitVec 32 := 2#32
  let v1938 : BitVec 32 := Scalar.addi v44 c2_i32_665
  let c16_i32_666 : BitVec 32 := 16#32
  let v1939 : BitVec 1 := Scalar.cmpi .sge v1938 c16_i32_666
  let c2_i32_667 : BitVec 32 := 2#32
  let v1940 : BitVec 32 := Scalar.addi v44 c2_i32_667
  let c16_i32_668 : BitVec 32 := 16#32
  let v1941 : BitVec 32 := Scalar.subi v1940 c16_i32_668
  let c2_i32_669 : BitVec 32 := 2#32
  let v1942 : BitVec 32 := Scalar.addi v44 c2_i32_669
  let v1943 : BitVec 32 := Scalar.select v1939 v1941 v1942
  let c512_i32_687 : BitVec 32 := 512#32
  let v1996 : BitVec 32 := Scalar.muli v1943 c512_i32_687
  v1996
def k0_mult53 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_690 : BitVec 32 := 2#32
  let v2011 : BitVec 32 := Scalar.addi v44 c2_i32_690
  let c16_i32_691 : BitVec 32 := 16#32
  let v2012 : BitVec 1 := Scalar.cmpi .sge v2011 c16_i32_691
  let c2_i32_692 : BitVec 32 := 2#32
  let v2013 : BitVec 32 := Scalar.addi v44 c2_i32_692
  let c16_i32_693 : BitVec 32 := 16#32
  let v2014 : BitVec 32 := Scalar.subi v2013 c16_i32_693
  let c2_i32_694 : BitVec 32 := 2#32
  let v2015 : BitVec 32 := Scalar.addi v44 c2_i32_694
  let v2016 : BitVec 32 := Scalar.select v2012 v2014 v2015
  let c512_i32_695 : BitVec 32 := 512#32
  let v2017 : BitVec 32 := Scalar.muli v2016 c512_i32_695
  v2017
def k0_mult54 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_690 : BitVec 32 := 2#32
  let v2011 : BitVec 32 := Scalar.addi v44 c2_i32_690
  let c16_i32_691 : BitVec 32 := 16#32
  let v2012 : BitVec 1 := Scalar.cmpi .sge v2011 c16_i32_691
  let c2_i32_692 : BitVec 32 := 2#32
  let v2013 : BitVec 32 := Scalar.addi v44 c2_i32_692
  let c16_i32_693 : BitVec 32 := 16#32
  let v2014 : BitVec 32 := Scalar.subi v2013 c16_i32_693
  let c2_i32_694 : BitVec 32 := 2#32
  let v2015 : BitVec 32 := Scalar.addi v44 c2_i32_694
  let v2016 : BitVec 32 := Scalar.select v2012 v2014 v2015
  let c512_i32_712 : BitVec 32 := 512#32
  let v2069 : BitVec 32 := Scalar.muli v2016 c512_i32_712
  v2069
def k0_mult55 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_715 : BitVec 32 := 2#32
  let v2084 : BitVec 32 := Scalar.addi v44 c2_i32_715
  let c16_i32_716 : BitVec 32 := 16#32
  let v2085 : BitVec 1 := Scalar.cmpi .sge v2084 c16_i32_716
  let c2_i32_717 : BitVec 32 := 2#32
  let v2086 : BitVec 32 := Scalar.addi v44 c2_i32_717
  let c16_i32_718 : BitVec 32 := 16#32
  let v2087 : BitVec 32 := Scalar.subi v2086 c16_i32_718
  let c2_i32_719 : BitVec 32 := 2#32
  let v2088 : BitVec 32 := Scalar.addi v44 c2_i32_719
  let v2089 : BitVec 32 := Scalar.select v2085 v2087 v2088
  let c512_i32_720 : BitVec 32 := 512#32
  let v2090 : BitVec 32 := Scalar.muli v2089 c512_i32_720
  v2090
def k0_mult56 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c2_i32_715 : BitVec 32 := 2#32
  let v2084 : BitVec 32 := Scalar.addi v44 c2_i32_715
  let c16_i32_716 : BitVec 32 := 16#32
  let v2085 : BitVec 1 := Scalar.cmpi .sge v2084 c16_i32_716
  let c2_i32_717 : BitVec 32 := 2#32
  let v2086 : BitVec 32 := Scalar.addi v44 c2_i32_717
  let c16_i32_718 : BitVec 32 := 16#32
  let v2087 : BitVec 32 := Scalar.subi v2086 c16_i32_718
  let c2_i32_719 : BitVec 32 := 2#32
  let v2088 : BitVec 32 := Scalar.addi v44 c2_i32_719
  let v2089 : BitVec 32 := Scalar.select v2085 v2087 v2088
  let c512_i32_737 : BitVec 32 := 512#32
  let v2142 : BitVec 32 := Scalar.muli v2089 c512_i32_737
  v2142
def k0_mult57 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32 : BitVec 32 := 3#32
  let v2157 : BitVec 32 := Scalar.addi v26 c3_i32
  let c16_i32_740 : BitVec 32 := 16#32
  let v2158 : BitVec 1 := Scalar.cmpi .sge v2157 c16_i32_740
  let c3_i32_741 : BitVec 32 := 3#32
  let v2159 : BitVec 32 := Scalar.addi v26 c3_i32_741
  let c16_i32_742 : BitVec 32 := 16#32
  let v2160 : BitVec 32 := Scalar.subi v2159 c16_i32_742
  let c3_i32_743 : BitVec 32 := 3#32
  let v2161 : BitVec 32 := Scalar.addi v26 c3_i32_743
  let v2162 : BitVec 32 := Scalar.select v2158 v2160 v2161
  let c512_i32_744 : BitVec 32 := 512#32
  let v2163 : BitVec 32 := Scalar.muli v2162 c512_i32_744
  v2163
def k0_mult58 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32 : BitVec 32 := 3#32
  let v2157 : BitVec 32 := Scalar.addi v26 c3_i32
  let c16_i32_740 : BitVec 32 := 16#32
  let v2158 : BitVec 1 := Scalar.cmpi .sge v2157 c16_i32_740
  let c3_i32_741 : BitVec 32 := 3#32
  let v2159 : BitVec 32 := Scalar.addi v26 c3_i32_741
  let c16_i32_742 : BitVec 32 := 16#32
  let v2160 : BitVec 32 := Scalar.subi v2159 c16_i32_742
  let c3_i32_743 : BitVec 32 := 3#32
  let v2161 : BitVec 32 := Scalar.addi v26 c3_i32_743
  let v2162 : BitVec 32 := Scalar.select v2158 v2160 v2161
  let c512_i32_761 : BitVec 32 := 512#32
  let v2215 : BitVec 32 := Scalar.muli v2162 c512_i32_761
  v2215
def k0_mult59 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_764 : BitVec 32 := 3#32
  let v2230 : BitVec 32 := Scalar.addi v26 c3_i32_764
  let c16_i32_765 : BitVec 32 := 16#32
  let v2231 : BitVec 1 := Scalar.cmpi .sge v2230 c16_i32_765
  let c3_i32_766 : BitVec 32 := 3#32
  let v2232 : BitVec 32 := Scalar.addi v26 c3_i32_766
  let c16_i32_767 : BitVec 32 := 16#32
  let v2233 : BitVec 32 := Scalar.subi v2232 c16_i32_767
  let c3_i32_768 : BitVec 32 := 3#32
  let v2234 : BitVec 32 := Scalar.addi v26 c3_i32_768
  let v2235 : BitVec 32 := Scalar.select v2231 v2233 v2234
  let c512_i32_769 : BitVec 32 := 512#32
  let v2236 : BitVec 32 := Scalar.muli v2235 c512_i32_769
  v2236
def k0_mult60 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_764 : BitVec 32 := 3#32
  let v2230 : BitVec 32 := Scalar.addi v26 c3_i32_764
  let c16_i32_765 : BitVec 32 := 16#32
  let v2231 : BitVec 1 := Scalar.cmpi .sge v2230 c16_i32_765
  let c3_i32_766 : BitVec 32 := 3#32
  let v2232 : BitVec 32 := Scalar.addi v26 c3_i32_766
  let c16_i32_767 : BitVec 32 := 16#32
  let v2233 : BitVec 32 := Scalar.subi v2232 c16_i32_767
  let c3_i32_768 : BitVec 32 := 3#32
  let v2234 : BitVec 32 := Scalar.addi v26 c3_i32_768
  let v2235 : BitVec 32 := Scalar.select v2231 v2233 v2234
  let c512_i32_786 : BitVec 32 := 512#32
  let v2288 : BitVec 32 := Scalar.muli v2235 c512_i32_786
  v2288
def k0_mult61 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_789 : BitVec 32 := 3#32
  let v2303 : BitVec 32 := Scalar.addi v26 c3_i32_789
  let c16_i32_790 : BitVec 32 := 16#32
  let v2304 : BitVec 1 := Scalar.cmpi .sge v2303 c16_i32_790
  let c3_i32_791 : BitVec 32 := 3#32
  let v2305 : BitVec 32 := Scalar.addi v26 c3_i32_791
  let c16_i32_792 : BitVec 32 := 16#32
  let v2306 : BitVec 32 := Scalar.subi v2305 c16_i32_792
  let c3_i32_793 : BitVec 32 := 3#32
  let v2307 : BitVec 32 := Scalar.addi v26 c3_i32_793
  let v2308 : BitVec 32 := Scalar.select v2304 v2306 v2307
  let c512_i32_794 : BitVec 32 := 512#32
  let v2309 : BitVec 32 := Scalar.muli v2308 c512_i32_794
  v2309
def k0_mult62 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_789 : BitVec 32 := 3#32
  let v2303 : BitVec 32 := Scalar.addi v26 c3_i32_789
  let c16_i32_790 : BitVec 32 := 16#32
  let v2304 : BitVec 1 := Scalar.cmpi .sge v2303 c16_i32_790
  let c3_i32_791 : BitVec 32 := 3#32
  let v2305 : BitVec 32 := Scalar.addi v26 c3_i32_791
  let c16_i32_792 : BitVec 32 := 16#32
  let v2306 : BitVec 32 := Scalar.subi v2305 c16_i32_792
  let c3_i32_793 : BitVec 32 := 3#32
  let v2307 : BitVec 32 := Scalar.addi v26 c3_i32_793
  let v2308 : BitVec 32 := Scalar.select v2304 v2306 v2307
  let c512_i32_811 : BitVec 32 := 512#32
  let v2361 : BitVec 32 := Scalar.muli v2308 c512_i32_811
  v2361
def k0_mult63 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_814 : BitVec 32 := 3#32
  let v2376 : BitVec 32 := Scalar.addi v26 c3_i32_814
  let c16_i32_815 : BitVec 32 := 16#32
  let v2377 : BitVec 1 := Scalar.cmpi .sge v2376 c16_i32_815
  let c3_i32_816 : BitVec 32 := 3#32
  let v2378 : BitVec 32 := Scalar.addi v26 c3_i32_816
  let c16_i32_817 : BitVec 32 := 16#32
  let v2379 : BitVec 32 := Scalar.subi v2378 c16_i32_817
  let c3_i32_818 : BitVec 32 := 3#32
  let v2380 : BitVec 32 := Scalar.addi v26 c3_i32_818
  let v2381 : BitVec 32 := Scalar.select v2377 v2379 v2380
  let c512_i32_819 : BitVec 32 := 512#32
  let v2382 : BitVec 32 := Scalar.muli v2381 c512_i32_819
  v2382
def k0_mult64 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c3_i32_814 : BitVec 32 := 3#32
  let v2376 : BitVec 32 := Scalar.addi v26 c3_i32_814
  let c16_i32_815 : BitVec 32 := 16#32
  let v2377 : BitVec 1 := Scalar.cmpi .sge v2376 c16_i32_815
  let c3_i32_816 : BitVec 32 := 3#32
  let v2378 : BitVec 32 := Scalar.addi v26 c3_i32_816
  let c16_i32_817 : BitVec 32 := 16#32
  let v2379 : BitVec 32 := Scalar.subi v2378 c16_i32_817
  let c3_i32_818 : BitVec 32 := 3#32
  let v2380 : BitVec 32 := Scalar.addi v26 c3_i32_818
  let v2381 : BitVec 32 := Scalar.select v2377 v2379 v2380
  let c512_i32_836 : BitVec 32 := 512#32
  let v2434 : BitVec 32 := Scalar.muli v2381 c512_i32_836
  v2434
def k0_mult65 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_839 : BitVec 32 := 3#32
  let v2449 : BitVec 32 := Scalar.addi v44 c3_i32_839
  let c16_i32_840 : BitVec 32 := 16#32
  let v2450 : BitVec 1 := Scalar.cmpi .sge v2449 c16_i32_840
  let c3_i32_841 : BitVec 32 := 3#32
  let v2451 : BitVec 32 := Scalar.addi v44 c3_i32_841
  let c16_i32_842 : BitVec 32 := 16#32
  let v2452 : BitVec 32 := Scalar.subi v2451 c16_i32_842
  let c3_i32_843 : BitVec 32 := 3#32
  let v2453 : BitVec 32 := Scalar.addi v44 c3_i32_843
  let v2454 : BitVec 32 := Scalar.select v2450 v2452 v2453
  let c512_i32_844 : BitVec 32 := 512#32
  let v2455 : BitVec 32 := Scalar.muli v2454 c512_i32_844
  v2455
def k0_mult66 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_839 : BitVec 32 := 3#32
  let v2449 : BitVec 32 := Scalar.addi v44 c3_i32_839
  let c16_i32_840 : BitVec 32 := 16#32
  let v2450 : BitVec 1 := Scalar.cmpi .sge v2449 c16_i32_840
  let c3_i32_841 : BitVec 32 := 3#32
  let v2451 : BitVec 32 := Scalar.addi v44 c3_i32_841
  let c16_i32_842 : BitVec 32 := 16#32
  let v2452 : BitVec 32 := Scalar.subi v2451 c16_i32_842
  let c3_i32_843 : BitVec 32 := 3#32
  let v2453 : BitVec 32 := Scalar.addi v44 c3_i32_843
  let v2454 : BitVec 32 := Scalar.select v2450 v2452 v2453
  let c512_i32_861 : BitVec 32 := 512#32
  let v2507 : BitVec 32 := Scalar.muli v2454 c512_i32_861
  v2507
def k0_mult67 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_864 : BitVec 32 := 3#32
  let v2522 : BitVec 32 := Scalar.addi v44 c3_i32_864
  let c16_i32_865 : BitVec 32 := 16#32
  let v2523 : BitVec 1 := Scalar.cmpi .sge v2522 c16_i32_865
  let c3_i32_866 : BitVec 32 := 3#32
  let v2524 : BitVec 32 := Scalar.addi v44 c3_i32_866
  let c16_i32_867 : BitVec 32 := 16#32
  let v2525 : BitVec 32 := Scalar.subi v2524 c16_i32_867
  let c3_i32_868 : BitVec 32 := 3#32
  let v2526 : BitVec 32 := Scalar.addi v44 c3_i32_868
  let v2527 : BitVec 32 := Scalar.select v2523 v2525 v2526
  let c512_i32_869 : BitVec 32 := 512#32
  let v2528 : BitVec 32 := Scalar.muli v2527 c512_i32_869
  v2528
def k0_mult68 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_864 : BitVec 32 := 3#32
  let v2522 : BitVec 32 := Scalar.addi v44 c3_i32_864
  let c16_i32_865 : BitVec 32 := 16#32
  let v2523 : BitVec 1 := Scalar.cmpi .sge v2522 c16_i32_865
  let c3_i32_866 : BitVec 32 := 3#32
  let v2524 : BitVec 32 := Scalar.addi v44 c3_i32_866
  let c16_i32_867 : BitVec 32 := 16#32
  let v2525 : BitVec 32 := Scalar.subi v2524 c16_i32_867
  let c3_i32_868 : BitVec 32 := 3#32
  let v2526 : BitVec 32 := Scalar.addi v44 c3_i32_868
  let v2527 : BitVec 32 := Scalar.select v2523 v2525 v2526
  let c512_i32_886 : BitVec 32 := 512#32
  let v2580 : BitVec 32 := Scalar.muli v2527 c512_i32_886
  v2580
def k0_mult69 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_889 : BitVec 32 := 3#32
  let v2595 : BitVec 32 := Scalar.addi v44 c3_i32_889
  let c16_i32_890 : BitVec 32 := 16#32
  let v2596 : BitVec 1 := Scalar.cmpi .sge v2595 c16_i32_890
  let c3_i32_891 : BitVec 32 := 3#32
  let v2597 : BitVec 32 := Scalar.addi v44 c3_i32_891
  let c16_i32_892 : BitVec 32 := 16#32
  let v2598 : BitVec 32 := Scalar.subi v2597 c16_i32_892
  let c3_i32_893 : BitVec 32 := 3#32
  let v2599 : BitVec 32 := Scalar.addi v44 c3_i32_893
  let v2600 : BitVec 32 := Scalar.select v2596 v2598 v2599
  let c512_i32_894 : BitVec 32 := 512#32
  let v2601 : BitVec 32 := Scalar.muli v2600 c512_i32_894
  v2601
def k0_mult70 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_889 : BitVec 32 := 3#32
  let v2595 : BitVec 32 := Scalar.addi v44 c3_i32_889
  let c16_i32_890 : BitVec 32 := 16#32
  let v2596 : BitVec 1 := Scalar.cmpi .sge v2595 c16_i32_890
  let c3_i32_891 : BitVec 32 := 3#32
  let v2597 : BitVec 32 := Scalar.addi v44 c3_i32_891
  let c16_i32_892 : BitVec 32 := 16#32
  let v2598 : BitVec 32 := Scalar.subi v2597 c16_i32_892
  let c3_i32_893 : BitVec 32 := 3#32
  let v2599 : BitVec 32 := Scalar.addi v44 c3_i32_893
  let v2600 : BitVec 32 := Scalar.select v2596 v2598 v2599
  let c512_i32_911 : BitVec 32 := 512#32
  let v2653 : BitVec 32 := Scalar.muli v2600 c512_i32_911
  v2653
def k0_mult71 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_914 : BitVec 32 := 3#32
  let v2668 : BitVec 32 := Scalar.addi v44 c3_i32_914
  let c16_i32_915 : BitVec 32 := 16#32
  let v2669 : BitVec 1 := Scalar.cmpi .sge v2668 c16_i32_915
  let c3_i32_916 : BitVec 32 := 3#32
  let v2670 : BitVec 32 := Scalar.addi v44 c3_i32_916
  let c16_i32_917 : BitVec 32 := 16#32
  let v2671 : BitVec 32 := Scalar.subi v2670 c16_i32_917
  let c3_i32_918 : BitVec 32 := 3#32
  let v2672 : BitVec 32 := Scalar.addi v44 c3_i32_918
  let v2673 : BitVec 32 := Scalar.select v2669 v2671 v2672
  let c512_i32_919 : BitVec 32 := 512#32
  let v2674 : BitVec 32 := Scalar.muli v2673 c512_i32_919
  v2674
def k0_mult72 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c3_i32_914 : BitVec 32 := 3#32
  let v2668 : BitVec 32 := Scalar.addi v44 c3_i32_914
  let c16_i32_915 : BitVec 32 := 16#32
  let v2669 : BitVec 1 := Scalar.cmpi .sge v2668 c16_i32_915
  let c3_i32_916 : BitVec 32 := 3#32
  let v2670 : BitVec 32 := Scalar.addi v44 c3_i32_916
  let c16_i32_917 : BitVec 32 := 16#32
  let v2671 : BitVec 32 := Scalar.subi v2670 c16_i32_917
  let c3_i32_918 : BitVec 32 := 3#32
  let v2672 : BitVec 32 := Scalar.addi v44 c3_i32_918
  let v2673 : BitVec 32 := Scalar.select v2669 v2671 v2672
  let c512_i32_936 : BitVec 32 := 512#32
  let v2726 : BitVec 32 := Scalar.muli v2673 c512_i32_936
  v2726
def k0_mult73 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32 : BitVec 32 := 4#32
  let v2741 : BitVec 32 := Scalar.addi v26 c4_i32
  let c16_i32_939 : BitVec 32 := 16#32
  let v2742 : BitVec 1 := Scalar.cmpi .sge v2741 c16_i32_939
  let c4_i32_940 : BitVec 32 := 4#32
  let v2743 : BitVec 32 := Scalar.addi v26 c4_i32_940
  let c16_i32_941 : BitVec 32 := 16#32
  let v2744 : BitVec 32 := Scalar.subi v2743 c16_i32_941
  let c4_i32_942 : BitVec 32 := 4#32
  let v2745 : BitVec 32 := Scalar.addi v26 c4_i32_942
  let v2746 : BitVec 32 := Scalar.select v2742 v2744 v2745
  let c512_i32_943 : BitVec 32 := 512#32
  let v2747 : BitVec 32 := Scalar.muli v2746 c512_i32_943
  v2747
def k0_mult74 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32 : BitVec 32 := 4#32
  let v2741 : BitVec 32 := Scalar.addi v26 c4_i32
  let c16_i32_939 : BitVec 32 := 16#32
  let v2742 : BitVec 1 := Scalar.cmpi .sge v2741 c16_i32_939
  let c4_i32_940 : BitVec 32 := 4#32
  let v2743 : BitVec 32 := Scalar.addi v26 c4_i32_940
  let c16_i32_941 : BitVec 32 := 16#32
  let v2744 : BitVec 32 := Scalar.subi v2743 c16_i32_941
  let c4_i32_942 : BitVec 32 := 4#32
  let v2745 : BitVec 32 := Scalar.addi v26 c4_i32_942
  let v2746 : BitVec 32 := Scalar.select v2742 v2744 v2745
  let c512_i32_960 : BitVec 32 := 512#32
  let v2799 : BitVec 32 := Scalar.muli v2746 c512_i32_960
  v2799
def k0_mult75 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_963 : BitVec 32 := 4#32
  let v2814 : BitVec 32 := Scalar.addi v26 c4_i32_963
  let c16_i32_964 : BitVec 32 := 16#32
  let v2815 : BitVec 1 := Scalar.cmpi .sge v2814 c16_i32_964
  let c4_i32_965 : BitVec 32 := 4#32
  let v2816 : BitVec 32 := Scalar.addi v26 c4_i32_965
  let c16_i32_966 : BitVec 32 := 16#32
  let v2817 : BitVec 32 := Scalar.subi v2816 c16_i32_966
  let c4_i32_967 : BitVec 32 := 4#32
  let v2818 : BitVec 32 := Scalar.addi v26 c4_i32_967
  let v2819 : BitVec 32 := Scalar.select v2815 v2817 v2818
  let c512_i32_968 : BitVec 32 := 512#32
  let v2820 : BitVec 32 := Scalar.muli v2819 c512_i32_968
  v2820
def k0_mult76 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_963 : BitVec 32 := 4#32
  let v2814 : BitVec 32 := Scalar.addi v26 c4_i32_963
  let c16_i32_964 : BitVec 32 := 16#32
  let v2815 : BitVec 1 := Scalar.cmpi .sge v2814 c16_i32_964
  let c4_i32_965 : BitVec 32 := 4#32
  let v2816 : BitVec 32 := Scalar.addi v26 c4_i32_965
  let c16_i32_966 : BitVec 32 := 16#32
  let v2817 : BitVec 32 := Scalar.subi v2816 c16_i32_966
  let c4_i32_967 : BitVec 32 := 4#32
  let v2818 : BitVec 32 := Scalar.addi v26 c4_i32_967
  let v2819 : BitVec 32 := Scalar.select v2815 v2817 v2818
  let c512_i32_985 : BitVec 32 := 512#32
  let v2872 : BitVec 32 := Scalar.muli v2819 c512_i32_985
  v2872
def k0_mult77 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_988 : BitVec 32 := 4#32
  let v2887 : BitVec 32 := Scalar.addi v26 c4_i32_988
  let c16_i32_989 : BitVec 32 := 16#32
  let v2888 : BitVec 1 := Scalar.cmpi .sge v2887 c16_i32_989
  let c4_i32_990 : BitVec 32 := 4#32
  let v2889 : BitVec 32 := Scalar.addi v26 c4_i32_990
  let c16_i32_991 : BitVec 32 := 16#32
  let v2890 : BitVec 32 := Scalar.subi v2889 c16_i32_991
  let c4_i32_992 : BitVec 32 := 4#32
  let v2891 : BitVec 32 := Scalar.addi v26 c4_i32_992
  let v2892 : BitVec 32 := Scalar.select v2888 v2890 v2891
  let c512_i32_993 : BitVec 32 := 512#32
  let v2893 : BitVec 32 := Scalar.muli v2892 c512_i32_993
  v2893
def k0_mult78 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_988 : BitVec 32 := 4#32
  let v2887 : BitVec 32 := Scalar.addi v26 c4_i32_988
  let c16_i32_989 : BitVec 32 := 16#32
  let v2888 : BitVec 1 := Scalar.cmpi .sge v2887 c16_i32_989
  let c4_i32_990 : BitVec 32 := 4#32
  let v2889 : BitVec 32 := Scalar.addi v26 c4_i32_990
  let c16_i32_991 : BitVec 32 := 16#32
  let v2890 : BitVec 32 := Scalar.subi v2889 c16_i32_991
  let c4_i32_992 : BitVec 32 := 4#32
  let v2891 : BitVec 32 := Scalar.addi v26 c4_i32_992
  let v2892 : BitVec 32 := Scalar.select v2888 v2890 v2891
  let c512_i32_1010 : BitVec 32 := 512#32
  let v2945 : BitVec 32 := Scalar.muli v2892 c512_i32_1010
  v2945
def k0_mult79 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_1013 : BitVec 32 := 4#32
  let v2960 : BitVec 32 := Scalar.addi v26 c4_i32_1013
  let c16_i32_1014 : BitVec 32 := 16#32
  let v2961 : BitVec 1 := Scalar.cmpi .sge v2960 c16_i32_1014
  let c4_i32_1015 : BitVec 32 := 4#32
  let v2962 : BitVec 32 := Scalar.addi v26 c4_i32_1015
  let c16_i32_1016 : BitVec 32 := 16#32
  let v2963 : BitVec 32 := Scalar.subi v2962 c16_i32_1016
  let c4_i32_1017 : BitVec 32 := 4#32
  let v2964 : BitVec 32 := Scalar.addi v26 c4_i32_1017
  let v2965 : BitVec 32 := Scalar.select v2961 v2963 v2964
  let c512_i32_1018 : BitVec 32 := 512#32
  let v2966 : BitVec 32 := Scalar.muli v2965 c512_i32_1018
  v2966
def k0_mult80 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c4_i32_1013 : BitVec 32 := 4#32
  let v2960 : BitVec 32 := Scalar.addi v26 c4_i32_1013
  let c16_i32_1014 : BitVec 32 := 16#32
  let v2961 : BitVec 1 := Scalar.cmpi .sge v2960 c16_i32_1014
  let c4_i32_1015 : BitVec 32 := 4#32
  let v2962 : BitVec 32 := Scalar.addi v26 c4_i32_1015
  let c16_i32_1016 : BitVec 32 := 16#32
  let v2963 : BitVec 32 := Scalar.subi v2962 c16_i32_1016
  let c4_i32_1017 : BitVec 32 := 4#32
  let v2964 : BitVec 32 := Scalar.addi v26 c4_i32_1017
  let v2965 : BitVec 32 := Scalar.select v2961 v2963 v2964
  let c512_i32_1035 : BitVec 32 := 512#32
  let v3018 : BitVec 32 := Scalar.muli v2965 c512_i32_1035
  v3018
def k0_mult81 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1038 : BitVec 32 := 4#32
  let v3033 : BitVec 32 := Scalar.addi v44 c4_i32_1038
  let c16_i32_1039 : BitVec 32 := 16#32
  let v3034 : BitVec 1 := Scalar.cmpi .sge v3033 c16_i32_1039
  let c4_i32_1040 : BitVec 32 := 4#32
  let v3035 : BitVec 32 := Scalar.addi v44 c4_i32_1040
  let c16_i32_1041 : BitVec 32 := 16#32
  let v3036 : BitVec 32 := Scalar.subi v3035 c16_i32_1041
  let c4_i32_1042 : BitVec 32 := 4#32
  let v3037 : BitVec 32 := Scalar.addi v44 c4_i32_1042
  let v3038 : BitVec 32 := Scalar.select v3034 v3036 v3037
  let c512_i32_1043 : BitVec 32 := 512#32
  let v3039 : BitVec 32 := Scalar.muli v3038 c512_i32_1043
  v3039
def k0_mult82 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1038 : BitVec 32 := 4#32
  let v3033 : BitVec 32 := Scalar.addi v44 c4_i32_1038
  let c16_i32_1039 : BitVec 32 := 16#32
  let v3034 : BitVec 1 := Scalar.cmpi .sge v3033 c16_i32_1039
  let c4_i32_1040 : BitVec 32 := 4#32
  let v3035 : BitVec 32 := Scalar.addi v44 c4_i32_1040
  let c16_i32_1041 : BitVec 32 := 16#32
  let v3036 : BitVec 32 := Scalar.subi v3035 c16_i32_1041
  let c4_i32_1042 : BitVec 32 := 4#32
  let v3037 : BitVec 32 := Scalar.addi v44 c4_i32_1042
  let v3038 : BitVec 32 := Scalar.select v3034 v3036 v3037
  let c512_i32_1060 : BitVec 32 := 512#32
  let v3091 : BitVec 32 := Scalar.muli v3038 c512_i32_1060
  v3091
def k0_mult83 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1063 : BitVec 32 := 4#32
  let v3106 : BitVec 32 := Scalar.addi v44 c4_i32_1063
  let c16_i32_1064 : BitVec 32 := 16#32
  let v3107 : BitVec 1 := Scalar.cmpi .sge v3106 c16_i32_1064
  let c4_i32_1065 : BitVec 32 := 4#32
  let v3108 : BitVec 32 := Scalar.addi v44 c4_i32_1065
  let c16_i32_1066 : BitVec 32 := 16#32
  let v3109 : BitVec 32 := Scalar.subi v3108 c16_i32_1066
  let c4_i32_1067 : BitVec 32 := 4#32
  let v3110 : BitVec 32 := Scalar.addi v44 c4_i32_1067
  let v3111 : BitVec 32 := Scalar.select v3107 v3109 v3110
  let c512_i32_1068 : BitVec 32 := 512#32
  let v3112 : BitVec 32 := Scalar.muli v3111 c512_i32_1068
  v3112
def k0_mult84 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1063 : BitVec 32 := 4#32
  let v3106 : BitVec 32 := Scalar.addi v44 c4_i32_1063
  let c16_i32_1064 : BitVec 32 := 16#32
  let v3107 : BitVec 1 := Scalar.cmpi .sge v3106 c16_i32_1064
  let c4_i32_1065 : BitVec 32 := 4#32
  let v3108 : BitVec 32 := Scalar.addi v44 c4_i32_1065
  let c16_i32_1066 : BitVec 32 := 16#32
  let v3109 : BitVec 32 := Scalar.subi v3108 c16_i32_1066
  let c4_i32_1067 : BitVec 32 := 4#32
  let v3110 : BitVec 32 := Scalar.addi v44 c4_i32_1067
  let v3111 : BitVec 32 := Scalar.select v3107 v3109 v3110
  let c512_i32_1085 : BitVec 32 := 512#32
  let v3164 : BitVec 32 := Scalar.muli v3111 c512_i32_1085
  v3164
def k0_mult85 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1088 : BitVec 32 := 4#32
  let v3179 : BitVec 32 := Scalar.addi v44 c4_i32_1088
  let c16_i32_1089 : BitVec 32 := 16#32
  let v3180 : BitVec 1 := Scalar.cmpi .sge v3179 c16_i32_1089
  let c4_i32_1090 : BitVec 32 := 4#32
  let v3181 : BitVec 32 := Scalar.addi v44 c4_i32_1090
  let c16_i32_1091 : BitVec 32 := 16#32
  let v3182 : BitVec 32 := Scalar.subi v3181 c16_i32_1091
  let c4_i32_1092 : BitVec 32 := 4#32
  let v3183 : BitVec 32 := Scalar.addi v44 c4_i32_1092
  let v3184 : BitVec 32 := Scalar.select v3180 v3182 v3183
  let c512_i32_1093 : BitVec 32 := 512#32
  let v3185 : BitVec 32 := Scalar.muli v3184 c512_i32_1093
  v3185
def k0_mult86 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1088 : BitVec 32 := 4#32
  let v3179 : BitVec 32 := Scalar.addi v44 c4_i32_1088
  let c16_i32_1089 : BitVec 32 := 16#32
  let v3180 : BitVec 1 := Scalar.cmpi .sge v3179 c16_i32_1089
  let c4_i32_1090 : BitVec 32 := 4#32
  let v3181 : BitVec 32 := Scalar.addi v44 c4_i32_1090
  let c16_i32_1091 : BitVec 32 := 16#32
  let v3182 : BitVec 32 := Scalar.subi v3181 c16_i32_1091
  let c4_i32_1092 : BitVec 32 := 4#32
  let v3183 : BitVec 32 := Scalar.addi v44 c4_i32_1092
  let v3184 : BitVec 32 := Scalar.select v3180 v3182 v3183
  let c512_i32_1110 : BitVec 32 := 512#32
  let v3237 : BitVec 32 := Scalar.muli v3184 c512_i32_1110
  v3237
def k0_mult87 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1113 : BitVec 32 := 4#32
  let v3252 : BitVec 32 := Scalar.addi v44 c4_i32_1113
  let c16_i32_1114 : BitVec 32 := 16#32
  let v3253 : BitVec 1 := Scalar.cmpi .sge v3252 c16_i32_1114
  let c4_i32_1115 : BitVec 32 := 4#32
  let v3254 : BitVec 32 := Scalar.addi v44 c4_i32_1115
  let c16_i32_1116 : BitVec 32 := 16#32
  let v3255 : BitVec 32 := Scalar.subi v3254 c16_i32_1116
  let c4_i32_1117 : BitVec 32 := 4#32
  let v3256 : BitVec 32 := Scalar.addi v44 c4_i32_1117
  let v3257 : BitVec 32 := Scalar.select v3253 v3255 v3256
  let c512_i32_1118 : BitVec 32 := 512#32
  let v3258 : BitVec 32 := Scalar.muli v3257 c512_i32_1118
  v3258
def k0_mult88 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c4_i32_1113 : BitVec 32 := 4#32
  let v3252 : BitVec 32 := Scalar.addi v44 c4_i32_1113
  let c16_i32_1114 : BitVec 32 := 16#32
  let v3253 : BitVec 1 := Scalar.cmpi .sge v3252 c16_i32_1114
  let c4_i32_1115 : BitVec 32 := 4#32
  let v3254 : BitVec 32 := Scalar.addi v44 c4_i32_1115
  let c16_i32_1116 : BitVec 32 := 16#32
  let v3255 : BitVec 32 := Scalar.subi v3254 c16_i32_1116
  let c4_i32_1117 : BitVec 32 := 4#32
  let v3256 : BitVec 32 := Scalar.addi v44 c4_i32_1117
  let v3257 : BitVec 32 := Scalar.select v3253 v3255 v3256
  let c512_i32_1135 : BitVec 32 := 512#32
  let v3310 : BitVec 32 := Scalar.muli v3257 c512_i32_1135
  v3310
def k0_mult89 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32 : BitVec 32 := 5#32
  let v3325 : BitVec 32 := Scalar.addi v26 c5_i32
  let c16_i32_1138 : BitVec 32 := 16#32
  let v3326 : BitVec 1 := Scalar.cmpi .sge v3325 c16_i32_1138
  let c5_i32_1139 : BitVec 32 := 5#32
  let v3327 : BitVec 32 := Scalar.addi v26 c5_i32_1139
  let c16_i32_1140 : BitVec 32 := 16#32
  let v3328 : BitVec 32 := Scalar.subi v3327 c16_i32_1140
  let c5_i32_1141 : BitVec 32 := 5#32
  let v3329 : BitVec 32 := Scalar.addi v26 c5_i32_1141
  let v3330 : BitVec 32 := Scalar.select v3326 v3328 v3329
  let c512_i32_1142 : BitVec 32 := 512#32
  let v3331 : BitVec 32 := Scalar.muli v3330 c512_i32_1142
  v3331
def k0_mult90 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32 : BitVec 32 := 5#32
  let v3325 : BitVec 32 := Scalar.addi v26 c5_i32
  let c16_i32_1138 : BitVec 32 := 16#32
  let v3326 : BitVec 1 := Scalar.cmpi .sge v3325 c16_i32_1138
  let c5_i32_1139 : BitVec 32 := 5#32
  let v3327 : BitVec 32 := Scalar.addi v26 c5_i32_1139
  let c16_i32_1140 : BitVec 32 := 16#32
  let v3328 : BitVec 32 := Scalar.subi v3327 c16_i32_1140
  let c5_i32_1141 : BitVec 32 := 5#32
  let v3329 : BitVec 32 := Scalar.addi v26 c5_i32_1141
  let v3330 : BitVec 32 := Scalar.select v3326 v3328 v3329
  let c512_i32_1159 : BitVec 32 := 512#32
  let v3383 : BitVec 32 := Scalar.muli v3330 c512_i32_1159
  v3383
def k0_mult91 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1162 : BitVec 32 := 5#32
  let v3398 : BitVec 32 := Scalar.addi v26 c5_i32_1162
  let c16_i32_1163 : BitVec 32 := 16#32
  let v3399 : BitVec 1 := Scalar.cmpi .sge v3398 c16_i32_1163
  let c5_i32_1164 : BitVec 32 := 5#32
  let v3400 : BitVec 32 := Scalar.addi v26 c5_i32_1164
  let c16_i32_1165 : BitVec 32 := 16#32
  let v3401 : BitVec 32 := Scalar.subi v3400 c16_i32_1165
  let c5_i32_1166 : BitVec 32 := 5#32
  let v3402 : BitVec 32 := Scalar.addi v26 c5_i32_1166
  let v3403 : BitVec 32 := Scalar.select v3399 v3401 v3402
  let c512_i32_1167 : BitVec 32 := 512#32
  let v3404 : BitVec 32 := Scalar.muli v3403 c512_i32_1167
  v3404
def k0_mult92 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1162 : BitVec 32 := 5#32
  let v3398 : BitVec 32 := Scalar.addi v26 c5_i32_1162
  let c16_i32_1163 : BitVec 32 := 16#32
  let v3399 : BitVec 1 := Scalar.cmpi .sge v3398 c16_i32_1163
  let c5_i32_1164 : BitVec 32 := 5#32
  let v3400 : BitVec 32 := Scalar.addi v26 c5_i32_1164
  let c16_i32_1165 : BitVec 32 := 16#32
  let v3401 : BitVec 32 := Scalar.subi v3400 c16_i32_1165
  let c5_i32_1166 : BitVec 32 := 5#32
  let v3402 : BitVec 32 := Scalar.addi v26 c5_i32_1166
  let v3403 : BitVec 32 := Scalar.select v3399 v3401 v3402
  let c512_i32_1184 : BitVec 32 := 512#32
  let v3456 : BitVec 32 := Scalar.muli v3403 c512_i32_1184
  v3456
def k0_mult93 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1187 : BitVec 32 := 5#32
  let v3471 : BitVec 32 := Scalar.addi v26 c5_i32_1187
  let c16_i32_1188 : BitVec 32 := 16#32
  let v3472 : BitVec 1 := Scalar.cmpi .sge v3471 c16_i32_1188
  let c5_i32_1189 : BitVec 32 := 5#32
  let v3473 : BitVec 32 := Scalar.addi v26 c5_i32_1189
  let c16_i32_1190 : BitVec 32 := 16#32
  let v3474 : BitVec 32 := Scalar.subi v3473 c16_i32_1190
  let c5_i32_1191 : BitVec 32 := 5#32
  let v3475 : BitVec 32 := Scalar.addi v26 c5_i32_1191
  let v3476 : BitVec 32 := Scalar.select v3472 v3474 v3475
  let c512_i32_1192 : BitVec 32 := 512#32
  let v3477 : BitVec 32 := Scalar.muli v3476 c512_i32_1192
  v3477
def k0_mult94 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1187 : BitVec 32 := 5#32
  let v3471 : BitVec 32 := Scalar.addi v26 c5_i32_1187
  let c16_i32_1188 : BitVec 32 := 16#32
  let v3472 : BitVec 1 := Scalar.cmpi .sge v3471 c16_i32_1188
  let c5_i32_1189 : BitVec 32 := 5#32
  let v3473 : BitVec 32 := Scalar.addi v26 c5_i32_1189
  let c16_i32_1190 : BitVec 32 := 16#32
  let v3474 : BitVec 32 := Scalar.subi v3473 c16_i32_1190
  let c5_i32_1191 : BitVec 32 := 5#32
  let v3475 : BitVec 32 := Scalar.addi v26 c5_i32_1191
  let v3476 : BitVec 32 := Scalar.select v3472 v3474 v3475
  let c512_i32_1209 : BitVec 32 := 512#32
  let v3529 : BitVec 32 := Scalar.muli v3476 c512_i32_1209
  v3529
def k0_mult95 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1212 : BitVec 32 := 5#32
  let v3544 : BitVec 32 := Scalar.addi v26 c5_i32_1212
  let c16_i32_1213 : BitVec 32 := 16#32
  let v3545 : BitVec 1 := Scalar.cmpi .sge v3544 c16_i32_1213
  let c5_i32_1214 : BitVec 32 := 5#32
  let v3546 : BitVec 32 := Scalar.addi v26 c5_i32_1214
  let c16_i32_1215 : BitVec 32 := 16#32
  let v3547 : BitVec 32 := Scalar.subi v3546 c16_i32_1215
  let c5_i32_1216 : BitVec 32 := 5#32
  let v3548 : BitVec 32 := Scalar.addi v26 c5_i32_1216
  let v3549 : BitVec 32 := Scalar.select v3545 v3547 v3548
  let c512_i32_1217 : BitVec 32 := 512#32
  let v3550 : BitVec 32 := Scalar.muli v3549 c512_i32_1217
  v3550
def k0_mult96 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c5_i32_1212 : BitVec 32 := 5#32
  let v3544 : BitVec 32 := Scalar.addi v26 c5_i32_1212
  let c16_i32_1213 : BitVec 32 := 16#32
  let v3545 : BitVec 1 := Scalar.cmpi .sge v3544 c16_i32_1213
  let c5_i32_1214 : BitVec 32 := 5#32
  let v3546 : BitVec 32 := Scalar.addi v26 c5_i32_1214
  let c16_i32_1215 : BitVec 32 := 16#32
  let v3547 : BitVec 32 := Scalar.subi v3546 c16_i32_1215
  let c5_i32_1216 : BitVec 32 := 5#32
  let v3548 : BitVec 32 := Scalar.addi v26 c5_i32_1216
  let v3549 : BitVec 32 := Scalar.select v3545 v3547 v3548
  let c512_i32_1234 : BitVec 32 := 512#32
  let v3602 : BitVec 32 := Scalar.muli v3549 c512_i32_1234
  v3602
def k0_mult97 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1237 : BitVec 32 := 5#32
  let v3617 : BitVec 32 := Scalar.addi v44 c5_i32_1237
  let c16_i32_1238 : BitVec 32 := 16#32
  let v3618 : BitVec 1 := Scalar.cmpi .sge v3617 c16_i32_1238
  let c5_i32_1239 : BitVec 32 := 5#32
  let v3619 : BitVec 32 := Scalar.addi v44 c5_i32_1239
  let c16_i32_1240 : BitVec 32 := 16#32
  let v3620 : BitVec 32 := Scalar.subi v3619 c16_i32_1240
  let c5_i32_1241 : BitVec 32 := 5#32
  let v3621 : BitVec 32 := Scalar.addi v44 c5_i32_1241
  let v3622 : BitVec 32 := Scalar.select v3618 v3620 v3621
  let c512_i32_1242 : BitVec 32 := 512#32
  let v3623 : BitVec 32 := Scalar.muli v3622 c512_i32_1242
  v3623
def k0_mult98 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1237 : BitVec 32 := 5#32
  let v3617 : BitVec 32 := Scalar.addi v44 c5_i32_1237
  let c16_i32_1238 : BitVec 32 := 16#32
  let v3618 : BitVec 1 := Scalar.cmpi .sge v3617 c16_i32_1238
  let c5_i32_1239 : BitVec 32 := 5#32
  let v3619 : BitVec 32 := Scalar.addi v44 c5_i32_1239
  let c16_i32_1240 : BitVec 32 := 16#32
  let v3620 : BitVec 32 := Scalar.subi v3619 c16_i32_1240
  let c5_i32_1241 : BitVec 32 := 5#32
  let v3621 : BitVec 32 := Scalar.addi v44 c5_i32_1241
  let v3622 : BitVec 32 := Scalar.select v3618 v3620 v3621
  let c512_i32_1259 : BitVec 32 := 512#32
  let v3675 : BitVec 32 := Scalar.muli v3622 c512_i32_1259
  v3675
def k0_mult99 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1262 : BitVec 32 := 5#32
  let v3690 : BitVec 32 := Scalar.addi v44 c5_i32_1262
  let c16_i32_1263 : BitVec 32 := 16#32
  let v3691 : BitVec 1 := Scalar.cmpi .sge v3690 c16_i32_1263
  let c5_i32_1264 : BitVec 32 := 5#32
  let v3692 : BitVec 32 := Scalar.addi v44 c5_i32_1264
  let c16_i32_1265 : BitVec 32 := 16#32
  let v3693 : BitVec 32 := Scalar.subi v3692 c16_i32_1265
  let c5_i32_1266 : BitVec 32 := 5#32
  let v3694 : BitVec 32 := Scalar.addi v44 c5_i32_1266
  let v3695 : BitVec 32 := Scalar.select v3691 v3693 v3694
  let c512_i32_1267 : BitVec 32 := 512#32
  let v3696 : BitVec 32 := Scalar.muli v3695 c512_i32_1267
  v3696
def k0_mult100 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1262 : BitVec 32 := 5#32
  let v3690 : BitVec 32 := Scalar.addi v44 c5_i32_1262
  let c16_i32_1263 : BitVec 32 := 16#32
  let v3691 : BitVec 1 := Scalar.cmpi .sge v3690 c16_i32_1263
  let c5_i32_1264 : BitVec 32 := 5#32
  let v3692 : BitVec 32 := Scalar.addi v44 c5_i32_1264
  let c16_i32_1265 : BitVec 32 := 16#32
  let v3693 : BitVec 32 := Scalar.subi v3692 c16_i32_1265
  let c5_i32_1266 : BitVec 32 := 5#32
  let v3694 : BitVec 32 := Scalar.addi v44 c5_i32_1266
  let v3695 : BitVec 32 := Scalar.select v3691 v3693 v3694
  let c512_i32_1284 : BitVec 32 := 512#32
  let v3748 : BitVec 32 := Scalar.muli v3695 c512_i32_1284
  v3748
def k0_mult101 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1287 : BitVec 32 := 5#32
  let v3763 : BitVec 32 := Scalar.addi v44 c5_i32_1287
  let c16_i32_1288 : BitVec 32 := 16#32
  let v3764 : BitVec 1 := Scalar.cmpi .sge v3763 c16_i32_1288
  let c5_i32_1289 : BitVec 32 := 5#32
  let v3765 : BitVec 32 := Scalar.addi v44 c5_i32_1289
  let c16_i32_1290 : BitVec 32 := 16#32
  let v3766 : BitVec 32 := Scalar.subi v3765 c16_i32_1290
  let c5_i32_1291 : BitVec 32 := 5#32
  let v3767 : BitVec 32 := Scalar.addi v44 c5_i32_1291
  let v3768 : BitVec 32 := Scalar.select v3764 v3766 v3767
  let c512_i32_1292 : BitVec 32 := 512#32
  let v3769 : BitVec 32 := Scalar.muli v3768 c512_i32_1292
  v3769
def k0_mult102 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1287 : BitVec 32 := 5#32
  let v3763 : BitVec 32 := Scalar.addi v44 c5_i32_1287
  let c16_i32_1288 : BitVec 32 := 16#32
  let v3764 : BitVec 1 := Scalar.cmpi .sge v3763 c16_i32_1288
  let c5_i32_1289 : BitVec 32 := 5#32
  let v3765 : BitVec 32 := Scalar.addi v44 c5_i32_1289
  let c16_i32_1290 : BitVec 32 := 16#32
  let v3766 : BitVec 32 := Scalar.subi v3765 c16_i32_1290
  let c5_i32_1291 : BitVec 32 := 5#32
  let v3767 : BitVec 32 := Scalar.addi v44 c5_i32_1291
  let v3768 : BitVec 32 := Scalar.select v3764 v3766 v3767
  let c512_i32_1309 : BitVec 32 := 512#32
  let v3821 : BitVec 32 := Scalar.muli v3768 c512_i32_1309
  v3821
def k0_mult103 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1312 : BitVec 32 := 5#32
  let v3836 : BitVec 32 := Scalar.addi v44 c5_i32_1312
  let c16_i32_1313 : BitVec 32 := 16#32
  let v3837 : BitVec 1 := Scalar.cmpi .sge v3836 c16_i32_1313
  let c5_i32_1314 : BitVec 32 := 5#32
  let v3838 : BitVec 32 := Scalar.addi v44 c5_i32_1314
  let c16_i32_1315 : BitVec 32 := 16#32
  let v3839 : BitVec 32 := Scalar.subi v3838 c16_i32_1315
  let c5_i32_1316 : BitVec 32 := 5#32
  let v3840 : BitVec 32 := Scalar.addi v44 c5_i32_1316
  let v3841 : BitVec 32 := Scalar.select v3837 v3839 v3840
  let c512_i32_1317 : BitVec 32 := 512#32
  let v3842 : BitVec 32 := Scalar.muli v3841 c512_i32_1317
  v3842
def k0_mult104 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c5_i32_1312 : BitVec 32 := 5#32
  let v3836 : BitVec 32 := Scalar.addi v44 c5_i32_1312
  let c16_i32_1313 : BitVec 32 := 16#32
  let v3837 : BitVec 1 := Scalar.cmpi .sge v3836 c16_i32_1313
  let c5_i32_1314 : BitVec 32 := 5#32
  let v3838 : BitVec 32 := Scalar.addi v44 c5_i32_1314
  let c16_i32_1315 : BitVec 32 := 16#32
  let v3839 : BitVec 32 := Scalar.subi v3838 c16_i32_1315
  let c5_i32_1316 : BitVec 32 := 5#32
  let v3840 : BitVec 32 := Scalar.addi v44 c5_i32_1316
  let v3841 : BitVec 32 := Scalar.select v3837 v3839 v3840
  let c512_i32_1334 : BitVec 32 := 512#32
  let v3894 : BitVec 32 := Scalar.muli v3841 c512_i32_1334
  v3894
def k0_mult105 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32 : BitVec 32 := 6#32
  let v3909 : BitVec 32 := Scalar.addi v26 c6_i32
  let c16_i32_1337 : BitVec 32 := 16#32
  let v3910 : BitVec 1 := Scalar.cmpi .sge v3909 c16_i32_1337
  let c6_i32_1338 : BitVec 32 := 6#32
  let v3911 : BitVec 32 := Scalar.addi v26 c6_i32_1338
  let c16_i32_1339 : BitVec 32 := 16#32
  let v3912 : BitVec 32 := Scalar.subi v3911 c16_i32_1339
  let c6_i32_1340 : BitVec 32 := 6#32
  let v3913 : BitVec 32 := Scalar.addi v26 c6_i32_1340
  let v3914 : BitVec 32 := Scalar.select v3910 v3912 v3913
  let c512_i32_1341 : BitVec 32 := 512#32
  let v3915 : BitVec 32 := Scalar.muli v3914 c512_i32_1341
  v3915
def k0_mult106 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32 : BitVec 32 := 6#32
  let v3909 : BitVec 32 := Scalar.addi v26 c6_i32
  let c16_i32_1337 : BitVec 32 := 16#32
  let v3910 : BitVec 1 := Scalar.cmpi .sge v3909 c16_i32_1337
  let c6_i32_1338 : BitVec 32 := 6#32
  let v3911 : BitVec 32 := Scalar.addi v26 c6_i32_1338
  let c16_i32_1339 : BitVec 32 := 16#32
  let v3912 : BitVec 32 := Scalar.subi v3911 c16_i32_1339
  let c6_i32_1340 : BitVec 32 := 6#32
  let v3913 : BitVec 32 := Scalar.addi v26 c6_i32_1340
  let v3914 : BitVec 32 := Scalar.select v3910 v3912 v3913
  let c512_i32_1358 : BitVec 32 := 512#32
  let v3967 : BitVec 32 := Scalar.muli v3914 c512_i32_1358
  v3967
def k0_mult107 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1361 : BitVec 32 := 6#32
  let v3982 : BitVec 32 := Scalar.addi v26 c6_i32_1361
  let c16_i32_1362 : BitVec 32 := 16#32
  let v3983 : BitVec 1 := Scalar.cmpi .sge v3982 c16_i32_1362
  let c6_i32_1363 : BitVec 32 := 6#32
  let v3984 : BitVec 32 := Scalar.addi v26 c6_i32_1363
  let c16_i32_1364 : BitVec 32 := 16#32
  let v3985 : BitVec 32 := Scalar.subi v3984 c16_i32_1364
  let c6_i32_1365 : BitVec 32 := 6#32
  let v3986 : BitVec 32 := Scalar.addi v26 c6_i32_1365
  let v3987 : BitVec 32 := Scalar.select v3983 v3985 v3986
  let c512_i32_1366 : BitVec 32 := 512#32
  let v3988 : BitVec 32 := Scalar.muli v3987 c512_i32_1366
  v3988
def k0_mult108 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1361 : BitVec 32 := 6#32
  let v3982 : BitVec 32 := Scalar.addi v26 c6_i32_1361
  let c16_i32_1362 : BitVec 32 := 16#32
  let v3983 : BitVec 1 := Scalar.cmpi .sge v3982 c16_i32_1362
  let c6_i32_1363 : BitVec 32 := 6#32
  let v3984 : BitVec 32 := Scalar.addi v26 c6_i32_1363
  let c16_i32_1364 : BitVec 32 := 16#32
  let v3985 : BitVec 32 := Scalar.subi v3984 c16_i32_1364
  let c6_i32_1365 : BitVec 32 := 6#32
  let v3986 : BitVec 32 := Scalar.addi v26 c6_i32_1365
  let v3987 : BitVec 32 := Scalar.select v3983 v3985 v3986
  let c512_i32_1383 : BitVec 32 := 512#32
  let v4040 : BitVec 32 := Scalar.muli v3987 c512_i32_1383
  v4040
def k0_mult109 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1386 : BitVec 32 := 6#32
  let v4055 : BitVec 32 := Scalar.addi v26 c6_i32_1386
  let c16_i32_1387 : BitVec 32 := 16#32
  let v4056 : BitVec 1 := Scalar.cmpi .sge v4055 c16_i32_1387
  let c6_i32_1388 : BitVec 32 := 6#32
  let v4057 : BitVec 32 := Scalar.addi v26 c6_i32_1388
  let c16_i32_1389 : BitVec 32 := 16#32
  let v4058 : BitVec 32 := Scalar.subi v4057 c16_i32_1389
  let c6_i32_1390 : BitVec 32 := 6#32
  let v4059 : BitVec 32 := Scalar.addi v26 c6_i32_1390
  let v4060 : BitVec 32 := Scalar.select v4056 v4058 v4059
  let c512_i32_1391 : BitVec 32 := 512#32
  let v4061 : BitVec 32 := Scalar.muli v4060 c512_i32_1391
  v4061
def k0_mult110 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1386 : BitVec 32 := 6#32
  let v4055 : BitVec 32 := Scalar.addi v26 c6_i32_1386
  let c16_i32_1387 : BitVec 32 := 16#32
  let v4056 : BitVec 1 := Scalar.cmpi .sge v4055 c16_i32_1387
  let c6_i32_1388 : BitVec 32 := 6#32
  let v4057 : BitVec 32 := Scalar.addi v26 c6_i32_1388
  let c16_i32_1389 : BitVec 32 := 16#32
  let v4058 : BitVec 32 := Scalar.subi v4057 c16_i32_1389
  let c6_i32_1390 : BitVec 32 := 6#32
  let v4059 : BitVec 32 := Scalar.addi v26 c6_i32_1390
  let v4060 : BitVec 32 := Scalar.select v4056 v4058 v4059
  let c512_i32_1408 : BitVec 32 := 512#32
  let v4113 : BitVec 32 := Scalar.muli v4060 c512_i32_1408
  v4113
def k0_mult111 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1411 : BitVec 32 := 6#32
  let v4128 : BitVec 32 := Scalar.addi v26 c6_i32_1411
  let c16_i32_1412 : BitVec 32 := 16#32
  let v4129 : BitVec 1 := Scalar.cmpi .sge v4128 c16_i32_1412
  let c6_i32_1413 : BitVec 32 := 6#32
  let v4130 : BitVec 32 := Scalar.addi v26 c6_i32_1413
  let c16_i32_1414 : BitVec 32 := 16#32
  let v4131 : BitVec 32 := Scalar.subi v4130 c16_i32_1414
  let c6_i32_1415 : BitVec 32 := 6#32
  let v4132 : BitVec 32 := Scalar.addi v26 c6_i32_1415
  let v4133 : BitVec 32 := Scalar.select v4129 v4131 v4132
  let c512_i32_1416 : BitVec 32 := 512#32
  let v4134 : BitVec 32 := Scalar.muli v4133 c512_i32_1416
  v4134
def k0_mult112 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c6_i32_1411 : BitVec 32 := 6#32
  let v4128 : BitVec 32 := Scalar.addi v26 c6_i32_1411
  let c16_i32_1412 : BitVec 32 := 16#32
  let v4129 : BitVec 1 := Scalar.cmpi .sge v4128 c16_i32_1412
  let c6_i32_1413 : BitVec 32 := 6#32
  let v4130 : BitVec 32 := Scalar.addi v26 c6_i32_1413
  let c16_i32_1414 : BitVec 32 := 16#32
  let v4131 : BitVec 32 := Scalar.subi v4130 c16_i32_1414
  let c6_i32_1415 : BitVec 32 := 6#32
  let v4132 : BitVec 32 := Scalar.addi v26 c6_i32_1415
  let v4133 : BitVec 32 := Scalar.select v4129 v4131 v4132
  let c512_i32_1433 : BitVec 32 := 512#32
  let v4186 : BitVec 32 := Scalar.muli v4133 c512_i32_1433
  v4186
def k0_mult113 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1436 : BitVec 32 := 6#32
  let v4201 : BitVec 32 := Scalar.addi v44 c6_i32_1436
  let c16_i32_1437 : BitVec 32 := 16#32
  let v4202 : BitVec 1 := Scalar.cmpi .sge v4201 c16_i32_1437
  let c6_i32_1438 : BitVec 32 := 6#32
  let v4203 : BitVec 32 := Scalar.addi v44 c6_i32_1438
  let c16_i32_1439 : BitVec 32 := 16#32
  let v4204 : BitVec 32 := Scalar.subi v4203 c16_i32_1439
  let c6_i32_1440 : BitVec 32 := 6#32
  let v4205 : BitVec 32 := Scalar.addi v44 c6_i32_1440
  let v4206 : BitVec 32 := Scalar.select v4202 v4204 v4205
  let c512_i32_1441 : BitVec 32 := 512#32
  let v4207 : BitVec 32 := Scalar.muli v4206 c512_i32_1441
  v4207
def k0_mult114 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1436 : BitVec 32 := 6#32
  let v4201 : BitVec 32 := Scalar.addi v44 c6_i32_1436
  let c16_i32_1437 : BitVec 32 := 16#32
  let v4202 : BitVec 1 := Scalar.cmpi .sge v4201 c16_i32_1437
  let c6_i32_1438 : BitVec 32 := 6#32
  let v4203 : BitVec 32 := Scalar.addi v44 c6_i32_1438
  let c16_i32_1439 : BitVec 32 := 16#32
  let v4204 : BitVec 32 := Scalar.subi v4203 c16_i32_1439
  let c6_i32_1440 : BitVec 32 := 6#32
  let v4205 : BitVec 32 := Scalar.addi v44 c6_i32_1440
  let v4206 : BitVec 32 := Scalar.select v4202 v4204 v4205
  let c512_i32_1458 : BitVec 32 := 512#32
  let v4259 : BitVec 32 := Scalar.muli v4206 c512_i32_1458
  v4259
def k0_mult115 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1461 : BitVec 32 := 6#32
  let v4274 : BitVec 32 := Scalar.addi v44 c6_i32_1461
  let c16_i32_1462 : BitVec 32 := 16#32
  let v4275 : BitVec 1 := Scalar.cmpi .sge v4274 c16_i32_1462
  let c6_i32_1463 : BitVec 32 := 6#32
  let v4276 : BitVec 32 := Scalar.addi v44 c6_i32_1463
  let c16_i32_1464 : BitVec 32 := 16#32
  let v4277 : BitVec 32 := Scalar.subi v4276 c16_i32_1464
  let c6_i32_1465 : BitVec 32 := 6#32
  let v4278 : BitVec 32 := Scalar.addi v44 c6_i32_1465
  let v4279 : BitVec 32 := Scalar.select v4275 v4277 v4278
  let c512_i32_1466 : BitVec 32 := 512#32
  let v4280 : BitVec 32 := Scalar.muli v4279 c512_i32_1466
  v4280
def k0_mult116 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1461 : BitVec 32 := 6#32
  let v4274 : BitVec 32 := Scalar.addi v44 c6_i32_1461
  let c16_i32_1462 : BitVec 32 := 16#32
  let v4275 : BitVec 1 := Scalar.cmpi .sge v4274 c16_i32_1462
  let c6_i32_1463 : BitVec 32 := 6#32
  let v4276 : BitVec 32 := Scalar.addi v44 c6_i32_1463
  let c16_i32_1464 : BitVec 32 := 16#32
  let v4277 : BitVec 32 := Scalar.subi v4276 c16_i32_1464
  let c6_i32_1465 : BitVec 32 := 6#32
  let v4278 : BitVec 32 := Scalar.addi v44 c6_i32_1465
  let v4279 : BitVec 32 := Scalar.select v4275 v4277 v4278
  let c512_i32_1483 : BitVec 32 := 512#32
  let v4332 : BitVec 32 := Scalar.muli v4279 c512_i32_1483
  v4332
def k0_mult117 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1486 : BitVec 32 := 6#32
  let v4347 : BitVec 32 := Scalar.addi v44 c6_i32_1486
  let c16_i32_1487 : BitVec 32 := 16#32
  let v4348 : BitVec 1 := Scalar.cmpi .sge v4347 c16_i32_1487
  let c6_i32_1488 : BitVec 32 := 6#32
  let v4349 : BitVec 32 := Scalar.addi v44 c6_i32_1488
  let c16_i32_1489 : BitVec 32 := 16#32
  let v4350 : BitVec 32 := Scalar.subi v4349 c16_i32_1489
  let c6_i32_1490 : BitVec 32 := 6#32
  let v4351 : BitVec 32 := Scalar.addi v44 c6_i32_1490
  let v4352 : BitVec 32 := Scalar.select v4348 v4350 v4351
  let c512_i32_1491 : BitVec 32 := 512#32
  let v4353 : BitVec 32 := Scalar.muli v4352 c512_i32_1491
  v4353
def k0_mult118 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1486 : BitVec 32 := 6#32
  let v4347 : BitVec 32 := Scalar.addi v44 c6_i32_1486
  let c16_i32_1487 : BitVec 32 := 16#32
  let v4348 : BitVec 1 := Scalar.cmpi .sge v4347 c16_i32_1487
  let c6_i32_1488 : BitVec 32 := 6#32
  let v4349 : BitVec 32 := Scalar.addi v44 c6_i32_1488
  let c16_i32_1489 : BitVec 32 := 16#32
  let v4350 : BitVec 32 := Scalar.subi v4349 c16_i32_1489
  let c6_i32_1490 : BitVec 32 := 6#32
  let v4351 : BitVec 32 := Scalar.addi v44 c6_i32_1490
  let v4352 : BitVec 32 := Scalar.select v4348 v4350 v4351
  let c512_i32_1508 : BitVec 32 := 512#32
  let v4405 : BitVec 32 := Scalar.muli v4352 c512_i32_1508
  v4405
def k0_mult119 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1511 : BitVec 32 := 6#32
  let v4420 : BitVec 32 := Scalar.addi v44 c6_i32_1511
  let c16_i32_1512 : BitVec 32 := 16#32
  let v4421 : BitVec 1 := Scalar.cmpi .sge v4420 c16_i32_1512
  let c6_i32_1513 : BitVec 32 := 6#32
  let v4422 : BitVec 32 := Scalar.addi v44 c6_i32_1513
  let c16_i32_1514 : BitVec 32 := 16#32
  let v4423 : BitVec 32 := Scalar.subi v4422 c16_i32_1514
  let c6_i32_1515 : BitVec 32 := 6#32
  let v4424 : BitVec 32 := Scalar.addi v44 c6_i32_1515
  let v4425 : BitVec 32 := Scalar.select v4421 v4423 v4424
  let c512_i32_1516 : BitVec 32 := 512#32
  let v4426 : BitVec 32 := Scalar.muli v4425 c512_i32_1516
  v4426
def k0_mult120 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c6_i32_1511 : BitVec 32 := 6#32
  let v4420 : BitVec 32 := Scalar.addi v44 c6_i32_1511
  let c16_i32_1512 : BitVec 32 := 16#32
  let v4421 : BitVec 1 := Scalar.cmpi .sge v4420 c16_i32_1512
  let c6_i32_1513 : BitVec 32 := 6#32
  let v4422 : BitVec 32 := Scalar.addi v44 c6_i32_1513
  let c16_i32_1514 : BitVec 32 := 16#32
  let v4423 : BitVec 32 := Scalar.subi v4422 c16_i32_1514
  let c6_i32_1515 : BitVec 32 := 6#32
  let v4424 : BitVec 32 := Scalar.addi v44 c6_i32_1515
  let v4425 : BitVec 32 := Scalar.select v4421 v4423 v4424
  let c512_i32_1533 : BitVec 32 := 512#32
  let v4478 : BitVec 32 := Scalar.muli v4425 c512_i32_1533
  v4478
def k0_mult121 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32 : BitVec 32 := 7#32
  let v4493 : BitVec 32 := Scalar.addi v26 c7_i32
  let c16_i32_1536 : BitVec 32 := 16#32
  let v4494 : BitVec 1 := Scalar.cmpi .sge v4493 c16_i32_1536
  let c7_i32_1537 : BitVec 32 := 7#32
  let v4495 : BitVec 32 := Scalar.addi v26 c7_i32_1537
  let c16_i32_1538 : BitVec 32 := 16#32
  let v4496 : BitVec 32 := Scalar.subi v4495 c16_i32_1538
  let c7_i32_1539 : BitVec 32 := 7#32
  let v4497 : BitVec 32 := Scalar.addi v26 c7_i32_1539
  let v4498 : BitVec 32 := Scalar.select v4494 v4496 v4497
  let c512_i32_1540 : BitVec 32 := 512#32
  let v4499 : BitVec 32 := Scalar.muli v4498 c512_i32_1540
  v4499
def k0_mult122 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32 : BitVec 32 := 7#32
  let v4493 : BitVec 32 := Scalar.addi v26 c7_i32
  let c16_i32_1536 : BitVec 32 := 16#32
  let v4494 : BitVec 1 := Scalar.cmpi .sge v4493 c16_i32_1536
  let c7_i32_1537 : BitVec 32 := 7#32
  let v4495 : BitVec 32 := Scalar.addi v26 c7_i32_1537
  let c16_i32_1538 : BitVec 32 := 16#32
  let v4496 : BitVec 32 := Scalar.subi v4495 c16_i32_1538
  let c7_i32_1539 : BitVec 32 := 7#32
  let v4497 : BitVec 32 := Scalar.addi v26 c7_i32_1539
  let v4498 : BitVec 32 := Scalar.select v4494 v4496 v4497
  let c512_i32_1557 : BitVec 32 := 512#32
  let v4551 : BitVec 32 := Scalar.muli v4498 c512_i32_1557
  v4551
def k0_mult123 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1560 : BitVec 32 := 7#32
  let v4566 : BitVec 32 := Scalar.addi v26 c7_i32_1560
  let c16_i32_1561 : BitVec 32 := 16#32
  let v4567 : BitVec 1 := Scalar.cmpi .sge v4566 c16_i32_1561
  let c7_i32_1562 : BitVec 32 := 7#32
  let v4568 : BitVec 32 := Scalar.addi v26 c7_i32_1562
  let c16_i32_1563 : BitVec 32 := 16#32
  let v4569 : BitVec 32 := Scalar.subi v4568 c16_i32_1563
  let c7_i32_1564 : BitVec 32 := 7#32
  let v4570 : BitVec 32 := Scalar.addi v26 c7_i32_1564
  let v4571 : BitVec 32 := Scalar.select v4567 v4569 v4570
  let c512_i32_1565 : BitVec 32 := 512#32
  let v4572 : BitVec 32 := Scalar.muli v4571 c512_i32_1565
  v4572
def k0_mult124 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1560 : BitVec 32 := 7#32
  let v4566 : BitVec 32 := Scalar.addi v26 c7_i32_1560
  let c16_i32_1561 : BitVec 32 := 16#32
  let v4567 : BitVec 1 := Scalar.cmpi .sge v4566 c16_i32_1561
  let c7_i32_1562 : BitVec 32 := 7#32
  let v4568 : BitVec 32 := Scalar.addi v26 c7_i32_1562
  let c16_i32_1563 : BitVec 32 := 16#32
  let v4569 : BitVec 32 := Scalar.subi v4568 c16_i32_1563
  let c7_i32_1564 : BitVec 32 := 7#32
  let v4570 : BitVec 32 := Scalar.addi v26 c7_i32_1564
  let v4571 : BitVec 32 := Scalar.select v4567 v4569 v4570
  let c512_i32_1582 : BitVec 32 := 512#32
  let v4624 : BitVec 32 := Scalar.muli v4571 c512_i32_1582
  v4624
def k0_mult125 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1585 : BitVec 32 := 7#32
  let v4639 : BitVec 32 := Scalar.addi v26 c7_i32_1585
  let c16_i32_1586 : BitVec 32 := 16#32
  let v4640 : BitVec 1 := Scalar.cmpi .sge v4639 c16_i32_1586
  let c7_i32_1587 : BitVec 32 := 7#32
  let v4641 : BitVec 32 := Scalar.addi v26 c7_i32_1587
  let c16_i32_1588 : BitVec 32 := 16#32
  let v4642 : BitVec 32 := Scalar.subi v4641 c16_i32_1588
  let c7_i32_1589 : BitVec 32 := 7#32
  let v4643 : BitVec 32 := Scalar.addi v26 c7_i32_1589
  let v4644 : BitVec 32 := Scalar.select v4640 v4642 v4643
  let c512_i32_1590 : BitVec 32 := 512#32
  let v4645 : BitVec 32 := Scalar.muli v4644 c512_i32_1590
  v4645
def k0_mult126 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1585 : BitVec 32 := 7#32
  let v4639 : BitVec 32 := Scalar.addi v26 c7_i32_1585
  let c16_i32_1586 : BitVec 32 := 16#32
  let v4640 : BitVec 1 := Scalar.cmpi .sge v4639 c16_i32_1586
  let c7_i32_1587 : BitVec 32 := 7#32
  let v4641 : BitVec 32 := Scalar.addi v26 c7_i32_1587
  let c16_i32_1588 : BitVec 32 := 16#32
  let v4642 : BitVec 32 := Scalar.subi v4641 c16_i32_1588
  let c7_i32_1589 : BitVec 32 := 7#32
  let v4643 : BitVec 32 := Scalar.addi v26 c7_i32_1589
  let v4644 : BitVec 32 := Scalar.select v4640 v4642 v4643
  let c512_i32_1607 : BitVec 32 := 512#32
  let v4697 : BitVec 32 := Scalar.muli v4644 c512_i32_1607
  v4697
def k0_mult127 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1610 : BitVec 32 := 7#32
  let v4712 : BitVec 32 := Scalar.addi v26 c7_i32_1610
  let c16_i32_1611 : BitVec 32 := 16#32
  let v4713 : BitVec 1 := Scalar.cmpi .sge v4712 c16_i32_1611
  let c7_i32_1612 : BitVec 32 := 7#32
  let v4714 : BitVec 32 := Scalar.addi v26 c7_i32_1612
  let c16_i32_1613 : BitVec 32 := 16#32
  let v4715 : BitVec 32 := Scalar.subi v4714 c16_i32_1613
  let c7_i32_1614 : BitVec 32 := 7#32
  let v4716 : BitVec 32 := Scalar.addi v26 c7_i32_1614
  let v4717 : BitVec 32 := Scalar.select v4713 v4715 v4716
  let c512_i32_1615 : BitVec 32 := 512#32
  let v4718 : BitVec 32 := Scalar.muli v4717 c512_i32_1615
  v4718
def k0_mult128 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c7_i32_1610 : BitVec 32 := 7#32
  let v4712 : BitVec 32 := Scalar.addi v26 c7_i32_1610
  let c16_i32_1611 : BitVec 32 := 16#32
  let v4713 : BitVec 1 := Scalar.cmpi .sge v4712 c16_i32_1611
  let c7_i32_1612 : BitVec 32 := 7#32
  let v4714 : BitVec 32 := Scalar.addi v26 c7_i32_1612
  let c16_i32_1613 : BitVec 32 := 16#32
  let v4715 : BitVec 32 := Scalar.subi v4714 c16_i32_1613
  let c7_i32_1614 : BitVec 32 := 7#32
  let v4716 : BitVec 32 := Scalar.addi v26 c7_i32_1614
  let v4717 : BitVec 32 := Scalar.select v4713 v4715 v4716
  let c512_i32_1632 : BitVec 32 := 512#32
  let v4770 : BitVec 32 := Scalar.muli v4717 c512_i32_1632
  v4770
def k0_mult129 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1635 : BitVec 32 := 7#32
  let v4785 : BitVec 32 := Scalar.addi v44 c7_i32_1635
  let c16_i32_1636 : BitVec 32 := 16#32
  let v4786 : BitVec 1 := Scalar.cmpi .sge v4785 c16_i32_1636
  let c7_i32_1637 : BitVec 32 := 7#32
  let v4787 : BitVec 32 := Scalar.addi v44 c7_i32_1637
  let c16_i32_1638 : BitVec 32 := 16#32
  let v4788 : BitVec 32 := Scalar.subi v4787 c16_i32_1638
  let c7_i32_1639 : BitVec 32 := 7#32
  let v4789 : BitVec 32 := Scalar.addi v44 c7_i32_1639
  let v4790 : BitVec 32 := Scalar.select v4786 v4788 v4789
  let c512_i32_1640 : BitVec 32 := 512#32
  let v4791 : BitVec 32 := Scalar.muli v4790 c512_i32_1640
  v4791
def k0_mult130 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1635 : BitVec 32 := 7#32
  let v4785 : BitVec 32 := Scalar.addi v44 c7_i32_1635
  let c16_i32_1636 : BitVec 32 := 16#32
  let v4786 : BitVec 1 := Scalar.cmpi .sge v4785 c16_i32_1636
  let c7_i32_1637 : BitVec 32 := 7#32
  let v4787 : BitVec 32 := Scalar.addi v44 c7_i32_1637
  let c16_i32_1638 : BitVec 32 := 16#32
  let v4788 : BitVec 32 := Scalar.subi v4787 c16_i32_1638
  let c7_i32_1639 : BitVec 32 := 7#32
  let v4789 : BitVec 32 := Scalar.addi v44 c7_i32_1639
  let v4790 : BitVec 32 := Scalar.select v4786 v4788 v4789
  let c512_i32_1657 : BitVec 32 := 512#32
  let v4843 : BitVec 32 := Scalar.muli v4790 c512_i32_1657
  v4843
def k0_mult131 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1660 : BitVec 32 := 7#32
  let v4858 : BitVec 32 := Scalar.addi v44 c7_i32_1660
  let c16_i32_1661 : BitVec 32 := 16#32
  let v4859 : BitVec 1 := Scalar.cmpi .sge v4858 c16_i32_1661
  let c7_i32_1662 : BitVec 32 := 7#32
  let v4860 : BitVec 32 := Scalar.addi v44 c7_i32_1662
  let c16_i32_1663 : BitVec 32 := 16#32
  let v4861 : BitVec 32 := Scalar.subi v4860 c16_i32_1663
  let c7_i32_1664 : BitVec 32 := 7#32
  let v4862 : BitVec 32 := Scalar.addi v44 c7_i32_1664
  let v4863 : BitVec 32 := Scalar.select v4859 v4861 v4862
  let c512_i32_1665 : BitVec 32 := 512#32
  let v4864 : BitVec 32 := Scalar.muli v4863 c512_i32_1665
  v4864
def k0_mult132 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1660 : BitVec 32 := 7#32
  let v4858 : BitVec 32 := Scalar.addi v44 c7_i32_1660
  let c16_i32_1661 : BitVec 32 := 16#32
  let v4859 : BitVec 1 := Scalar.cmpi .sge v4858 c16_i32_1661
  let c7_i32_1662 : BitVec 32 := 7#32
  let v4860 : BitVec 32 := Scalar.addi v44 c7_i32_1662
  let c16_i32_1663 : BitVec 32 := 16#32
  let v4861 : BitVec 32 := Scalar.subi v4860 c16_i32_1663
  let c7_i32_1664 : BitVec 32 := 7#32
  let v4862 : BitVec 32 := Scalar.addi v44 c7_i32_1664
  let v4863 : BitVec 32 := Scalar.select v4859 v4861 v4862
  let c512_i32_1682 : BitVec 32 := 512#32
  let v4916 : BitVec 32 := Scalar.muli v4863 c512_i32_1682
  v4916
def k0_mult133 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1685 : BitVec 32 := 7#32
  let v4931 : BitVec 32 := Scalar.addi v44 c7_i32_1685
  let c16_i32_1686 : BitVec 32 := 16#32
  let v4932 : BitVec 1 := Scalar.cmpi .sge v4931 c16_i32_1686
  let c7_i32_1687 : BitVec 32 := 7#32
  let v4933 : BitVec 32 := Scalar.addi v44 c7_i32_1687
  let c16_i32_1688 : BitVec 32 := 16#32
  let v4934 : BitVec 32 := Scalar.subi v4933 c16_i32_1688
  let c7_i32_1689 : BitVec 32 := 7#32
  let v4935 : BitVec 32 := Scalar.addi v44 c7_i32_1689
  let v4936 : BitVec 32 := Scalar.select v4932 v4934 v4935
  let c512_i32_1690 : BitVec 32 := 512#32
  let v4937 : BitVec 32 := Scalar.muli v4936 c512_i32_1690
  v4937
def k0_mult134 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1685 : BitVec 32 := 7#32
  let v4931 : BitVec 32 := Scalar.addi v44 c7_i32_1685
  let c16_i32_1686 : BitVec 32 := 16#32
  let v4932 : BitVec 1 := Scalar.cmpi .sge v4931 c16_i32_1686
  let c7_i32_1687 : BitVec 32 := 7#32
  let v4933 : BitVec 32 := Scalar.addi v44 c7_i32_1687
  let c16_i32_1688 : BitVec 32 := 16#32
  let v4934 : BitVec 32 := Scalar.subi v4933 c16_i32_1688
  let c7_i32_1689 : BitVec 32 := 7#32
  let v4935 : BitVec 32 := Scalar.addi v44 c7_i32_1689
  let v4936 : BitVec 32 := Scalar.select v4932 v4934 v4935
  let c512_i32_1707 : BitVec 32 := 512#32
  let v4989 : BitVec 32 := Scalar.muli v4936 c512_i32_1707
  v4989
def k0_mult135 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1710 : BitVec 32 := 7#32
  let v5004 : BitVec 32 := Scalar.addi v44 c7_i32_1710
  let c16_i32_1711 : BitVec 32 := 16#32
  let v5005 : BitVec 1 := Scalar.cmpi .sge v5004 c16_i32_1711
  let c7_i32_1712 : BitVec 32 := 7#32
  let v5006 : BitVec 32 := Scalar.addi v44 c7_i32_1712
  let c16_i32_1713 : BitVec 32 := 16#32
  let v5007 : BitVec 32 := Scalar.subi v5006 c16_i32_1713
  let c7_i32_1714 : BitVec 32 := 7#32
  let v5008 : BitVec 32 := Scalar.addi v44 c7_i32_1714
  let v5009 : BitVec 32 := Scalar.select v5005 v5007 v5008
  let c512_i32_1715 : BitVec 32 := 512#32
  let v5010 : BitVec 32 := Scalar.muli v5009 c512_i32_1715
  v5010
def k0_mult136 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c7_i32_1710 : BitVec 32 := 7#32
  let v5004 : BitVec 32 := Scalar.addi v44 c7_i32_1710
  let c16_i32_1711 : BitVec 32 := 16#32
  let v5005 : BitVec 1 := Scalar.cmpi .sge v5004 c16_i32_1711
  let c7_i32_1712 : BitVec 32 := 7#32
  let v5006 : BitVec 32 := Scalar.addi v44 c7_i32_1712
  let c16_i32_1713 : BitVec 32 := 16#32
  let v5007 : BitVec 32 := Scalar.subi v5006 c16_i32_1713
  let c7_i32_1714 : BitVec 32 := 7#32
  let v5008 : BitVec 32 := Scalar.addi v44 c7_i32_1714
  let v5009 : BitVec 32 := Scalar.select v5005 v5007 v5008
  let c512_i32_1732 : BitVec 32 := 512#32
  let v5062 : BitVec 32 := Scalar.muli v5009 c512_i32_1732
  v5062
def k0_mult137 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32 : BitVec 32 := 8#32
  let v5077 : BitVec 32 := Scalar.addi v26 c8_i32
  let c16_i32_1735 : BitVec 32 := 16#32
  let v5078 : BitVec 1 := Scalar.cmpi .sge v5077 c16_i32_1735
  let c8_i32_1736 : BitVec 32 := 8#32
  let v5079 : BitVec 32 := Scalar.addi v26 c8_i32_1736
  let c16_i32_1737 : BitVec 32 := 16#32
  let v5080 : BitVec 32 := Scalar.subi v5079 c16_i32_1737
  let c8_i32_1738 : BitVec 32 := 8#32
  let v5081 : BitVec 32 := Scalar.addi v26 c8_i32_1738
  let v5082 : BitVec 32 := Scalar.select v5078 v5080 v5081
  let c512_i32_1739 : BitVec 32 := 512#32
  let v5083 : BitVec 32 := Scalar.muli v5082 c512_i32_1739
  v5083
def k0_mult138 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32 : BitVec 32 := 8#32
  let v5077 : BitVec 32 := Scalar.addi v26 c8_i32
  let c16_i32_1735 : BitVec 32 := 16#32
  let v5078 : BitVec 1 := Scalar.cmpi .sge v5077 c16_i32_1735
  let c8_i32_1736 : BitVec 32 := 8#32
  let v5079 : BitVec 32 := Scalar.addi v26 c8_i32_1736
  let c16_i32_1737 : BitVec 32 := 16#32
  let v5080 : BitVec 32 := Scalar.subi v5079 c16_i32_1737
  let c8_i32_1738 : BitVec 32 := 8#32
  let v5081 : BitVec 32 := Scalar.addi v26 c8_i32_1738
  let v5082 : BitVec 32 := Scalar.select v5078 v5080 v5081
  let c512_i32_1756 : BitVec 32 := 512#32
  let v5135 : BitVec 32 := Scalar.muli v5082 c512_i32_1756
  v5135
def k0_mult139 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1759 : BitVec 32 := 8#32
  let v5150 : BitVec 32 := Scalar.addi v26 c8_i32_1759
  let c16_i32_1760 : BitVec 32 := 16#32
  let v5151 : BitVec 1 := Scalar.cmpi .sge v5150 c16_i32_1760
  let c8_i32_1761 : BitVec 32 := 8#32
  let v5152 : BitVec 32 := Scalar.addi v26 c8_i32_1761
  let c16_i32_1762 : BitVec 32 := 16#32
  let v5153 : BitVec 32 := Scalar.subi v5152 c16_i32_1762
  let c8_i32_1763 : BitVec 32 := 8#32
  let v5154 : BitVec 32 := Scalar.addi v26 c8_i32_1763
  let v5155 : BitVec 32 := Scalar.select v5151 v5153 v5154
  let c512_i32_1764 : BitVec 32 := 512#32
  let v5156 : BitVec 32 := Scalar.muli v5155 c512_i32_1764
  v5156
def k0_mult140 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1759 : BitVec 32 := 8#32
  let v5150 : BitVec 32 := Scalar.addi v26 c8_i32_1759
  let c16_i32_1760 : BitVec 32 := 16#32
  let v5151 : BitVec 1 := Scalar.cmpi .sge v5150 c16_i32_1760
  let c8_i32_1761 : BitVec 32 := 8#32
  let v5152 : BitVec 32 := Scalar.addi v26 c8_i32_1761
  let c16_i32_1762 : BitVec 32 := 16#32
  let v5153 : BitVec 32 := Scalar.subi v5152 c16_i32_1762
  let c8_i32_1763 : BitVec 32 := 8#32
  let v5154 : BitVec 32 := Scalar.addi v26 c8_i32_1763
  let v5155 : BitVec 32 := Scalar.select v5151 v5153 v5154
  let c512_i32_1781 : BitVec 32 := 512#32
  let v5208 : BitVec 32 := Scalar.muli v5155 c512_i32_1781
  v5208
def k0_mult141 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1784 : BitVec 32 := 8#32
  let v5223 : BitVec 32 := Scalar.addi v26 c8_i32_1784
  let c16_i32_1785 : BitVec 32 := 16#32
  let v5224 : BitVec 1 := Scalar.cmpi .sge v5223 c16_i32_1785
  let c8_i32_1786 : BitVec 32 := 8#32
  let v5225 : BitVec 32 := Scalar.addi v26 c8_i32_1786
  let c16_i32_1787 : BitVec 32 := 16#32
  let v5226 : BitVec 32 := Scalar.subi v5225 c16_i32_1787
  let c8_i32_1788 : BitVec 32 := 8#32
  let v5227 : BitVec 32 := Scalar.addi v26 c8_i32_1788
  let v5228 : BitVec 32 := Scalar.select v5224 v5226 v5227
  let c512_i32_1789 : BitVec 32 := 512#32
  let v5229 : BitVec 32 := Scalar.muli v5228 c512_i32_1789
  v5229
def k0_mult142 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1784 : BitVec 32 := 8#32
  let v5223 : BitVec 32 := Scalar.addi v26 c8_i32_1784
  let c16_i32_1785 : BitVec 32 := 16#32
  let v5224 : BitVec 1 := Scalar.cmpi .sge v5223 c16_i32_1785
  let c8_i32_1786 : BitVec 32 := 8#32
  let v5225 : BitVec 32 := Scalar.addi v26 c8_i32_1786
  let c16_i32_1787 : BitVec 32 := 16#32
  let v5226 : BitVec 32 := Scalar.subi v5225 c16_i32_1787
  let c8_i32_1788 : BitVec 32 := 8#32
  let v5227 : BitVec 32 := Scalar.addi v26 c8_i32_1788
  let v5228 : BitVec 32 := Scalar.select v5224 v5226 v5227
  let c512_i32_1806 : BitVec 32 := 512#32
  let v5281 : BitVec 32 := Scalar.muli v5228 c512_i32_1806
  v5281
def k0_mult143 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1809 : BitVec 32 := 8#32
  let v5296 : BitVec 32 := Scalar.addi v26 c8_i32_1809
  let c16_i32_1810 : BitVec 32 := 16#32
  let v5297 : BitVec 1 := Scalar.cmpi .sge v5296 c16_i32_1810
  let c8_i32_1811 : BitVec 32 := 8#32
  let v5298 : BitVec 32 := Scalar.addi v26 c8_i32_1811
  let c16_i32_1812 : BitVec 32 := 16#32
  let v5299 : BitVec 32 := Scalar.subi v5298 c16_i32_1812
  let c8_i32_1813 : BitVec 32 := 8#32
  let v5300 : BitVec 32 := Scalar.addi v26 c8_i32_1813
  let v5301 : BitVec 32 := Scalar.select v5297 v5299 v5300
  let c512_i32_1814 : BitVec 32 := 512#32
  let v5302 : BitVec 32 := Scalar.muli v5301 c512_i32_1814
  v5302
def k0_mult144 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c8_i32_1809 : BitVec 32 := 8#32
  let v5296 : BitVec 32 := Scalar.addi v26 c8_i32_1809
  let c16_i32_1810 : BitVec 32 := 16#32
  let v5297 : BitVec 1 := Scalar.cmpi .sge v5296 c16_i32_1810
  let c8_i32_1811 : BitVec 32 := 8#32
  let v5298 : BitVec 32 := Scalar.addi v26 c8_i32_1811
  let c16_i32_1812 : BitVec 32 := 16#32
  let v5299 : BitVec 32 := Scalar.subi v5298 c16_i32_1812
  let c8_i32_1813 : BitVec 32 := 8#32
  let v5300 : BitVec 32 := Scalar.addi v26 c8_i32_1813
  let v5301 : BitVec 32 := Scalar.select v5297 v5299 v5300
  let c512_i32_1831 : BitVec 32 := 512#32
  let v5354 : BitVec 32 := Scalar.muli v5301 c512_i32_1831
  v5354
def k0_mult145 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1834 : BitVec 32 := 8#32
  let v5369 : BitVec 32 := Scalar.addi v44 c8_i32_1834
  let c16_i32_1835 : BitVec 32 := 16#32
  let v5370 : BitVec 1 := Scalar.cmpi .sge v5369 c16_i32_1835
  let c8_i32_1836 : BitVec 32 := 8#32
  let v5371 : BitVec 32 := Scalar.addi v44 c8_i32_1836
  let c16_i32_1837 : BitVec 32 := 16#32
  let v5372 : BitVec 32 := Scalar.subi v5371 c16_i32_1837
  let c8_i32_1838 : BitVec 32 := 8#32
  let v5373 : BitVec 32 := Scalar.addi v44 c8_i32_1838
  let v5374 : BitVec 32 := Scalar.select v5370 v5372 v5373
  let c512_i32_1839 : BitVec 32 := 512#32
  let v5375 : BitVec 32 := Scalar.muli v5374 c512_i32_1839
  v5375
def k0_mult146 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1834 : BitVec 32 := 8#32
  let v5369 : BitVec 32 := Scalar.addi v44 c8_i32_1834
  let c16_i32_1835 : BitVec 32 := 16#32
  let v5370 : BitVec 1 := Scalar.cmpi .sge v5369 c16_i32_1835
  let c8_i32_1836 : BitVec 32 := 8#32
  let v5371 : BitVec 32 := Scalar.addi v44 c8_i32_1836
  let c16_i32_1837 : BitVec 32 := 16#32
  let v5372 : BitVec 32 := Scalar.subi v5371 c16_i32_1837
  let c8_i32_1838 : BitVec 32 := 8#32
  let v5373 : BitVec 32 := Scalar.addi v44 c8_i32_1838
  let v5374 : BitVec 32 := Scalar.select v5370 v5372 v5373
  let c512_i32_1856 : BitVec 32 := 512#32
  let v5427 : BitVec 32 := Scalar.muli v5374 c512_i32_1856
  v5427
def k0_mult147 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1859 : BitVec 32 := 8#32
  let v5442 : BitVec 32 := Scalar.addi v44 c8_i32_1859
  let c16_i32_1860 : BitVec 32 := 16#32
  let v5443 : BitVec 1 := Scalar.cmpi .sge v5442 c16_i32_1860
  let c8_i32_1861 : BitVec 32 := 8#32
  let v5444 : BitVec 32 := Scalar.addi v44 c8_i32_1861
  let c16_i32_1862 : BitVec 32 := 16#32
  let v5445 : BitVec 32 := Scalar.subi v5444 c16_i32_1862
  let c8_i32_1863 : BitVec 32 := 8#32
  let v5446 : BitVec 32 := Scalar.addi v44 c8_i32_1863
  let v5447 : BitVec 32 := Scalar.select v5443 v5445 v5446
  let c512_i32_1864 : BitVec 32 := 512#32
  let v5448 : BitVec 32 := Scalar.muli v5447 c512_i32_1864
  v5448
def k0_mult148 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1859 : BitVec 32 := 8#32
  let v5442 : BitVec 32 := Scalar.addi v44 c8_i32_1859
  let c16_i32_1860 : BitVec 32 := 16#32
  let v5443 : BitVec 1 := Scalar.cmpi .sge v5442 c16_i32_1860
  let c8_i32_1861 : BitVec 32 := 8#32
  let v5444 : BitVec 32 := Scalar.addi v44 c8_i32_1861
  let c16_i32_1862 : BitVec 32 := 16#32
  let v5445 : BitVec 32 := Scalar.subi v5444 c16_i32_1862
  let c8_i32_1863 : BitVec 32 := 8#32
  let v5446 : BitVec 32 := Scalar.addi v44 c8_i32_1863
  let v5447 : BitVec 32 := Scalar.select v5443 v5445 v5446
  let c512_i32_1881 : BitVec 32 := 512#32
  let v5500 : BitVec 32 := Scalar.muli v5447 c512_i32_1881
  v5500
def k0_mult149 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1884 : BitVec 32 := 8#32
  let v5515 : BitVec 32 := Scalar.addi v44 c8_i32_1884
  let c16_i32_1885 : BitVec 32 := 16#32
  let v5516 : BitVec 1 := Scalar.cmpi .sge v5515 c16_i32_1885
  let c8_i32_1886 : BitVec 32 := 8#32
  let v5517 : BitVec 32 := Scalar.addi v44 c8_i32_1886
  let c16_i32_1887 : BitVec 32 := 16#32
  let v5518 : BitVec 32 := Scalar.subi v5517 c16_i32_1887
  let c8_i32_1888 : BitVec 32 := 8#32
  let v5519 : BitVec 32 := Scalar.addi v44 c8_i32_1888
  let v5520 : BitVec 32 := Scalar.select v5516 v5518 v5519
  let c512_i32_1889 : BitVec 32 := 512#32
  let v5521 : BitVec 32 := Scalar.muli v5520 c512_i32_1889
  v5521
def k0_mult150 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1884 : BitVec 32 := 8#32
  let v5515 : BitVec 32 := Scalar.addi v44 c8_i32_1884
  let c16_i32_1885 : BitVec 32 := 16#32
  let v5516 : BitVec 1 := Scalar.cmpi .sge v5515 c16_i32_1885
  let c8_i32_1886 : BitVec 32 := 8#32
  let v5517 : BitVec 32 := Scalar.addi v44 c8_i32_1886
  let c16_i32_1887 : BitVec 32 := 16#32
  let v5518 : BitVec 32 := Scalar.subi v5517 c16_i32_1887
  let c8_i32_1888 : BitVec 32 := 8#32
  let v5519 : BitVec 32 := Scalar.addi v44 c8_i32_1888
  let v5520 : BitVec 32 := Scalar.select v5516 v5518 v5519
  let c512_i32_1906 : BitVec 32 := 512#32
  let v5573 : BitVec 32 := Scalar.muli v5520 c512_i32_1906
  v5573
def k0_mult151 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1909 : BitVec 32 := 8#32
  let v5588 : BitVec 32 := Scalar.addi v44 c8_i32_1909
  let c16_i32_1910 : BitVec 32 := 16#32
  let v5589 : BitVec 1 := Scalar.cmpi .sge v5588 c16_i32_1910
  let c8_i32_1911 : BitVec 32 := 8#32
  let v5590 : BitVec 32 := Scalar.addi v44 c8_i32_1911
  let c16_i32_1912 : BitVec 32 := 16#32
  let v5591 : BitVec 32 := Scalar.subi v5590 c16_i32_1912
  let c8_i32_1913 : BitVec 32 := 8#32
  let v5592 : BitVec 32 := Scalar.addi v44 c8_i32_1913
  let v5593 : BitVec 32 := Scalar.select v5589 v5591 v5592
  let c512_i32_1914 : BitVec 32 := 512#32
  let v5594 : BitVec 32 := Scalar.muli v5593 c512_i32_1914
  v5594
def k0_mult152 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c8_i32_1909 : BitVec 32 := 8#32
  let v5588 : BitVec 32 := Scalar.addi v44 c8_i32_1909
  let c16_i32_1910 : BitVec 32 := 16#32
  let v5589 : BitVec 1 := Scalar.cmpi .sge v5588 c16_i32_1910
  let c8_i32_1911 : BitVec 32 := 8#32
  let v5590 : BitVec 32 := Scalar.addi v44 c8_i32_1911
  let c16_i32_1912 : BitVec 32 := 16#32
  let v5591 : BitVec 32 := Scalar.subi v5590 c16_i32_1912
  let c8_i32_1913 : BitVec 32 := 8#32
  let v5592 : BitVec 32 := Scalar.addi v44 c8_i32_1913
  let v5593 : BitVec 32 := Scalar.select v5589 v5591 v5592
  let c512_i32_1931 : BitVec 32 := 512#32
  let v5646 : BitVec 32 := Scalar.muli v5593 c512_i32_1931
  v5646
def k0_mult153 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32 : BitVec 32 := 9#32
  let v5661 : BitVec 32 := Scalar.addi v26 c9_i32
  let c16_i32_1934 : BitVec 32 := 16#32
  let v5662 : BitVec 1 := Scalar.cmpi .sge v5661 c16_i32_1934
  let c9_i32_1935 : BitVec 32 := 9#32
  let v5663 : BitVec 32 := Scalar.addi v26 c9_i32_1935
  let c16_i32_1936 : BitVec 32 := 16#32
  let v5664 : BitVec 32 := Scalar.subi v5663 c16_i32_1936
  let c9_i32_1937 : BitVec 32 := 9#32
  let v5665 : BitVec 32 := Scalar.addi v26 c9_i32_1937
  let v5666 : BitVec 32 := Scalar.select v5662 v5664 v5665
  let c512_i32_1938 : BitVec 32 := 512#32
  let v5667 : BitVec 32 := Scalar.muli v5666 c512_i32_1938
  v5667
def k0_mult154 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32 : BitVec 32 := 9#32
  let v5661 : BitVec 32 := Scalar.addi v26 c9_i32
  let c16_i32_1934 : BitVec 32 := 16#32
  let v5662 : BitVec 1 := Scalar.cmpi .sge v5661 c16_i32_1934
  let c9_i32_1935 : BitVec 32 := 9#32
  let v5663 : BitVec 32 := Scalar.addi v26 c9_i32_1935
  let c16_i32_1936 : BitVec 32 := 16#32
  let v5664 : BitVec 32 := Scalar.subi v5663 c16_i32_1936
  let c9_i32_1937 : BitVec 32 := 9#32
  let v5665 : BitVec 32 := Scalar.addi v26 c9_i32_1937
  let v5666 : BitVec 32 := Scalar.select v5662 v5664 v5665
  let c512_i32_1955 : BitVec 32 := 512#32
  let v5719 : BitVec 32 := Scalar.muli v5666 c512_i32_1955
  v5719
def k0_mult155 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_1958 : BitVec 32 := 9#32
  let v5734 : BitVec 32 := Scalar.addi v26 c9_i32_1958
  let c16_i32_1959 : BitVec 32 := 16#32
  let v5735 : BitVec 1 := Scalar.cmpi .sge v5734 c16_i32_1959
  let c9_i32_1960 : BitVec 32 := 9#32
  let v5736 : BitVec 32 := Scalar.addi v26 c9_i32_1960
  let c16_i32_1961 : BitVec 32 := 16#32
  let v5737 : BitVec 32 := Scalar.subi v5736 c16_i32_1961
  let c9_i32_1962 : BitVec 32 := 9#32
  let v5738 : BitVec 32 := Scalar.addi v26 c9_i32_1962
  let v5739 : BitVec 32 := Scalar.select v5735 v5737 v5738
  let c512_i32_1963 : BitVec 32 := 512#32
  let v5740 : BitVec 32 := Scalar.muli v5739 c512_i32_1963
  v5740
def k0_mult156 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_1958 : BitVec 32 := 9#32
  let v5734 : BitVec 32 := Scalar.addi v26 c9_i32_1958
  let c16_i32_1959 : BitVec 32 := 16#32
  let v5735 : BitVec 1 := Scalar.cmpi .sge v5734 c16_i32_1959
  let c9_i32_1960 : BitVec 32 := 9#32
  let v5736 : BitVec 32 := Scalar.addi v26 c9_i32_1960
  let c16_i32_1961 : BitVec 32 := 16#32
  let v5737 : BitVec 32 := Scalar.subi v5736 c16_i32_1961
  let c9_i32_1962 : BitVec 32 := 9#32
  let v5738 : BitVec 32 := Scalar.addi v26 c9_i32_1962
  let v5739 : BitVec 32 := Scalar.select v5735 v5737 v5738
  let c512_i32_1980 : BitVec 32 := 512#32
  let v5792 : BitVec 32 := Scalar.muli v5739 c512_i32_1980
  v5792
def k0_mult157 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_1983 : BitVec 32 := 9#32
  let v5807 : BitVec 32 := Scalar.addi v26 c9_i32_1983
  let c16_i32_1984 : BitVec 32 := 16#32
  let v5808 : BitVec 1 := Scalar.cmpi .sge v5807 c16_i32_1984
  let c9_i32_1985 : BitVec 32 := 9#32
  let v5809 : BitVec 32 := Scalar.addi v26 c9_i32_1985
  let c16_i32_1986 : BitVec 32 := 16#32
  let v5810 : BitVec 32 := Scalar.subi v5809 c16_i32_1986
  let c9_i32_1987 : BitVec 32 := 9#32
  let v5811 : BitVec 32 := Scalar.addi v26 c9_i32_1987
  let v5812 : BitVec 32 := Scalar.select v5808 v5810 v5811
  let c512_i32_1988 : BitVec 32 := 512#32
  let v5813 : BitVec 32 := Scalar.muli v5812 c512_i32_1988
  v5813
def k0_mult158 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_1983 : BitVec 32 := 9#32
  let v5807 : BitVec 32 := Scalar.addi v26 c9_i32_1983
  let c16_i32_1984 : BitVec 32 := 16#32
  let v5808 : BitVec 1 := Scalar.cmpi .sge v5807 c16_i32_1984
  let c9_i32_1985 : BitVec 32 := 9#32
  let v5809 : BitVec 32 := Scalar.addi v26 c9_i32_1985
  let c16_i32_1986 : BitVec 32 := 16#32
  let v5810 : BitVec 32 := Scalar.subi v5809 c16_i32_1986
  let c9_i32_1987 : BitVec 32 := 9#32
  let v5811 : BitVec 32 := Scalar.addi v26 c9_i32_1987
  let v5812 : BitVec 32 := Scalar.select v5808 v5810 v5811
  let c512_i32_2005 : BitVec 32 := 512#32
  let v5865 : BitVec 32 := Scalar.muli v5812 c512_i32_2005
  v5865
def k0_mult159 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_2008 : BitVec 32 := 9#32
  let v5880 : BitVec 32 := Scalar.addi v26 c9_i32_2008
  let c16_i32_2009 : BitVec 32 := 16#32
  let v5881 : BitVec 1 := Scalar.cmpi .sge v5880 c16_i32_2009
  let c9_i32_2010 : BitVec 32 := 9#32
  let v5882 : BitVec 32 := Scalar.addi v26 c9_i32_2010
  let c16_i32_2011 : BitVec 32 := 16#32
  let v5883 : BitVec 32 := Scalar.subi v5882 c16_i32_2011
  let c9_i32_2012 : BitVec 32 := 9#32
  let v5884 : BitVec 32 := Scalar.addi v26 c9_i32_2012
  let v5885 : BitVec 32 := Scalar.select v5881 v5883 v5884
  let c512_i32_2013 : BitVec 32 := 512#32
  let v5886 : BitVec 32 := Scalar.muli v5885 c512_i32_2013
  v5886
def k0_mult160 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c9_i32_2008 : BitVec 32 := 9#32
  let v5880 : BitVec 32 := Scalar.addi v26 c9_i32_2008
  let c16_i32_2009 : BitVec 32 := 16#32
  let v5881 : BitVec 1 := Scalar.cmpi .sge v5880 c16_i32_2009
  let c9_i32_2010 : BitVec 32 := 9#32
  let v5882 : BitVec 32 := Scalar.addi v26 c9_i32_2010
  let c16_i32_2011 : BitVec 32 := 16#32
  let v5883 : BitVec 32 := Scalar.subi v5882 c16_i32_2011
  let c9_i32_2012 : BitVec 32 := 9#32
  let v5884 : BitVec 32 := Scalar.addi v26 c9_i32_2012
  let v5885 : BitVec 32 := Scalar.select v5881 v5883 v5884
  let c512_i32_2030 : BitVec 32 := 512#32
  let v5938 : BitVec 32 := Scalar.muli v5885 c512_i32_2030
  v5938
def k0_mult161 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2033 : BitVec 32 := 9#32
  let v5953 : BitVec 32 := Scalar.addi v44 c9_i32_2033
  let c16_i32_2034 : BitVec 32 := 16#32
  let v5954 : BitVec 1 := Scalar.cmpi .sge v5953 c16_i32_2034
  let c9_i32_2035 : BitVec 32 := 9#32
  let v5955 : BitVec 32 := Scalar.addi v44 c9_i32_2035
  let c16_i32_2036 : BitVec 32 := 16#32
  let v5956 : BitVec 32 := Scalar.subi v5955 c16_i32_2036
  let c9_i32_2037 : BitVec 32 := 9#32
  let v5957 : BitVec 32 := Scalar.addi v44 c9_i32_2037
  let v5958 : BitVec 32 := Scalar.select v5954 v5956 v5957
  let c512_i32_2038 : BitVec 32 := 512#32
  let v5959 : BitVec 32 := Scalar.muli v5958 c512_i32_2038
  v5959
def k0_mult162 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2033 : BitVec 32 := 9#32
  let v5953 : BitVec 32 := Scalar.addi v44 c9_i32_2033
  let c16_i32_2034 : BitVec 32 := 16#32
  let v5954 : BitVec 1 := Scalar.cmpi .sge v5953 c16_i32_2034
  let c9_i32_2035 : BitVec 32 := 9#32
  let v5955 : BitVec 32 := Scalar.addi v44 c9_i32_2035
  let c16_i32_2036 : BitVec 32 := 16#32
  let v5956 : BitVec 32 := Scalar.subi v5955 c16_i32_2036
  let c9_i32_2037 : BitVec 32 := 9#32
  let v5957 : BitVec 32 := Scalar.addi v44 c9_i32_2037
  let v5958 : BitVec 32 := Scalar.select v5954 v5956 v5957
  let c512_i32_2055 : BitVec 32 := 512#32
  let v6011 : BitVec 32 := Scalar.muli v5958 c512_i32_2055
  v6011
def k0_mult163 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2058 : BitVec 32 := 9#32
  let v6026 : BitVec 32 := Scalar.addi v44 c9_i32_2058
  let c16_i32_2059 : BitVec 32 := 16#32
  let v6027 : BitVec 1 := Scalar.cmpi .sge v6026 c16_i32_2059
  let c9_i32_2060 : BitVec 32 := 9#32
  let v6028 : BitVec 32 := Scalar.addi v44 c9_i32_2060
  let c16_i32_2061 : BitVec 32 := 16#32
  let v6029 : BitVec 32 := Scalar.subi v6028 c16_i32_2061
  let c9_i32_2062 : BitVec 32 := 9#32
  let v6030 : BitVec 32 := Scalar.addi v44 c9_i32_2062
  let v6031 : BitVec 32 := Scalar.select v6027 v6029 v6030
  let c512_i32_2063 : BitVec 32 := 512#32
  let v6032 : BitVec 32 := Scalar.muli v6031 c512_i32_2063
  v6032
def k0_mult164 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2058 : BitVec 32 := 9#32
  let v6026 : BitVec 32 := Scalar.addi v44 c9_i32_2058
  let c16_i32_2059 : BitVec 32 := 16#32
  let v6027 : BitVec 1 := Scalar.cmpi .sge v6026 c16_i32_2059
  let c9_i32_2060 : BitVec 32 := 9#32
  let v6028 : BitVec 32 := Scalar.addi v44 c9_i32_2060
  let c16_i32_2061 : BitVec 32 := 16#32
  let v6029 : BitVec 32 := Scalar.subi v6028 c16_i32_2061
  let c9_i32_2062 : BitVec 32 := 9#32
  let v6030 : BitVec 32 := Scalar.addi v44 c9_i32_2062
  let v6031 : BitVec 32 := Scalar.select v6027 v6029 v6030
  let c512_i32_2080 : BitVec 32 := 512#32
  let v6084 : BitVec 32 := Scalar.muli v6031 c512_i32_2080
  v6084
def k0_mult165 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2083 : BitVec 32 := 9#32
  let v6099 : BitVec 32 := Scalar.addi v44 c9_i32_2083
  let c16_i32_2084 : BitVec 32 := 16#32
  let v6100 : BitVec 1 := Scalar.cmpi .sge v6099 c16_i32_2084
  let c9_i32_2085 : BitVec 32 := 9#32
  let v6101 : BitVec 32 := Scalar.addi v44 c9_i32_2085
  let c16_i32_2086 : BitVec 32 := 16#32
  let v6102 : BitVec 32 := Scalar.subi v6101 c16_i32_2086
  let c9_i32_2087 : BitVec 32 := 9#32
  let v6103 : BitVec 32 := Scalar.addi v44 c9_i32_2087
  let v6104 : BitVec 32 := Scalar.select v6100 v6102 v6103
  let c512_i32_2088 : BitVec 32 := 512#32
  let v6105 : BitVec 32 := Scalar.muli v6104 c512_i32_2088
  v6105
def k0_mult166 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2083 : BitVec 32 := 9#32
  let v6099 : BitVec 32 := Scalar.addi v44 c9_i32_2083
  let c16_i32_2084 : BitVec 32 := 16#32
  let v6100 : BitVec 1 := Scalar.cmpi .sge v6099 c16_i32_2084
  let c9_i32_2085 : BitVec 32 := 9#32
  let v6101 : BitVec 32 := Scalar.addi v44 c9_i32_2085
  let c16_i32_2086 : BitVec 32 := 16#32
  let v6102 : BitVec 32 := Scalar.subi v6101 c16_i32_2086
  let c9_i32_2087 : BitVec 32 := 9#32
  let v6103 : BitVec 32 := Scalar.addi v44 c9_i32_2087
  let v6104 : BitVec 32 := Scalar.select v6100 v6102 v6103
  let c512_i32_2105 : BitVec 32 := 512#32
  let v6157 : BitVec 32 := Scalar.muli v6104 c512_i32_2105
  v6157
def k0_mult167 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2108 : BitVec 32 := 9#32
  let v6172 : BitVec 32 := Scalar.addi v44 c9_i32_2108
  let c16_i32_2109 : BitVec 32 := 16#32
  let v6173 : BitVec 1 := Scalar.cmpi .sge v6172 c16_i32_2109
  let c9_i32_2110 : BitVec 32 := 9#32
  let v6174 : BitVec 32 := Scalar.addi v44 c9_i32_2110
  let c16_i32_2111 : BitVec 32 := 16#32
  let v6175 : BitVec 32 := Scalar.subi v6174 c16_i32_2111
  let c9_i32_2112 : BitVec 32 := 9#32
  let v6176 : BitVec 32 := Scalar.addi v44 c9_i32_2112
  let v6177 : BitVec 32 := Scalar.select v6173 v6175 v6176
  let c512_i32_2113 : BitVec 32 := 512#32
  let v6178 : BitVec 32 := Scalar.muli v6177 c512_i32_2113
  v6178
def k0_mult168 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c9_i32_2108 : BitVec 32 := 9#32
  let v6172 : BitVec 32 := Scalar.addi v44 c9_i32_2108
  let c16_i32_2109 : BitVec 32 := 16#32
  let v6173 : BitVec 1 := Scalar.cmpi .sge v6172 c16_i32_2109
  let c9_i32_2110 : BitVec 32 := 9#32
  let v6174 : BitVec 32 := Scalar.addi v44 c9_i32_2110
  let c16_i32_2111 : BitVec 32 := 16#32
  let v6175 : BitVec 32 := Scalar.subi v6174 c16_i32_2111
  let c9_i32_2112 : BitVec 32 := 9#32
  let v6176 : BitVec 32 := Scalar.addi v44 c9_i32_2112
  let v6177 : BitVec 32 := Scalar.select v6173 v6175 v6176
  let c512_i32_2130 : BitVec 32 := 512#32
  let v6230 : BitVec 32 := Scalar.muli v6177 c512_i32_2130
  v6230
def k0_mult169 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32 : BitVec 32 := 10#32
  let v6245 : BitVec 32 := Scalar.addi v26 c10_i32
  let c16_i32_2133 : BitVec 32 := 16#32
  let v6246 : BitVec 1 := Scalar.cmpi .sge v6245 c16_i32_2133
  let c10_i32_2134 : BitVec 32 := 10#32
  let v6247 : BitVec 32 := Scalar.addi v26 c10_i32_2134
  let c16_i32_2135 : BitVec 32 := 16#32
  let v6248 : BitVec 32 := Scalar.subi v6247 c16_i32_2135
  let c10_i32_2136 : BitVec 32 := 10#32
  let v6249 : BitVec 32 := Scalar.addi v26 c10_i32_2136
  let v6250 : BitVec 32 := Scalar.select v6246 v6248 v6249
  let c512_i32_2137 : BitVec 32 := 512#32
  let v6251 : BitVec 32 := Scalar.muli v6250 c512_i32_2137
  v6251
def k0_mult170 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32 : BitVec 32 := 10#32
  let v6245 : BitVec 32 := Scalar.addi v26 c10_i32
  let c16_i32_2133 : BitVec 32 := 16#32
  let v6246 : BitVec 1 := Scalar.cmpi .sge v6245 c16_i32_2133
  let c10_i32_2134 : BitVec 32 := 10#32
  let v6247 : BitVec 32 := Scalar.addi v26 c10_i32_2134
  let c16_i32_2135 : BitVec 32 := 16#32
  let v6248 : BitVec 32 := Scalar.subi v6247 c16_i32_2135
  let c10_i32_2136 : BitVec 32 := 10#32
  let v6249 : BitVec 32 := Scalar.addi v26 c10_i32_2136
  let v6250 : BitVec 32 := Scalar.select v6246 v6248 v6249
  let c512_i32_2154 : BitVec 32 := 512#32
  let v6303 : BitVec 32 := Scalar.muli v6250 c512_i32_2154
  v6303
def k0_mult171 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2157 : BitVec 32 := 10#32
  let v6318 : BitVec 32 := Scalar.addi v26 c10_i32_2157
  let c16_i32_2158 : BitVec 32 := 16#32
  let v6319 : BitVec 1 := Scalar.cmpi .sge v6318 c16_i32_2158
  let c10_i32_2159 : BitVec 32 := 10#32
  let v6320 : BitVec 32 := Scalar.addi v26 c10_i32_2159
  let c16_i32_2160 : BitVec 32 := 16#32
  let v6321 : BitVec 32 := Scalar.subi v6320 c16_i32_2160
  let c10_i32_2161 : BitVec 32 := 10#32
  let v6322 : BitVec 32 := Scalar.addi v26 c10_i32_2161
  let v6323 : BitVec 32 := Scalar.select v6319 v6321 v6322
  let c512_i32_2162 : BitVec 32 := 512#32
  let v6324 : BitVec 32 := Scalar.muli v6323 c512_i32_2162
  v6324
def k0_mult172 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2157 : BitVec 32 := 10#32
  let v6318 : BitVec 32 := Scalar.addi v26 c10_i32_2157
  let c16_i32_2158 : BitVec 32 := 16#32
  let v6319 : BitVec 1 := Scalar.cmpi .sge v6318 c16_i32_2158
  let c10_i32_2159 : BitVec 32 := 10#32
  let v6320 : BitVec 32 := Scalar.addi v26 c10_i32_2159
  let c16_i32_2160 : BitVec 32 := 16#32
  let v6321 : BitVec 32 := Scalar.subi v6320 c16_i32_2160
  let c10_i32_2161 : BitVec 32 := 10#32
  let v6322 : BitVec 32 := Scalar.addi v26 c10_i32_2161
  let v6323 : BitVec 32 := Scalar.select v6319 v6321 v6322
  let c512_i32_2179 : BitVec 32 := 512#32
  let v6376 : BitVec 32 := Scalar.muli v6323 c512_i32_2179
  v6376
def k0_mult173 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2182 : BitVec 32 := 10#32
  let v6391 : BitVec 32 := Scalar.addi v26 c10_i32_2182
  let c16_i32_2183 : BitVec 32 := 16#32
  let v6392 : BitVec 1 := Scalar.cmpi .sge v6391 c16_i32_2183
  let c10_i32_2184 : BitVec 32 := 10#32
  let v6393 : BitVec 32 := Scalar.addi v26 c10_i32_2184
  let c16_i32_2185 : BitVec 32 := 16#32
  let v6394 : BitVec 32 := Scalar.subi v6393 c16_i32_2185
  let c10_i32_2186 : BitVec 32 := 10#32
  let v6395 : BitVec 32 := Scalar.addi v26 c10_i32_2186
  let v6396 : BitVec 32 := Scalar.select v6392 v6394 v6395
  let c512_i32_2187 : BitVec 32 := 512#32
  let v6397 : BitVec 32 := Scalar.muli v6396 c512_i32_2187
  v6397
def k0_mult174 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2182 : BitVec 32 := 10#32
  let v6391 : BitVec 32 := Scalar.addi v26 c10_i32_2182
  let c16_i32_2183 : BitVec 32 := 16#32
  let v6392 : BitVec 1 := Scalar.cmpi .sge v6391 c16_i32_2183
  let c10_i32_2184 : BitVec 32 := 10#32
  let v6393 : BitVec 32 := Scalar.addi v26 c10_i32_2184
  let c16_i32_2185 : BitVec 32 := 16#32
  let v6394 : BitVec 32 := Scalar.subi v6393 c16_i32_2185
  let c10_i32_2186 : BitVec 32 := 10#32
  let v6395 : BitVec 32 := Scalar.addi v26 c10_i32_2186
  let v6396 : BitVec 32 := Scalar.select v6392 v6394 v6395
  let c512_i32_2204 : BitVec 32 := 512#32
  let v6449 : BitVec 32 := Scalar.muli v6396 c512_i32_2204
  v6449
def k0_mult175 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2207 : BitVec 32 := 10#32
  let v6464 : BitVec 32 := Scalar.addi v26 c10_i32_2207
  let c16_i32_2208 : BitVec 32 := 16#32
  let v6465 : BitVec 1 := Scalar.cmpi .sge v6464 c16_i32_2208
  let c10_i32_2209 : BitVec 32 := 10#32
  let v6466 : BitVec 32 := Scalar.addi v26 c10_i32_2209
  let c16_i32_2210 : BitVec 32 := 16#32
  let v6467 : BitVec 32 := Scalar.subi v6466 c16_i32_2210
  let c10_i32_2211 : BitVec 32 := 10#32
  let v6468 : BitVec 32 := Scalar.addi v26 c10_i32_2211
  let v6469 : BitVec 32 := Scalar.select v6465 v6467 v6468
  let c512_i32_2212 : BitVec 32 := 512#32
  let v6470 : BitVec 32 := Scalar.muli v6469 c512_i32_2212
  v6470
def k0_mult176 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c10_i32_2207 : BitVec 32 := 10#32
  let v6464 : BitVec 32 := Scalar.addi v26 c10_i32_2207
  let c16_i32_2208 : BitVec 32 := 16#32
  let v6465 : BitVec 1 := Scalar.cmpi .sge v6464 c16_i32_2208
  let c10_i32_2209 : BitVec 32 := 10#32
  let v6466 : BitVec 32 := Scalar.addi v26 c10_i32_2209
  let c16_i32_2210 : BitVec 32 := 16#32
  let v6467 : BitVec 32 := Scalar.subi v6466 c16_i32_2210
  let c10_i32_2211 : BitVec 32 := 10#32
  let v6468 : BitVec 32 := Scalar.addi v26 c10_i32_2211
  let v6469 : BitVec 32 := Scalar.select v6465 v6467 v6468
  let c512_i32_2229 : BitVec 32 := 512#32
  let v6522 : BitVec 32 := Scalar.muli v6469 c512_i32_2229
  v6522
def k0_mult177 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2232 : BitVec 32 := 10#32
  let v6537 : BitVec 32 := Scalar.addi v44 c10_i32_2232
  let c16_i32_2233 : BitVec 32 := 16#32
  let v6538 : BitVec 1 := Scalar.cmpi .sge v6537 c16_i32_2233
  let c10_i32_2234 : BitVec 32 := 10#32
  let v6539 : BitVec 32 := Scalar.addi v44 c10_i32_2234
  let c16_i32_2235 : BitVec 32 := 16#32
  let v6540 : BitVec 32 := Scalar.subi v6539 c16_i32_2235
  let c10_i32_2236 : BitVec 32 := 10#32
  let v6541 : BitVec 32 := Scalar.addi v44 c10_i32_2236
  let v6542 : BitVec 32 := Scalar.select v6538 v6540 v6541
  let c512_i32_2237 : BitVec 32 := 512#32
  let v6543 : BitVec 32 := Scalar.muli v6542 c512_i32_2237
  v6543
def k0_mult178 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2232 : BitVec 32 := 10#32
  let v6537 : BitVec 32 := Scalar.addi v44 c10_i32_2232
  let c16_i32_2233 : BitVec 32 := 16#32
  let v6538 : BitVec 1 := Scalar.cmpi .sge v6537 c16_i32_2233
  let c10_i32_2234 : BitVec 32 := 10#32
  let v6539 : BitVec 32 := Scalar.addi v44 c10_i32_2234
  let c16_i32_2235 : BitVec 32 := 16#32
  let v6540 : BitVec 32 := Scalar.subi v6539 c16_i32_2235
  let c10_i32_2236 : BitVec 32 := 10#32
  let v6541 : BitVec 32 := Scalar.addi v44 c10_i32_2236
  let v6542 : BitVec 32 := Scalar.select v6538 v6540 v6541
  let c512_i32_2254 : BitVec 32 := 512#32
  let v6595 : BitVec 32 := Scalar.muli v6542 c512_i32_2254
  v6595
def k0_mult179 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2257 : BitVec 32 := 10#32
  let v6610 : BitVec 32 := Scalar.addi v44 c10_i32_2257
  let c16_i32_2258 : BitVec 32 := 16#32
  let v6611 : BitVec 1 := Scalar.cmpi .sge v6610 c16_i32_2258
  let c10_i32_2259 : BitVec 32 := 10#32
  let v6612 : BitVec 32 := Scalar.addi v44 c10_i32_2259
  let c16_i32_2260 : BitVec 32 := 16#32
  let v6613 : BitVec 32 := Scalar.subi v6612 c16_i32_2260
  let c10_i32_2261 : BitVec 32 := 10#32
  let v6614 : BitVec 32 := Scalar.addi v44 c10_i32_2261
  let v6615 : BitVec 32 := Scalar.select v6611 v6613 v6614
  let c512_i32_2262 : BitVec 32 := 512#32
  let v6616 : BitVec 32 := Scalar.muli v6615 c512_i32_2262
  v6616
def k0_mult180 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2257 : BitVec 32 := 10#32
  let v6610 : BitVec 32 := Scalar.addi v44 c10_i32_2257
  let c16_i32_2258 : BitVec 32 := 16#32
  let v6611 : BitVec 1 := Scalar.cmpi .sge v6610 c16_i32_2258
  let c10_i32_2259 : BitVec 32 := 10#32
  let v6612 : BitVec 32 := Scalar.addi v44 c10_i32_2259
  let c16_i32_2260 : BitVec 32 := 16#32
  let v6613 : BitVec 32 := Scalar.subi v6612 c16_i32_2260
  let c10_i32_2261 : BitVec 32 := 10#32
  let v6614 : BitVec 32 := Scalar.addi v44 c10_i32_2261
  let v6615 : BitVec 32 := Scalar.select v6611 v6613 v6614
  let c512_i32_2279 : BitVec 32 := 512#32
  let v6668 : BitVec 32 := Scalar.muli v6615 c512_i32_2279
  v6668
def k0_mult181 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2282 : BitVec 32 := 10#32
  let v6683 : BitVec 32 := Scalar.addi v44 c10_i32_2282
  let c16_i32_2283 : BitVec 32 := 16#32
  let v6684 : BitVec 1 := Scalar.cmpi .sge v6683 c16_i32_2283
  let c10_i32_2284 : BitVec 32 := 10#32
  let v6685 : BitVec 32 := Scalar.addi v44 c10_i32_2284
  let c16_i32_2285 : BitVec 32 := 16#32
  let v6686 : BitVec 32 := Scalar.subi v6685 c16_i32_2285
  let c10_i32_2286 : BitVec 32 := 10#32
  let v6687 : BitVec 32 := Scalar.addi v44 c10_i32_2286
  let v6688 : BitVec 32 := Scalar.select v6684 v6686 v6687
  let c512_i32_2287 : BitVec 32 := 512#32
  let v6689 : BitVec 32 := Scalar.muli v6688 c512_i32_2287
  v6689
def k0_mult182 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2282 : BitVec 32 := 10#32
  let v6683 : BitVec 32 := Scalar.addi v44 c10_i32_2282
  let c16_i32_2283 : BitVec 32 := 16#32
  let v6684 : BitVec 1 := Scalar.cmpi .sge v6683 c16_i32_2283
  let c10_i32_2284 : BitVec 32 := 10#32
  let v6685 : BitVec 32 := Scalar.addi v44 c10_i32_2284
  let c16_i32_2285 : BitVec 32 := 16#32
  let v6686 : BitVec 32 := Scalar.subi v6685 c16_i32_2285
  let c10_i32_2286 : BitVec 32 := 10#32
  let v6687 : BitVec 32 := Scalar.addi v44 c10_i32_2286
  let v6688 : BitVec 32 := Scalar.select v6684 v6686 v6687
  let c512_i32_2304 : BitVec 32 := 512#32
  let v6741 : BitVec 32 := Scalar.muli v6688 c512_i32_2304
  v6741
def k0_mult183 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2307 : BitVec 32 := 10#32
  let v6756 : BitVec 32 := Scalar.addi v44 c10_i32_2307
  let c16_i32_2308 : BitVec 32 := 16#32
  let v6757 : BitVec 1 := Scalar.cmpi .sge v6756 c16_i32_2308
  let c10_i32_2309 : BitVec 32 := 10#32
  let v6758 : BitVec 32 := Scalar.addi v44 c10_i32_2309
  let c16_i32_2310 : BitVec 32 := 16#32
  let v6759 : BitVec 32 := Scalar.subi v6758 c16_i32_2310
  let c10_i32_2311 : BitVec 32 := 10#32
  let v6760 : BitVec 32 := Scalar.addi v44 c10_i32_2311
  let v6761 : BitVec 32 := Scalar.select v6757 v6759 v6760
  let c512_i32_2312 : BitVec 32 := 512#32
  let v6762 : BitVec 32 := Scalar.muli v6761 c512_i32_2312
  v6762
def k0_mult184 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c10_i32_2307 : BitVec 32 := 10#32
  let v6756 : BitVec 32 := Scalar.addi v44 c10_i32_2307
  let c16_i32_2308 : BitVec 32 := 16#32
  let v6757 : BitVec 1 := Scalar.cmpi .sge v6756 c16_i32_2308
  let c10_i32_2309 : BitVec 32 := 10#32
  let v6758 : BitVec 32 := Scalar.addi v44 c10_i32_2309
  let c16_i32_2310 : BitVec 32 := 16#32
  let v6759 : BitVec 32 := Scalar.subi v6758 c16_i32_2310
  let c10_i32_2311 : BitVec 32 := 10#32
  let v6760 : BitVec 32 := Scalar.addi v44 c10_i32_2311
  let v6761 : BitVec 32 := Scalar.select v6757 v6759 v6760
  let c512_i32_2329 : BitVec 32 := 512#32
  let v6814 : BitVec 32 := Scalar.muli v6761 c512_i32_2329
  v6814
def k0_mult185 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32 : BitVec 32 := 11#32
  let v6829 : BitVec 32 := Scalar.addi v26 c11_i32
  let c16_i32_2332 : BitVec 32 := 16#32
  let v6830 : BitVec 1 := Scalar.cmpi .sge v6829 c16_i32_2332
  let c11_i32_2333 : BitVec 32 := 11#32
  let v6831 : BitVec 32 := Scalar.addi v26 c11_i32_2333
  let c16_i32_2334 : BitVec 32 := 16#32
  let v6832 : BitVec 32 := Scalar.subi v6831 c16_i32_2334
  let c11_i32_2335 : BitVec 32 := 11#32
  let v6833 : BitVec 32 := Scalar.addi v26 c11_i32_2335
  let v6834 : BitVec 32 := Scalar.select v6830 v6832 v6833
  let c512_i32_2336 : BitVec 32 := 512#32
  let v6835 : BitVec 32 := Scalar.muli v6834 c512_i32_2336
  v6835
def k0_mult186 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32 : BitVec 32 := 11#32
  let v6829 : BitVec 32 := Scalar.addi v26 c11_i32
  let c16_i32_2332 : BitVec 32 := 16#32
  let v6830 : BitVec 1 := Scalar.cmpi .sge v6829 c16_i32_2332
  let c11_i32_2333 : BitVec 32 := 11#32
  let v6831 : BitVec 32 := Scalar.addi v26 c11_i32_2333
  let c16_i32_2334 : BitVec 32 := 16#32
  let v6832 : BitVec 32 := Scalar.subi v6831 c16_i32_2334
  let c11_i32_2335 : BitVec 32 := 11#32
  let v6833 : BitVec 32 := Scalar.addi v26 c11_i32_2335
  let v6834 : BitVec 32 := Scalar.select v6830 v6832 v6833
  let c512_i32_2353 : BitVec 32 := 512#32
  let v6887 : BitVec 32 := Scalar.muli v6834 c512_i32_2353
  v6887
def k0_mult187 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2356 : BitVec 32 := 11#32
  let v6902 : BitVec 32 := Scalar.addi v26 c11_i32_2356
  let c16_i32_2357 : BitVec 32 := 16#32
  let v6903 : BitVec 1 := Scalar.cmpi .sge v6902 c16_i32_2357
  let c11_i32_2358 : BitVec 32 := 11#32
  let v6904 : BitVec 32 := Scalar.addi v26 c11_i32_2358
  let c16_i32_2359 : BitVec 32 := 16#32
  let v6905 : BitVec 32 := Scalar.subi v6904 c16_i32_2359
  let c11_i32_2360 : BitVec 32 := 11#32
  let v6906 : BitVec 32 := Scalar.addi v26 c11_i32_2360
  let v6907 : BitVec 32 := Scalar.select v6903 v6905 v6906
  let c512_i32_2361 : BitVec 32 := 512#32
  let v6908 : BitVec 32 := Scalar.muli v6907 c512_i32_2361
  v6908
def k0_mult188 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2356 : BitVec 32 := 11#32
  let v6902 : BitVec 32 := Scalar.addi v26 c11_i32_2356
  let c16_i32_2357 : BitVec 32 := 16#32
  let v6903 : BitVec 1 := Scalar.cmpi .sge v6902 c16_i32_2357
  let c11_i32_2358 : BitVec 32 := 11#32
  let v6904 : BitVec 32 := Scalar.addi v26 c11_i32_2358
  let c16_i32_2359 : BitVec 32 := 16#32
  let v6905 : BitVec 32 := Scalar.subi v6904 c16_i32_2359
  let c11_i32_2360 : BitVec 32 := 11#32
  let v6906 : BitVec 32 := Scalar.addi v26 c11_i32_2360
  let v6907 : BitVec 32 := Scalar.select v6903 v6905 v6906
  let c512_i32_2378 : BitVec 32 := 512#32
  let v6960 : BitVec 32 := Scalar.muli v6907 c512_i32_2378
  v6960
def k0_mult189 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2381 : BitVec 32 := 11#32
  let v6975 : BitVec 32 := Scalar.addi v26 c11_i32_2381
  let c16_i32_2382 : BitVec 32 := 16#32
  let v6976 : BitVec 1 := Scalar.cmpi .sge v6975 c16_i32_2382
  let c11_i32_2383 : BitVec 32 := 11#32
  let v6977 : BitVec 32 := Scalar.addi v26 c11_i32_2383
  let c16_i32_2384 : BitVec 32 := 16#32
  let v6978 : BitVec 32 := Scalar.subi v6977 c16_i32_2384
  let c11_i32_2385 : BitVec 32 := 11#32
  let v6979 : BitVec 32 := Scalar.addi v26 c11_i32_2385
  let v6980 : BitVec 32 := Scalar.select v6976 v6978 v6979
  let c512_i32_2386 : BitVec 32 := 512#32
  let v6981 : BitVec 32 := Scalar.muli v6980 c512_i32_2386
  v6981
def k0_mult190 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2381 : BitVec 32 := 11#32
  let v6975 : BitVec 32 := Scalar.addi v26 c11_i32_2381
  let c16_i32_2382 : BitVec 32 := 16#32
  let v6976 : BitVec 1 := Scalar.cmpi .sge v6975 c16_i32_2382
  let c11_i32_2383 : BitVec 32 := 11#32
  let v6977 : BitVec 32 := Scalar.addi v26 c11_i32_2383
  let c16_i32_2384 : BitVec 32 := 16#32
  let v6978 : BitVec 32 := Scalar.subi v6977 c16_i32_2384
  let c11_i32_2385 : BitVec 32 := 11#32
  let v6979 : BitVec 32 := Scalar.addi v26 c11_i32_2385
  let v6980 : BitVec 32 := Scalar.select v6976 v6978 v6979
  let c512_i32_2403 : BitVec 32 := 512#32
  let v7033 : BitVec 32 := Scalar.muli v6980 c512_i32_2403
  v7033
def k0_mult191 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2406 : BitVec 32 := 11#32
  let v7048 : BitVec 32 := Scalar.addi v26 c11_i32_2406
  let c16_i32_2407 : BitVec 32 := 16#32
  let v7049 : BitVec 1 := Scalar.cmpi .sge v7048 c16_i32_2407
  let c11_i32_2408 : BitVec 32 := 11#32
  let v7050 : BitVec 32 := Scalar.addi v26 c11_i32_2408
  let c16_i32_2409 : BitVec 32 := 16#32
  let v7051 : BitVec 32 := Scalar.subi v7050 c16_i32_2409
  let c11_i32_2410 : BitVec 32 := 11#32
  let v7052 : BitVec 32 := Scalar.addi v26 c11_i32_2410
  let v7053 : BitVec 32 := Scalar.select v7049 v7051 v7052
  let c512_i32_2411 : BitVec 32 := 512#32
  let v7054 : BitVec 32 := Scalar.muli v7053 c512_i32_2411
  v7054
def k0_mult192 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c11_i32_2406 : BitVec 32 := 11#32
  let v7048 : BitVec 32 := Scalar.addi v26 c11_i32_2406
  let c16_i32_2407 : BitVec 32 := 16#32
  let v7049 : BitVec 1 := Scalar.cmpi .sge v7048 c16_i32_2407
  let c11_i32_2408 : BitVec 32 := 11#32
  let v7050 : BitVec 32 := Scalar.addi v26 c11_i32_2408
  let c16_i32_2409 : BitVec 32 := 16#32
  let v7051 : BitVec 32 := Scalar.subi v7050 c16_i32_2409
  let c11_i32_2410 : BitVec 32 := 11#32
  let v7052 : BitVec 32 := Scalar.addi v26 c11_i32_2410
  let v7053 : BitVec 32 := Scalar.select v7049 v7051 v7052
  let c512_i32_2428 : BitVec 32 := 512#32
  let v7106 : BitVec 32 := Scalar.muli v7053 c512_i32_2428
  v7106
def k0_mult193 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2431 : BitVec 32 := 11#32
  let v7121 : BitVec 32 := Scalar.addi v44 c11_i32_2431
  let c16_i32_2432 : BitVec 32 := 16#32
  let v7122 : BitVec 1 := Scalar.cmpi .sge v7121 c16_i32_2432
  let c11_i32_2433 : BitVec 32 := 11#32
  let v7123 : BitVec 32 := Scalar.addi v44 c11_i32_2433
  let c16_i32_2434 : BitVec 32 := 16#32
  let v7124 : BitVec 32 := Scalar.subi v7123 c16_i32_2434
  let c11_i32_2435 : BitVec 32 := 11#32
  let v7125 : BitVec 32 := Scalar.addi v44 c11_i32_2435
  let v7126 : BitVec 32 := Scalar.select v7122 v7124 v7125
  let c512_i32_2436 : BitVec 32 := 512#32
  let v7127 : BitVec 32 := Scalar.muli v7126 c512_i32_2436
  v7127
def k0_mult194 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2431 : BitVec 32 := 11#32
  let v7121 : BitVec 32 := Scalar.addi v44 c11_i32_2431
  let c16_i32_2432 : BitVec 32 := 16#32
  let v7122 : BitVec 1 := Scalar.cmpi .sge v7121 c16_i32_2432
  let c11_i32_2433 : BitVec 32 := 11#32
  let v7123 : BitVec 32 := Scalar.addi v44 c11_i32_2433
  let c16_i32_2434 : BitVec 32 := 16#32
  let v7124 : BitVec 32 := Scalar.subi v7123 c16_i32_2434
  let c11_i32_2435 : BitVec 32 := 11#32
  let v7125 : BitVec 32 := Scalar.addi v44 c11_i32_2435
  let v7126 : BitVec 32 := Scalar.select v7122 v7124 v7125
  let c512_i32_2453 : BitVec 32 := 512#32
  let v7179 : BitVec 32 := Scalar.muli v7126 c512_i32_2453
  v7179
def k0_mult195 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2456 : BitVec 32 := 11#32
  let v7194 : BitVec 32 := Scalar.addi v44 c11_i32_2456
  let c16_i32_2457 : BitVec 32 := 16#32
  let v7195 : BitVec 1 := Scalar.cmpi .sge v7194 c16_i32_2457
  let c11_i32_2458 : BitVec 32 := 11#32
  let v7196 : BitVec 32 := Scalar.addi v44 c11_i32_2458
  let c16_i32_2459 : BitVec 32 := 16#32
  let v7197 : BitVec 32 := Scalar.subi v7196 c16_i32_2459
  let c11_i32_2460 : BitVec 32 := 11#32
  let v7198 : BitVec 32 := Scalar.addi v44 c11_i32_2460
  let v7199 : BitVec 32 := Scalar.select v7195 v7197 v7198
  let c512_i32_2461 : BitVec 32 := 512#32
  let v7200 : BitVec 32 := Scalar.muli v7199 c512_i32_2461
  v7200
def k0_mult196 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2456 : BitVec 32 := 11#32
  let v7194 : BitVec 32 := Scalar.addi v44 c11_i32_2456
  let c16_i32_2457 : BitVec 32 := 16#32
  let v7195 : BitVec 1 := Scalar.cmpi .sge v7194 c16_i32_2457
  let c11_i32_2458 : BitVec 32 := 11#32
  let v7196 : BitVec 32 := Scalar.addi v44 c11_i32_2458
  let c16_i32_2459 : BitVec 32 := 16#32
  let v7197 : BitVec 32 := Scalar.subi v7196 c16_i32_2459
  let c11_i32_2460 : BitVec 32 := 11#32
  let v7198 : BitVec 32 := Scalar.addi v44 c11_i32_2460
  let v7199 : BitVec 32 := Scalar.select v7195 v7197 v7198
  let c512_i32_2478 : BitVec 32 := 512#32
  let v7252 : BitVec 32 := Scalar.muli v7199 c512_i32_2478
  v7252
def k0_mult197 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2481 : BitVec 32 := 11#32
  let v7267 : BitVec 32 := Scalar.addi v44 c11_i32_2481
  let c16_i32_2482 : BitVec 32 := 16#32
  let v7268 : BitVec 1 := Scalar.cmpi .sge v7267 c16_i32_2482
  let c11_i32_2483 : BitVec 32 := 11#32
  let v7269 : BitVec 32 := Scalar.addi v44 c11_i32_2483
  let c16_i32_2484 : BitVec 32 := 16#32
  let v7270 : BitVec 32 := Scalar.subi v7269 c16_i32_2484
  let c11_i32_2485 : BitVec 32 := 11#32
  let v7271 : BitVec 32 := Scalar.addi v44 c11_i32_2485
  let v7272 : BitVec 32 := Scalar.select v7268 v7270 v7271
  let c512_i32_2486 : BitVec 32 := 512#32
  let v7273 : BitVec 32 := Scalar.muli v7272 c512_i32_2486
  v7273
def k0_mult198 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2481 : BitVec 32 := 11#32
  let v7267 : BitVec 32 := Scalar.addi v44 c11_i32_2481
  let c16_i32_2482 : BitVec 32 := 16#32
  let v7268 : BitVec 1 := Scalar.cmpi .sge v7267 c16_i32_2482
  let c11_i32_2483 : BitVec 32 := 11#32
  let v7269 : BitVec 32 := Scalar.addi v44 c11_i32_2483
  let c16_i32_2484 : BitVec 32 := 16#32
  let v7270 : BitVec 32 := Scalar.subi v7269 c16_i32_2484
  let c11_i32_2485 : BitVec 32 := 11#32
  let v7271 : BitVec 32 := Scalar.addi v44 c11_i32_2485
  let v7272 : BitVec 32 := Scalar.select v7268 v7270 v7271
  let c512_i32_2503 : BitVec 32 := 512#32
  let v7325 : BitVec 32 := Scalar.muli v7272 c512_i32_2503
  v7325
def k0_mult199 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2506 : BitVec 32 := 11#32
  let v7340 : BitVec 32 := Scalar.addi v44 c11_i32_2506
  let c16_i32_2507 : BitVec 32 := 16#32
  let v7341 : BitVec 1 := Scalar.cmpi .sge v7340 c16_i32_2507
  let c11_i32_2508 : BitVec 32 := 11#32
  let v7342 : BitVec 32 := Scalar.addi v44 c11_i32_2508
  let c16_i32_2509 : BitVec 32 := 16#32
  let v7343 : BitVec 32 := Scalar.subi v7342 c16_i32_2509
  let c11_i32_2510 : BitVec 32 := 11#32
  let v7344 : BitVec 32 := Scalar.addi v44 c11_i32_2510
  let v7345 : BitVec 32 := Scalar.select v7341 v7343 v7344
  let c512_i32_2511 : BitVec 32 := 512#32
  let v7346 : BitVec 32 := Scalar.muli v7345 c512_i32_2511
  v7346
def k0_mult200 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c11_i32_2506 : BitVec 32 := 11#32
  let v7340 : BitVec 32 := Scalar.addi v44 c11_i32_2506
  let c16_i32_2507 : BitVec 32 := 16#32
  let v7341 : BitVec 1 := Scalar.cmpi .sge v7340 c16_i32_2507
  let c11_i32_2508 : BitVec 32 := 11#32
  let v7342 : BitVec 32 := Scalar.addi v44 c11_i32_2508
  let c16_i32_2509 : BitVec 32 := 16#32
  let v7343 : BitVec 32 := Scalar.subi v7342 c16_i32_2509
  let c11_i32_2510 : BitVec 32 := 11#32
  let v7344 : BitVec 32 := Scalar.addi v44 c11_i32_2510
  let v7345 : BitVec 32 := Scalar.select v7341 v7343 v7344
  let c512_i32_2528 : BitVec 32 := 512#32
  let v7398 : BitVec 32 := Scalar.muli v7345 c512_i32_2528
  v7398
def k0_mult201 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32 : BitVec 32 := 12#32
  let v7413 : BitVec 32 := Scalar.addi v26 c12_i32
  let c16_i32_2531 : BitVec 32 := 16#32
  let v7414 : BitVec 1 := Scalar.cmpi .sge v7413 c16_i32_2531
  let c12_i32_2532 : BitVec 32 := 12#32
  let v7415 : BitVec 32 := Scalar.addi v26 c12_i32_2532
  let c16_i32_2533 : BitVec 32 := 16#32
  let v7416 : BitVec 32 := Scalar.subi v7415 c16_i32_2533
  let c12_i32_2534 : BitVec 32 := 12#32
  let v7417 : BitVec 32 := Scalar.addi v26 c12_i32_2534
  let v7418 : BitVec 32 := Scalar.select v7414 v7416 v7417
  let c512_i32_2535 : BitVec 32 := 512#32
  let v7419 : BitVec 32 := Scalar.muli v7418 c512_i32_2535
  v7419
def k0_mult202 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32 : BitVec 32 := 12#32
  let v7413 : BitVec 32 := Scalar.addi v26 c12_i32
  let c16_i32_2531 : BitVec 32 := 16#32
  let v7414 : BitVec 1 := Scalar.cmpi .sge v7413 c16_i32_2531
  let c12_i32_2532 : BitVec 32 := 12#32
  let v7415 : BitVec 32 := Scalar.addi v26 c12_i32_2532
  let c16_i32_2533 : BitVec 32 := 16#32
  let v7416 : BitVec 32 := Scalar.subi v7415 c16_i32_2533
  let c12_i32_2534 : BitVec 32 := 12#32
  let v7417 : BitVec 32 := Scalar.addi v26 c12_i32_2534
  let v7418 : BitVec 32 := Scalar.select v7414 v7416 v7417
  let c512_i32_2552 : BitVec 32 := 512#32
  let v7471 : BitVec 32 := Scalar.muli v7418 c512_i32_2552
  v7471
def k0_mult203 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2555 : BitVec 32 := 12#32
  let v7486 : BitVec 32 := Scalar.addi v26 c12_i32_2555
  let c16_i32_2556 : BitVec 32 := 16#32
  let v7487 : BitVec 1 := Scalar.cmpi .sge v7486 c16_i32_2556
  let c12_i32_2557 : BitVec 32 := 12#32
  let v7488 : BitVec 32 := Scalar.addi v26 c12_i32_2557
  let c16_i32_2558 : BitVec 32 := 16#32
  let v7489 : BitVec 32 := Scalar.subi v7488 c16_i32_2558
  let c12_i32_2559 : BitVec 32 := 12#32
  let v7490 : BitVec 32 := Scalar.addi v26 c12_i32_2559
  let v7491 : BitVec 32 := Scalar.select v7487 v7489 v7490
  let c512_i32_2560 : BitVec 32 := 512#32
  let v7492 : BitVec 32 := Scalar.muli v7491 c512_i32_2560
  v7492
def k0_mult204 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2555 : BitVec 32 := 12#32
  let v7486 : BitVec 32 := Scalar.addi v26 c12_i32_2555
  let c16_i32_2556 : BitVec 32 := 16#32
  let v7487 : BitVec 1 := Scalar.cmpi .sge v7486 c16_i32_2556
  let c12_i32_2557 : BitVec 32 := 12#32
  let v7488 : BitVec 32 := Scalar.addi v26 c12_i32_2557
  let c16_i32_2558 : BitVec 32 := 16#32
  let v7489 : BitVec 32 := Scalar.subi v7488 c16_i32_2558
  let c12_i32_2559 : BitVec 32 := 12#32
  let v7490 : BitVec 32 := Scalar.addi v26 c12_i32_2559
  let v7491 : BitVec 32 := Scalar.select v7487 v7489 v7490
  let c512_i32_2577 : BitVec 32 := 512#32
  let v7544 : BitVec 32 := Scalar.muli v7491 c512_i32_2577
  v7544
def k0_mult205 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2580 : BitVec 32 := 12#32
  let v7559 : BitVec 32 := Scalar.addi v26 c12_i32_2580
  let c16_i32_2581 : BitVec 32 := 16#32
  let v7560 : BitVec 1 := Scalar.cmpi .sge v7559 c16_i32_2581
  let c12_i32_2582 : BitVec 32 := 12#32
  let v7561 : BitVec 32 := Scalar.addi v26 c12_i32_2582
  let c16_i32_2583 : BitVec 32 := 16#32
  let v7562 : BitVec 32 := Scalar.subi v7561 c16_i32_2583
  let c12_i32_2584 : BitVec 32 := 12#32
  let v7563 : BitVec 32 := Scalar.addi v26 c12_i32_2584
  let v7564 : BitVec 32 := Scalar.select v7560 v7562 v7563
  let c512_i32_2585 : BitVec 32 := 512#32
  let v7565 : BitVec 32 := Scalar.muli v7564 c512_i32_2585
  v7565
def k0_mult206 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2580 : BitVec 32 := 12#32
  let v7559 : BitVec 32 := Scalar.addi v26 c12_i32_2580
  let c16_i32_2581 : BitVec 32 := 16#32
  let v7560 : BitVec 1 := Scalar.cmpi .sge v7559 c16_i32_2581
  let c12_i32_2582 : BitVec 32 := 12#32
  let v7561 : BitVec 32 := Scalar.addi v26 c12_i32_2582
  let c16_i32_2583 : BitVec 32 := 16#32
  let v7562 : BitVec 32 := Scalar.subi v7561 c16_i32_2583
  let c12_i32_2584 : BitVec 32 := 12#32
  let v7563 : BitVec 32 := Scalar.addi v26 c12_i32_2584
  let v7564 : BitVec 32 := Scalar.select v7560 v7562 v7563
  let c512_i32_2602 : BitVec 32 := 512#32
  let v7617 : BitVec 32 := Scalar.muli v7564 c512_i32_2602
  v7617
def k0_mult207 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2605 : BitVec 32 := 12#32
  let v7632 : BitVec 32 := Scalar.addi v26 c12_i32_2605
  let c16_i32_2606 : BitVec 32 := 16#32
  let v7633 : BitVec 1 := Scalar.cmpi .sge v7632 c16_i32_2606
  let c12_i32_2607 : BitVec 32 := 12#32
  let v7634 : BitVec 32 := Scalar.addi v26 c12_i32_2607
  let c16_i32_2608 : BitVec 32 := 16#32
  let v7635 : BitVec 32 := Scalar.subi v7634 c16_i32_2608
  let c12_i32_2609 : BitVec 32 := 12#32
  let v7636 : BitVec 32 := Scalar.addi v26 c12_i32_2609
  let v7637 : BitVec 32 := Scalar.select v7633 v7635 v7636
  let c512_i32_2610 : BitVec 32 := 512#32
  let v7638 : BitVec 32 := Scalar.muli v7637 c512_i32_2610
  v7638
def k0_mult208 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c12_i32_2605 : BitVec 32 := 12#32
  let v7632 : BitVec 32 := Scalar.addi v26 c12_i32_2605
  let c16_i32_2606 : BitVec 32 := 16#32
  let v7633 : BitVec 1 := Scalar.cmpi .sge v7632 c16_i32_2606
  let c12_i32_2607 : BitVec 32 := 12#32
  let v7634 : BitVec 32 := Scalar.addi v26 c12_i32_2607
  let c16_i32_2608 : BitVec 32 := 16#32
  let v7635 : BitVec 32 := Scalar.subi v7634 c16_i32_2608
  let c12_i32_2609 : BitVec 32 := 12#32
  let v7636 : BitVec 32 := Scalar.addi v26 c12_i32_2609
  let v7637 : BitVec 32 := Scalar.select v7633 v7635 v7636
  let c512_i32_2627 : BitVec 32 := 512#32
  let v7690 : BitVec 32 := Scalar.muli v7637 c512_i32_2627
  v7690
def k0_mult209 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2630 : BitVec 32 := 12#32
  let v7705 : BitVec 32 := Scalar.addi v44 c12_i32_2630
  let c16_i32_2631 : BitVec 32 := 16#32
  let v7706 : BitVec 1 := Scalar.cmpi .sge v7705 c16_i32_2631
  let c12_i32_2632 : BitVec 32 := 12#32
  let v7707 : BitVec 32 := Scalar.addi v44 c12_i32_2632
  let c16_i32_2633 : BitVec 32 := 16#32
  let v7708 : BitVec 32 := Scalar.subi v7707 c16_i32_2633
  let c12_i32_2634 : BitVec 32 := 12#32
  let v7709 : BitVec 32 := Scalar.addi v44 c12_i32_2634
  let v7710 : BitVec 32 := Scalar.select v7706 v7708 v7709
  let c512_i32_2635 : BitVec 32 := 512#32
  let v7711 : BitVec 32 := Scalar.muli v7710 c512_i32_2635
  v7711
def k0_mult210 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2630 : BitVec 32 := 12#32
  let v7705 : BitVec 32 := Scalar.addi v44 c12_i32_2630
  let c16_i32_2631 : BitVec 32 := 16#32
  let v7706 : BitVec 1 := Scalar.cmpi .sge v7705 c16_i32_2631
  let c12_i32_2632 : BitVec 32 := 12#32
  let v7707 : BitVec 32 := Scalar.addi v44 c12_i32_2632
  let c16_i32_2633 : BitVec 32 := 16#32
  let v7708 : BitVec 32 := Scalar.subi v7707 c16_i32_2633
  let c12_i32_2634 : BitVec 32 := 12#32
  let v7709 : BitVec 32 := Scalar.addi v44 c12_i32_2634
  let v7710 : BitVec 32 := Scalar.select v7706 v7708 v7709
  let c512_i32_2652 : BitVec 32 := 512#32
  let v7763 : BitVec 32 := Scalar.muli v7710 c512_i32_2652
  v7763
def k0_mult211 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2655 : BitVec 32 := 12#32
  let v7778 : BitVec 32 := Scalar.addi v44 c12_i32_2655
  let c16_i32_2656 : BitVec 32 := 16#32
  let v7779 : BitVec 1 := Scalar.cmpi .sge v7778 c16_i32_2656
  let c12_i32_2657 : BitVec 32 := 12#32
  let v7780 : BitVec 32 := Scalar.addi v44 c12_i32_2657
  let c16_i32_2658 : BitVec 32 := 16#32
  let v7781 : BitVec 32 := Scalar.subi v7780 c16_i32_2658
  let c12_i32_2659 : BitVec 32 := 12#32
  let v7782 : BitVec 32 := Scalar.addi v44 c12_i32_2659
  let v7783 : BitVec 32 := Scalar.select v7779 v7781 v7782
  let c512_i32_2660 : BitVec 32 := 512#32
  let v7784 : BitVec 32 := Scalar.muli v7783 c512_i32_2660
  v7784
def k0_mult212 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2655 : BitVec 32 := 12#32
  let v7778 : BitVec 32 := Scalar.addi v44 c12_i32_2655
  let c16_i32_2656 : BitVec 32 := 16#32
  let v7779 : BitVec 1 := Scalar.cmpi .sge v7778 c16_i32_2656
  let c12_i32_2657 : BitVec 32 := 12#32
  let v7780 : BitVec 32 := Scalar.addi v44 c12_i32_2657
  let c16_i32_2658 : BitVec 32 := 16#32
  let v7781 : BitVec 32 := Scalar.subi v7780 c16_i32_2658
  let c12_i32_2659 : BitVec 32 := 12#32
  let v7782 : BitVec 32 := Scalar.addi v44 c12_i32_2659
  let v7783 : BitVec 32 := Scalar.select v7779 v7781 v7782
  let c512_i32_2677 : BitVec 32 := 512#32
  let v7836 : BitVec 32 := Scalar.muli v7783 c512_i32_2677
  v7836
def k0_mult213 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2680 : BitVec 32 := 12#32
  let v7851 : BitVec 32 := Scalar.addi v44 c12_i32_2680
  let c16_i32_2681 : BitVec 32 := 16#32
  let v7852 : BitVec 1 := Scalar.cmpi .sge v7851 c16_i32_2681
  let c12_i32_2682 : BitVec 32 := 12#32
  let v7853 : BitVec 32 := Scalar.addi v44 c12_i32_2682
  let c16_i32_2683 : BitVec 32 := 16#32
  let v7854 : BitVec 32 := Scalar.subi v7853 c16_i32_2683
  let c12_i32_2684 : BitVec 32 := 12#32
  let v7855 : BitVec 32 := Scalar.addi v44 c12_i32_2684
  let v7856 : BitVec 32 := Scalar.select v7852 v7854 v7855
  let c512_i32_2685 : BitVec 32 := 512#32
  let v7857 : BitVec 32 := Scalar.muli v7856 c512_i32_2685
  v7857
def k0_mult214 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2680 : BitVec 32 := 12#32
  let v7851 : BitVec 32 := Scalar.addi v44 c12_i32_2680
  let c16_i32_2681 : BitVec 32 := 16#32
  let v7852 : BitVec 1 := Scalar.cmpi .sge v7851 c16_i32_2681
  let c12_i32_2682 : BitVec 32 := 12#32
  let v7853 : BitVec 32 := Scalar.addi v44 c12_i32_2682
  let c16_i32_2683 : BitVec 32 := 16#32
  let v7854 : BitVec 32 := Scalar.subi v7853 c16_i32_2683
  let c12_i32_2684 : BitVec 32 := 12#32
  let v7855 : BitVec 32 := Scalar.addi v44 c12_i32_2684
  let v7856 : BitVec 32 := Scalar.select v7852 v7854 v7855
  let c512_i32_2702 : BitVec 32 := 512#32
  let v7909 : BitVec 32 := Scalar.muli v7856 c512_i32_2702
  v7909
def k0_mult215 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2705 : BitVec 32 := 12#32
  let v7924 : BitVec 32 := Scalar.addi v44 c12_i32_2705
  let c16_i32_2706 : BitVec 32 := 16#32
  let v7925 : BitVec 1 := Scalar.cmpi .sge v7924 c16_i32_2706
  let c12_i32_2707 : BitVec 32 := 12#32
  let v7926 : BitVec 32 := Scalar.addi v44 c12_i32_2707
  let c16_i32_2708 : BitVec 32 := 16#32
  let v7927 : BitVec 32 := Scalar.subi v7926 c16_i32_2708
  let c12_i32_2709 : BitVec 32 := 12#32
  let v7928 : BitVec 32 := Scalar.addi v44 c12_i32_2709
  let v7929 : BitVec 32 := Scalar.select v7925 v7927 v7928
  let c512_i32_2710 : BitVec 32 := 512#32
  let v7930 : BitVec 32 := Scalar.muli v7929 c512_i32_2710
  v7930
def k0_mult216 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c12_i32_2705 : BitVec 32 := 12#32
  let v7924 : BitVec 32 := Scalar.addi v44 c12_i32_2705
  let c16_i32_2706 : BitVec 32 := 16#32
  let v7925 : BitVec 1 := Scalar.cmpi .sge v7924 c16_i32_2706
  let c12_i32_2707 : BitVec 32 := 12#32
  let v7926 : BitVec 32 := Scalar.addi v44 c12_i32_2707
  let c16_i32_2708 : BitVec 32 := 16#32
  let v7927 : BitVec 32 := Scalar.subi v7926 c16_i32_2708
  let c12_i32_2709 : BitVec 32 := 12#32
  let v7928 : BitVec 32 := Scalar.addi v44 c12_i32_2709
  let v7929 : BitVec 32 := Scalar.select v7925 v7927 v7928
  let c512_i32_2727 : BitVec 32 := 512#32
  let v7982 : BitVec 32 := Scalar.muli v7929 c512_i32_2727
  v7982
def k0_mult217 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32 : BitVec 32 := 13#32
  let v7997 : BitVec 32 := Scalar.addi v26 c13_i32
  let c16_i32_2730 : BitVec 32 := 16#32
  let v7998 : BitVec 1 := Scalar.cmpi .sge v7997 c16_i32_2730
  let c13_i32_2731 : BitVec 32 := 13#32
  let v7999 : BitVec 32 := Scalar.addi v26 c13_i32_2731
  let c16_i32_2732 : BitVec 32 := 16#32
  let v8000 : BitVec 32 := Scalar.subi v7999 c16_i32_2732
  let c13_i32_2733 : BitVec 32 := 13#32
  let v8001 : BitVec 32 := Scalar.addi v26 c13_i32_2733
  let v8002 : BitVec 32 := Scalar.select v7998 v8000 v8001
  let c512_i32_2734 : BitVec 32 := 512#32
  let v8003 : BitVec 32 := Scalar.muli v8002 c512_i32_2734
  v8003
def k0_mult218 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32 : BitVec 32 := 13#32
  let v7997 : BitVec 32 := Scalar.addi v26 c13_i32
  let c16_i32_2730 : BitVec 32 := 16#32
  let v7998 : BitVec 1 := Scalar.cmpi .sge v7997 c16_i32_2730
  let c13_i32_2731 : BitVec 32 := 13#32
  let v7999 : BitVec 32 := Scalar.addi v26 c13_i32_2731
  let c16_i32_2732 : BitVec 32 := 16#32
  let v8000 : BitVec 32 := Scalar.subi v7999 c16_i32_2732
  let c13_i32_2733 : BitVec 32 := 13#32
  let v8001 : BitVec 32 := Scalar.addi v26 c13_i32_2733
  let v8002 : BitVec 32 := Scalar.select v7998 v8000 v8001
  let c512_i32_2751 : BitVec 32 := 512#32
  let v8055 : BitVec 32 := Scalar.muli v8002 c512_i32_2751
  v8055
def k0_mult219 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2754 : BitVec 32 := 13#32
  let v8070 : BitVec 32 := Scalar.addi v26 c13_i32_2754
  let c16_i32_2755 : BitVec 32 := 16#32
  let v8071 : BitVec 1 := Scalar.cmpi .sge v8070 c16_i32_2755
  let c13_i32_2756 : BitVec 32 := 13#32
  let v8072 : BitVec 32 := Scalar.addi v26 c13_i32_2756
  let c16_i32_2757 : BitVec 32 := 16#32
  let v8073 : BitVec 32 := Scalar.subi v8072 c16_i32_2757
  let c13_i32_2758 : BitVec 32 := 13#32
  let v8074 : BitVec 32 := Scalar.addi v26 c13_i32_2758
  let v8075 : BitVec 32 := Scalar.select v8071 v8073 v8074
  let c512_i32_2759 : BitVec 32 := 512#32
  let v8076 : BitVec 32 := Scalar.muli v8075 c512_i32_2759
  v8076
def k0_mult220 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2754 : BitVec 32 := 13#32
  let v8070 : BitVec 32 := Scalar.addi v26 c13_i32_2754
  let c16_i32_2755 : BitVec 32 := 16#32
  let v8071 : BitVec 1 := Scalar.cmpi .sge v8070 c16_i32_2755
  let c13_i32_2756 : BitVec 32 := 13#32
  let v8072 : BitVec 32 := Scalar.addi v26 c13_i32_2756
  let c16_i32_2757 : BitVec 32 := 16#32
  let v8073 : BitVec 32 := Scalar.subi v8072 c16_i32_2757
  let c13_i32_2758 : BitVec 32 := 13#32
  let v8074 : BitVec 32 := Scalar.addi v26 c13_i32_2758
  let v8075 : BitVec 32 := Scalar.select v8071 v8073 v8074
  let c512_i32_2776 : BitVec 32 := 512#32
  let v8128 : BitVec 32 := Scalar.muli v8075 c512_i32_2776
  v8128
def k0_mult221 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2779 : BitVec 32 := 13#32
  let v8143 : BitVec 32 := Scalar.addi v26 c13_i32_2779
  let c16_i32_2780 : BitVec 32 := 16#32
  let v8144 : BitVec 1 := Scalar.cmpi .sge v8143 c16_i32_2780
  let c13_i32_2781 : BitVec 32 := 13#32
  let v8145 : BitVec 32 := Scalar.addi v26 c13_i32_2781
  let c16_i32_2782 : BitVec 32 := 16#32
  let v8146 : BitVec 32 := Scalar.subi v8145 c16_i32_2782
  let c13_i32_2783 : BitVec 32 := 13#32
  let v8147 : BitVec 32 := Scalar.addi v26 c13_i32_2783
  let v8148 : BitVec 32 := Scalar.select v8144 v8146 v8147
  let c512_i32_2784 : BitVec 32 := 512#32
  let v8149 : BitVec 32 := Scalar.muli v8148 c512_i32_2784
  v8149
def k0_mult222 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2779 : BitVec 32 := 13#32
  let v8143 : BitVec 32 := Scalar.addi v26 c13_i32_2779
  let c16_i32_2780 : BitVec 32 := 16#32
  let v8144 : BitVec 1 := Scalar.cmpi .sge v8143 c16_i32_2780
  let c13_i32_2781 : BitVec 32 := 13#32
  let v8145 : BitVec 32 := Scalar.addi v26 c13_i32_2781
  let c16_i32_2782 : BitVec 32 := 16#32
  let v8146 : BitVec 32 := Scalar.subi v8145 c16_i32_2782
  let c13_i32_2783 : BitVec 32 := 13#32
  let v8147 : BitVec 32 := Scalar.addi v26 c13_i32_2783
  let v8148 : BitVec 32 := Scalar.select v8144 v8146 v8147
  let c512_i32_2801 : BitVec 32 := 512#32
  let v8201 : BitVec 32 := Scalar.muli v8148 c512_i32_2801
  v8201
def k0_mult223 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2804 : BitVec 32 := 13#32
  let v8216 : BitVec 32 := Scalar.addi v26 c13_i32_2804
  let c16_i32_2805 : BitVec 32 := 16#32
  let v8217 : BitVec 1 := Scalar.cmpi .sge v8216 c16_i32_2805
  let c13_i32_2806 : BitVec 32 := 13#32
  let v8218 : BitVec 32 := Scalar.addi v26 c13_i32_2806
  let c16_i32_2807 : BitVec 32 := 16#32
  let v8219 : BitVec 32 := Scalar.subi v8218 c16_i32_2807
  let c13_i32_2808 : BitVec 32 := 13#32
  let v8220 : BitVec 32 := Scalar.addi v26 c13_i32_2808
  let v8221 : BitVec 32 := Scalar.select v8217 v8219 v8220
  let c512_i32_2809 : BitVec 32 := 512#32
  let v8222 : BitVec 32 := Scalar.muli v8221 c512_i32_2809
  v8222
def k0_mult224 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c13_i32_2804 : BitVec 32 := 13#32
  let v8216 : BitVec 32 := Scalar.addi v26 c13_i32_2804
  let c16_i32_2805 : BitVec 32 := 16#32
  let v8217 : BitVec 1 := Scalar.cmpi .sge v8216 c16_i32_2805
  let c13_i32_2806 : BitVec 32 := 13#32
  let v8218 : BitVec 32 := Scalar.addi v26 c13_i32_2806
  let c16_i32_2807 : BitVec 32 := 16#32
  let v8219 : BitVec 32 := Scalar.subi v8218 c16_i32_2807
  let c13_i32_2808 : BitVec 32 := 13#32
  let v8220 : BitVec 32 := Scalar.addi v26 c13_i32_2808
  let v8221 : BitVec 32 := Scalar.select v8217 v8219 v8220
  let c512_i32_2826 : BitVec 32 := 512#32
  let v8274 : BitVec 32 := Scalar.muli v8221 c512_i32_2826
  v8274
def k0_mult225 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2829 : BitVec 32 := 13#32
  let v8289 : BitVec 32 := Scalar.addi v44 c13_i32_2829
  let c16_i32_2830 : BitVec 32 := 16#32
  let v8290 : BitVec 1 := Scalar.cmpi .sge v8289 c16_i32_2830
  let c13_i32_2831 : BitVec 32 := 13#32
  let v8291 : BitVec 32 := Scalar.addi v44 c13_i32_2831
  let c16_i32_2832 : BitVec 32 := 16#32
  let v8292 : BitVec 32 := Scalar.subi v8291 c16_i32_2832
  let c13_i32_2833 : BitVec 32 := 13#32
  let v8293 : BitVec 32 := Scalar.addi v44 c13_i32_2833
  let v8294 : BitVec 32 := Scalar.select v8290 v8292 v8293
  let c512_i32_2834 : BitVec 32 := 512#32
  let v8295 : BitVec 32 := Scalar.muli v8294 c512_i32_2834
  v8295
def k0_mult226 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2829 : BitVec 32 := 13#32
  let v8289 : BitVec 32 := Scalar.addi v44 c13_i32_2829
  let c16_i32_2830 : BitVec 32 := 16#32
  let v8290 : BitVec 1 := Scalar.cmpi .sge v8289 c16_i32_2830
  let c13_i32_2831 : BitVec 32 := 13#32
  let v8291 : BitVec 32 := Scalar.addi v44 c13_i32_2831
  let c16_i32_2832 : BitVec 32 := 16#32
  let v8292 : BitVec 32 := Scalar.subi v8291 c16_i32_2832
  let c13_i32_2833 : BitVec 32 := 13#32
  let v8293 : BitVec 32 := Scalar.addi v44 c13_i32_2833
  let v8294 : BitVec 32 := Scalar.select v8290 v8292 v8293
  let c512_i32_2851 : BitVec 32 := 512#32
  let v8347 : BitVec 32 := Scalar.muli v8294 c512_i32_2851
  v8347
def k0_mult227 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2854 : BitVec 32 := 13#32
  let v8362 : BitVec 32 := Scalar.addi v44 c13_i32_2854
  let c16_i32_2855 : BitVec 32 := 16#32
  let v8363 : BitVec 1 := Scalar.cmpi .sge v8362 c16_i32_2855
  let c13_i32_2856 : BitVec 32 := 13#32
  let v8364 : BitVec 32 := Scalar.addi v44 c13_i32_2856
  let c16_i32_2857 : BitVec 32 := 16#32
  let v8365 : BitVec 32 := Scalar.subi v8364 c16_i32_2857
  let c13_i32_2858 : BitVec 32 := 13#32
  let v8366 : BitVec 32 := Scalar.addi v44 c13_i32_2858
  let v8367 : BitVec 32 := Scalar.select v8363 v8365 v8366
  let c512_i32_2859 : BitVec 32 := 512#32
  let v8368 : BitVec 32 := Scalar.muli v8367 c512_i32_2859
  v8368
def k0_mult228 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2854 : BitVec 32 := 13#32
  let v8362 : BitVec 32 := Scalar.addi v44 c13_i32_2854
  let c16_i32_2855 : BitVec 32 := 16#32
  let v8363 : BitVec 1 := Scalar.cmpi .sge v8362 c16_i32_2855
  let c13_i32_2856 : BitVec 32 := 13#32
  let v8364 : BitVec 32 := Scalar.addi v44 c13_i32_2856
  let c16_i32_2857 : BitVec 32 := 16#32
  let v8365 : BitVec 32 := Scalar.subi v8364 c16_i32_2857
  let c13_i32_2858 : BitVec 32 := 13#32
  let v8366 : BitVec 32 := Scalar.addi v44 c13_i32_2858
  let v8367 : BitVec 32 := Scalar.select v8363 v8365 v8366
  let c512_i32_2876 : BitVec 32 := 512#32
  let v8420 : BitVec 32 := Scalar.muli v8367 c512_i32_2876
  v8420
def k0_mult229 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2879 : BitVec 32 := 13#32
  let v8435 : BitVec 32 := Scalar.addi v44 c13_i32_2879
  let c16_i32_2880 : BitVec 32 := 16#32
  let v8436 : BitVec 1 := Scalar.cmpi .sge v8435 c16_i32_2880
  let c13_i32_2881 : BitVec 32 := 13#32
  let v8437 : BitVec 32 := Scalar.addi v44 c13_i32_2881
  let c16_i32_2882 : BitVec 32 := 16#32
  let v8438 : BitVec 32 := Scalar.subi v8437 c16_i32_2882
  let c13_i32_2883 : BitVec 32 := 13#32
  let v8439 : BitVec 32 := Scalar.addi v44 c13_i32_2883
  let v8440 : BitVec 32 := Scalar.select v8436 v8438 v8439
  let c512_i32_2884 : BitVec 32 := 512#32
  let v8441 : BitVec 32 := Scalar.muli v8440 c512_i32_2884
  v8441
def k0_mult230 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2879 : BitVec 32 := 13#32
  let v8435 : BitVec 32 := Scalar.addi v44 c13_i32_2879
  let c16_i32_2880 : BitVec 32 := 16#32
  let v8436 : BitVec 1 := Scalar.cmpi .sge v8435 c16_i32_2880
  let c13_i32_2881 : BitVec 32 := 13#32
  let v8437 : BitVec 32 := Scalar.addi v44 c13_i32_2881
  let c16_i32_2882 : BitVec 32 := 16#32
  let v8438 : BitVec 32 := Scalar.subi v8437 c16_i32_2882
  let c13_i32_2883 : BitVec 32 := 13#32
  let v8439 : BitVec 32 := Scalar.addi v44 c13_i32_2883
  let v8440 : BitVec 32 := Scalar.select v8436 v8438 v8439
  let c512_i32_2901 : BitVec 32 := 512#32
  let v8493 : BitVec 32 := Scalar.muli v8440 c512_i32_2901
  v8493
def k0_mult231 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2904 : BitVec 32 := 13#32
  let v8508 : BitVec 32 := Scalar.addi v44 c13_i32_2904
  let c16_i32_2905 : BitVec 32 := 16#32
  let v8509 : BitVec 1 := Scalar.cmpi .sge v8508 c16_i32_2905
  let c13_i32_2906 : BitVec 32 := 13#32
  let v8510 : BitVec 32 := Scalar.addi v44 c13_i32_2906
  let c16_i32_2907 : BitVec 32 := 16#32
  let v8511 : BitVec 32 := Scalar.subi v8510 c16_i32_2907
  let c13_i32_2908 : BitVec 32 := 13#32
  let v8512 : BitVec 32 := Scalar.addi v44 c13_i32_2908
  let v8513 : BitVec 32 := Scalar.select v8509 v8511 v8512
  let c512_i32_2909 : BitVec 32 := 512#32
  let v8514 : BitVec 32 := Scalar.muli v8513 c512_i32_2909
  v8514
def k0_mult232 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c13_i32_2904 : BitVec 32 := 13#32
  let v8508 : BitVec 32 := Scalar.addi v44 c13_i32_2904
  let c16_i32_2905 : BitVec 32 := 16#32
  let v8509 : BitVec 1 := Scalar.cmpi .sge v8508 c16_i32_2905
  let c13_i32_2906 : BitVec 32 := 13#32
  let v8510 : BitVec 32 := Scalar.addi v44 c13_i32_2906
  let c16_i32_2907 : BitVec 32 := 16#32
  let v8511 : BitVec 32 := Scalar.subi v8510 c16_i32_2907
  let c13_i32_2908 : BitVec 32 := 13#32
  let v8512 : BitVec 32 := Scalar.addi v44 c13_i32_2908
  let v8513 : BitVec 32 := Scalar.select v8509 v8511 v8512
  let c512_i32_2926 : BitVec 32 := 512#32
  let v8566 : BitVec 32 := Scalar.muli v8513 c512_i32_2926
  v8566
def k0_mult233 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32 : BitVec 32 := 14#32
  let v8581 : BitVec 32 := Scalar.addi v26 c14_i32
  let c16_i32_2929 : BitVec 32 := 16#32
  let v8582 : BitVec 1 := Scalar.cmpi .sge v8581 c16_i32_2929
  let c14_i32_2930 : BitVec 32 := 14#32
  let v8583 : BitVec 32 := Scalar.addi v26 c14_i32_2930
  let c16_i32_2931 : BitVec 32 := 16#32
  let v8584 : BitVec 32 := Scalar.subi v8583 c16_i32_2931
  let c14_i32_2932 : BitVec 32 := 14#32
  let v8585 : BitVec 32 := Scalar.addi v26 c14_i32_2932
  let v8586 : BitVec 32 := Scalar.select v8582 v8584 v8585
  let c512_i32_2933 : BitVec 32 := 512#32
  let v8587 : BitVec 32 := Scalar.muli v8586 c512_i32_2933
  v8587
def k0_mult234 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32 : BitVec 32 := 14#32
  let v8581 : BitVec 32 := Scalar.addi v26 c14_i32
  let c16_i32_2929 : BitVec 32 := 16#32
  let v8582 : BitVec 1 := Scalar.cmpi .sge v8581 c16_i32_2929
  let c14_i32_2930 : BitVec 32 := 14#32
  let v8583 : BitVec 32 := Scalar.addi v26 c14_i32_2930
  let c16_i32_2931 : BitVec 32 := 16#32
  let v8584 : BitVec 32 := Scalar.subi v8583 c16_i32_2931
  let c14_i32_2932 : BitVec 32 := 14#32
  let v8585 : BitVec 32 := Scalar.addi v26 c14_i32_2932
  let v8586 : BitVec 32 := Scalar.select v8582 v8584 v8585
  let c512_i32_2950 : BitVec 32 := 512#32
  let v8639 : BitVec 32 := Scalar.muli v8586 c512_i32_2950
  v8639
def k0_mult235 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_2953 : BitVec 32 := 14#32
  let v8654 : BitVec 32 := Scalar.addi v26 c14_i32_2953
  let c16_i32_2954 : BitVec 32 := 16#32
  let v8655 : BitVec 1 := Scalar.cmpi .sge v8654 c16_i32_2954
  let c14_i32_2955 : BitVec 32 := 14#32
  let v8656 : BitVec 32 := Scalar.addi v26 c14_i32_2955
  let c16_i32_2956 : BitVec 32 := 16#32
  let v8657 : BitVec 32 := Scalar.subi v8656 c16_i32_2956
  let c14_i32_2957 : BitVec 32 := 14#32
  let v8658 : BitVec 32 := Scalar.addi v26 c14_i32_2957
  let v8659 : BitVec 32 := Scalar.select v8655 v8657 v8658
  let c512_i32_2958 : BitVec 32 := 512#32
  let v8660 : BitVec 32 := Scalar.muli v8659 c512_i32_2958
  v8660
def k0_mult236 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_2953 : BitVec 32 := 14#32
  let v8654 : BitVec 32 := Scalar.addi v26 c14_i32_2953
  let c16_i32_2954 : BitVec 32 := 16#32
  let v8655 : BitVec 1 := Scalar.cmpi .sge v8654 c16_i32_2954
  let c14_i32_2955 : BitVec 32 := 14#32
  let v8656 : BitVec 32 := Scalar.addi v26 c14_i32_2955
  let c16_i32_2956 : BitVec 32 := 16#32
  let v8657 : BitVec 32 := Scalar.subi v8656 c16_i32_2956
  let c14_i32_2957 : BitVec 32 := 14#32
  let v8658 : BitVec 32 := Scalar.addi v26 c14_i32_2957
  let v8659 : BitVec 32 := Scalar.select v8655 v8657 v8658
  let c512_i32_2975 : BitVec 32 := 512#32
  let v8712 : BitVec 32 := Scalar.muli v8659 c512_i32_2975
  v8712
def k0_mult237 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_2978 : BitVec 32 := 14#32
  let v8727 : BitVec 32 := Scalar.addi v26 c14_i32_2978
  let c16_i32_2979 : BitVec 32 := 16#32
  let v8728 : BitVec 1 := Scalar.cmpi .sge v8727 c16_i32_2979
  let c14_i32_2980 : BitVec 32 := 14#32
  let v8729 : BitVec 32 := Scalar.addi v26 c14_i32_2980
  let c16_i32_2981 : BitVec 32 := 16#32
  let v8730 : BitVec 32 := Scalar.subi v8729 c16_i32_2981
  let c14_i32_2982 : BitVec 32 := 14#32
  let v8731 : BitVec 32 := Scalar.addi v26 c14_i32_2982
  let v8732 : BitVec 32 := Scalar.select v8728 v8730 v8731
  let c512_i32_2983 : BitVec 32 := 512#32
  let v8733 : BitVec 32 := Scalar.muli v8732 c512_i32_2983
  v8733
def k0_mult238 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_2978 : BitVec 32 := 14#32
  let v8727 : BitVec 32 := Scalar.addi v26 c14_i32_2978
  let c16_i32_2979 : BitVec 32 := 16#32
  let v8728 : BitVec 1 := Scalar.cmpi .sge v8727 c16_i32_2979
  let c14_i32_2980 : BitVec 32 := 14#32
  let v8729 : BitVec 32 := Scalar.addi v26 c14_i32_2980
  let c16_i32_2981 : BitVec 32 := 16#32
  let v8730 : BitVec 32 := Scalar.subi v8729 c16_i32_2981
  let c14_i32_2982 : BitVec 32 := 14#32
  let v8731 : BitVec 32 := Scalar.addi v26 c14_i32_2982
  let v8732 : BitVec 32 := Scalar.select v8728 v8730 v8731
  let c512_i32_3000 : BitVec 32 := 512#32
  let v8785 : BitVec 32 := Scalar.muli v8732 c512_i32_3000
  v8785
def k0_mult239 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_3003 : BitVec 32 := 14#32
  let v8800 : BitVec 32 := Scalar.addi v26 c14_i32_3003
  let c16_i32_3004 : BitVec 32 := 16#32
  let v8801 : BitVec 1 := Scalar.cmpi .sge v8800 c16_i32_3004
  let c14_i32_3005 : BitVec 32 := 14#32
  let v8802 : BitVec 32 := Scalar.addi v26 c14_i32_3005
  let c16_i32_3006 : BitVec 32 := 16#32
  let v8803 : BitVec 32 := Scalar.subi v8802 c16_i32_3006
  let c14_i32_3007 : BitVec 32 := 14#32
  let v8804 : BitVec 32 := Scalar.addi v26 c14_i32_3007
  let v8805 : BitVec 32 := Scalar.select v8801 v8803 v8804
  let c512_i32_3008 : BitVec 32 := 512#32
  let v8806 : BitVec 32 := Scalar.muli v8805 c512_i32_3008
  v8806
def k0_mult240 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c14_i32_3003 : BitVec 32 := 14#32
  let v8800 : BitVec 32 := Scalar.addi v26 c14_i32_3003
  let c16_i32_3004 : BitVec 32 := 16#32
  let v8801 : BitVec 1 := Scalar.cmpi .sge v8800 c16_i32_3004
  let c14_i32_3005 : BitVec 32 := 14#32
  let v8802 : BitVec 32 := Scalar.addi v26 c14_i32_3005
  let c16_i32_3006 : BitVec 32 := 16#32
  let v8803 : BitVec 32 := Scalar.subi v8802 c16_i32_3006
  let c14_i32_3007 : BitVec 32 := 14#32
  let v8804 : BitVec 32 := Scalar.addi v26 c14_i32_3007
  let v8805 : BitVec 32 := Scalar.select v8801 v8803 v8804
  let c512_i32_3025 : BitVec 32 := 512#32
  let v8858 : BitVec 32 := Scalar.muli v8805 c512_i32_3025
  v8858
def k0_mult241 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3028 : BitVec 32 := 14#32
  let v8873 : BitVec 32 := Scalar.addi v44 c14_i32_3028
  let c16_i32_3029 : BitVec 32 := 16#32
  let v8874 : BitVec 1 := Scalar.cmpi .sge v8873 c16_i32_3029
  let c14_i32_3030 : BitVec 32 := 14#32
  let v8875 : BitVec 32 := Scalar.addi v44 c14_i32_3030
  let c16_i32_3031 : BitVec 32 := 16#32
  let v8876 : BitVec 32 := Scalar.subi v8875 c16_i32_3031
  let c14_i32_3032 : BitVec 32 := 14#32
  let v8877 : BitVec 32 := Scalar.addi v44 c14_i32_3032
  let v8878 : BitVec 32 := Scalar.select v8874 v8876 v8877
  let c512_i32_3033 : BitVec 32 := 512#32
  let v8879 : BitVec 32 := Scalar.muli v8878 c512_i32_3033
  v8879
def k0_mult242 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3028 : BitVec 32 := 14#32
  let v8873 : BitVec 32 := Scalar.addi v44 c14_i32_3028
  let c16_i32_3029 : BitVec 32 := 16#32
  let v8874 : BitVec 1 := Scalar.cmpi .sge v8873 c16_i32_3029
  let c14_i32_3030 : BitVec 32 := 14#32
  let v8875 : BitVec 32 := Scalar.addi v44 c14_i32_3030
  let c16_i32_3031 : BitVec 32 := 16#32
  let v8876 : BitVec 32 := Scalar.subi v8875 c16_i32_3031
  let c14_i32_3032 : BitVec 32 := 14#32
  let v8877 : BitVec 32 := Scalar.addi v44 c14_i32_3032
  let v8878 : BitVec 32 := Scalar.select v8874 v8876 v8877
  let c512_i32_3050 : BitVec 32 := 512#32
  let v8931 : BitVec 32 := Scalar.muli v8878 c512_i32_3050
  v8931
def k0_mult243 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3053 : BitVec 32 := 14#32
  let v8946 : BitVec 32 := Scalar.addi v44 c14_i32_3053
  let c16_i32_3054 : BitVec 32 := 16#32
  let v8947 : BitVec 1 := Scalar.cmpi .sge v8946 c16_i32_3054
  let c14_i32_3055 : BitVec 32 := 14#32
  let v8948 : BitVec 32 := Scalar.addi v44 c14_i32_3055
  let c16_i32_3056 : BitVec 32 := 16#32
  let v8949 : BitVec 32 := Scalar.subi v8948 c16_i32_3056
  let c14_i32_3057 : BitVec 32 := 14#32
  let v8950 : BitVec 32 := Scalar.addi v44 c14_i32_3057
  let v8951 : BitVec 32 := Scalar.select v8947 v8949 v8950
  let c512_i32_3058 : BitVec 32 := 512#32
  let v8952 : BitVec 32 := Scalar.muli v8951 c512_i32_3058
  v8952
def k0_mult244 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3053 : BitVec 32 := 14#32
  let v8946 : BitVec 32 := Scalar.addi v44 c14_i32_3053
  let c16_i32_3054 : BitVec 32 := 16#32
  let v8947 : BitVec 1 := Scalar.cmpi .sge v8946 c16_i32_3054
  let c14_i32_3055 : BitVec 32 := 14#32
  let v8948 : BitVec 32 := Scalar.addi v44 c14_i32_3055
  let c16_i32_3056 : BitVec 32 := 16#32
  let v8949 : BitVec 32 := Scalar.subi v8948 c16_i32_3056
  let c14_i32_3057 : BitVec 32 := 14#32
  let v8950 : BitVec 32 := Scalar.addi v44 c14_i32_3057
  let v8951 : BitVec 32 := Scalar.select v8947 v8949 v8950
  let c512_i32_3075 : BitVec 32 := 512#32
  let v9004 : BitVec 32 := Scalar.muli v8951 c512_i32_3075
  v9004
def k0_mult245 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3078 : BitVec 32 := 14#32
  let v9019 : BitVec 32 := Scalar.addi v44 c14_i32_3078
  let c16_i32_3079 : BitVec 32 := 16#32
  let v9020 : BitVec 1 := Scalar.cmpi .sge v9019 c16_i32_3079
  let c14_i32_3080 : BitVec 32 := 14#32
  let v9021 : BitVec 32 := Scalar.addi v44 c14_i32_3080
  let c16_i32_3081 : BitVec 32 := 16#32
  let v9022 : BitVec 32 := Scalar.subi v9021 c16_i32_3081
  let c14_i32_3082 : BitVec 32 := 14#32
  let v9023 : BitVec 32 := Scalar.addi v44 c14_i32_3082
  let v9024 : BitVec 32 := Scalar.select v9020 v9022 v9023
  let c512_i32_3083 : BitVec 32 := 512#32
  let v9025 : BitVec 32 := Scalar.muli v9024 c512_i32_3083
  v9025
def k0_mult246 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3078 : BitVec 32 := 14#32
  let v9019 : BitVec 32 := Scalar.addi v44 c14_i32_3078
  let c16_i32_3079 : BitVec 32 := 16#32
  let v9020 : BitVec 1 := Scalar.cmpi .sge v9019 c16_i32_3079
  let c14_i32_3080 : BitVec 32 := 14#32
  let v9021 : BitVec 32 := Scalar.addi v44 c14_i32_3080
  let c16_i32_3081 : BitVec 32 := 16#32
  let v9022 : BitVec 32 := Scalar.subi v9021 c16_i32_3081
  let c14_i32_3082 : BitVec 32 := 14#32
  let v9023 : BitVec 32 := Scalar.addi v44 c14_i32_3082
  let v9024 : BitVec 32 := Scalar.select v9020 v9022 v9023
  let c512_i32_3100 : BitVec 32 := 512#32
  let v9077 : BitVec 32 := Scalar.muli v9024 c512_i32_3100
  v9077
def k0_mult247 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3103 : BitVec 32 := 14#32
  let v9092 : BitVec 32 := Scalar.addi v44 c14_i32_3103
  let c16_i32_3104 : BitVec 32 := 16#32
  let v9093 : BitVec 1 := Scalar.cmpi .sge v9092 c16_i32_3104
  let c14_i32_3105 : BitVec 32 := 14#32
  let v9094 : BitVec 32 := Scalar.addi v44 c14_i32_3105
  let c16_i32_3106 : BitVec 32 := 16#32
  let v9095 : BitVec 32 := Scalar.subi v9094 c16_i32_3106
  let c14_i32_3107 : BitVec 32 := 14#32
  let v9096 : BitVec 32 := Scalar.addi v44 c14_i32_3107
  let v9097 : BitVec 32 := Scalar.select v9093 v9095 v9096
  let c512_i32_3108 : BitVec 32 := 512#32
  let v9098 : BitVec 32 := Scalar.muli v9097 c512_i32_3108
  v9098
def k0_mult248 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c14_i32_3103 : BitVec 32 := 14#32
  let v9092 : BitVec 32 := Scalar.addi v44 c14_i32_3103
  let c16_i32_3104 : BitVec 32 := 16#32
  let v9093 : BitVec 1 := Scalar.cmpi .sge v9092 c16_i32_3104
  let c14_i32_3105 : BitVec 32 := 14#32
  let v9094 : BitVec 32 := Scalar.addi v44 c14_i32_3105
  let c16_i32_3106 : BitVec 32 := 16#32
  let v9095 : BitVec 32 := Scalar.subi v9094 c16_i32_3106
  let c14_i32_3107 : BitVec 32 := 14#32
  let v9096 : BitVec 32 := Scalar.addi v44 c14_i32_3107
  let v9097 : BitVec 32 := Scalar.select v9093 v9095 v9096
  let c512_i32_3125 : BitVec 32 := 512#32
  let v9150 : BitVec 32 := Scalar.muli v9097 c512_i32_3125
  v9150
def k0_mult249 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32 : BitVec 32 := 15#32
  let v9165 : BitVec 32 := Scalar.addi v26 c15_i32
  let c16_i32_3128 : BitVec 32 := 16#32
  let v9166 : BitVec 1 := Scalar.cmpi .sge v9165 c16_i32_3128
  let c15_i32_3129 : BitVec 32 := 15#32
  let v9167 : BitVec 32 := Scalar.addi v26 c15_i32_3129
  let c16_i32_3130 : BitVec 32 := 16#32
  let v9168 : BitVec 32 := Scalar.subi v9167 c16_i32_3130
  let c15_i32_3131 : BitVec 32 := 15#32
  let v9169 : BitVec 32 := Scalar.addi v26 c15_i32_3131
  let v9170 : BitVec 32 := Scalar.select v9166 v9168 v9169
  let c512_i32_3132 : BitVec 32 := 512#32
  let v9171 : BitVec 32 := Scalar.muli v9170 c512_i32_3132
  v9171
def k0_mult250 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32 : BitVec 32 := 15#32
  let v9165 : BitVec 32 := Scalar.addi v26 c15_i32
  let c16_i32_3128 : BitVec 32 := 16#32
  let v9166 : BitVec 1 := Scalar.cmpi .sge v9165 c16_i32_3128
  let c15_i32_3129 : BitVec 32 := 15#32
  let v9167 : BitVec 32 := Scalar.addi v26 c15_i32_3129
  let c16_i32_3130 : BitVec 32 := 16#32
  let v9168 : BitVec 32 := Scalar.subi v9167 c16_i32_3130
  let c15_i32_3131 : BitVec 32 := 15#32
  let v9169 : BitVec 32 := Scalar.addi v26 c15_i32_3131
  let v9170 : BitVec 32 := Scalar.select v9166 v9168 v9169
  let c512_i32_3147 : BitVec 32 := 512#32
  let v9231 : BitVec 32 := Scalar.muli v9170 c512_i32_3147
  v9231
def k0_mult251 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3150 : BitVec 32 := 15#32
  let v9245 : BitVec 32 := Scalar.addi v26 c15_i32_3150
  let c16_i32_3151 : BitVec 32 := 16#32
  let v9246 : BitVec 1 := Scalar.cmpi .sge v9245 c16_i32_3151
  let c15_i32_3152 : BitVec 32 := 15#32
  let v9247 : BitVec 32 := Scalar.addi v26 c15_i32_3152
  let c16_i32_3153 : BitVec 32 := 16#32
  let v9248 : BitVec 32 := Scalar.subi v9247 c16_i32_3153
  let c15_i32_3154 : BitVec 32 := 15#32
  let v9249 : BitVec 32 := Scalar.addi v26 c15_i32_3154
  let v9250 : BitVec 32 := Scalar.select v9246 v9248 v9249
  let c512_i32_3155 : BitVec 32 := 512#32
  let v9251 : BitVec 32 := Scalar.muli v9250 c512_i32_3155
  v9251
def k0_mult252 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3150 : BitVec 32 := 15#32
  let v9245 : BitVec 32 := Scalar.addi v26 c15_i32_3150
  let c16_i32_3151 : BitVec 32 := 16#32
  let v9246 : BitVec 1 := Scalar.cmpi .sge v9245 c16_i32_3151
  let c15_i32_3152 : BitVec 32 := 15#32
  let v9247 : BitVec 32 := Scalar.addi v26 c15_i32_3152
  let c16_i32_3153 : BitVec 32 := 16#32
  let v9248 : BitVec 32 := Scalar.subi v9247 c16_i32_3153
  let c15_i32_3154 : BitVec 32 := 15#32
  let v9249 : BitVec 32 := Scalar.addi v26 c15_i32_3154
  let v9250 : BitVec 32 := Scalar.select v9246 v9248 v9249
  let c512_i32_3170 : BitVec 32 := 512#32
  let v9311 : BitVec 32 := Scalar.muli v9250 c512_i32_3170
  v9311
def k0_mult253 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3173 : BitVec 32 := 15#32
  let v9325 : BitVec 32 := Scalar.addi v26 c15_i32_3173
  let c16_i32_3174 : BitVec 32 := 16#32
  let v9326 : BitVec 1 := Scalar.cmpi .sge v9325 c16_i32_3174
  let c15_i32_3175 : BitVec 32 := 15#32
  let v9327 : BitVec 32 := Scalar.addi v26 c15_i32_3175
  let c16_i32_3176 : BitVec 32 := 16#32
  let v9328 : BitVec 32 := Scalar.subi v9327 c16_i32_3176
  let c15_i32_3177 : BitVec 32 := 15#32
  let v9329 : BitVec 32 := Scalar.addi v26 c15_i32_3177
  let v9330 : BitVec 32 := Scalar.select v9326 v9328 v9329
  let c512_i32_3178 : BitVec 32 := 512#32
  let v9331 : BitVec 32 := Scalar.muli v9330 c512_i32_3178
  v9331
def k0_mult254 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3173 : BitVec 32 := 15#32
  let v9325 : BitVec 32 := Scalar.addi v26 c15_i32_3173
  let c16_i32_3174 : BitVec 32 := 16#32
  let v9326 : BitVec 1 := Scalar.cmpi .sge v9325 c16_i32_3174
  let c15_i32_3175 : BitVec 32 := 15#32
  let v9327 : BitVec 32 := Scalar.addi v26 c15_i32_3175
  let c16_i32_3176 : BitVec 32 := 16#32
  let v9328 : BitVec 32 := Scalar.subi v9327 c16_i32_3176
  let c15_i32_3177 : BitVec 32 := 15#32
  let v9329 : BitVec 32 := Scalar.addi v26 c15_i32_3177
  let v9330 : BitVec 32 := Scalar.select v9326 v9328 v9329
  let c512_i32_3193 : BitVec 32 := 512#32
  let v9391 : BitVec 32 := Scalar.muli v9330 c512_i32_3193
  v9391
def k0_mult255 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3196 : BitVec 32 := 15#32
  let v9405 : BitVec 32 := Scalar.addi v26 c15_i32_3196
  let c16_i32_3197 : BitVec 32 := 16#32
  let v9406 : BitVec 1 := Scalar.cmpi .sge v9405 c16_i32_3197
  let c15_i32_3198 : BitVec 32 := 15#32
  let v9407 : BitVec 32 := Scalar.addi v26 c15_i32_3198
  let c16_i32_3199 : BitVec 32 := 16#32
  let v9408 : BitVec 32 := Scalar.subi v9407 c16_i32_3199
  let c15_i32_3200 : BitVec 32 := 15#32
  let v9409 : BitVec 32 := Scalar.addi v26 c15_i32_3200
  let v9410 : BitVec 32 := Scalar.select v9406 v9408 v9409
  let c512_i32_3201 : BitVec 32 := 512#32
  let v9411 : BitVec 32 := Scalar.muli v9410 c512_i32_3201
  v9411
def k0_mult256 (i : grid0.Coords) : BitVec 32 :=
  let arg2 : BitVec 32 := BitVec.ofNat 32 (i 2).val
  let c2_i32 : BitVec 32 := 2#32
  let v25 : BitVec 32 := Scalar.muli arg2 c2_i32
  let c0_i32_10 : BitVec 32 := 0#32
  let v26 : BitVec 32 := Scalar.addi v25 c0_i32_10
  let c15_i32_3196 : BitVec 32 := 15#32
  let v9405 : BitVec 32 := Scalar.addi v26 c15_i32_3196
  let c16_i32_3197 : BitVec 32 := 16#32
  let v9406 : BitVec 1 := Scalar.cmpi .sge v9405 c16_i32_3197
  let c15_i32_3198 : BitVec 32 := 15#32
  let v9407 : BitVec 32 := Scalar.addi v26 c15_i32_3198
  let c16_i32_3199 : BitVec 32 := 16#32
  let v9408 : BitVec 32 := Scalar.subi v9407 c16_i32_3199
  let c15_i32_3200 : BitVec 32 := 15#32
  let v9409 : BitVec 32 := Scalar.addi v26 c15_i32_3200
  let v9410 : BitVec 32 := Scalar.select v9406 v9408 v9409
  let c512_i32_3216 : BitVec 32 := 512#32
  let v9471 : BitVec 32 := Scalar.muli v9410 c512_i32_3216
  v9471
def k0_mult257 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3219 : BitVec 32 := 15#32
  let v9485 : BitVec 32 := Scalar.addi v44 c15_i32_3219
  let c16_i32_3220 : BitVec 32 := 16#32
  let v9486 : BitVec 1 := Scalar.cmpi .sge v9485 c16_i32_3220
  let c15_i32_3221 : BitVec 32 := 15#32
  let v9487 : BitVec 32 := Scalar.addi v44 c15_i32_3221
  let c16_i32_3222 : BitVec 32 := 16#32
  let v9488 : BitVec 32 := Scalar.subi v9487 c16_i32_3222
  let c15_i32_3223 : BitVec 32 := 15#32
  let v9489 : BitVec 32 := Scalar.addi v44 c15_i32_3223
  let v9490 : BitVec 32 := Scalar.select v9486 v9488 v9489
  let c512_i32_3224 : BitVec 32 := 512#32
  let v9491 : BitVec 32 := Scalar.muli v9490 c512_i32_3224
  v9491
def k0_mult258 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3219 : BitVec 32 := 15#32
  let v9485 : BitVec 32 := Scalar.addi v44 c15_i32_3219
  let c16_i32_3220 : BitVec 32 := 16#32
  let v9486 : BitVec 1 := Scalar.cmpi .sge v9485 c16_i32_3220
  let c15_i32_3221 : BitVec 32 := 15#32
  let v9487 : BitVec 32 := Scalar.addi v44 c15_i32_3221
  let c16_i32_3222 : BitVec 32 := 16#32
  let v9488 : BitVec 32 := Scalar.subi v9487 c16_i32_3222
  let c15_i32_3223 : BitVec 32 := 15#32
  let v9489 : BitVec 32 := Scalar.addi v44 c15_i32_3223
  let v9490 : BitVec 32 := Scalar.select v9486 v9488 v9489
  let c512_i32_3239 : BitVec 32 := 512#32
  let v9551 : BitVec 32 := Scalar.muli v9490 c512_i32_3239
  v9551
def k0_mult259 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3242 : BitVec 32 := 15#32
  let v9565 : BitVec 32 := Scalar.addi v44 c15_i32_3242
  let c16_i32_3243 : BitVec 32 := 16#32
  let v9566 : BitVec 1 := Scalar.cmpi .sge v9565 c16_i32_3243
  let c15_i32_3244 : BitVec 32 := 15#32
  let v9567 : BitVec 32 := Scalar.addi v44 c15_i32_3244
  let c16_i32_3245 : BitVec 32 := 16#32
  let v9568 : BitVec 32 := Scalar.subi v9567 c16_i32_3245
  let c15_i32_3246 : BitVec 32 := 15#32
  let v9569 : BitVec 32 := Scalar.addi v44 c15_i32_3246
  let v9570 : BitVec 32 := Scalar.select v9566 v9568 v9569
  let c512_i32_3247 : BitVec 32 := 512#32
  let v9571 : BitVec 32 := Scalar.muli v9570 c512_i32_3247
  v9571
def k0_mult260 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3242 : BitVec 32 := 15#32
  let v9565 : BitVec 32 := Scalar.addi v44 c15_i32_3242
  let c16_i32_3243 : BitVec 32 := 16#32
  let v9566 : BitVec 1 := Scalar.cmpi .sge v9565 c16_i32_3243
  let c15_i32_3244 : BitVec 32 := 15#32
  let v9567 : BitVec 32 := Scalar.addi v44 c15_i32_3244
  let c16_i32_3245 : BitVec 32 := 16#32
  let v9568 : BitVec 32 := Scalar.subi v9567 c16_i32_3245
  let c15_i32_3246 : BitVec 32 := 15#32
  let v9569 : BitVec 32 := Scalar.addi v44 c15_i32_3246
  let v9570 : BitVec 32 := Scalar.select v9566 v9568 v9569
  let c512_i32_3262 : BitVec 32 := 512#32
  let v9631 : BitVec 32 := Scalar.muli v9570 c512_i32_3262
  v9631
def k0_mult261 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3265 : BitVec 32 := 15#32
  let v9645 : BitVec 32 := Scalar.addi v44 c15_i32_3265
  let c16_i32_3266 : BitVec 32 := 16#32
  let v9646 : BitVec 1 := Scalar.cmpi .sge v9645 c16_i32_3266
  let c15_i32_3267 : BitVec 32 := 15#32
  let v9647 : BitVec 32 := Scalar.addi v44 c15_i32_3267
  let c16_i32_3268 : BitVec 32 := 16#32
  let v9648 : BitVec 32 := Scalar.subi v9647 c16_i32_3268
  let c15_i32_3269 : BitVec 32 := 15#32
  let v9649 : BitVec 32 := Scalar.addi v44 c15_i32_3269
  let v9650 : BitVec 32 := Scalar.select v9646 v9648 v9649
  let c512_i32_3270 : BitVec 32 := 512#32
  let v9651 : BitVec 32 := Scalar.muli v9650 c512_i32_3270
  v9651
def k0_mult262 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3265 : BitVec 32 := 15#32
  let v9645 : BitVec 32 := Scalar.addi v44 c15_i32_3265
  let c16_i32_3266 : BitVec 32 := 16#32
  let v9646 : BitVec 1 := Scalar.cmpi .sge v9645 c16_i32_3266
  let c15_i32_3267 : BitVec 32 := 15#32
  let v9647 : BitVec 32 := Scalar.addi v44 c15_i32_3267
  let c16_i32_3268 : BitVec 32 := 16#32
  let v9648 : BitVec 32 := Scalar.subi v9647 c16_i32_3268
  let c15_i32_3269 : BitVec 32 := 15#32
  let v9649 : BitVec 32 := Scalar.addi v44 c15_i32_3269
  let v9650 : BitVec 32 := Scalar.select v9646 v9648 v9649
  let c512_i32_3285 : BitVec 32 := 512#32
  let v9711 : BitVec 32 := Scalar.muli v9650 c512_i32_3285
  v9711
def k0_mult263 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3288 : BitVec 32 := 15#32
  let v9725 : BitVec 32 := Scalar.addi v44 c15_i32_3288
  let c16_i32_3289 : BitVec 32 := 16#32
  let v9726 : BitVec 1 := Scalar.cmpi .sge v9725 c16_i32_3289
  let c15_i32_3290 : BitVec 32 := 15#32
  let v9727 : BitVec 32 := Scalar.addi v44 c15_i32_3290
  let c16_i32_3291 : BitVec 32 := 16#32
  let v9728 : BitVec 32 := Scalar.subi v9727 c16_i32_3291
  let c15_i32_3292 : BitVec 32 := 15#32
  let v9729 : BitVec 32 := Scalar.addi v44 c15_i32_3292
  let v9730 : BitVec 32 := Scalar.select v9726 v9728 v9729
  let c512_i32_3293 : BitVec 32 := 512#32
  let v9731 : BitVec 32 := Scalar.muli v9730 c512_i32_3293
  v9731
def k0_mult264 (i : grid0.Coords) : BitVec 32 :=
  let arg2 : BitVec 32 := BitVec.ofNat 32 (i 2).val
  let c2_i32_19 : BitVec 32 := 2#32
  let v43 : BitVec 32 := Scalar.muli arg2 c2_i32_19
  let c1_i32 : BitVec 32 := 1#32
  let v44 : BitVec 32 := Scalar.addi v43 c1_i32
  let c15_i32_3288 : BitVec 32 := 15#32
  let v9725 : BitVec 32 := Scalar.addi v44 c15_i32_3288
  let c16_i32_3289 : BitVec 32 := 16#32
  let v9726 : BitVec 1 := Scalar.cmpi .sge v9725 c16_i32_3289
  let c15_i32_3290 : BitVec 32 := 15#32
  let v9727 : BitVec 32 := Scalar.addi v44 c15_i32_3290
  let c16_i32_3291 : BitVec 32 := 16#32
  let v9728 : BitVec 32 := Scalar.subi v9727 c16_i32_3291
  let c15_i32_3292 : BitVec 32 := 15#32
  let v9729 : BitVec 32 := Scalar.addi v44 c15_i32_3292
  let v9730 : BitVec 32 := Scalar.select v9726 v9728 v9729
  let c512_i32_3308 : BitVec 32 := 512#32
  let v9791 : BitVec 32 := Scalar.muli v9730 c512_i32_3308
  v9791
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x5x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel4.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x3x1536 : Shape := ⟨3, ![1, 3, 1536]⟩
abbrev S1x1536 : Shape := ⟨2, ![1, 1536]⟩
abbrev S16384x1024 : Shape := ⟨2, ![16384, 1024]⟩
abbrev S1024 : Shape := ⟨1, ![1024]⟩
abbrev S1024x3072 : Shape := ⟨2, ![1024, 3072]⟩
abbrev S3x1536 : Shape := ⟨2, ![3, 1536]⟩
abbrev S1536 : Shape := ⟨1, ![1536]⟩
abbrev S16384x1536 : Shape := ⟨2, ![16384, 1536]⟩
abbrev S16384x512 : Shape := ⟨2, ![16384, 512]⟩
abbrev S1024x1024 : Shape := ⟨2, ![1024, 1024]⟩
abbrev S8x1024 : Shape := ⟨2, ![8, 1024]⟩
abbrev S1024x1536 : Shape := ⟨2, ![1024, 1536]⟩
abbrev S1024x512 : Shape := ⟨2, ![1024, 512]⟩
abbrev S2x256x3072 : Shape := ⟨3, ![2, 256, 3072]⟩
abbrev S2 : Shape := ⟨1, ![2]⟩
abbrev S1 : Shape := ⟨1, ![1]⟩
abbrev S_ : Shape := ⟨0, ![]⟩
abbrev S1x256x3072 : Shape := ⟨3, ![1, 256, 3072]⟩
abbrev S256x3072 : Shape := ⟨2, ![256, 3072]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S8x256 : Shape := ⟨2, ![8, 256]⟩
abbrev S1024x256 : Shape := ⟨2, ![1024, 256]⟩
abbrev S16x256 : Shape := ⟨2, ![16, 256]⟩
abbrev S1x256 : Shape := ⟨2, ![1, 256]⟩
abbrev S1008x256 : Shape := ⟨2, ![1008, 256]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1x3x1536, .f32⟩
  | .hbm, ⟨4, _⟩ => ⟨S1x1536, .f32⟩
  | .hbm, ⟨5, _⟩ => ⟨S16384x1024, .f32⟩
  | .hbm, ⟨6, _⟩ => ⟨S1024, .f32⟩
  | .hbm, ⟨7, _⟩ => ⟨S1024x3072, .f32⟩
  | .hbm, ⟨8, _⟩ => ⟨S3x1536, .f32⟩
  | .hbm, ⟨9, _⟩ => ⟨S1536, .f32⟩
  | .hbm, ⟨10, _⟩ => ⟨S1x1024, .f32⟩
  | .hbm, ⟨11, _⟩ => ⟨S1x1536, .f32⟩
  | .hbm, ⟨12, _⟩ => ⟨S16384x1536, .bf16⟩
  | .hbm, ⟨13, _⟩ => ⟨S16384x512, .bf16⟩
  | .hbm, ⟨14, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S3x1536, .f32⟩
  | .local _ .vmem, ⟨8, _⟩ => ⟨S1x1536, .f32⟩
  | .local _ .vmem, ⟨9, _⟩ => ⟨S1024x1536, .bf16⟩
  | .local _ .vmem, ⟨10, _⟩ => ⟨S1024x1536, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x3072, .bf16⟩
  | .local _ .vmem, ⟨16, _⟩ => ⟨S2x256x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x3x1536 : Shape := ⟨3, ![1, 3, 1536]⟩
abbrev S1x1536 : Shape := ⟨2, ![1, 1536]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x512 : Shape := ⟨3, ![2, 8192, 512]⟩
abbrev S2x8192x1536 : Shape := ⟨3, ![2, 8192, 1536]⟩
abbrev S3x1536 : Shape := ⟨2, ![3, 1536]⟩
abbrev S1536 : Shape := ⟨1, ![1536]⟩
abbrev S2x8194x1536 : Shape := ⟨3, ![2, 8194, 1536]⟩
abbrev S1x1x1536 : Shape := ⟨3, ![1, 1, 1536]⟩
abbrev S16384x1536 : Shape := ⟨2, ![16384, 1536]⟩
abbrev S16384x512 : Shape := ⟨2, ![16384, 512]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1x3x1536, .f32⟩
  | .hbm, ⟨4, _⟩ => ⟨S1x1536, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x3072, .f32⟩
  | .hbm, ⟨23, _⟩ => ⟨S2x8192x3072, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S2x8192x1536, .f32⟩
  | .hbm, ⟨29, _⟩ => ⟨S3x1536, .f32⟩
  | .hbm, ⟨30, _⟩ => ⟨S1536, .f32⟩
  | .hbm, ⟨31, _⟩ => ⟨S_, .i32⟩
  | .hbm, ⟨32, _⟩ => ⟨S_, .f32⟩
  | .hbm, ⟨33, _⟩ => ⟨S2x8194x1536, .f32⟩
  | .hbm, ⟨34, _⟩ => ⟨S2x8192x1536, .f32⟩
  | .hbm, ⟨35, _⟩ => ⟨S1x1536, .f32⟩
  | .hbm, ⟨36, _⟩ => ⟨S1536, .f32⟩
  | .hbm, ⟨37, _⟩ => ⟨S1x1x1536, .f32⟩
  | .hbm, ⟨38, _⟩ => ⟨S2x8192x1536, .f32⟩
  | .hbm, ⟨39, _⟩ => ⟨S2x8192x1536, .f32⟩
  | .hbm, ⟨40, _⟩ => ⟨S1x1x1536, .f32⟩
  | .hbm, ⟨41, _⟩ => ⟨S2x8192x1536, .f32⟩
  | .hbm, ⟨42, _⟩ => ⟨S2x8192x1536, .f32⟩
  | .hbm, ⟨43, _⟩ => ⟨S2x8192x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S2x8192x1536, .f32⟩
  | .hbm, ⟨48, _⟩ => ⟨S2x8192x1536, .f32⟩
  | .hbm, ⟨49, _⟩ => ⟨S2x8192x1536, .f32⟩
  | .hbm, ⟨50, _⟩ => ⟨S2x8192x1536, .f32⟩
  | .hbm, ⟨51, _⟩ => ⟨S1x1536, .f32⟩
  | .hbm, ⟨52, _⟩ => ⟨S1536, .f32⟩
  | .hbm, ⟨53, _⟩ => ⟨S1x1x1536, .f32⟩
  | .hbm, ⟨54, _⟩ => ⟨S2x8192x1536, .f32⟩
  | .hbm, ⟨55, _⟩ => ⟨S2x8192x1536, .f32⟩
  | .hbm, ⟨56, _⟩ => ⟨S2x8192x1536, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S2x8192x1024, .f32⟩
  | .hbm, ⟨61, _⟩ => ⟨S2x8192x1536, .f32⟩
  | .hbm, ⟨62, _⟩ => ⟨S2x8192x512, .f32⟩
  | .hbm, ⟨63, _⟩ => ⟨S2x8192x1536, .bf16⟩
  | .hbm, ⟨64, _⟩ => ⟨S16384x1536, .bf16⟩
  | .hbm, ⟨65, _⟩ => ⟨S2x8192x512, .bf16⟩
  | .hbm, ⟨66, _⟩ => ⟨S16384x512, .bf16⟩
  | .hbm, ⟨67, _⟩ => ⟨S2x8192x512, .bf16⟩
  | .hbm, ⟨68, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== Kernel5.lean ====
abbrev S1x33x64 : Shape := ⟨3, ![1, 33, 64]⟩
abbrev S1x64 : Shape := ⟨2, ![1, 64]⟩
abbrev S1x64x64 : Shape := ⟨3, ![1, 64, 64]⟩
abbrev S1x64x1024 : Shape := ⟨3, ![1, 64, 1024]⟩
abbrev S_ : Shape := ⟨0, ![]⟩
abbrev S511 : Shape := ⟨1, ![511]⟩
abbrev S1 : Shape := ⟨1, ![1]⟩
abbrev S512 : Shape := ⟨1, ![512]⟩
abbrev S8191 : Shape := ⟨1, ![8191]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S8192x128 : Shape := ⟨2, ![8192, 128]⟩
abbrev S128x8192 : Shape := ⟨2, ![128, 8192]⟩
abbrev S128x64 : Shape := ⟨2, ![128, 64]⟩
abbrev S64x128 : Shape := ⟨2, ![64, 128]⟩
abbrev S64x1 : Shape := ⟨2, ![64, 1]⟩
abbrev S1x512 : Shape := ⟨2, ![1, 512]⟩
abbrev S8192x512 : Shape := ⟨2, ![8192, 512]⟩
abbrev S128x1024 : Shape := ⟨2, ![128, 1024]⟩
abbrev S1024x1 : Shape := ⟨2, ![1024, 1]⟩
abbrev S1024x512 : Shape := ⟨2, ![1024, 512]⟩
abbrev S1024x1024 : Shape := ⟨2, ![1024, 1024]⟩

abbrev nBuf : Space → Nat
  | .hbm => 120
  | .vmem => 17
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64x1024, .f32⟩
  | .hbm, ⟨7, _⟩ => ⟨S1x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S511, .f32⟩
  | .hbm, ⟨16, _⟩ => ⟨S_, .f32⟩
  | .hbm, ⟨17, _⟩ => ⟨S511, .f32⟩
  | .hbm, ⟨18, _⟩ => ⟨S511, .f32⟩
  | .hbm, ⟨19, _⟩ => ⟨S1, .f32⟩
  | .hbm, ⟨20, _⟩ => ⟨S_, .f32⟩
  | .hbm, ⟨21, _⟩ => ⟨S511, .f32⟩
  | .hbm, ⟨22, _⟩ => ⟨S511, .f32⟩
  | .hbm, ⟨23, _⟩ => ⟨S511, .f32⟩
  | .hbm, ⟨24, _⟩ => ⟨S511, .f32⟩
  | .hbm, ⟨25, _⟩ => ⟨S1, .f32⟩
  | .hbm, ⟨26, _⟩ => ⟨S511, .f32⟩
  | .hbm, ⟨27, _⟩ => ⟨S511, .f32⟩
  | .hbm, ⟨28, _⟩ => ⟨S511, .f32⟩
  | .hbm, ⟨29, _⟩ => ⟨S1, .f32⟩
  | .hbm, ⟨30, _⟩ => ⟨S512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8191, .f32⟩
  | .hbm, ⟨39, _⟩ => ⟨S_, .f32⟩
  | .hbm, ⟨40, _⟩ => ⟨S8191, .f32⟩
  | .hbm, ⟨41, _⟩ => ⟨S8191, .f32⟩
  | .hbm, ⟨42, _⟩ => ⟨S1, .f32⟩
  | .hbm, ⟨43, _⟩ => ⟨S_, .f32⟩
  | .hbm, ⟨44, _⟩ => ⟨S8191, .f32⟩
  | .hbm, ⟨45, _⟩ => ⟨S8191, .f32⟩
  | .hbm, ⟨46, _⟩ => ⟨S8191, .f32⟩
  | .hbm, ⟨47, _⟩ => ⟨S8191, .f32⟩
  | .hbm, ⟨48, _⟩ => ⟨S1, .f32⟩
  | .hbm, ⟨49, _⟩ => ⟨S8191, .f32⟩
  | .hbm, ⟨50, _⟩ => ⟨S8191, .f32⟩
  | .hbm, ⟨51, _⟩ => ⟨S8191, .f32⟩
  | .hbm, ⟨52, _⟩ => ⟨S1, .f32⟩
  | .hbm, ⟨53, _⟩ => ⟨S8192, .f32⟩
  | .hbm, ⟨54, _⟩ => ⟨S8192x1, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S15, .f32⟩
  | .hbm, ⟨71, _⟩ => ⟨S_, .f32⟩
  | .hbm, ⟨72, _⟩ => ⟨S15, .f32⟩
  | .hbm, ⟨73, _⟩ => ⟨S15, .f32⟩
  | .hbm, ⟨74, _⟩ => ⟨S1, .f32⟩
  | .hbm, ⟨75, _⟩ => ⟨S_, .f32⟩
  | .hbm, ⟨76, _⟩ => ⟨S15, .f32⟩
  | .hbm, ⟨77, _⟩ => ⟨S15, .f32⟩
  | .hbm, ⟨78, _⟩ => ⟨S15, .f32⟩
  | .hbm, ⟨79, _⟩ => ⟨S15, .f32⟩
  | .hbm, ⟨80, _⟩ => ⟨S1, .f32⟩
  | .hbm, ⟨81, _⟩ => ⟨S15, .f32⟩
  | .hbm, ⟨82, _⟩ => ⟨S15, .f32⟩
  | .hbm, ⟨83, _⟩ => ⟨S15, .f32⟩
  | .hbm, ⟨84, _⟩ => ⟨S1, .f32⟩
  | .hbm, ⟨85, _⟩ => ⟨S16, .f32⟩
  | .hbm, ⟨86, _⟩ => ⟨S1x16, .f32⟩
  | .hbm, ⟨87, _⟩ => ⟨S8192x16, .f32⟩
  | .hbm, ⟨88, _⟩ => ⟨S8192x16, .f32⟩
  | .hbm, ⟨89, _⟩ => ⟨S8192x16, .f32⟩
  | .hbm, ⟨90, _⟩ => ⟨S8192x16, .f32⟩
  | .hbm, ⟨91, _⟩ => ⟨S8192x16, .f32⟩
  | .hbm, ⟨92, _⟩ => ⟨S8192x16, .f32⟩
  | .hbm, ⟨93, _⟩ => ⟨S8192x33, .f32⟩
  | .hbm, ⟨94, _⟩ => ⟨S33x64, .f32⟩
  | .hbm, ⟨95, _⟩ => ⟨S64, .f32⟩
  | .hbm, ⟨96, _⟩ => ⟨S64x64, .f32⟩
  | .hbm, ⟨97, _⟩ => ⟨S64, .f32⟩
  | .hbm, ⟨98, _⟩ => ⟨S64x64, .f32⟩
  | .hbm, ⟨99, _⟩ => ⟨S64, .f32⟩
  | .hbm, ⟨100, _⟩ => ⟨S64x1024, .f32⟩
  | .hbm, ⟨101, _⟩ => ⟨S64, .f32⟩
  | .hbm, ⟨102, _⟩ => ⟨S_, .i32⟩
  | .hbm, ⟨103, _⟩ => ⟨S_, .f32⟩
  | .hbm, ⟨104, _⟩ => ⟨S8192x128, .f32⟩
  | .hbm, ⟨105, _⟩ => ⟨S128x8192, .f32⟩
  | .hbm, ⟨106, _⟩ => ⟨S8192x1, .f32⟩
  | .hbm, ⟨107, _⟩ => ⟨S_, .i32⟩
  | .hbm, ⟨108, _⟩ => ⟨S_, .f32⟩
  | .hbm, ⟨109, _⟩ => ⟨S128x64, .f32⟩
  | .hbm, ⟨110, _⟩ => ⟨S64x128, .f32⟩
  | .hbm, ⟨111, _⟩ => ⟨S64x1, .f32⟩
  | .hbm, ⟨112, _⟩ => ⟨S64x64, .f32⟩
  | .hbm, ⟨113, _⟩ => ⟨S64x1, .f32⟩
  | .hbm, ⟨114, _⟩ => ⟨S64x64, .f32⟩
  | .hbm, ⟨115, _⟩ => ⟨S64x1, .f32⟩
  | .hbm, ⟨116, _⟩ => ⟨S64x1, .f32⟩
  | .hbm, ⟨117, _⟩ => ⟨S1x512, .f32⟩
  | .hbm, ⟨118, _⟩ => ⟨S8192x512, .bf16⟩
  | .hbm, ⟨119, _⟩ => ⟨S8192x512, .bf16⟩
  | .local _ .vmem, ⟨0, _⟩ => ⟨S128x1024, .f32⟩
  | .local _ .vmem, ⟨1, _⟩ => ⟨S128x1024, .f32⟩
  | .local _ .vmem, ⟨2, _⟩ => ⟨S1024x1, .f32⟩
  | .local _ .vmem, ⟨3, _⟩ => ⟨S1024x1, .f32⟩
  | .local _ .vmem, ⟨4, _⟩ => ⟨S64x128, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S64x64, .f32⟩
  | .local _ .vmem, ⟨9, _⟩ => ⟨S64x1, .f32⟩
  | .local _ .vmem, ⟨10, _⟩ => ⟨S64x1024, .f32⟩
  | .local _ .vmem, ⟨11, _⟩ => ⟨S64x1, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_cst_1 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_cst : Ref sig .tc := ⟨.hbm, 36, rfl⟩
abbrev main_call1_v3 : Ref sig .tc := ⟨.hbm, 37, rfl⟩
abbrev main_call1_v4 : Ref sig .tc := ⟨.hbm, 38, rfl⟩
abbrev main_call1_cst_0 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_cst_1 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_v15 : Ref sig .tc := ⟨.hbm, 51, rfl⟩
abbrev main_call1_v16 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_cst_3 : Ref sig .tc := ⟨.hbm, 57, rfl⟩
abbrev main_v5 : Ref sig .tc := ⟨.hbm, 58, rfl⟩
abbrev main_v6 : Ref sig .tc := ⟨.hbm, 59, rfl⟩
abbrev main_cst_4 : Ref sig .tc := ⟨.hbm, 60, rfl⟩
abbrev main_v7 : Ref sig .tc := ⟨.hbm, 61, rfl⟩
abbrev main_v8 : Ref sig .tc := ⟨.hbm, 62, rfl⟩
abbrev main_cst_5 : Ref sig .tc := ⟨.hbm, 63, rfl⟩
abbrev main_c : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_cst : Ref sig .tc := ⟨.hbm, 68, rfl⟩
abbrev main_call2_v3 : Ref sig .tc := ⟨.hbm, 69, rfl⟩
abbrev main_call2_v4 : Ref sig .tc := ⟨.hbm, 70, rfl⟩
abbrev main_call2_cst_0 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_cst_1 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_v15 : Ref sig .tc := ⟨.hbm, 83, rfl⟩
abbrev main_call2_v16 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_c_6 : Ref sig .tc := ⟨.hbm, 102, rfl⟩
abbrev main_call3_v0 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_c_7 : Ref sig .tc := ⟨.hbm, 107, rfl⟩
abbrev main_call4_v0 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38_0 : Ref sig .tc := ⟨.hbm, 118, rfl⟩
abbrev main_v38_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S1x33x64 : Shape := ⟨3, ![1, 33, 64]⟩
abbrev S1x64 : Shape := ⟨2, ![1, 64]⟩
abbrev S1x64x64 : Shape := ⟨3, ![1, 64, 64]⟩
abbrev S1x64x1024 : Shape := ⟨3, ![1, 64, 1024]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S8192x1024 : Shape := ⟨2, ![8192, 1024]⟩
abbrev S511 : Shape := ⟨1, ![511]⟩
abbrev S512 : Shape := ⟨1, ![512]⟩
abbrev S1x512 : Shape := ⟨2, ![1, 512]⟩
abbrev S8192x512 : Shape := ⟨2, ![8192, 512]⟩
abbrev S8192x2x512 : Shape := ⟨3, ![8192, 2, 512]⟩
abbrev S8192x1x512 : Shape := ⟨3, ![8192, 1, 512]⟩
abbrev S8191x512 : Shape := ⟨2, ![8191, 512]⟩

abbrev nBuf : Space → Nat
  | .hbm => 148
  | .vmem => 0
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x1024, .f32⟩
  | 7 => ⟨S1x64, .f32⟩
  | 8 => ⟨S33x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1024, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8191, .f32⟩
  | 24 => ⟨S_, .f32⟩
  | 25 => ⟨S8191, .f32⟩
  | 26 => ⟨S8191, .f32⟩
  | 27 => ⟨S1, .f32⟩
  | 28 => ⟨S_, .f32⟩
  | 29 => ⟨S8191, .f32⟩
  | 30 => ⟨S8191, .f32⟩
  | 31 => ⟨S8191, .f32⟩
  | 32 => ⟨S8191, .f32⟩
  | 33 => ⟨S1, .f32⟩
  | 34 => ⟨S8191, .f32⟩
  | 35 => ⟨S8191, .f32⟩
  | 36 => ⟨S8191, .f32⟩
  | 37 => ⟨S1, .f32⟩
  | 38 => ⟨S8192, .f32⟩
  | 39 => ⟨S8192x1, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S_, .i32⟩
  | 50 => ⟨S_, .f32⟩
  | 51 => ⟨S_, .f32⟩
  | 52 => ⟨S_, .f32⟩
  | 53 => ⟨S_, .f32⟩
  | 54 => ⟨S_, .f32⟩
  | 55 => ⟨S15, .f32⟩
  | 56 => ⟨S_, .f32⟩
  | 57 => ⟨S15, .f32⟩
  | 58 => ⟨S15, .f32⟩
  | 59 => ⟨S1, .f32⟩
  | 60 => ⟨S_, .f32⟩
  | 61 => ⟨S15, .f32⟩
  | 62 => ⟨S15, .f32⟩
  | 63 => ⟨S15, .f32⟩
  | 64 => ⟨S15, .f32⟩
  | 65 => ⟨S1, .f32⟩
  | 66 => ⟨S15, .f32⟩
  | 67 => ⟨S15, .f32⟩
  | 68 => ⟨S15, .f32⟩
  | 69 => ⟨S1, .f32⟩
  | 70 => ⟨S16, .f32⟩
  | 71 => ⟨S1x16, .f32⟩
  | 72 => ⟨S8192x16, .f32⟩
  | 73 => ⟨S8192x16, .f32⟩
  | 74 => ⟨S8192x16, .f32⟩
  | 75 => ⟨S8192x16, .f32⟩
  | 76 => ⟨S8192x16, .f32⟩
  | 77 => ⟨S8192x16, .f32⟩
  | 78 => ⟨S8192x33, .f32⟩
  | 79 => ⟨S8192x64, .f32⟩
  | 80 => ⟨S1x64, .f32⟩
  | 81 => ⟨S8192x64, .f32⟩
  | 82 => ⟨S8192x64, .f32⟩
  | 83 => ⟨S1x64, .f32⟩
  | 84 => ⟨S8192x64, .f32⟩
  | 85 => ⟨S8192x64, .f32⟩
  | 86 => ⟨S8192x64, .f32⟩
  | 87 => ⟨S8192x64, .f32⟩
  | 88 => ⟨S1x64, .f32⟩
  | 89 => ⟨S8192x64, .f32⟩
  | 90 => ⟨S8192x64, .f32⟩
  | 91 => ⟨S1x64, .f32⟩
  | 92 => ⟨S8192x64, .f32⟩
  | 93 => ⟨S8192x64, .f32⟩
  | 94 => ⟨S8192x64, .f32⟩
  | 95 => ⟨S8192x64, .f32⟩
  | 96 => ⟨S1x64, .f32⟩
  | 97 => ⟨S8192x64, .f32⟩
  | 98 => ⟨S8192x64, .f32⟩
  | 99 => ⟨S1x64, .f32⟩
  | 100 => ⟨S8192x64, .f32⟩
  | 101 => ⟨S8192x64, .f32⟩
  | 102 => ⟨S8192x64, .f32⟩
  | 103 => ⟨S8192x1024, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S511, .f32⟩
  | 112 => ⟨S_, .f32⟩
  | 113 => ⟨S511, .f32⟩
  | 114 => ⟨S511, .f32⟩
  | 115 => ⟨S1, .f32⟩
  | 116 => ⟨S_, .f32⟩
  | 117 => ⟨S511, .f32⟩
  | 118 => ⟨S511, .f32⟩
  | 119 => ⟨S511, .f32⟩
  | 120 => ⟨S511, .f32⟩
  | 121 => ⟨S1, .f32⟩
  | 122 => ⟨S511, .f32⟩
  | 123 => ⟨S511, .f32⟩
  | 124 => ⟨S511, .f32⟩
  | 125 => ⟨S1, .f32⟩
  | 126 => ⟨S512, .f32⟩
  | 127 => ⟨S8192x1, .f32⟩
  | _ => ⟨S1x33x64, .f32⟩

abbrev hbmTy0_1 (i : Nat) : BufTy := match i % 128 with
  | 0 => ⟨S512, .f32⟩
  | 1 => ⟨S1x512, .f32⟩
  | 2 => ⟨S8192x512, .f32⟩
  | 3 => ⟨S8192x512, .f32⟩
  | 4 => ⟨S8192x512, .f32⟩
  | 5 => ⟨S8192x512, .f32⟩
  | 6 => ⟨S8192x2x512, .f32⟩
  | 7 => ⟨S8192x1x512, .f32⟩
  | 8 => ⟨S8192x2x512, .f32⟩
  | 9 => ⟨S8192x2x512, .f32⟩
  | 10 => ⟨S8192x1x512, .f32⟩
  | 11 => ⟨S8192x512, .f32⟩
  | 12 => ⟨S8192x1x512, .f32⟩
  | 13 => ⟨S8192x512, .f32⟩
  | 14 => ⟨S_, .f32⟩
  | 15 => ⟨S1x512, .f32⟩
  | 16 => ⟨S8191x512, .f32⟩
  | 17 => ⟨S8192x512, .f32⟩
  | 18 => ⟨S8192x512, .bf16⟩
  | 19 => ⟨S8192x512, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_cst : Ref sig .tc := ⟨.hbm, 53, rfl⟩
abbrev main_call1_v3 : Ref sig .tc := ⟨.hbm, 54, rfl⟩
abbrev main_call1_v4 : Ref sig .tc := ⟨.hbm, 55, rfl⟩
abbrev main_call1_cst_0 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_4 : Ref sig .tc := ⟨.hbm, 104, rfl⟩
abbrev main_cst_5 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_cst : Ref sig .tc := ⟨.hbm, 109, rfl⟩
abbrev main_call2_v3 : Ref sig .tc := ⟨.hbm, 110, rfl⟩
abbrev main_call2_v4 : Ref sig .tc := ⟨.hbm, 111, rfl⟩
abbrev main_call2_cst_0 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_v15 : Ref sig .tc := ⟨.hbm, 124, rfl⟩
abbrev main_call2_v16 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_cst_6 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩

abbrev nD : Nat := 1
abbrev τ : Topo := Topo.v7x

variable {F : FTy → Type} [FloatOps F]
-- ==== Proof.FfnKit.lean ====
/-
The set-up of the first feed-forward call's launch: when its body stages the weights, the buffers the body is
called on, the semaphores of its copies, and what the pipeline's invariant holds beside the windows.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S2x256x2816 .f32 := Memref.whole cc0_scratch3
abbrev scM0_4 : Memref sig .tc .vmem S2x704x1024 .f32 := Memref.whole cc0_scratch4
/-- The operands left in HBM that the body copies into scratch itself, whole. -/
abbrev hbM0_0 : Memref sig .tc .hbm S1024x2816 .f32 := Memref.whole main_v2
abbrev hbM0_1 : Memref sig .tc .hbm S1024x2816 .f32 := Memref.whole main_v3
abbrev hbM0_2 : Memref sig .tc .hbm S2816x1024 .f32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 5, SemLoc.dma 6] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0) := by
  rw [Pipeline.ownSems0_eq_of_list c osem0 [0, 1] (by decide) (by decide)]; rfl
/-- The HBM operands the body moves, as references: unscoped, no window's array (`Pipeline.restRefs`). -/
def H0 : Finset (Ref sig .tc) := {main_v2, main_v3, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2) ∗ hbPt0 c hbM0_1 (V m c main_v3) ∗ hbPt0 c hbM0_2 (V m c main_v4)) := by
  rw [BI.bigSep_eq_bigSepL_of_eq [main_v2, main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 5) 0 ∗ semVal ((c : Thread nD τ), SemLoc.dma 6) 0) ∗ iprop(hbPt0 c hbM0_0 (V m c main_v2) ∗ hbPt0 c hbM0_1 (V m c main_v3) ∗ hbPt0 c hbM0_2 (V m c main_v4))) := by
  rw [Pipeline.ΦD_eq, scopedRest0_eq, ownSems00_eq, hbmPts0_eq]; simp only [scM0_0, scM0_1, scM0_2, scM0_3, scM0_4, owns_whole]; try rfl

end Cert.KernelIdeal.Ffn

end
-- ==== Proof.FfnStage.lean ====
/-
The staging of the weights: at the first grid point the body copies the three weight matrices out of HBM, tile by tile
through two alternating buffers, and leaves them in bf16 in the scratch the later points read.
-/
module

public import proofs.«01_k».proof.Proof.FfnKit
public import Idealize.ShloMosaic.Lib.Pipeline.ValueKit

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The part of the body that stages the weights, run at the first grid point only. -/
def stage (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x256x2816 .f32) (harg10 : arg10.IsWhole) (arg11 : Memref sig .tc .vmem S2x704x1024 .f32) (harg11 : arg11.IsWhole) (arg12 : DmaSems sig S2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12
  k0_part2 i arg1 harg1 arg2 harg2 arg3 harg3 arg4 harg4 arg5 harg5 arg6 harg6 arg7 harg7 arg8 harg8 arg9 harg9 arg10 harg10 arg11 harg11 arg12
  k0_part3 i arg1 harg1 arg2 harg2 arg3 harg3 arg4 harg4 arg5 harg5 arg6 harg6 arg7 harg7 arg8 harg8 arg9 harg9 arg10 harg10 arg11 harg11 arg12
  k0_part4 i arg1 harg1 arg2 harg2 arg3 harg3 arg4 harg4 arg5 harg5 arg6 harg6 arg7 harg7 arg8 harg8 arg9 harg9 arg10 harg10 arg11 harg11 arg12
  k0_part5 i arg1 harg1 arg2 harg2 arg3 harg3 arg4 harg4 arg5 harg5 arg6 harg6 arg7 harg7 arg8 harg8 arg9 harg9 arg10 harg10 arg11 harg11 arg12
  k0_part6 i arg1 harg1 arg2 harg2 arg3 harg3 arg4 harg4 arg5 harg5 arg6 harg6 arg7 harg7 arg8 harg8 arg9 harg9 arg10 harg10 arg11 harg11 arg12
  k0_part7 i arg1 harg1 arg2 harg2 arg3 harg3 arg4 harg4 arg5 harg5 arg6 harg6 arg7 harg7 arg8 harg8 arg9 harg9 arg10 harg10 arg11 harg11 arg12
  let v332 : Vec F S1x704x1024 .f32 ← Prog.lift (.load arg11 (Rect.unit (s := S2x704x1024) ![1, 0, 0] S1x704x1024.size inb_S2x704x1024_S1x704x1024_1_0_0).toLoadRect (View.loadsAt_vmem h_S1x704x1024))
  let v335 : Vec F S704x1024 .bf16 ← Prog.lift (.load arg9 (Rect.unit (s := S2816x1024) ![2112, 0] S704x1024.size inb_S2816x1024_S704x1024_2112_0).toLoadRect (View.loadsAt_vmem h_S704x1024))
  Prog.lift (.store arg9 (Rect.unit (s := S2816x1024) ![2112, 0] S704x1024.size inb_S2816x1024_S704x1024_2112_0) (k0_pay13 v332) Finset.univ (View.stores_vmem h_S704x1024 (harg9.storeExact_slice rfl _ packedbf16_S2816x1024_S704x1024_2112_0) (fun _ => rfl)) (.inl rfl))
  pure ⟨⟩

section Slots

variable {sg : RefSig} {κ : Kind} {sp : Space} {s s' : Shape} {e : EltTy} {Val : EltTy → Type}

/-- A slot loaded right after a copy landed in it, and reshaped to the copy's shape: what was copied. -/
theorem slot_hit (v : View sg κ sp s e) (r : Rect s) (h : s'.numel = r.shape.numel) (f : v.ty.Contents Val) (d : s'.Idx → Val e)
    (hc : r.toLoadRect.shape.ShapeCasts s') :
    shapeCast s' (v.readAt Val r.toLoadRect (((v.slice r).reshape s' h).write Val f d Finset.univ)) hc = d :=
  funext fun y => congrFun (View.read_write_univ (v := (v.slice r).reshape s' h) f d) y

/-- A slot loaded after a copy landed in another one: as before that copy. -/
theorem slot_miss (v : View sg κ sp s e) (r r' : Rect s) (h : s'.numel = r'.shape.numel) (f : v.ty.Contents Val) (d : s'.Idx → Val e)
    (hd : LoadRect.disj r r'.toLoadRect = true) :
    v.readAt Val r.toLoadRect (((v.slice r').reshape s' h).write Val f d Finset.univ) = v.readAt Val r.toLoadRect f := by
  rw [View.write_reshape_univ]
  exact View.read_slice_write_slice_of_disjoint r r' f _ _ (by
    rw [View.setOn_univ]; exact View.disjoint_slice_of_disj v r r' hd)

/-- A buffer whose stores cover it, each holding one function's values at its place, reads that function. -/
theorem read_pieces (v : View sg κ sp s e) (f : v.ty.Contents Val) (G : s.Idx → Val e) (L : List (View.Piece Val s e))
    (hG : ∀ p ∈ L, ∀ x : p.1.shape.Idx, p.2 x = G (p.1.emb x)) (hc : ∀ y, ∃ p ∈ L, y ∈ p.1.set) :
    v.read Val (v.writes Val f L) = G :=
  funext fun y => View.read_writes_apply_of_pieces v f G L hG y (hc y)

end Slots

/-- A weight matrix rounded to bf16: what the staging leaves in the scratch. -/
abbrev rounded {s : Shape} (w : FVec F s .f32) : FVec F s .bf16 := truncf .bf16 w bitsLt_bf16_f32

set_option maxHeartbeats 1036000 in set_option sl_exec.dmaWindow true in set_option sl_exec.dmaWindowSet true in
theorem stage_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x256x2816 .f32) (harg10 : arg10.IsWhole) (arg11 : Memref sig .tc .vmem S2x704x1024 .f32) (harg11 : arg11.IsWhole)
    (fh0 : HbBuf0 (F := F) c hbM0_0) (fh1 : HbBuf0 (F := F) c hbM0_1) (fh2 : HbBuf0 (F := F) c hbM0_2) :
      ∀ (W : Waits sig Unit) (K : PUnit → sProp 𝕄),
        iprop((∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ owes (c : Thread nD τ) 0 W
            ∗ (iprop(owns (c : Thread nD τ) arg7 fullShare (rounded (F := F) (s := S1024x2816) fh0) ∗ owns (c : Thread nD τ) arg8 fullShare (rounded (F := F) (s := S1024x2816) fh1) ∗ owns (c : Thread nD τ) arg9 fullShare (rounded (F := F) (s := S2816x1024) fh2) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (stage i arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5) K := by
    intro W K
    unfold stage
    simp only [k0_part1_eq_skeleton, k0_part2_eq_skeleton, k0_part3_eq_skeleton, k0_part4_eq_skeleton, k0_part5_eq_skeleton, k0_part6_eq_skeleton, k0_part7_eq_skeleton]
    unfold owns
    iintro ⟨⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hh0, Hh1, Hh2, HW, Hk⟩
    sl_exec
    sl_step
    iapply Hk
    isplitl [HS0]
    · iexists _; isplitr; swap; · iexact HS0
      ipureintro
      apply read_pieces
      · intro p hp
        simp only [List.mem_cons, List.mem_nil_iff, or_false] at hp
        rcases hp with rfl | rfl | rfl | rfl <;> intro x <;> sl_unfold_words <;> dsimp only <;>
          simp only [k0_pay2, k0_pay3, k0_pay4, k0_pay5, shapeCast_self] <;>
          first
          | (rw [slot_hit]; rfl)
          | (rw [slot_miss, slot_hit]; · rfl
             decide)
      · exact View.cover_of_tiled_head _ _ _ (by rfl)
    isplitl [HS1]
    · iexists _; isplitr; swap; · iexact HS1
      ipureintro
      apply read_pieces
      · intro p hp
        simp only [List.mem_cons, List.mem_nil_iff, or_false] at hp
        rcases hp with rfl | rfl | rfl | rfl <;> intro x <;> sl_unfold_words <;> dsimp only <;>
          simp only [k0_pay6, k0_pay7, k0_pay8, k0_pay9, shapeCast_self] <;>
          first
          | (rw [slot_hit]; rfl)
          | (rw [slot_miss, slot_hit]; · rfl
             decide)
      · exact View.cover_of_tiled_head _ _ _ (by rfl)
    isplitl [HS2]
    · iexists _; isplitr; swap; · iexact HS2
      ipureintro
      apply read_pieces
      · intro p hp
        simp only [List.mem_cons, List.mem_nil_iff, or_false] at hp
        rcases hp with rfl | rfl | rfl | rfl <;> intro x <;> sl_unfold_words <;> dsimp only <;>
          simp only [k0_pay10, k0_pay11, k0_pay12, k0_pay13, shapeCast_self] <;>
          first
          | (rw [slot_hit]; rfl)
          | (rw [slot_miss, slot_hit]; · rfl
             decide)
      · exact View.cover_of_tiled_head _ _ _ (by rfl)
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.KernelIdeal.Ffn

end
-- ==== Proof.FfnRun.lean ====
/-
One grid point of the first feed-forward call once its weights are staged: from the block of rows and the staged
weights to the block of the output.
-/
module

public import proofs.«01_k».proof.Proof.FfnKit
public import Idealize.ShloMosaic.Lib.Pipeline.ValueKit
public import Idealize.ShloMosaic.Lib.VecWindow

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Columns `256 k … 256 k + 255` of a staged matrix of the hidden layer. -/
def cols (w : Vec F S1024x2816 .bf16) (k : Fin 11) : Vec F S1024x256 .bf16 :=
  View.ld w (Rect.unit (s := S1024x2816) ![0, 256 * k.val] S1024x256.size
    (Fin.forall_fin_two.mpr ⟨Nat.le_refl _, show 256 * k.val + 256 ≤ 2816 by have := k.isLt; omega⟩))

/-- Rows `256 k … 256 k + 255` of the staged output matrix. -/
def rows (w : Vec F S2816x1024 .bf16) (k : Fin 11) : Vec F S256x1024 .bf16 :=
  View.ld w (Rect.unit (s := S2816x1024) ![256 * k.val, 0] S256x1024.size
    (Fin.forall_fin_two.mpr ⟨show 256 * k.val + 256 ≤ 2816 by have := k.isLt; omega, Nat.le_refl _⟩))

/-- 256 hidden units: the normed rows against the gate's and the up matrix's columns, gated, against the output
    matrix's rows. -/
def chunk (h : FVec F S1024x1024 .bf16) (a b : FVec F S1024x256 .bf16) (d : FVec F S256x1024 .bf16) : FVec F S1024x1024 .f32 :=
  matmul dot_S1024x256_S256x1024_S1024x1024_1_0_0_1_n_n none
    (truncf .bf16 (mulf (mulf (matmul dot_S1024x1024_S1024x256_S1024x256_1_0_0_1_n_n none h a (constant S1024x256 .f32 0x00000000#32))
        (logistic (matmul dot_S1024x1024_S1024x256_S1024x256_1_0_0_1_n_n none h a (constant S1024x256 .f32 0x00000000#32))))
      (matmul dot_S1024x1024_S1024x256_S1024x256_1_0_0_1_n_n none h b (constant S1024x256 .f32 0x00000000#32))) bitsLt_bf16_f32)
    d (constant S1024x1024 .f32 0x00000000#32)

/-- The hidden layer, 256 units at a time, summed onto zero. -/
def hidden (h : FVec F S1024x1024 .bf16) (w0 w1 : Vec F S1024x2816 .bf16) (w2 : Vec F S2816x1024 .bf16) : FVec F S1024x1024 .f32 :=
  ([0, 1, 2, 3, 4, 5, 6, 7, 8, 9, 10] : List (Fin 11)).foldl (fun acc k => addf acc (chunk h (cols w0 k) (cols w1 k) (rows w2 k)))
    (broadcast S1024x1024 (Scalar.ofBits .f32 0x00000000#32))

/-- What the body leaves in the output's block: the rows plus half of the gated layer of their norm. -/
def outBlock (x : Vec F S1024x1024 .f32) (g : Vec F S1x1024 .f32) (w0 w1 : Vec F S1024x2816 .bf16) (w2 : Vec F S2816x1024 .bf16) :
    Vec F S1024x1024 .f32 :=
  addf (k0_pay14 x) (mulf (broadcast S1024x1024 (Scalar.ofBits .f32 0x3F000000#32)) (hidden (k0_pay15 x g) w0 w1 w2))

set_option maxHeartbeats 1000000 in
theorem compute_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x256x2816 .f32) (harg10 : arg10.IsWhole) (arg11 : Memref sig .tc .vmem S2x704x1024 .f32) (harg11 : arg11.IsWhole) (hc0 : ¬cond0_0 i)
    (x0 : Vec F S1024x1024 .f32) (x1 : Vec F S1x1024 .f32) (w0 w1 : Vec F S1024x2816 .bf16) (w2 : Vec F S2816x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ owns (c : Thread nD τ) arg7 fullShare w0 ∗ owns (c : Thread nD τ) arg8 fullShare w1 ∗ owns (c : Thread nD τ) arg9 fullShare w2 ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare (outBlock x0 x1 w0 w1 w2) ∗ owns (c : Thread nD τ) arg7 fullShare w0 ∗ owns (c : Thread nD τ) arg8 fullShare w1 ∗ owns (c : Thread nD τ) arg9 fullShare w2 ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn i arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5) K := by
    intro W K
    simp only [cc0_ffn_eq_skeleton]; unfold cc0_ffn_skel
    simp only [k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%fs0, %hs0, HS0⟩, ⟨%fs1, %hs1, HS1⟩, ⟨%fs2, %hs2, HS2⟩, ⟨%ds3, %fs3, -, HS3⟩, ⟨%ds4, %fs4, -, HS4⟩, Hq0, Hq1, Hh0, Hh1, Hh2, HW, Hk⟩
    obtain rfl := harg1.eq_unread hf0; obtain rfl := harg2.eq_unread hf1
    obtain rfl := harg7.eq_unread hs0; obtain rfl := harg8.eq_unread hs1; obtain rfl := harg9.eq_unread hs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      sl_unfold_words
      simp only [View.readAt_eq_ld, Memref.IsWhole.read_unread]
      have e0 : View.ld x0 (Rect.unit (s := S1024x1024) ![0, 0] ![1024, 1024] inb_S1024x1024_S1024x1024_0_0) = x0 :=
        View.ld_unit_lit (S := S1024x1024) _ _ (by decide)
      have e1 : View.ld x1 (Rect.unit (s := S1x1024) ![0, 0] ![1, 1024] inb_S1x1024_S1x1024_0_0) = x1 :=
        View.ld_unit_lit (S := S1x1024) _ _ (by decide)
      simp only [e0, e1]
      refine (View.read_writes_full (s := S1024x1024) arg6.view f2 (off := ![0, 0]) inb_S1024x1024_S1024x1024_0_0 _ []).trans ?_
      rfl
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.KernelIdeal.Ffn

end
-- ==== Proof.FfnFrame.lean ====
/-
The first feed-forward call point by point: what the pipeline's invariant holds before the weights are staged and
after, the body at every point, and the launch's run.
-/
module

public import proofs.«01_k».proof.Proof.FfnStage
public import proofs.«01_k».proof.Proof.FfnRun
public import Idealize.ShloMosaic.Lib.Claim

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- A point that stages runs the staging, then what a point that does not stage runs. -/
theorem body_split (i i' : grid0.Coords) (hc : cond0_0 i) (hc' : ¬cond0_0 i') (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x256x2816 .f32) (harg10 : arg10.IsWhole) (arg11 : Memref sig .tc .vmem S2x704x1024 .f32) (harg11 : arg11.IsWhole) :
    cc0_ffn (F := F) i arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5
      = (stage i arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5 >>= fun _ => cc0_ffn i' arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5) := by
  simp only [cc0_ffn_eq_skeleton]; unfold cc0_ffn_skel
  simp only [k0_part8_eq_skeleton]; unfold k0_part8_skel
  rw [dif_pos hc, dif_neg hc']
  simp only [bind_assoc, pure_bind, stage]
  rfl

/-- Some point that stages nothing. -/
theorem unstaged : ¬cond0_0 (grid0.coords ⟨1, by rw [show grid0.N = 16 from N_0]; decide⟩) := fun h => by
  have := (hcond0_0 _).mp h
  revert this; decide

set_option maxHeartbeats 1000000 in
/-- The body at the point that stages. -/
theorem first_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x256x2816 .f32) (harg10 : arg10.IsWhole) (arg11 : Memref sig .tc .vmem S2x704x1024 .f32) (harg11 : arg11.IsWhole) (hc0 : cond0_0 i)
    (x0 : Vec F S1024x1024 .f32) (x1 : Vec F S1x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare (outBlock x0 x1 (rounded (F := F) (s := S1024x2816) fh0) (rounded (F := F) (s := S1024x2816) fh1) (rounded (F := F) (s := S2816x1024) fh2)) ∗ owns (c : Thread nD τ) arg7 fullShare (rounded (F := F) (s := S1024x2816) fh0) ∗ owns (c : Thread nD τ) arg8 fullShare (rounded (F := F) (s := S1024x2816) fh1) ∗ owns (c : Thread nD τ) arg9 fullShare (rounded (F := F) (s := S2816x1024) fh2) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn i arg1 harg1 arg2 harg2 (Memref.whole main_v2) (Memref.isWhole_whole _) (Memref.whole main_v3) (Memref.isWhole_whole _) (Memref.whole main_v4) (Memref.isWhole_whole _) arg6 harg6 arg7 harg7 arg8 harg8 arg9 harg9 arg10 harg10 arg11 harg11 cc0_scratch5) K := by
    intro W K
    rw [body_split i _ hc0 unstaged, wp_bind]
    iintro ⟨H0, H1, H2, HS0, HS1, HS2, HS3, HS4, Hq0, Hq1, Hh0, Hh1, Hh2, HW, Hk⟩
    iapply (stage_run c i arg1 harg1 arg2 harg2 arg6 harg6 arg7 harg7 arg8 harg8 arg9 harg9 arg10 harg10 arg11 harg11 fh0 fh1 fh2 W _)
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨HS0, HS1, HS2, HS3, HS4, Hq0, Hq1, Hh0, Hh1, Hh2, ⟨%W', HW⟩⟩
    iapply (compute_run c _ arg1 harg1 arg2 harg2 arg6 harg6 arg7 harg7 arg8 harg8 arg9 harg9 arg10 harg10 arg11 harg11 unstaged x0 x1 _ _ _ fh0 fh1 fh2 W' K)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iexact Hk

variable (m : (ℓ : Loc nD τ sig) → Buf (Elt F) ℓ) (ρ : Dev nD → PrngReg)

/-! ## The proof data -/

/-- The invariant once the weights are staged: the three weight buffers hold the rounded weights; the rest as before. -/
def staged (c : Dev nD) : sProp 𝕄 :=
  iprop(iprop(owns (c : Thread nD τ) scM0_0 fullShare (rounded (F := F) (s := S1024x2816) (V m c main_v2)) ∗ owns (c : Thread nD τ) scM0_1 fullShare (rounded (F := F) (s := S1024x2816) (V m c main_v3)) ∗ owns (c : Thread nD τ) scM0_2 fullShare (rounded (F := F) (s := S2816x1024) (V m c main_v4)) ∗ (∃ d, owns (c : Thread nD τ) scM0_3 fullShare d) ∗ (∃ d, owns (c : Thread nD τ) scM0_4 fullShare d)) ∗ (∃ r, prngReg c r) ∗ iprop(semVal ((c : Thread nD τ), SemLoc.dma 5) 0 ∗ semVal ((c : Thread nD τ), SemLoc.dma 6) 0) ∗ iprop(hbPt0 c hbM0_0 (V m c main_v2) ∗ hbPt0 c hbM0_1 (V m c main_v3) ∗ hbPt0 c hbM0_2 (V m c main_v4)))

/-- The block of the output that point `t` leaves. -/
def outAt (c : Dev nD) (t : Fin cfg0.N) : Vec F S1024x1024 .f32 :=
  outBlock (iblk m c 0 t) (iblk m c 1 t) (rounded (F := F) (s := S1024x2816) (V m c main_v2)) (rounded (F := F) (s := S1024x2816) (V m c main_v3)) (rounded (F := F) (s := S2816x1024) (V m c main_v4))

/-- The proof data: inputs are left as they are, the output's block is `outAt`, and the weights are staged from the
    second point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ k := if k.val = 0 then Pipeline.ΦD osem0 spec0 H0 (V m) c else staged m c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem Phi_zero (c : Dev nD) (k : Fin (cfg0.N + 1)) (h : k.val = 0) : (dats m 0 c).Φ k = Pipeline.ΦD osem0 spec0 H0 (V m) c := by
  dsimp only [dats]; rw [if_pos h]
theorem Phi_pos (c : Dev nD) (k : Fin (cfg0.N + 1)) (h : ¬k.val = 0) : (dats m 0 c).Φ k = staged m c := by
  dsimp only [dats]; rw [if_neg h]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [Phi_pos m c t.succ (by simp), after_0, after_1, after_2]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val = 0
  · rw [Phi_zero m c t.castSucc h0, PhiD0_eq]
    iintro ⟨⟨⟨HS0, HS1, HS2, HS3, HS4⟩, Hg, ⟨Hq0, Hq1⟩, ⟨Hh0, Hh1, Hh2⟩⟩, ⟨%W, -, HW⟩, ⟨%d0, H0⟩, ⟨%d1, H1⟩, ⟨%d2, H2⟩⟩
    iapply (first_run c (grid0.coords t) _ _ _ _ _ _ _ _ _ _ _ _ _ _ _ _ ((hcond0_0 t).mpr (by rw [h0])) (iblk m c 0 t) (iblk m c 1 t) (V m c main_v2) (V m c main_v3) (V m c main_v4) W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, HS0, HS1, HS2, HS3, HS4, Hq0, Hq1, Hh0, Hh1, Hh2, ⟨%W', HW'⟩⟩
    unfold staged
    isplitl [HS0 HS1 HS2 HS3 HS4 Hg Hq0 Hq1 Hh0 Hh1 Hh2]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    iexact H2
  · rw [Phi_pos m c t.castSucc h0]
    unfold staged
    iintro ⟨⟨⟨HS0, HS1, HS2, HS3, HS4⟩, Hg, ⟨Hq0, Hq1⟩, ⟨Hh0, Hh1, Hh2⟩⟩, ⟨%W, -, HW⟩, ⟨%d0, H0⟩, ⟨%d1, H1⟩, ⟨%d2, H2⟩⟩
    iapply (compute_run c (grid0.coords t) _ _ _ _ _ _ _ _ _ _ _ _ _ _ _ _ (fun h => h0 (by have := (hcond0_0 t).mp h; omega)) (iblk m c 0 t) (iblk m c 1 t) _ _ _ (V m c main_v2) (V m c main_v3) (V m c main_v4) W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, HS0, HS1, HS2, HS3, HS4, Hq0, Hq1, Hh0, Hh1, Hh2, ⟨%W', HW'⟩⟩
    isplitl [HS0 HS1 HS2 HS3 HS4 Hg Hq0 Hq1 Hh0 Hh1 Hh2]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands over is the invariant before the first point, -/
theorem launch_in (c : Dev nD) : Pipeline.ΦD osem0 spec0 H0 (V m) c ⊢ (dats m 0 c).Φ 0 := by
  rw [Phi_zero m c 0 rfl]

/-- and the invariant after the last point gives it back, the staged weights forgotten. -/
theorem launch_out (c : Dev nD) : (dats m 0 c).Φ (Fin.last cfg0.N) ⊢ Pipeline.ΦD osem0 spec0 H0 (V m) c := by
  rw [Phi_pos m c (Fin.last cfg0.N) (by rw [Fin.val_last, show cfg0.N = 16 from N_0]; decide), PhiD0_eq]
  unfold staged
  iintro ⟨⟨HS0, HS1, HS2, HS3, HS4⟩, Hg, Hq, Hh⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  isplitl [Hg]; · iexact Hg
  isplitl [Hq]; · iexact Hq
  iexact Hh

set_option maxHeartbeats 800000 in
theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data says, the other buffers as the region found them, and
    every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_prefix m) (hA := A_eq m) (hin := launch_in m) (hout := launch_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => unchanged m r h.1 c, h.2⟩) (run_main_quiescent m ρ)

end Cert.KernelIdeal.Ffn

end
-- ==== Proof.FfnBits.lean ====
/-
The first feed-forward call read on words is the program read over the extended reals, term for term: what was
proved of the second for any interpretation of the floats holds of the first.
-/
module

public import proofs.«01_k».proof.Proof.Gen.Kernel
public import proofs.«01_k».proof.Proof.FfnFrame

@[expose] public section

noncomputable section

namespace Cert.Kernel.Ffn

open Idealize.ShloMosaic Idealize.SL.Sem

variable {F : FTy → Type} [FloatOps F]

theorem body_same : @Cert.Kernel.cc0_ffn F _ _ = @Cert.KernelIdeal.cc0_ffn F _ _ := rfl

theorem bodies_same : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl

theorem defs_same : Cert.Kernel.defs (F := F) = Cert.KernelIdeal.defs (F := F) :=
  congrArg (Pipeline.defs Cert.Kernel.pcfgs) bodies_same

theorem frame_run (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_same]
  exact Cert.KernelIdeal.Ffn.frame_run m ρ

end Cert.Kernel.Ffn

end
-- ==== Proof.FfnPoint.lean ====
/-
The block the first feed-forward call's body leaves, element by element over the extended reals: the rows plus half of
the gated layer of their norm, the hidden layer as one sum over its 2816 units.
-/
module

public import proofs.«01_k».proof.Proof.FfnRun
public import Idealize.ShloMosaic.Lib.Pointwise

@[expose] public section

set_option maxRecDepth 16384

noncomputable section

namespace Cert.KernelIdeal.Ffn

open Idealize.ShloMosaic Idealize.ShloMosaic.TcCoe Idealize.SL.Sem
open Cert.KernelIdeal.Gen

/-- A row's entry divided by the row's root mean square, times the gain. -/
def normed (x : Fin 1024 → EReal) (g : Fin 1024 → EReal) (k : Fin 1024) : EReal :=
  x k * Ideal.rsqrt (Ideal.div (∑ j : Fin 1024, x j * x j) (Ideal.ofBits .f32 0x44800000#32) + Ideal.ofBits .f32 0x358637BD#32) * g k

/-- Hidden unit `u` of a row: the gate's sum times its logistic, times the up matrix's sum. -/
def unit (h : Fin 1024 → EReal) (w0 w1 : FVec Ideal S1024x2816 .f32) (u : Fin 2816) : EReal :=
  (∑ k : Fin 1024, h k * w0 (ix2 k u)) * Ideal.logistic (∑ k : Fin 1024, h k * w0 (ix2 k u)) * ∑ k : Fin 1024, h k * w1 (ix2 k u)

theorem pay15_at (x : FVec Ideal S1024x1024 .f32) (g : FVec Ideal S1x1024 .f32) (r k : Fin 1024) :
    k0_pay15 (F := Ideal) x g (ix2 r k) = normed (fun k => x (ix2 r k)) (fun k => g (ix2 0 k)) k := by
  pointwise [k0_pay15, k0_pay14, normed]

theorem cols_at (w : FVec Ideal S1024x2816 .bf16) (j : Fin 11) (k : Fin 1024) (u : Fin 256) :
    cols (F := Ideal) w j (ix2 k u) = w (ix2 k ⟨256 * j.val + u.val, by omega⟩) := by
  pointwise [cols]

theorem rows_at (w : FVec Ideal S2816x1024 .bf16) (j : Fin 11) (u : Fin 256) (k : Fin 1024) :
    rows (F := Ideal) w j (ix2 u k) = w (ix2 ⟨256 * j.val + u.val, by omega⟩ k) := by
  pointwise [rows]

theorem chunk_at (h : FVec Ideal S1024x1024 .bf16) (w0 w1 : FVec Ideal S1024x2816 .bf16) (w2 : FVec Ideal S2816x1024 .bf16) (j : Fin 11) (r k : Fin 1024) :
    chunk (F := Ideal) h (cols (F := Ideal) w0 j) (cols (F := Ideal) w1 j) (rows (F := Ideal) w2 j) (ix2 r k)
      = ∑ u : Fin 256, unit (fun k => h (ix2 r k)) w0 w1 ⟨256 * j.val + u.val, by omega⟩ * w2 (ix2 ⟨256 * j.val + u.val, by omega⟩ k) := by
  pointwise [chunk, unit, cols_at, rows_at]

theorem sum_eleven (f : Fin 11 → EReal) : ∑ j, f j = f 0 + f 1 + f 2 + f 3 + f 4 + f 5 + f 6 + f 7 + f 8 + f 9 + f 10 := by
  simp only [Fin.sum_univ_castSucc, Finset.univ_eq_empty, Finset.sum_empty, zero_add]
  rfl

theorem hidden_at (h : FVec Ideal S1024x1024 .bf16) (w0 w1 : FVec Ideal S1024x2816 .bf16) (w2 : FVec Ideal S2816x1024 .bf16) (r k : Fin 1024) :
    hidden (F := Ideal) h w0 w1 w2 (ix2 r k) = ∑ u : Fin 2816, unit (fun k => h (ix2 r k)) w0 w1 u * w2 (ix2 u k) := by
  rw [Fin.sum_univ_tiles 11 256 rfl (fun u : Fin 2816 => unit (fun k => h (ix2 r k)) w0 w1 u * w2 (ix2 u k))]
  simp only [hidden, List.foldl_cons, List.foldl_nil]
  pointwise [chunk_at]
  refine Eq.trans ?_ (sum_eleven _).symm
  simp only [show ((0 : Fin 11) : ℕ) = 0 from rfl, zero_mul, zero_add]
  rfl

/-- The block, element by element. -/
theorem outBlock_at (x : FVec Ideal S1024x1024 .f32) (g : FVec Ideal S1x1024 .f32) (w0 w1 : FVec Ideal S1024x2816 .bf16) (w2 : FVec Ideal S2816x1024 .bf16) (r k : Fin 1024) :
    outBlock (F := Ideal) x g w0 w1 w2 (ix2 r k)
      = x (ix2 r k) + Ideal.ofBits .f32 0x3F000000#32
          * ∑ u : Fin 2816, unit (normed (fun k => x (ix2 r k)) (fun k => g (ix2 0 k))) w0 w1 u * w2 (ix2 u k) := by
  pointwise [outBlock, hidden_at, k0_pay14, pay15_at]

end Cert.KernelIdeal.Ffn

end
-- ==== Proof.FfnReference.lean ====
/-
The reference of the first feed-forward call, element by element over the extended reals.
-/
module

public import proofs.«01_k».proof.Proof.FfnPoint
public import proofs.«01_k».proof.Proof.Gen.ReferenceIdeal.Run
public import proofs.«01_k».proof.Proof.Gen.ReferenceIdeal.Read

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.ReferenceIdeal.Read
open Cert.KernelIdeal.Ffn (normed unit)

/-- Row `r` of the flattened rows. -/
theorem result_at (x : FVec Ideal S2x8192x1024 .f32) (g : FVec Ideal S1x1024 .f32) (w0 w1 : FVec Ideal S1x1024x2816 .f32) (w2 : FVec Ideal S1x2816x1024 .f32)
    (r : Fin 16384) (k : Fin 1024) :
    val_main_v31 (F := Ideal) x g w0 w1 w2 (ix2 r k)
      = x (ix3 ⟨r.val / 8192, by omega⟩ ⟨r.val % 8192, by omega⟩ k) + Ideal.ofBits .f32 0x3F000000#32
          * ∑ u : Fin 2816, unit (normed (fun k => x (ix3 ⟨r.val / 8192, by omega⟩ ⟨r.val % 8192, by omega⟩ k)) (fun k => g (ix2 0 k)))
              (fun j => w0 (ix3 0 (j 0) (j 1))) (fun j => w1 (ix3 0 (j 0) (j 1))) u * w2 (ix3 0 u k) := by
  rw [← val_main_v31_eq]
  pointwise [unit, normed, Ideal.logistic]

end Cert.ReferenceIdeal.Ffn

end
-- ==== Proof.FfnValue.lean ====
/-
The first feed-forward call's result array after the launch, over the extended reals: the reference's term.
-/
module

public import proofs.«01_k».proof.Proof.FfnFrame
public import proofs.«01_k».proof.Proof.FfnReference
public import Idealize.ShloMosaic.Lib.Pipeline.ValueKit

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of point `t`'s block of rows is row `1024 t + r`. -/
theorem rows_in (c : Dev nD) (t : Fin cfg0.N) (r k : Fin 1024) (R : Fin 16384) (hR : R.val = t.val * 1024 + r.val) :
    (show FVec Ideal S1024x1024 .f32 from iblk m c 0 t) (ix2 r k)
      = (show FVec Ideal S2x8192x1024 .f32 from m ((c : Thread nD τ).loc main_arg0)) (ix3 ⟨R.val / 8192, by omega⟩ ⟨R.val % 8192, by omega⟩ k) := by
  have e : (show FVec Ideal S1024x1024 .f32 from iblk m c 0 t) (ix2 r k)
      = (show FVec Ideal S16384x1024 .f32 from V m c main_v0) (ix2 R k) := by
    blk_ext [iblk, idx t]
  rw [e]
  entry_read
  pointwise

theorem gain_in (c : Dev nD) (t : Fin cfg0.N) (k : Fin 1024) :
    (show FVec Ideal S1x1024 .f32 from iblk m c 1 t) (ix2 0 k)
      = (show FVec Ideal S1x1024 .f32 from m ((c : Thread nD τ).loc main_arg1)) (ix2 0 k) := by
  have e : (show FVec Ideal S1x1024 .f32 from iblk m c 1 t) (ix2 0 k)
      = (show FVec Ideal S1x1024 .f32 from V m c main_v5) (ix2 0 k) := by
    blk_ext [iblk, idx t]
  rw [e]
  entry_read
  pointwise

theorem gate_in (c : Dev nD) : (show FVec Ideal S1024x2816 .f32 from V m c main_v2)
    = fun j => (show FVec Ideal S1x1024x2816 .f32 from m ((c : Thread nD τ).loc main_arg2)) (ix3 0 (j 0) (j 1)) := by
  entry_read
  funext j
  pointwise

theorem up_in (c : Dev nD) : (show FVec Ideal S1024x2816 .f32 from V m c main_v3)
    = fun j => (show FVec Ideal S1x1024x2816 .f32 from m ((c : Thread nD τ).loc main_arg3)) (ix3 0 (j 0) (j 1)) := by
  entry_read
  funext j
  pointwise

theorem down_in (c : Dev nD) : (show FVec Ideal S2816x1024 .f32 from V m c main_v4)
    = fun j => (show FVec Ideal S1x2816x1024 .f32 from m ((c : Thread nD τ).loc main_arg4)) (ix3 0 (j 0) (j 1)) := by
  entry_read
  funext j
  pointwise

/-- The block at an element, from what the rows, the gain and the weights are. -/
theorem outBlock_of (x : FVec Ideal S1024x1024 .f32) (g : FVec Ideal S1x1024 .f32) (w0 w1 : FVec Ideal S1024x2816 .f32) (w2 : FVec Ideal S2816x1024 .f32)
    (xr gr : Fin 1024 → EReal) (W0 W1 : FVec Ideal S1024x2816 .f32) (W2 : FVec Ideal S2816x1024 .f32) (r k : Fin 1024)
    (hx : ∀ k, x (ix2 r k) = xr k) (hg : ∀ k, g (ix2 0 k) = gr k) (h0 : w0 = W0) (h1 : w1 = W1) (h2 : w2 = W2) :
    outBlock (F := Ideal) x g (rounded (F := Ideal) w0) (rounded (F := Ideal) w1) (rounded (F := Ideal) w2) (ix2 r k)
      = xr k + Ideal.ofBits .f32 0x3F000000#32 * ∑ u : Fin 2816, unit (normed xr gr) W0 W1 u * W2 (ix2 u k) := by
  subst h0 h1 h2
  refine (outBlock_at x g _ _ _ r k).trans ?_
  rw [show (fun k => x (ix2 r k)) = xr from funext hx, show (fun k => g (ix2 0 k)) = gr from funext hg, hx k]
  rfl

/-- The block that point `t` leaves is the reference at the rows it holds. -/
theorem point (c : Dev nD) (t : Fin cfg0.N) (r k : Fin 1024) (R : Fin 16384) (hR : R.val = t.val * 1024 + r.val) :
    (outAt m c t : FVec Ideal S1024x1024 .f32) (ix2 r k)
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 R k) := by
  refine Eq.trans ?_ (Cert.ReferenceIdeal.Ffn.result_at _ _ _ _ _ R k).symm
  unfold outAt
  have e := outBlock_of (show FVec Ideal S1024x1024 .f32 from iblk m c 0 t) (show FVec Ideal S1x1024 .f32 from iblk m c 1 t)
    (show FVec Ideal S1024x2816 .f32 from V m c main_v2) (show FVec Ideal S1024x2816 .f32 from V m c main_v3) (show FVec Ideal S2816x1024 .f32 from V m c main_v4)
    _ _ _ _ _ r k (rows_in m c t r · R hR) (gain_in m c t) (gate_in m c) (up_in m c) (down_in m c)
  exact e

theorem final (c : Dev nD) : (dats m 0 c).arrAt 2 (cfgs 0).N
    = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 2 _ (by decide +kernel) fun t _ y => ?_
  blk_simp
  rw [after_2]
  have hN : t.val < 16 := lt_of_lt_of_eq t.isLt (show cfg0.N = 16 from N_0)
  have hy : (y 0 : ℕ) < 1024 := (y 0).isLt
  refine (congrArg (outAt m c t) (eq_ix2 (n0 := 1024) (n1 := 1024) y)).trans
    ((point m c t (y 0) (y 1) ⟨t.val * 1024 + (y 0).val, by omega⟩ rfl).trans (congrArg _ ?_))
  blk_ext [idx t]

end Cert.KernelIdeal.Ffn

end
-- ==== Proof.OutKit.lean ====
/-
The set-up of the closing feed-forward call's launch: when its body stages the weights, the buffers the body is
called on, the semaphores of its copies, and what the pipeline's invariant holds beside the windows.
-/
module

public import proofs.«01_k».proof.Proof.Gen.Kernel2Ideal
public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S2x256x2816 .f32 := Memref.whole cc0_scratch3
abbrev scM0_4 : Memref sig .tc .vmem S2x704x1024 .f32 := Memref.whole cc0_scratch4
/-- The operands left in HBM that the body copies into scratch itself, whole. -/
abbrev hbM0_0 : Memref sig .tc .hbm S1024x2816 .f32 := Memref.whole main_v11
abbrev hbM0_1 : Memref sig .tc .hbm S1024x2816 .f32 := Memref.whole main_v12
abbrev hbM0_2 : Memref sig .tc .hbm S2816x1024 .f32 := Memref.whole main_v13
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 19, SemLoc.dma 20] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0 ∗ semVal ((c : Thread nD τ), SemLoc.dma 20) 0) := by
  rw [Pipeline.ownSems0_eq_of_list c osem0 [0, 1] (by decide) (by decide)]; rfl
/-- The HBM operands the body moves, as references: unscoped, no window's array (`Pipeline.restRefs`). -/
def H0 : Finset (Ref sig .tc) := {main_v11, main_v12, main_v13}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v11) ∗ hbPt0 c hbM0_1 (V m c main_v12) ∗ hbPt0 c hbM0_2 (V m c main_v13)) := by
  rw [BI.bigSep_eq_bigSepL_of_eq [main_v11, main_v12, main_v13] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 19) 0 ∗ semVal ((c : Thread nD τ), SemLoc.dma 20) 0) ∗ iprop(hbPt0 c hbM0_0 (V m c main_v11) ∗ hbPt0 c hbM0_1 (V m c main_v12) ∗ hbPt0 c hbM0_2 (V m c main_v13))) := by
  rw [Pipeline.ΦD_eq, scopedRest0_eq, ownSems00_eq, hbmPts0_eq]; simp only [scM0_0, scM0_1, scM0_2, scM0_3, scM0_4, owns_whole]; try rfl

end Cert.Kernel2Ideal.Out

end
-- ==== Proof.OutStage.lean ====
/-
The closing call's staging of its weights, as in the first feed-forward call: at the first grid point the body copies
the three weight matrices out of HBM, tile by tile, and leaves them in bf16 in the scratch the later points read.
-/
module

public import proofs.«01_k».proof.Proof.OutKit
public import proofs.«01_k».proof.Proof.FfnStage
public import Idealize.ShloMosaic.Lib.Pipeline.ValueKit

@[expose] public section

set_option maxRecDepth 16384

noncomputable section

namespace Cert.Kernel2Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Cert.KernelIdeal.Ffn (slot_hit slot_miss read_pieces)

/-- The part of the body that stages the weights, run at the first grid point only. -/
def stage (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1024 .f32) (harg11 : arg11.IsWhole) (arg12 : Memref sig .tc .hbm S1024x2816 .f32) (harg12 : arg12.IsWhole) (arg13 : Memref sig .tc .hbm S1024x2816 .f32) (harg13 : arg13.IsWhole) (arg14 : Memref sig .tc .hbm S2816x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S2x256x2816 .f32) (harg20 : arg20.IsWhole) (arg21 : Memref sig .tc .vmem S2x704x1024 .f32) (harg21 : arg21.IsWhole) (arg22 : DmaSems sig S2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  let v391 : Vec F S1x704x1024 .f32 ← Prog.lift (.load arg21 (Rect.unit (s := S2x704x1024) ![1, 0, 0] S1x704x1024.size inb_S2x704x1024_S1x704x1024_1_0_0).toLoadRect (View.loadsAt_vmem h_S1x704x1024))
  let v394 : Vec F S704x1024 .bf16 ← Prog.lift (.load arg19 (Rect.unit (s := S2816x1024) ![2112, 0] S704x1024.size inb_S2816x1024_S704x1024_2112_0).toLoadRect (View.loadsAt_vmem h_S704x1024))
  Prog.lift (.store arg19 (Rect.unit (s := S2816x1024) ![2112, 0] S704x1024.size inb_S2816x1024_S704x1024_2112_0) (k0_pay13 v391) Finset.univ (View.stores_vmem h_S704x1024 (harg19.storeExact_slice rfl _ packedbf16_S2816x1024_S704x1024_2112_0) (fun _ => rfl)) (.inl rfl))
  pure ⟨⟩

/-- A weight matrix rounded to bf16: what the staging leaves in the scratch. -/
abbrev rounded {s : Shape} (w : FVec F s .f32) : FVec F s .bf16 := truncf .bf16 w bitsLt_bf16_f32

set_option maxHeartbeats 1036000 in set_option sl_exec.dmaWindow true in set_option sl_exec.dmaWindowSet true in
theorem stage_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1024 .f32) (harg11 : arg11.IsWhole) (arg15 : Memref sig .tc .vmem S1x1024 .f32) (harg15 : arg15.IsWhole) (arg16 : Memref sig .tc .vmem S512x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S2x256x2816 .f32) (harg20 : arg20.IsWhole) (arg21 : Memref sig .tc .vmem S2x704x1024 .f32) (harg21 : arg21.IsWhole)
    (fh0 : HbBuf0 (F := F) c hbM0_0) (fh1 : HbBuf0 (F := F) c hbM0_1) (fh2 : HbBuf0 (F := F) c hbM0_2) :
      ∀ (W : Waits sig Unit) (K : PUnit → sProp 𝕄),
        iprop((∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ owes (c : Thread nD τ) 0 W
            ∗ (iprop(owns (c : Thread nD τ) arg17 fullShare (rounded (F := F) (s := S1024x2816) fh0) ∗ owns (c : Thread nD τ) arg18 fullShare (rounded (F := F) (s := S1024x2816) fh1) ∗ owns (c : Thread nD τ) arg19 fullShare (rounded (F := F) (s := S2816x1024) fh2) ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (stage i arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5) K := by
    intro W K
    unfold stage
    simp only [k0_part1_eq_skeleton, k0_part2_eq_skeleton, k0_part3_eq_skeleton, k0_part4_eq_skeleton, k0_part5_eq_skeleton, k0_part6_eq_skeleton, k0_part7_eq_skeleton]
    unfold owns
    iintro ⟨⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hh0, Hh1, Hh2, HW, Hk⟩
    sl_exec
    sl_step
    iapply Hk
    isplitl [HS0]
    · iexists _; isplitr; swap; · iexact HS0
      ipureintro
      apply read_pieces
      · intro p hp
        simp only [List.mem_cons, List.mem_nil_iff, or_false] at hp
        rcases hp with rfl | rfl | rfl | rfl <;> intro x <;> sl_unfold_words <;> dsimp only <;>
          simp only [k0_pay2, k0_pay3, k0_pay4, k0_pay5, shapeCast_self] <;>
          first
          | (rw [slot_hit]; rfl)
          | (rw [slot_miss, slot_hit]; · rfl
             decide)
      · exact View.cover_of_tiled_head _ _ _ (by rfl)
    isplitl [HS1]
    · iexists _; isplitr; swap; · iexact HS1
      ipureintro
      apply read_pieces
      · intro p hp
        simp only [List.mem_cons, List.mem_nil_iff, or_false] at hp
        rcases hp with rfl | rfl | rfl | rfl <;> intro x <;> sl_unfold_words <;> dsimp only <;>
          simp only [k0_pay6, k0_pay7, k0_pay8, k0_pay9, shapeCast_self] <;>
          first
          | (rw [slot_hit]; rfl)
          | (rw [slot_miss, slot_hit]; · rfl
             decide)
      · exact View.cover_of_tiled_head _ _ _ (by rfl)
    isplitl [HS2]
    · iexists _; isplitr; swap; · iexact HS2
      ipureintro
      apply read_pieces
      · intro p hp
        simp only [List.mem_cons, List.mem_nil_iff, or_false] at hp
        rcases hp with rfl | rfl | rfl | rfl <;> intro x <;> sl_unfold_words <;> dsimp only <;>
          simp only [k0_pay10, k0_pay11, k0_pay12, k0_pay13, shapeCast_self] <;>
          first
          | (rw [slot_hit]; rfl)
          | (rw [slot_miss, slot_hit]; · rfl
             decide)
      · exact View.cover_of_tiled_head _ _ _ (by rfl)
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.Kernel2Ideal.Out

end
-- ==== Proof.OutRun.lean ====
/-
One grid point of the closing call once its weights are staged: from the blocks of rows and the staged weights to the
block of the layer's result.
-/
module

public import proofs.«01_k».proof.Proof.OutKit
public import Idealize.ShloMosaic.Lib.Pipeline.ValueKit
public import Idealize.ShloMosaic.Lib.VecWindow

@[expose] public section

set_option maxRecDepth 16384

noncomputable section

namespace Cert.Kernel2Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Columns `256 k … 256 k + 255` of a staged matrix of the hidden layer. -/
def cols (w : Vec F S1024x2816 .bf16) (k : Fin 11) : Vec F S1024x256 .bf16 :=
  View.ld w (Rect.unit (s := S1024x2816) ![0, 256 * k.val] S1024x256.size
    (Fin.forall_fin_two.mpr ⟨Nat.le_refl _, show 256 * k.val + 256 ≤ 2816 by have := k.isLt; omega⟩))

/-- Rows `256 k … 256 k + 255` of the staged output matrix. -/
def rows (w : Vec F S2816x1024 .bf16) (k : Fin 11) : Vec F S256x1024 .bf16 :=
  View.ld w (Rect.unit (s := S2816x1024) ![256 * k.val, 0] S256x1024.size
    (Fin.forall_fin_two.mpr ⟨show 256 * k.val + 256 ≤ 2816 by have := k.isLt; omega, Nat.le_refl _⟩))

/-- 256 hidden units: the normed rows against the gate's and the up matrix's columns, gated, against the output
    matrix's rows. -/
def chunk (h : FVec F S512x1024 .bf16) (a b : FVec F S1024x256 .bf16) (d : FVec F S256x1024 .bf16) : FVec F S512x1024 .f32 :=
  matmul dot_S512x256_S256x1024_S512x1024_1_0_0_1_n_n none
    (truncf .bf16 (mulf (mulf (matmul dot_S512x1024_S1024x256_S512x256_1_0_0_1_n_n none h a (constant S512x256 .f32 0x00000000#32))
        (logistic (matmul dot_S512x1024_S1024x256_S512x256_1_0_0_1_n_n none h a (constant S512x256 .f32 0x00000000#32))))
      (matmul dot_S512x1024_S1024x256_S512x256_1_0_0_1_n_n none h b (constant S512x256 .f32 0x00000000#32))) bitsLt_bf16_f32)
    d (constant S512x1024 .f32 0x00000000#32)

/-- The hidden layer, 256 units at a time, summed onto zero. -/
def hidden (h : FVec F S512x1024 .bf16) (w0 w1 : Vec F S1024x2816 .bf16) (w2 : Vec F S2816x1024 .bf16) : FVec F S512x1024 .f32 :=
  ([0, 1, 2, 3, 4, 5, 6, 7, 8, 9, 10] : List (Fin 11)).foldl (fun acc k => addf acc (chunk h (cols w0 k) (cols w1 k) (rows w2 k)))
    (broadcast S512x1024 (Scalar.ofBits .f32 0x00000000#32))

/-- The norm of the rows: each over the root of its mean square, times a gain. -/
def normed (z : FVec F S512x1024 .f32) (g : Vec F S1x1024 .f32) : FVec F S512x1024 .f32 :=
  mulf (mulf z (broadcastTo S512x1024 (rsqrt (addf (divf (shapeCast S512x1 (multiReduction .add [1] S512 (mulf z z) 0x00000000#32
        reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

/-- The rows with both mixers' outputs added. -/
def mixed (x : Vec F S512x1024 .f32) (att : Vec F S512x512 .bf16) (wa : Vec F S512x1024 .bf16) (wh : Vec F S512x1024 .bf16) (y : Vec F S512x512 .f32) (vv : Vec F S512x512 .bf16) (x0 : Vec F S512x512 .bf16) (fb : Vec F S1x512 .f32) (og : Vec F S1x512 .f32) (mg : Vec F S512x512 .bf16) :
    FVec F S512x1024 .f32 :=
  k0_pay17 (k0_pay14 x) (k0_pay15 vv y fb x0 mg mg) (k0_pay16 og) att wa wh

/-- What the body leaves in the output's block: the mixed rows plus half of the gated layer of their norm, normed. -/
def outBlock (x : Vec F S512x1024 .f32) (att : Vec F S512x512 .bf16) (wa : Vec F S512x1024 .bf16) (wh : Vec F S512x1024 .bf16) (y : Vec F S512x512 .f32) (vv : Vec F S512x512 .bf16) (x0 : Vec F S512x512 .bf16) (fb : Vec F S1x512 .f32) (og : Vec F S1x512 .f32) (mg : Vec F S512x512 .bf16) (g : Vec F S1x1024 .f32) (fg : Vec F S1x1024 .f32) (w0 w1 : Vec F S1024x2816 .bf16) (w2 : Vec F S2816x1024 .bf16) :
    Vec F S512x1024 .f32 :=
  normed (addf (mixed x att wa wh y vv x0 fb og mg) (mulf (broadcast S512x1024 (Scalar.ofBits .f32 0x3F000000#32))
    (hidden (truncf .bf16 (normed (mixed x att wa wh y vv x0 fb og mg) g) bitsLt_bf16_f32) w0 w1 w2))) fg

set_option maxHeartbeats 2000000 in
theorem compute_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1024 .f32) (harg11 : arg11.IsWhole) (arg15 : Memref sig .tc .vmem S1x1024 .f32) (harg15 : arg15.IsWhole) (arg16 : Memref sig .tc .vmem S512x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S2x256x2816 .f32) (harg20 : arg20.IsWhole) (arg21 : Memref sig .tc .vmem S2x704x1024 .f32) (harg21 : arg21.IsWhole) (hc0 : ¬cond0_0 i)
    (x0 : Vec F S512x1024 .f32) (x1 : Vec F S512x512 .bf16) (x2 : Vec F S512x1024 .bf16) (x3 : Vec F S512x1024 .bf16) (x4 : Vec F S512x512 .f32) (x5 : Vec F S512x512 .bf16) (x6 : Vec F S512x512 .bf16) (x7 : Vec F S1x512 .f32) (x8 : Vec F S1x512 .f32) (x9 : Vec F S512x512 .bf16) (x10 : Vec F S1x1024 .f32) (x11 : Vec F S1x1024 .f32) (w0 w1 : Vec F S1024x2816 .bf16) (w2 : Vec F S2816x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg15 fullShare x11 ∗ (∃ d, owns (c : Thread nD τ) arg16 fullShare d) ∗ owns (c : Thread nD τ) arg17 fullShare w0 ∗ owns (c : Thread nD τ) arg18 fullShare w1 ∗ owns (c : Thread nD τ) arg19 fullShare w2 ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg15 fullShare x11 ∗ owns (c : Thread nD τ) arg16 fullShare (outBlock x0 x1 x2 x3 x4 x5 x6 x7 x8 x9 x10 x11 w0 w1 w2) ∗ owns (c : Thread nD τ) arg17 fullShare w0 ∗ owns (c : Thread nD τ) arg18 fullShare w1 ∗ owns (c : Thread nD τ) arg19 fullShare w2 ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_pre i arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5) K := by
    intro W K
    simp only [cc0_ffn_pre_eq_skeleton]; unfold cc0_ffn_pre_skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hs0, HS0⟩, ⟨%fs1, %hs1, HS1⟩, ⟨%fs2, %hs2, HS2⟩, ⟨%ds3, %fs3, -, HS3⟩, ⟨%ds4, %fs4, -, HS4⟩, Hq0, Hq1, Hh0, Hh1, Hh2, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg15.eq_unread hf11
    obtain rfl := harg17.eq_unread hs0; obtain rfl := harg18.eq_unread hs1; obtain rfl := harg19.eq_unread hs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg15.read_unread _
      iexact H11
    isplitl [H12]
    · iexists _; isplitr; swap; · iexact H12
      ipureintro
      sl_unfold_words
      simp only [View.readAt_eq_ld, Memref.IsWhole.read_unread]
      have e0 : View.ld x0 (Rect.unit (s := S512x1024) ![0, 0] ![512, 1024] inb_S512x1024_S512x1024_0_0) = x0 :=
        View.ld_unit_lit (S := S512x1024) _ _ (by decide)
      have e1 : View.ld x1 (Rect.unit (s := S512x512) ![0, 0] ![512, 512] inb_S512x512_S512x512_0_0) = x1 :=
        View.ld_unit_lit (S := S512x512) _ _ (by decide)
      have e2 : View.ld x2 (Rect.unit (s := S512x1024) ![0, 0] ![512, 1024] inb_S512x1024_S512x1024_0_0) = x2 :=
        View.ld_unit_lit (S := S512x1024) _ _ (by decide)
      have e3 : View.ld x3 (Rect.unit (s := S512x1024) ![0, 0] ![512, 1024] inb_S512x1024_S512x1024_0_0) = x3 :=
        View.ld_unit_lit (S := S512x1024) _ _ (by decide)
      have e4 : View.ld x4 (Rect.unit (s := S512x512) ![0, 0] ![512, 512] inb_S512x512_S512x512_0_0) = x4 :=
        View.ld_unit_lit (S := S512x512) _ _ (by decide)
      have e5 : View.ld x5 (Rect.unit (s := S512x512) ![0, 0] ![512, 512] inb_S512x512_S512x512_0_0) = x5 :=
        View.ld_unit_lit (S := S512x512) _ _ (by decide)
      have e6 : View.ld x6 (Rect.unit (s := S512x512) ![0, 0] ![512, 512] inb_S512x512_S512x512_0_0) = x6 :=
        View.ld_unit_lit (S := S512x512) _ _ (by decide)
      have e7 : View.ld x7 (Rect.unit (s := S1x512) ![0, 0] ![1, 512] inb_S1x512_S1x512_0_0) = x7 :=
        View.ld_unit_lit (S := S1x512) _ _ (by decide)
      have e8 : View.ld x8 (Rect.unit (s := S1x512) ![0, 0] ![1, 512] inb_S1x512_S1x512_0_0) = x8 :=
        View.ld_unit_lit (S := S1x512) _ _ (by decide)
      have e9 : View.ld x9 (Rect.unit (s := S512x512) ![0, 0] ![512, 512] inb_S512x512_S512x512_0_0) = x9 :=
        View.ld_unit_lit (S := S512x512) _ _ (by decide)
      have e10 : View.ld x10 (Rect.unit (s := S1x1024) ![0, 0] ![1, 1024] inb_S1x1024_S1x1024_0_0) = x10 :=
        View.ld_unit_lit (S := S1x1024) _ _ (by decide)
      have e11 : View.ld x11 (Rect.unit (s := S1x1024) ![0, 0] ![1, 1024] inb_S1x1024_S1x1024_0_0) = x11 :=
        View.ld_unit_lit (S := S1x1024) _ _ (by decide)
      simp only [e0, e1, e2, e3, e4, e5, e6, e7, e8, e9, e10, e11]
      refine (View.read_writes_full (s := S512x1024) arg16.view f12 (off := ![0, 0]) inb_S512x1024_S512x1024_0_0 _ []).trans ?_
      rfl
    isplitl [HS0]
    · iexists _; isplitr; · ipureintro; exact harg17.read_unread _
      iexact HS0
    isplitl [HS1]
    · iexists _; isplitr; · ipureintro; exact harg18.read_unread _
      iexact HS1
    isplitl [HS2]
    · iexists _; isplitr; · ipureintro; exact harg19.read_unread _
      iexact HS2
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.Kernel2Ideal.Out

end
-- ==== Proof.OutFrame.lean ====
/-
The closing feed-forward call point by point: what the pipeline's invariant holds before the weights are staged and
after, the body at every point, and the launch's run.
-/
module

public import proofs.«01_k».proof.Proof.OutStage
public import proofs.«01_k».proof.Proof.OutRun
public import Idealize.ShloMosaic.Lib.Claim

@[expose] public section

set_option maxRecDepth 16384

noncomputable section

namespace Cert.Kernel2Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- A point that stages runs the staging, then what a point that does not stage runs. -/
theorem body_split (i i' : grid0.Coords) (hc : cond0_0 i) (hc' : ¬cond0_0 i') (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1024 .f32) (harg11 : arg11.IsWhole) (arg15 : Memref sig .tc .vmem S1x1024 .f32) (harg15 : arg15.IsWhole) (arg16 : Memref sig .tc .vmem S512x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S2x256x2816 .f32) (harg20 : arg20.IsWhole) (arg21 : Memref sig .tc .vmem S2x704x1024 .f32) (harg21 : arg21.IsWhole) :
    cc0_ffn_pre (F := F) i arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5
      = (stage i arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5 >>= fun _ => cc0_ffn_pre i' arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5) := by
  simp only [cc0_ffn_pre_eq_skeleton]; unfold cc0_ffn_pre_skel
  simp only [k0_part8_eq_skeleton]; unfold k0_part8_skel
  rw [dif_pos hc, dif_neg hc']
  simp only [bind_assoc, pure_bind, stage]
  rfl

/-- Some point that stages nothing. -/
theorem unstaged : ¬cond0_0 (grid0.coords ⟨1, by rw [show grid0.N = 32 from N_0]; decide⟩) := fun h => by
  have := (hcond0_0 _).mp h
  revert this; decide

set_option maxHeartbeats 1000000 in
/-- The body at the point that stages. -/
theorem first_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1024 .f32) (harg11 : arg11.IsWhole) (arg15 : Memref sig .tc .vmem S1x1024 .f32) (harg15 : arg15.IsWhole) (arg16 : Memref sig .tc .vmem S512x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S2x256x2816 .f32) (harg20 : arg20.IsWhole) (arg21 : Memref sig .tc .vmem S2x704x1024 .f32) (harg21 : arg21.IsWhole) (hc0 : cond0_0 i)
    (x0 : Vec F S512x1024 .f32) (x1 : Vec F S512x512 .bf16) (x2 : Vec F S512x1024 .bf16) (x3 : Vec F S512x1024 .bf16) (x4 : Vec F S512x512 .f32) (x5 : Vec F S512x512 .bf16) (x6 : Vec F S512x512 .bf16) (x7 : Vec F S1x512 .f32) (x8 : Vec F S1x512 .f32) (x9 : Vec F S512x512 .bf16) (x10 : Vec F S1x1024 .f32) (x11 : Vec F S1x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg15 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg15 fullShare x11 ∗ owns (c : Thread nD τ) arg16 fullShare (outBlock x0 x1 x2 x3 x4 x5 x6 x7 x8 x9 x10 x11 (rounded (F := F) (s := S1024x2816) fh0) (rounded (F := F) (s := S1024x2816) fh1) (rounded (F := F) (s := S2816x1024) fh2)) ∗ owns (c : Thread nD τ) arg17 fullShare (rounded (F := F) (s := S1024x2816) fh0) ∗ owns (c : Thread nD τ) arg18 fullShare (rounded (F := F) (s := S1024x2816) fh1) ∗ owns (c : Thread nD τ) arg19 fullShare (rounded (F := F) (s := S2816x1024) fh2) ∗ (∃ d, owns (c : Thread nD τ) arg20 fullShare d) ∗ (∃ d, owns (c : Thread nD τ) arg21 fullShare d) ∗ semVal ((c : Thread nD τ), SemLoc.dma 19) 0 ∗ semVal ((c : Thread nD τ), SemLoc.dma 20) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_pre i arg1 harg1 arg2 harg2 arg3 harg3 arg4 harg4 arg5 harg5 arg6 harg6 arg7 harg7 arg8 harg8 arg9 harg9 arg10 harg10 arg11 harg11 (Memref.whole main_v11) (Memref.isWhole_whole _) (Memref.whole main_v12) (Memref.isWhole_whole _) (Memref.whole main_v13) (Memref.isWhole_whole _) arg15 harg15 arg16 harg16 arg17 harg17 arg18 harg18 arg19 harg19 arg20 harg20 arg21 harg21 cc0_scratch5) K := by
    intro W K
    rw [body_split i _ hc0 unstaged, wp_bind]
    iintro ⟨H0, H1, H2, H3, H4, H5, H6, H7, H8, H9, H10, H11, H12, HS0, HS1, HS2, HS3, HS4, Hq0, Hq1, Hh0, Hh1, Hh2, HW, Hk⟩
    iapply (stage_run c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 arg20 harg20 arg21 harg21 fh0 fh1 fh2 W _)
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨HS0, HS1, HS2, HS3, HS4, Hq0, Hq1, Hh0, Hh1, Hh2, ⟨%W', HW⟩⟩
    iapply (compute_run c _ arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 arg20 harg20 arg21 harg21 unstaged x0 x1 x2 x3 x4 x5 x6 x7 x8 x9 x10 x11 _ _ _ fh0 fh1 fh2 W' K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iexact Hk

variable (m : (ℓ : Loc nD τ sig) → Buf (Elt F) ℓ) (ρ : Dev nD → PrngReg)

/-! ## The proof data -/

/-- The invariant once the weights are staged: the three weight buffers hold the rounded weights; the rest as before. -/
def staged (c : Dev nD) : sProp 𝕄 :=
  iprop(iprop(owns (c : Thread nD τ) scM0_0 fullShare (rounded (F := F) (s := S1024x2816) (V m c main_v11)) ∗ owns (c : Thread nD τ) scM0_1 fullShare (rounded (F := F) (s := S1024x2816) (V m c main_v12)) ∗ owns (c : Thread nD τ) scM0_2 fullShare (rounded (F := F) (s := S2816x1024) (V m c main_v13)) ∗ (∃ d, owns (c : Thread nD τ) scM0_3 fullShare d) ∗ (∃ d, owns (c : Thread nD τ) scM0_4 fullShare d)) ∗ (∃ r, prngReg c r) ∗ iprop(semVal ((c : Thread nD τ), SemLoc.dma 19) 0 ∗ semVal ((c : Thread nD τ), SemLoc.dma 20) 0) ∗ iprop(hbPt0 c hbM0_0 (V m c main_v11) ∗ hbPt0 c hbM0_1 (V m c main_v12) ∗ hbPt0 c hbM0_2 (V m c main_v13)))

/-- The block of the output that point `t` leaves. -/
def outAt (c : Dev nD) (t : Fin cfg0.N) : Vec F S512x1024 .f32 :=
  outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (rounded (F := F) (s := S1024x2816) (V m c main_v11)) (rounded (F := F) (s := S1024x2816) (V m c main_v12)) (rounded (F := F) (s := S2816x1024) (V m c main_v13))

/-- The proof data: inputs are left as they are, the output's block is `outAt`, and the weights are staged from the
    second point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ k := if k.val = 0 then Pipeline.ΦD osem0 spec0 H0 (V m) c else staged m c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outAt m c t := by dsimp only [dats]
theorem Phi_zero (c : Dev nD) (k : Fin (cfg0.N + 1)) (h : k.val = 0) : (dats m 0 c).Φ k = Pipeline.ΦD osem0 spec0 H0 (V m) c := by
  dsimp only [dats]; rw [if_pos h]
theorem Phi_pos (c : Dev nD) (k : Fin (cfg0.N + 1)) (h : ¬k.val = 0) : (dats m 0 c).Φ k = staged m c := by
  dsimp only [dats]; rw [if_neg h]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [Phi_pos m c t.succ (by simp), after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val = 0
  · rw [Phi_zero m c t.castSucc h0, PhiD0_eq]
    iintro ⟨⟨⟨HS0, HS1, HS2, HS3, HS4⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_run c (grid0.coords t) _ _ _ _ _ _ _ _ _ _ _ _ _ _ _ _ _ _ _ _ _ _ _ _ _ _ _ _ _ _ _ _ _ _ _ _ ((hcond0_0 t).mpr (by rw [h0])) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v11) (V m c main_v12) (V m c main_v13) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, HS0, HS1, HS2, HS3, HS4, Hq0, Hq1, Hh0, Hh1, Hh2, ⟨%W', HW'⟩⟩
    unfold staged
    isplitl [HS0 HS1 HS2 HS3 HS4 Hg Hq0 Hq1 Hh0 Hh1 Hh2]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Phi_pos m c t.castSucc h0]
    unfold staged
    iintro ⟨⟨⟨HS0, HS1, HS2, HS3, HS4⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (compute_run c (grid0.coords t) _ _ _ _ _ _ _ _ _ _ _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ (V m c main_v11) (V m c main_v12) (V m c main_v13) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, HS0, HS1, HS2, HS3, HS4, Hq0, Hq1, Hh0, Hh1, Hh2, ⟨%W', HW'⟩⟩
    isplitl [HS0 HS1 HS2 HS3 HS4 Hg Hq0 Hq1 Hh0 Hh1 Hh2]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands over is the invariant before the first point, -/
theorem launch_in (c : Dev nD) : Pipeline.ΦD osem0 spec0 H0 (V m) c ⊢ (dats m 0 c).Φ 0 := by
  rw [Phi_zero m c 0 rfl]

/-- and the invariant after the last point gives it back, the staged weights forgotten. -/
theorem launch_out (c : Dev nD) : (dats m 0 c).Φ (Fin.last cfg0.N) ⊢ Pipeline.ΦD osem0 spec0 H0 (V m) c := by
  rw [Phi_pos m c (Fin.last cfg0.N) (by rw [Fin.val_last, show cfg0.N = 32 from N_0]; decide), PhiD0_eq]
  unfold staged
  iintro ⟨⟨HS0, HS1, HS2, HS3, HS4⟩, Hg, Hq, Hh⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  isplitl [Hg]; · iexact Hg
  isplitl [Hq]; · iexact Hq
  iexact Hh

set_option maxHeartbeats 800000 in
theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data says, the other buffers as the region found them, and
    every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_prefix m) (hA := A_eq m) (hin := launch_in m) (hout := launch_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => unchanged m r h.1 c, h.2⟩) (run_main_quiescent m ρ)

end Cert.Kernel2Ideal.Out

end
-- ==== Proof.OutBits.lean ====
/-
The closing feed-forward call read on words is the program read over the extended reals, term for term: what was
proved of the second for any interpretation of the floats holds of the first.
-/
module

public import proofs.«01_k».proof.Proof.Gen.Kernel2
public import proofs.«01_k».proof.Proof.OutFrame

@[expose] public section

noncomputable section

namespace Cert.Kernel2.Out

open Idealize.ShloMosaic Idealize.SL.Sem

variable {F : FTy → Type} [FloatOps F]

set_option maxHeartbeats 4000000 in
theorem bodies_same : Cert.Kernel2.defs₀ (F := F) = Cert.Kernel2Ideal.defs₀ (F := F) := by
  unfold Cert.Kernel2.defs₀ Cert.Kernel2Ideal.defs₀
  refine congrArg _ (funext fun l => funext fun a => ?_)
  match l, a with
  | 0, (t, s) => rfl

theorem defs_same : Cert.Kernel2.defs (F := F) = Cert.Kernel2Ideal.defs (F := F) :=
  congrArg (Pipeline.defs Cert.Kernel2.pcfgs) bodies_same

set_option maxHeartbeats 4000000 in
theorem frame_run (m : (ℓ : Loc Cert.Kernel2.nD Cert.Kernel2.τ Cert.Kernel2.sig) → Buf (Elt F) ℓ) (ρ : Dev Cert.Kernel2.nD → PrngReg) :
    θ_run Cert.Kernel2.defs (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0) := by
  rw [defs_same]
  exact Cert.Kernel2Ideal.Out.frame_run m ρ

end Cert.Kernel2.Out

end
-- ==== Proof.OutPoint.lean ====
/-
The block the closing call's body leaves, element by element over the extended reals: the rows with both mixers' outputs
added, plus half of the gated layer of their norm, the whole normed once more.
-/
module

public import proofs.«01_k».proof.Proof.OutRun
public import proofs.«01_k».proof.Proof.OutStage
public import proofs.«01_k».proof.Proof.FfnPoint
public import Idealize.ShloMosaic.Lib.Pointwise

@[expose] public section

set_option maxRecDepth 16384

noncomputable section

namespace Cert.Kernel2Ideal.Out

open Idealize.ShloMosaic Idealize.ShloMosaic.TcCoe Idealize.SL.Sem
open Cert.Kernel2Ideal.Gen
open Cert.KernelIdeal.Ffn (unit sum_eleven)

/-- The convolution's output with its skip term, times the gate. -/
def gated (y vv fb x0 : Fin 512 → EReal) (j : Fin 512) : EReal := (y j + vv j * fb j) * x0 j

/-- The gated row over the root mean square of each group of 64, times the gain. -/
def grouped (G og : Fin 512 → EReal) (k : Fin 512) : EReal :=
  G k * Ideal.rsqrt (Ideal.div (∑ q : Fin 64, G ⟨k.val / 64 * 64 + q.val, by omega⟩ * G ⟨k.val / 64 * 64 + q.val, by omega⟩)
    (Ideal.ofBits .f32 0x42800000#32) + Ideal.ofBits .f32 0x358637BD#32) * og k

/-- A row plus the attention's part and the other mixer's part of the product with the output matrix. -/
def joined (x : Fin 1024 → EReal) (att hy : Fin 512 → EReal) (wa wh : Fin 512 → Fin 1024 → EReal) (k : Fin 1024) : EReal :=
  (x k + ∑ j : Fin 512, att j * wa j k) + ∑ j : Fin 512, hy j * wh j k

/-- The closing call's result at a row `M` with both mixers added. -/
def closing (M g fg : Fin 1024 → EReal) (w0 w1 : FVec Ideal S1024x2816 .f32) (w2 : FVec Ideal S2816x1024 .f32) (k : Fin 1024) : EReal :=
  Cert.KernelIdeal.Ffn.normed (fun k => M k + Ideal.ofBits .f32 0x3F000000#32
    * ∑ u : Fin 2816, unit (Cert.KernelIdeal.Ffn.normed M g) w0 w1 u * w2 (ix2 u k)) fg k

theorem normed_at (z : FVec Ideal S512x1024 .f32) (g : FVec Ideal S1x1024 .f32) (r : Fin 512) (k : Fin 1024) :
    normed (F := Ideal) z g (ix2 r k) = Cert.KernelIdeal.Ffn.normed (fun k => z (ix2 r k)) (fun k => g (ix2 0 k)) k := by
  pointwise [normed, Cert.KernelIdeal.Ffn.normed]

theorem cols_at (w : FVec Ideal S1024x2816 .bf16) (j : Fin 11) (k : Fin 1024) (u : Fin 256) :
    cols (F := Ideal) w j (ix2 k u) = w (ix2 k ⟨256 * j.val + u.val, by omega⟩) := by
  pointwise [cols]

theorem rows_at (w : FVec Ideal S2816x1024 .bf16) (j : Fin 11) (u : Fin 256) (k : Fin 1024) :
    rows (F := Ideal) w j (ix2 u k) = w (ix2 ⟨256 * j.val + u.val, by omega⟩ k) := by
  pointwise [rows]

theorem chunk_at (h : FVec Ideal S512x1024 .bf16) (w0 w1 : FVec Ideal S1024x2816 .bf16) (w2 : FVec Ideal S2816x1024 .bf16) (j : Fin 11) (r : Fin 512) (k : Fin 1024) :
    chunk (F := Ideal) h (cols (F := Ideal) w0 j) (cols (F := Ideal) w1 j) (rows (F := Ideal) w2 j) (ix2 r k)
      = ∑ u : Fin 256, unit (fun k => h (ix2 r k)) w0 w1 ⟨256 * j.val + u.val, by omega⟩ * w2 (ix2 ⟨256 * j.val + u.val, by omega⟩ k) := by
  pointwise [chunk, unit, cols_at, rows_at]

theorem hidden_at (h : FVec Ideal S512x1024 .bf16) (w0 w1 : FVec Ideal S1024x2816 .bf16) (w2 : FVec Ideal S2816x1024 .bf16) (r : Fin 512) (k : Fin 1024) :
    hidden (F := Ideal) h w0 w1 w2 (ix2 r k) = ∑ u : Fin 2816, unit (fun k => h (ix2 r k)) w0 w1 u * w2 (ix2 u k) := by
  rw [Fin.sum_univ_tiles 11 256 rfl (fun u : Fin 2816 => unit (fun k => h (ix2 r k)) w0 w1 u * w2 (ix2 u k))]
  simp only [hidden, List.foldl_cons, List.foldl_nil]
  pointwise [chunk_at]
  refine Eq.trans ?_ (sum_eleven _).symm
  simp only [show ((0 : Fin 11) : ℕ) = 0 from rfl, zero_mul, zero_add]
  rfl

/-- The mean over a group as the kernel takes it: the squares against a column of the averaging matrix, in two parts. -/
def halves (G : Fin 512 → EReal) (mg : Fin 512 → EReal) : EReal :=
  ∑ j : Fin 512, G j * G j * mg j + ∑ j : Fin 512, (G j * G j - G j * G j) * mg j

theorem pay15_at (vv : FVec Ideal S512x512 .bf16) (y : FVec Ideal S512x512 .f32) (fb : FVec Ideal S1x512 .f32) (x0 mg : FVec Ideal S512x512 .bf16) (r k : Fin 512) :
    k0_pay15 (F := Ideal) vv y fb x0 mg mg (ix2 r k)
      = gated (fun j => y (ix2 r j)) (fun j => vv (ix2 r j)) (fun j => fb (ix2 0 j)) (fun j => x0 (ix2 r j)) k
        * Ideal.rsqrt (halves (gated (fun j => y (ix2 r j)) (fun j => vv (ix2 r j)) (fun j => fb (ix2 0 j)) (fun j => x0 (ix2 r j))) (fun j => mg (ix2 j k))
            + Ideal.ofBits .f32 0x358637BD#32) := by
  pointwise [k0_pay15, gated, halves]

/-- For a finite row the product with the averaging matrix is the mean over the group. -/
theorem halves_mean (G : Fin 512 → EReal) (mg : Fin 512 → EReal) (k : Fin 512) (hG : ∀ j, ∃ a : ℝ, G j = (a : EReal))
    (hmg : ∀ j : Fin 512, mg j = if j.val / 64 = k.val / 64 then (((1 / 64 : ℝ)) : EReal) else 0) :
    halves G mg = Ideal.div (∑ q : Fin 64, G ⟨k.val / 64 * 64 + q.val, by omega⟩ * G ⟨k.val / 64 * 64 + q.val, by omega⟩)
      (Ideal.ofBits .f32 0x42800000#32) := by
  choose a ha using hG
  have h64 : Ideal.ofBits .f32 0x42800000#32 = ((64 : ℝ) : EReal) := by
    simp [Ideal.ofBits, Ideal.ieee]
    rw [← EReal.coe_mul]
    norm_num
  have hm : ∀ j : Fin 512, mg j = ((if j.val / 64 = k.val / 64 then (1 / 64 : ℝ) else 0 : ℝ) : EReal) := by
    intro j; rw [hmg j]; split <;> simp
  have hne : ((64 : ℝ) : EReal) ≠ 0 := by exact_mod_cast (by norm_num : (64 : ℝ) ≠ 0)
  have hinv : ((64 : ℝ) : EReal)⁻¹ = ((1 / 64 : ℝ) : EReal) := by
    rw [← EReal.coe_inv]; norm_num
  have hR : (∑ j : Fin 512, a j * a j * (if j.val / 64 = k.val / 64 then (1 / 64 : ℝ) else 0))
      = (∑ q : Fin 64, a ⟨k.val / 64 * 64 + q.val, by omega⟩ * a ⟨k.val / 64 * 64 + q.val, by omega⟩) * (1 / 64) := by
    rw [Fin.sum_univ_tiles 8 64 rfl (fun j : Fin 512 => a j * a j * (if j.val / 64 = k.val / 64 then (1 / 64 : ℝ) else 0))]
    rw [Finset.sum_eq_single (⟨k.val / 64, by omega⟩ : Fin 8)]
    · rw [Finset.sum_mul]
      refine Finset.sum_congr rfl fun q _ => ?_
      show a (⟨k.val / 64 * 64 + q.val, by omega⟩ : Fin 512) * a (⟨k.val / 64 * 64 + q.val, by omega⟩ : Fin 512) * (if (k.val / 64 * 64 + q.val) / 64 = k.val / 64 then (1 / 64 : ℝ) else 0) = _
      rw [if_pos (by omega)]
    · intro b _ hb
      refine Finset.sum_eq_zero fun q _ => ?_
      rw [if_neg, mul_zero]
      intro h
      apply hb
      apply Fin.ext
      have : (b.val * 64 + q.val) / 64 = k.val / 64 := h
      show b.val = k.val / 64
      omega
    · intro h; exact absurd (Finset.mem_univ _) h
  unfold halves Ideal.div
  rw [h64, if_neg hne, hinv]
  simp only [ha, hm, ← EReal.coe_mul, ← EReal.coe_sub, sub_self, zero_mul]
  have hs : ∀ {n : ℕ} (f : Fin n → ℝ), ∑ i, ((f i : ℝ) : EReal) = ((∑ i, f i : ℝ) : EReal) := fun f =>
    (map_sum (⟨⟨Real.toEReal, EReal.coe_zero⟩, EReal.coe_add⟩ : ℝ →+ EReal) f Finset.univ).symm
  rw [hs, hs, hs, ← EReal.coe_mul, ← EReal.coe_add, hR]
  simp

theorem mixed_at (x : FVec Ideal S512x1024 .f32) (att : FVec Ideal S512x512 .bf16) (wa wh : FVec Ideal S512x1024 .bf16) (y : FVec Ideal S512x512 .f32) (vv x0 : FVec Ideal S512x512 .bf16) (fb og : FVec Ideal S1x512 .f32) (mg : FVec Ideal S512x512 .bf16) (r : Fin 512) (k : Fin 1024) :
    mixed (F := Ideal) x att wa wh y vv x0 fb og mg (ix2 r k)
      = joined (fun k => x (ix2 r k)) (fun j => att (ix2 r j)) (fun j => k0_pay15 (F := Ideal) vv y fb x0 mg mg (ix2 r j) * og (ix2 0 j))
          (fun j k => wa (ix2 j k)) (fun j k => wh (ix2 j k)) k := by
  pointwise [mixed, k0_pay17, k0_pay14, k0_pay16, joined]

/-- The block, element by element, from what its operands are at the row. -/
theorem outBlock_of (x : FVec Ideal S512x1024 .f32) (att : FVec Ideal S512x512 .bf16) (wa wh : FVec Ideal S512x1024 .bf16) (y : FVec Ideal S512x512 .f32) (vv x0 : FVec Ideal S512x512 .bf16) (fb og : FVec Ideal S1x512 .f32) (mg : FVec Ideal S512x512 .bf16) (g fg : FVec Ideal S1x1024 .f32) (w0 w1 : FVec Ideal S1024x2816 .f32) (w2 : FVec Ideal S2816x1024 .f32)
    (xr gr fgr : Fin 1024 → EReal) (ar yr vr fr zr or : Fin 512 → EReal) (war whr : Fin 512 → Fin 1024 → EReal) (W0 W1 : FVec Ideal S1024x2816 .f32) (W2 : FVec Ideal S2816x1024 .f32) (r : Fin 512) (k : Fin 1024)
    (hx : ∀ k, x (ix2 r k) = xr k) (ha : ∀ j, att (ix2 r j) = ar j) (hwa : ∀ j k, wa (ix2 j k) = war j k) (hwh : ∀ j k, wh (ix2 j k) = whr j k)
    (hy : ∀ j, y (ix2 r j) = yr j) (hv : ∀ j, vv (ix2 r j) = vr j) (hz : ∀ j, x0 (ix2 r j) = zr j) (hf : ∀ j, fb (ix2 0 j) = fr j) (ho : ∀ j, og (ix2 0 j) = or j)
    (hmg : ∀ j k : Fin 512, mg (ix2 j k) = if j.val / 64 = k.val / 64 then (((1 / 64 : ℝ)) : EReal) else 0)
    (hg : ∀ k, g (ix2 0 k) = gr k) (hfg : ∀ k, fg (ix2 0 k) = fgr k) (h0 : w0 = W0) (h1 : w1 = W1) (h2 : w2 = W2)
    (hfin : ∀ j, ∃ a : ℝ, gated yr vr fr zr j = (a : EReal)) :
    outBlock (F := Ideal) x att wa wh y vv x0 fb og mg g fg (rounded (F := Ideal) w0) (rounded (F := Ideal) w1) (rounded (F := Ideal) w2) (ix2 r k)
      = closing (joined xr ar (grouped (gated yr vr fr zr) or) war whr) gr fgr W0 W1 W2 k := by
  subst h0 h1 h2
  have hM : ∀ k, mixed (F := Ideal) x att wa wh y vv x0 fb og mg (ix2 r k) = joined xr ar (grouped (gated yr vr fr zr) or) war whr k := by
    intro k
    rw [mixed_at]
    simp only [pay15_at, hx, ha, hwa, hwh, hy, hv, hz, hf, ho]
    congr 1
    funext j
    rw [grouped, halves_mean (gated yr vr fr zr) (fun i => mg (ix2 i j)) j hfin (fun i => hmg i j)]
  unfold outBlock
  rw [normed_at]
  unfold closing
  rw [show (fun k => fg (ix2 0 k)) = fgr from funext hfg]
  congr 1
  funext k
  have hT : ∀ k, normed (F := Ideal) (mixed (F := Ideal) x att wa wh y vv x0 fb og mg) g (ix2 r k)
      = Cert.KernelIdeal.Ffn.normed (joined xr ar (grouped (gated yr vr fr zr) or) war whr) gr k := by
    intro k
    rw [normed_at, show (fun k => g (ix2 0 k)) = gr from funext hg,
      show (fun k => mixed (F := Ideal) x att wa wh y vv x0 fb og mg (ix2 r k)) = _ from funext hM]
  pointwise [hidden_at, hM]
  simp only [hT]
  rfl

end Cert.Kernel2Ideal.Out

end
-- ==== Proof.OutRefRun.lean ====
/-
The reference of the closing call as five stretches of host operations: each stretch's result as a function of the values
it reads, and the whole run from them.
-/
module

public import proofs.«01_k».proof.Proof.Gen.Reference2Ideal
public import Idealize.ShloMosaic.Lib.StableHlo.Run
public import Idealize.ShloMosaic.Lib.Pipeline.Frame

@[expose] public section

set_option maxRecDepth 16384

noncomputable section

namespace Cert.Reference2Ideal.Out

open Cert.Reference2Ideal Cert.Reference2Ideal.Gen Idealize.ShloMosaic Idealize.ShloMosaic.TcCoe Idealize.SL.Sem Idealize.ShloMosaic.StableHlo

variable {F : FTy → Type} [FloatOps F]

/-- Two arrays side by side along the last axis. -/
def beside (a b : FVec F S2x8192x512 .f32) : FVec F S2x8192x1024 .f32 :=
  concatenate S2x8192x1024 2 [⟨S2x8192x512, a⟩, ⟨S2x8192x512, b⟩] concatenates_S2x8192x512_S2x8192x512_S2x8192x1024_d2

/-- The gated convolution, each group of 64 over its root mean square, times the gain. -/
def part_a (arg5 : FVec F S1x512 .f32) (arg3 : FVec F S2x8192x512 .f32) (arg2 : FVec F S2x8192x512 .f32) (arg4 : FVec F S2x8192x512 .f32) (arg6 : FVec F S1x512 .f32) : FVec F S2x8192x512 .f32 :=
  let v0 : FVec F S512 .f32 := shapeCast S512 arg5 shapeCasts_S1x512_S512
  let v1 : FVec F S1x1x512 .f32 := broadcastInDim S1x1x512 ![2] bcast_S512_S1x1x512_2 v0
  let v2 : FVec F S2x8192x512 .f32 := broadcastInDim S2x8192x512 ![0, 1, 2] bcast_S1x1x512_S2x8192x512_0_1_2 v1
  let v3 : FVec F S2x8192x512 .f32 := mulf arg3 v2
  let v4 : FVec F S2x8192x512 .f32 := addf arg2 v3
  let v5 : FVec F S2x8192x512 .f32 := mulf v4 arg4
  let v6 : FVec F S2x8192x8x64 .f32 := shapeCast S2x8192x8x64 v5 shapeCasts_S2x8192x512_S2x8192x8x64
  let v7 : FVec F S512 .f32 := shapeCast S512 arg6 shapeCasts_S1x512_S512
  let v8 : FVec F S8x64 .f32 := shapeCast S8x64 v7 shapeCasts_S512_S8x64
  let v9 : FVec F S2x8192x8x64 .f32 := mulf v6 v6
  let cst : FVec F S_ .f32 := constant S_ .f32 0x00000000#32
  let v10 : FVec F S2x8192x8 .f32 := Host.reduceAdd v9 cst reducesTo_S2x8192x8x64_S2x8192x8_d3 h_S_
  let v11 : FVec F S2x8192x8x1 .f32 := broadcastInDim S2x8192x8x1 ![0, 1, 2] bcast_S2x8192x8_S2x8192x8x1_0_1_2 v10
  let cst_0 : FVec F S_ .f32 := constant S_ .f32 0x42800000#32
  let v12 : FVec F S2x8192x8x1 .f32 := broadcastInDim S2x8192x8x1 ![] bcast_S_S2x8192x8x1 cst_0
  let v13 : FVec F S2x8192x8x1 .f32 := Host.divf v11 v12
  let cst_1 : FVec F S_ .f32 := constant S_ .f32 0x358637BD#32
  let v14 : FVec F S2x8192x8x1 .f32 := broadcastInDim S2x8192x8x1 ![] bcast_S_S2x8192x8x1 cst_1
  let v15 : FVec F S2x8192x8x1 .f32 := addf v13 v14
  let v16 : FVec F S2x8192x8x1 .f32 := Host.rsqrt v15
  let v17 : FVec F S2x8192x8x64 .f32 := broadcastInDim S2x8192x8x64 ![0, 1, 2, 3] bcast_S2x8192x8x1_S2x8192x8x64_0_1_2_3 v16
  let v18 : FVec F S2x8192x8x64 .f32 := mulf v6 v17
  let v19 : FVec F S1x1x8x64 .f32 := broadcastInDim S1x1x8x64 ![2, 3] bcast_S8x64_S1x1x8x64_2_3 v8
  let v20 : FVec F S2x8192x8x64 .f32 := broadcastInDim S2x8192x8x64 ![0, 1, 2, 3] bcast_S1x1x8x64_S2x8192x8x64_0_1_2_3 v19
  let v21 : FVec F S2x8192x8x64 .f32 := mulf v18 v20
  let v22 : FVec F S2x8192x512 .f32 := shapeCast S2x8192x512 v21 shapeCasts_S2x8192x8x64_S2x8192x512
  v22

abbrev ops_a : List (HloOp τ sig (Elt F)) :=
  [ reshape main_arg5 main_v0 (rfl : (.f32 : EltTy) = .f32) shapeCasts_S1x512_S512,
    unary main_v0 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S2x8192x512 ![0, 1, 2] bcast_S1x1x512_S2x8192x512_0_1_2 : (⟨S1x1x512, .f32⟩ : BufTy).Contents (Elt F) → (⟨S2x8192x512, .f32⟩ : BufTy).Contents (Elt F)),
    binary main_arg3 main_v2 main_v3 (mulf : (⟨S2x8192x512, .f32⟩ : BufTy).Contents (Elt F) → (⟨S2x8192x512, .f32⟩ : BufTy).Contents (Elt F) → (⟨S2x8192x512, .f32⟩ : BufTy).Contents (Elt F)),
    binary main_arg2 main_v3 main_v4 (addf : (⟨S2x8192x512, .f32⟩ : BufTy).Contents (Elt F) → (⟨S2x8192x512, .f32⟩ : BufTy).Contents (Elt F) → (⟨S2x8192x512, .f32⟩ : BufTy).Contents (Elt F)),
    binary main_v4 main_arg4 main_v5 (mulf : (⟨S2x8192x512, .f32⟩ : BufTy).Contents (Elt F) → (⟨S2x8192x512, .f32⟩ : BufTy).Contents (Elt F) → (⟨S2x8192x512, .f32⟩ : BufTy).Contents (Elt F)),
    reshape main_v5 main_v6 (rfl : (.f32 : EltTy) = .f32) shapeCasts_S2x8192x512_S2x8192x8x64,
    reshape main_arg6 main_v7 (rfl : (.f32 : EltTy) = .f32) shapeCasts_S1x512_S512,
    reshape main_v7 main_v8 (rfl : (.f32 : EltTy) = .f32) shapeCasts_S512_S8x64,
    binary main_v6 main_v6 main_v9 (mulf : (⟨S2x8192x8x64, .f32⟩ : BufTy).Contents (Elt F) → (⟨S2x8192x8x64, .f32⟩ : BufTy).Contents (Elt F) → (⟨S2x8192x8x64, .f32⟩ : BufTy).Contents (Elt F)),
    nullary main_cst (constant S_ .f32 0x00000000#32),
    binary main_v9 main_cst main_v10 ((fun x v => Host.reduceAdd x v reducesTo_S2x8192x8x64_S2x8192x8_d3 h_S_) : (⟨S2x8192x8x64, .f32⟩ : BufTy).Contents (Elt F) → (⟨S_, .f32⟩ : BufTy).Contents (Elt F) → (⟨S2x8192x8, .f32⟩ : BufTy).Contents (Elt F)),
    unary main_v10 main_v11 (broadcastInDim S2x8192x8x1 ![0, 1, 2] bcast_S2x8192x8_S2x8192x8x1_0_1_2 : (⟨S2x8192x8, .f32⟩ : BufTy).Contents (Elt F) → (⟨S2x8192x8x1, .f32⟩ : BufTy).Contents (Elt F)),
    nullary main_cst_0 (constant S_ .f32 0x42800000#32),
    unary main_cst_0 main_v12 (broadcastInDim S2x8192x8x1 ![] bcast_S_S2x8192x8x1 : (⟨S_, .f32⟩ : BufTy).Contents (Elt F) → (⟨S2x8192x8x1, .f32⟩ : BufTy).Contents (Elt F)),
    binary main_v11 main_v12 main_v13 (Host.divf : (⟨S2x8192x8x1, .f32⟩ : BufTy).Contents (Elt F) → (⟨S2x8192x8x1, .f32⟩ : BufTy).Contents (Elt F) → (⟨S2x8192x8x1, .f32⟩ : BufTy).Contents (Elt F)),
    nullary main_cst_1 (constant S_ .f32 0x358637BD#32),
    unary main_cst_1 main_v14 (broadcastInDim S2x8192x8x1 ![] bcast_S_S2x8192x8x1 : (⟨S_, .f32⟩ : BufTy).Contents (Elt F) → (⟨S2x8192x8x1, .f32⟩ : BufTy).Contents (Elt F)),
    binary main_v13 main_v14 main_v15 (addf : (⟨S2x8192x8x1, .f32⟩ : BufTy).Contents (Elt F) → (⟨S2x8192x8x1, .f32⟩ : BufTy).Contents (Elt F) → (⟨S2x8192x8x1, .f32⟩ : BufTy).Contents (Elt F)),
    unary main_v15 main_v16 (Host.rsqrt : (⟨S2x8192x8x1, .f32⟩ : BufTy).Contents (Elt F) → (⟨S2x8192x8x1, .f32⟩ : BufTy).Contents (Elt F)),
    unary main_v16 main_v17 (broadcastInDim S2x8192x8x64 ![0, 1, 2, 3] bcast_S2x8192x8x1_S2x8192x8x64_0_1_2_3 : (⟨S2x8192x8x1, .f32⟩ : BufTy).Contents (Elt F) → (⟨S2x8192x8x64, .f32⟩ : BufTy).Contents (Elt F)),
    binary main_v6 main_v17 main_v18 (mulf : (⟨S2x8192x8x64, .f32⟩ : BufTy).Contents (Elt F) → (⟨S2x8192x8x64, .f32⟩ : BufTy).Contents (Elt F) → (⟨S2x8192x8x64, .f32⟩ : BufTy).Contents (Elt F)),
    unary main_v8 main_v19 (broadcastInDim S1x1x8x64 ![2, 3] bcast_S8x64_S1x1x8x64_2_3 : (⟨S8x64, .f32⟩ : BufTy).Contents (Elt F) → (⟨S1x1x8x64, .f32⟩ : BufTy).Contents (Elt F)),
    unary main_v19 main_v20 (broadcastInDim S2x8192x8x64 ![0, 1, 2, 3] bcast_S1x1x8x64_S2x8192x8x64_0_1_2_3 : (⟨S1x1x8x64, .f32⟩ : BufTy).Contents (Elt F) → (⟨S2x8192x8x64, .f32⟩ : BufTy).Contents (Elt F)),
    binary main_v18 main_v20 main_v21 (mulf : (⟨S2x8192x8x64, .f32⟩ : BufTy).Contents (Elt F) → (⟨S2x8192x8x64, .f32⟩ : BufTy).Contents (Elt F) → (⟨S2x8192x8x64, .f32⟩ : BufTy).Contents (Elt F)),
    reshape main_v21 main_v22 (rfl : (.f32 : EltTy) = .f32) shapeCasts_S2x8192x8x64_S2x8192x512 ]

theorem result_a (V : Valuation τ sig (Elt F)) : after (ops_a (F := F)) V (Proc.devRef .tc main_v22)
    = part_a (F := F) (V (Proc.devRef .tc main_arg5)) (V (Proc.devRef .tc main_arg3)) (V (Proc.devRef .tc main_arg2)) (V (Proc.devRef .tc main_arg4)) (V (Proc.devRef .tc main_arg6)) := by
  after_results_simp <;> rfl

theorem keep_a (V : Valuation τ sig (Elt F)) (r : Ref sig .tc) (hr : r ∉ ([main_v0, main_v1, main_v2, main_v3, main_v4, main_v5, main_v6, main_v7, main_v8, main_v9, main_cst, main_v10, main_v11, main_cst_0, main_v12, main_v13, main_cst_1, main_v14, main_v15, main_v16, main_v17, main_v18, main_v19, main_v20, main_v21, main_v22] : List (Ref sig .tc))) :
    after (ops_a (F := F)) V (Proc.devRef .tc r) = V (Proc.devRef .tc r) :=
  after_of_writes_sub _ V (forall_writes_sub_of_map rfl) hr

/-- The two mixers' outputs side by side against the output matrix, plus the rows. -/
def part_b (arg1 : FVec F S2x8192x512 .f32) (v22 : FVec F S2x8192x512 .f32) (arg7 : FVec F S1x1024x1024 .f32) (arg0 : FVec F S2x8192x1024 .f32) : FVec F S2x8192x1024 .f32 :=
  let v23 : FVec F S2x8192x1024 .f32 := beside arg1 v22
  let v24 : FVec F S1024x1024 .f32 := shapeCast S1024x1024 arg7 shapeCasts_S1x1024x1024_S1024x1024
  let v25 : FVec F S2x8192x1024 .f32 := Host.dotGeneral dot_S2x8192x1024_S1024x1024_S2x8192x1024_2_0_01_1_n_n none v23 v24
  let v26 : FVec F S2x8192x1024 .f32 := addf arg0 v25
  v26

abbrev ops_b : List (HloOp τ sig (Elt F)) :=
  [ binary main_arg1 main_v22 main_v23 (beside (F := F) : (⟨S2x8192x512, .f32⟩ : BufTy).Contents (Elt F) → (⟨S2x8192x512, .f32⟩ : BufTy).Contents (Elt F) → (⟨S2x8192x1024, .f32⟩ : BufTy).Contents (Elt F)),
    reshape main_arg7 main_v24 (rfl : (.f32 : EltTy) = .f32) shapeCasts_S1x1024x1024_S1024x1024,
    binary main_v23 main_v24 main_v25 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    binary main_arg0 main_v25 main_v26 (addf : (⟨S2x8192x1024, .f32⟩ : BufTy).Contents (Elt F) → (⟨S2x8192x1024, .f32⟩ : BufTy).Contents (Elt F) → (⟨S2x8192x1024, .f32⟩ : BufTy).Contents (Elt F)) ]

theorem result_b (V : Valuation τ sig (Elt F)) : after (ops_b (F := F)) V (Proc.devRef .tc main_v26)
    = part_b (F := F) (V (Proc.devRef .tc main_arg1)) (V (Proc.devRef .tc main_v22)) (V (Proc.devRef .tc main_arg7)) (V (Proc.devRef .tc main_arg0)) := by
  after_results_simp <;> rfl

theorem keep_b (V : Valuation τ sig (Elt F)) (r : Ref sig .tc) (hr : r ∉ ([main_v23, main_v24, main_v25, main_v26] : List (Ref sig .tc))) :
    after (ops_b (F := F)) V (Proc.devRef .tc r) = V (Proc.devRef .tc r) :=
  after_of_writes_sub _ V (forall_writes_sub_of_map rfl) hr

/-- The rows' norm. -/
def part_c (arg8 : FVec F S1x1024 .f32) (v26 : FVec F S2x8192x1024 .f32) : FVec F S2x8192x1024 .f32 :=
  let v27 : FVec F S1024 .f32 := shapeCast S1024 arg8 shapeCasts_S1x1024_S1024
  let v28 : FVec F S2x8192x1024 .f32 := mulf v26 v26
  let cst_2 : FVec F S_ .f32 := constant S_ .f32 0x00000000#32
  let v29 : FVec F S2x8192 .f32 := Host.reduceAdd v28 cst_2 reducesTo_S2x8192x1024_S2x8192_d2 h_S_
  let v30 : FVec F S2x8192x1 .f32 := broadcastInDim S2x8192x1 ![0, 1] bcast_S2x8192_S2x8192x1_0_1 v29
  let cst_3 : FVec F S_ .f32 := constant S_ .f32 0x44800000#32
  let v31 : FVec F S2x8192x1 .f32 := broadcastInDim S2x8192x1 ![] bcast_S_S2x8192x1 cst_3
  let v32 : FVec F S2x8192x1 .f32 := Host.divf v30 v31
  let cst_4 : FVec F S_ .f32 := constant S_ .f32 0x358637BD#32
  let v33 : FVec F S2x8192x1 .f32 := broadcastInDim S2x8192x1 ![] bcast_S_S2x8192x1 cst_4
  let v34 : FVec F S2x8192x1 .f32 := addf v32 v33
  let v35 : FVec F S2x8192x1 .f32 := Host.rsqrt v34
  let v36 : FVec F S2x8192x1024 .f32 := broadcastInDim S2x8192x1024 ![0, 1, 2] bcast_S2x8192x1_S2x8192x1024_0_1_2 v35
  let v37 : FVec F S2x8192x1024 .f32 := mulf v26 v36
  let v38 : FVec F S1x1x1024 .f32 := broadcastInDim S1x1x1024 ![2] bcast_S1024_S1x1x1024_2 v27
  let v39 : FVec F S2x8192x1024 .f32 := broadcastInDim S2x8192x1024 ![0, 1, 2] bcast_S1x1x1024_S2x8192x1024_0_1_2 v38
  let v40 : FVec F S2x8192x1024 .f32 := mulf v37 v39
  v40

abbrev ops_c : List (HloOp τ sig (Elt F)) :=
  [ reshape main_arg8 main_v27 (rfl : (.f32 : EltTy) = .f32) shapeCasts_S1x1024_S1024,
    binary main_v26 main_v26 main_v28 (mulf : (⟨S2x8192x1024, .f32⟩ : BufTy).Contents (Elt F) → (⟨S2x8192x1024, .f32⟩ : BufTy).Contents (Elt F) → (⟨S2x8192x1024, .f32⟩ : BufTy).Contents (Elt F)),
    nullary main_cst_2 (constant S_ .f32 0x00000000#32),
    binary main_v28 main_cst_2 main_v29 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v29 main_v30 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_3 (constant S_ .f32 0x44800000#32),
    unary main_cst_3 main_v31 (broadcastInDim S2x8192x1 ![] bcast_S_S2x8192x1 : (⟨S_, .f32⟩ : BufTy).Contents (Elt F) → (⟨S2x8192x1, .f32⟩ : BufTy).Contents (Elt F)),
    binary main_v30 main_v31 main_v32 (Host.divf : (⟨S2x8192x1, .f32⟩ : BufTy).Contents (Elt F) → (⟨S2x8192x1, .f32⟩ : BufTy).Contents (Elt F) → (⟨S2x8192x1, .f32⟩ : BufTy).Contents (Elt F)),
    nullary main_cst_4 (constant S_ .f32 0x358637BD#32),
    unary main_cst_4 main_v33 (broadcastInDim S2x8192x1 ![] bcast_S_S2x8192x1 : (⟨S_, .f32⟩ : BufTy).Contents (Elt F) → (⟨S2x8192x1, .f32⟩ : BufTy).Contents (Elt F)),
    binary main_v32 main_v33 main_v34 (addf : (⟨S2x8192x1, .f32⟩ : BufTy).Contents (Elt F) → (⟨S2x8192x1, .f32⟩ : BufTy).Contents (Elt F) → (⟨S2x8192x1, .f32⟩ : BufTy).Contents (Elt F)),
    unary main_v34 main_v35 (Host.rsqrt : (⟨S2x8192x1, .f32⟩ : BufTy).Contents (Elt F) → (⟨S2x8192x1, .f32⟩ : BufTy).Contents (Elt F)),
    unary main_v35 main_v36 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v26 main_v36 main_v37 (mulf : (⟨S2x8192x1024, .f32⟩ : BufTy).Contents (Elt F) → (⟨S2x8192x1024, .f32⟩ : BufTy).Contents (Elt F) → (⟨S2x8192x1024, .f32⟩ : BufTy).Contents (Elt F)),
    unary main_v27 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v37 main_v39 main_v40 (mulf : (⟨S2x8192x1024, .f32⟩ : BufTy).Contents (Elt F) → (⟨S2x8192x1024, .f32⟩ : BufTy).Contents (Elt F) → (⟨S2x8192x1024, .f32⟩ : BufTy).Contents (Elt F)) ]

theorem result_c (V : Valuation τ sig (Elt F)) : after (ops_c (F := F)) V (Proc.devRef .tc main_v40)
    = part_c (F := F) (V (Proc.devRef .tc main_arg8)) (V (Proc.devRef .tc main_v26)) := by
  after_results_simp <;> rfl

theorem keep_c (V : Valuation τ sig (Elt F)) (r : Ref sig .tc) (hr : r ∉ ([main_v27, main_v28, main_cst_2, main_v29, main_v30, main_cst_3, main_v31, main_v32, main_cst_4, main_v33, main_v34, main_v35, main_v36, main_v37, main_v38, main_v39, main_v40] : List (Ref sig .tc))) :
    after (ops_c (F := F)) V (Proc.devRef .tc r) = V (Proc.devRef .tc r) :=
  after_of_writes_sub _ V (forall_writes_sub_of_map rfl) hr

/-- The rows plus half of the gated layer. -/
def part_d (arg9 : FVec F S1x1024x2816 .f32) (arg10 : FVec F S1x1024x2816 .f32) (arg11 : FVec F S1x2816x1024 .f32) (v40 : FVec F S2x8192x1024 .f32) (v26 : FVec F S2x8192x1024 .f32) : FVec F S2x8192x1024 .f32 :=
  let v41 : FVec F S1024x2816 .f32 := shapeCast S1024x2816 arg9 shapeCasts_S1x1024x2816_S1024x2816
  let v42 : FVec F S1024x2816 .f32 := shapeCast S1024x2816 arg10 shapeCasts_S1x1024x2816_S1024x2816
  let v43 : FVec F S2816x1024 .f32 := shapeCast S2816x1024 arg11 shapeCasts_S1x2816x1024_S2816x1024
  let v44 : FVec F S2x8192x2816 .f32 := Host.dotGeneral dot_S2x8192x1024_S1024x2816_S2x8192x2816_2_0_01_1_n_n none v40 v41
  let v45 : FVec F S2x8192x2816 .f32 := Host.negf v44
  let v46 : FVec F S2x8192x2816 .f32 := Host.exp v45
  let cst_5 : FVec F S_ .f32 := constant S_ .f32 0x3F800000#32
  let v47 : FVec F S2x8192x2816 .f32 := broadcastInDim S2x8192x2816 ![] bcast_S_S2x8192x2816 cst_5
  let v48 : FVec F S2x8192x2816 .f32 := addf v47 v46
  let cst_6 : FVec F S_ .f32 := constant S_ .f32 0x3F800000#32
  let v49 : FVec F S2x8192x2816 .f32 := broadcastInDim S2x8192x2816 ![] bcast_S_S2x8192x2816 cst_6
  let v50 : FVec F S2x8192x2816 .f32 := Host.divf v49 v48
  let v51 : FVec F S2x8192x2816 .f32 := mulf v44 v50
  let v52 : FVec F S2x8192x2816 .f32 := Host.dotGeneral dot_S2x8192x1024_S1024x2816_S2x8192x2816_2_0_01_1_n_n none v40 v42
  let v53 : FVec F S2x8192x2816 .f32 := mulf v51 v52
  let v54 : FVec F S2x8192x1024 .f32 := Host.dotGeneral dot_S2x8192x2816_S2816x1024_S2x8192x1024_2_0_01_1_n_n none v53 v43
  let cst_7 : FVec F S_ .f32 := constant S_ .f32 0x3F000000#32
  let v55 : FVec F S2x8192x1024 .f32 := broadcastInDim S2x8192x1024 ![] bcast_S_S2x8192x1024 cst_7
  let v56 : FVec F S2x8192x1024 .f32 := mulf v55 v54
  let v57 : FVec F S2x8192x1024 .f32 := addf v26 v56
  v57

abbrev ops_d : List (HloOp τ sig (Elt F)) :=
  [ reshape main_arg9 main_v41 (rfl : (.f32 : EltTy) = .f32) shapeCasts_S1x1024x2816_S1024x2816,
    reshape main_arg10 main_v42 (rfl : (.f32 : EltTy) = .f32) shapeCasts_S1x1024x2816_S1024x2816,
    reshape main_arg11 main_v43 (rfl : (.f32 : EltTy) = .f32) shapeCasts_S1x2816x1024_S2816x1024,
    binary main_v40 main_v41 main_v44 ((fun l r => Host.dotGeneral dot_S2x8192x1024_S1024x2816_S2x8192x2816_2_0_01_1_n_n none l r) : (⟨S2x8192x1024, .f32⟩ : BufTy).Contents (Elt F) → (⟨S1024x2816, .f32⟩ : BufTy).Contents (Elt F) → (⟨S2x8192x2816, .f32⟩ : BufTy).Contents (Elt F)),
    unary main_v44 main_v45 (Host.negf : (⟨S2x8192x2816, .f32⟩ : BufTy).Contents (Elt F) → (⟨S2x8192x2816, .f32⟩ : BufTy).Contents (Elt F)),
    unary main_v45 main_v46 (Host.exp : (⟨S2x8192x2816, .f32⟩ : BufTy).Contents (Elt F) → (⟨S2x8192x2816, .f32⟩ : BufTy).Contents (Elt F)),
    nullary main_cst_5 (constant S_ .f32 0x3F800000#32),
    unary main_cst_5 main_v47 (broadcastInDim S2x8192x2816 ![] bcast_S_S2x8192x2816 : (⟨S_, .f32⟩ : BufTy).Contents (Elt F) → (⟨S2x8192x2816, .f32⟩ : BufTy).Contents (Elt F)),
    binary main_v47 main_v46 main_v48 (addf : (⟨S2x8192x2816, .f32⟩ : BufTy).Contents (Elt F) → (⟨S2x8192x2816, .f32⟩ : BufTy).Contents (Elt F) → (⟨S2x8192x2816, .f32⟩ : BufTy).Contents (Elt F)),
    nullary main_cst_6 (constant S_ .f32 0x3F800000#32),
    unary main_cst_6 main_v49 (broadcastInDim S2x8192x2816 ![] bcast_S_S2x8192x2816 : (⟨S_, .f32⟩ : BufTy).Contents (Elt F) → (⟨S2x8192x2816, .f32⟩ : BufTy).Contents (Elt F)),
    binary main_v49 main_v48 main_v50 (Host.divf : (⟨S2x8192x2816, .f32⟩ : BufTy).Contents (Elt F) → (⟨S2x8192x2816, .f32⟩ : BufTy).Contents (Elt F) → (⟨S2x8192x2816, .f32⟩ : BufTy).Contents (Elt F)),
    binary main_v44 main_v50 main_v51 (mulf : (⟨S2x8192x2816, .f32⟩ : BufTy).Contents (Elt F) → (⟨S2x8192x2816, .f32⟩ : BufTy).Contents (Elt F) → (⟨S2x8192x2816, .f32⟩ : BufTy).Contents (Elt F)),
    binary main_v40 main_v42 main_v52 ((fun l r => Host.dotGeneral dot_S2x8192x1024_S1024x2816_S2x8192x2816_2_0_01_1_n_n none l r) : (⟨S2x8192x1024, .f32⟩ : BufTy).Contents (Elt F) → (⟨S1024x2816, .f32⟩ : BufTy).Contents (Elt F) → (⟨S2x8192x2816, .f32⟩ : BufTy).Contents (Elt F)),
    binary main_v51 main_v52 main_v53 (mulf : (⟨S2x8192x2816, .f32⟩ : BufTy).Contents (Elt F) → (⟨S2x8192x2816, .f32⟩ : BufTy).Contents (Elt F) → (⟨S2x8192x2816, .f32⟩ : BufTy).Contents (Elt F)),
    binary main_v53 main_v43 main_v54 ((fun l r => Host.dotGeneral dot_S2x8192x2816_S2816x1024_S2x8192x1024_2_0_01_1_n_n none l r) : (⟨S2x8192x2816, .f32⟩ : BufTy).Contents (Elt F) → (⟨S2816x1024, .f32⟩ : BufTy).Contents (Elt F) → (⟨S2x8192x1024, .f32⟩ : BufTy).Contents (Elt F)),
    nullary main_cst_7 (constant S_ .f32 0x3F000000#32),
    unary main_cst_7 main_v55 (broadcastInDim S2x8192x1024 ![] bcast_S_S2x8192x1024 : (⟨S_, .f32⟩ : BufTy).Contents (Elt F) → (⟨S2x8192x1024, .f32⟩ : BufTy).Contents (Elt F)),
    binary main_v55 main_v54 main_v56 (mulf : (⟨S2x8192x1024, .f32⟩ : BufTy).Contents (Elt F) → (⟨S2x8192x1024, .f32⟩ : BufTy).Contents (Elt F) → (⟨S2x8192x1024, .f32⟩ : BufTy).Contents (Elt F)),
    binary main_v26 main_v56 main_v57 (addf : (⟨S2x8192x1024, .f32⟩ : BufTy).Contents (Elt F) → (⟨S2x8192x1024, .f32⟩ : BufTy).Contents (Elt F) → (⟨S2x8192x1024, .f32⟩ : BufTy).Contents (Elt F)) ]

theorem result_d (V : Valuation τ sig (Elt F)) : after (ops_d (F := F)) V (Proc.devRef .tc main_v57)
    = part_d (F := F) (V (Proc.devRef .tc main_arg9)) (V (Proc.devRef .tc main_arg10)) (V (Proc.devRef .tc main_arg11)) (V (Proc.devRef .tc main_v40)) (V (Proc.devRef .tc main_v26)) := by
  after_results_simp <;> rfl

theorem keep_d (V : Valuation τ sig (Elt F)) (r : Ref sig .tc) (hr : r ∉ ([main_v41, main_v42, main_v43, main_v44, main_v45, main_v46, main_cst_5, main_v47, main_v48, main_cst_6, main_v49, main_v50, main_v51, main_v52, main_v53, main_v54, main_cst_7, main_v55, main_v56, main_v57] : List (Ref sig .tc))) :
    after (ops_d (F := F)) V (Proc.devRef .tc r) = V (Proc.devRef .tc r) :=
  after_of_writes_sub _ V (forall_writes_sub_of_map rfl) hr

/-- The last norm, the two leading axes joined. -/
def part_e (v57 : FVec F S2x8192x1024 .f32) (arg12 : FVec F S1024 .f32) : FVec F S16384x1024 .f32 :=
  let v58 : FVec F S2x8192x1024 .f32 := mulf v57 v57
  let cst_8 : FVec F S_ .f32 := constant S_ .f32 0x00000000#32
  let v59 : FVec F S2x8192 .f32 := Host.reduceAdd v58 cst_8 reducesTo_S2x8192x1024_S2x8192_d2 h_S_
  let v60 : FVec F S2x8192x1 .f32 := broadcastInDim S2x8192x1 ![0, 1] bcast_S2x8192_S2x8192x1_0_1 v59
  let cst_9 : FVec F S_ .f32 := constant S_ .f32 0x44800000#32
  let v61 : FVec F S2x8192x1 .f32 := broadcastInDim S2x8192x1 ![] bcast_S_S2x8192x1 cst_9
  let v62 : FVec F S2x8192x1 .f32 := Host.divf v60 v61
  let cst_10 : FVec F S_ .f32 := constant S_ .f32 0x358637BD#32
  let v63 : FVec F S2x8192x1 .f32 := broadcastInDim S2x8192x1 ![] bcast_S_S2x8192x1 cst_10
  let v64 : FVec F S2x8192x1 .f32 := addf v62 v63
  let v65 : FVec F S2x8192x1 .f32 := Host.rsqrt v64
  let v66 : FVec F S2x8192x1024 .f32 := broadcastInDim S2x8192x1024 ![0, 1, 2] bcast_S2x8192x1_S2x8192x1024_0_1_2 v65
  let v67 : FVec F S2x8192x1024 .f32 := mulf v57 v66
  let v68 : FVec F S1x1x1024 .f32 := broadcastInDim S1x1x1024 ![2] bcast_S1024_S1x1x1024_2 arg12
  let v69 : FVec F S2x8192x1024 .f32 := broadcastInDim S2x8192x1024 ![0, 1, 2] bcast_S1x1x1024_S2x8192x1024_0_1_2 v68
  let v70 : FVec F S2x8192x1024 .f32 := mulf v67 v69
  let v71 : FVec F S16384x1024 .f32 := shapeCast S16384x1024 v70 shapeCasts_S2x8192x1024_S16384x1024
  v71

abbrev ops_e : List (HloOp τ sig (Elt F)) :=
  [ binary main_v57 main_v57 main_v58 (mulf : (⟨S2x8192x1024, .f32⟩ : BufTy).Contents (Elt F) → (⟨S2x8192x1024, .f32⟩ : BufTy).Contents (Elt F) → (⟨S2x8192x1024, .f32⟩ : BufTy).Contents (Elt F)),
    nullary main_cst_8 (constant S_ .f32 0x00000000#32),
    binary main_v58 main_cst_8 main_v59 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v59 main_v60 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_9 (constant S_ .f32 0x44800000#32),
    unary main_cst_9 main_v61 (broadcastInDim S2x8192x1 ![] bcast_S_S2x8192x1 : (⟨S_, .f32⟩ : BufTy).Contents (Elt F) → (⟨S2x8192x1, .f32⟩ : BufTy).Contents (Elt F)),
    binary main_v60 main_v61 main_v62 (Host.divf : (⟨S2x8192x1, .f32⟩ : BufTy).Contents (Elt F) → (⟨S2x8192x1, .f32⟩ : BufTy).Contents (Elt F) → (⟨S2x8192x1, .f32⟩ : BufTy).Contents (Elt F)),
    nullary main_cst_10 (constant S_ .f32 0x358637BD#32),
    unary main_cst_10 main_v63 (broadcastInDim S2x8192x1 ![] bcast_S_S2x8192x1 : (⟨S_, .f32⟩ : BufTy).Contents (Elt F) → (⟨S2x8192x1, .f32⟩ : BufTy).Contents (Elt F)),
    binary main_v62 main_v63 main_v64 (addf : (⟨S2x8192x1, .f32⟩ : BufTy).Contents (Elt F) → (⟨S2x8192x1, .f32⟩ : BufTy).Contents (Elt F) → (⟨S2x8192x1, .f32⟩ : BufTy).Contents (Elt F)),
    unary main_v64 main_v65 (Host.rsqrt : (⟨S2x8192x1, .f32⟩ : BufTy).Contents (Elt F) → (⟨S2x8192x1, .f32⟩ : BufTy).Contents (Elt F)),
    unary main_v65 main_v66 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v57 main_v66 main_v67 (mulf : (⟨S2x8192x1024, .f32⟩ : BufTy).Contents (Elt F) → (⟨S2x8192x1024, .f32⟩ : BufTy).Contents (Elt F) → (⟨S2x8192x1024, .f32⟩ : BufTy).Contents (Elt F)),
    unary main_arg12 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v67 main_v69 main_v70 (mulf : (⟨S2x8192x1024, .f32⟩ : BufTy).Contents (Elt F) → (⟨S2x8192x1024, .f32⟩ : BufTy).Contents (Elt F) → (⟨S2x8192x1024, .f32⟩ : BufTy).Contents (Elt F)),
    reshape main_v70 main_v71 (rfl : (.f32 : EltTy) = .f32) shapeCasts_S2x8192x1024_S16384x1024 ]

theorem result_e (V : Valuation τ sig (Elt F)) : after (ops_e (F := F)) V (Proc.devRef .tc main_v71)
    = part_e (F := F) (V (Proc.devRef .tc main_v57)) (V (Proc.devRef .tc main_arg12)) := by
  after_results_simp <;> rfl

theorem keep_e (V : Valuation τ sig (Elt F)) (r : Ref sig .tc) (hr : r ∉ ([main_v58, main_cst_8, main_v59, main_v60, main_cst_9, main_v61, main_v62, main_cst_10, main_v63, main_v64, main_v65, main_v66, main_v67, main_v68, main_v69, main_v70, main_v71] : List (Ref sig .tc))) :
    after (ops_e (F := F)) V (Proc.devRef .tc r) = V (Proc.devRef .tc r) :=
  after_of_writes_sub _ V (forall_writes_sub_of_map rfl) hr

/-- The operations of the whole program, in order. -/
abbrev ops : List (HloOp τ sig (Elt F)) := ops_a ++ (ops_b ++ (ops_c ++ (ops_d ++ ops_e)))

set_option maxHeartbeats 4000000 in
theorem main_eq (c : Dev nD) : main (F := F) c = seq (ops (F := F)) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  ⟨reshape_bufs_sub .., unary_bufs_sub .., unary_bufs_sub .., binary_bufs_sub .., binary_bufs_sub .., binary_bufs_sub .., reshape_bufs_sub .., reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub .., reshape_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., reshape_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

theorem after_ops (V : Valuation τ sig (Elt F)) : after (ops (F := F)) V = after ops_e (after ops_d (after ops_c (after ops_b (after ops_a V)))) := rfl

/-- What the program computes from its arguments. -/
def whole (arg0 : FVec F S2x8192x1024 .f32) (arg1 arg2 arg3 arg4 : FVec F S2x8192x512 .f32) (arg5 arg6 : FVec F S1x512 .f32) (arg7 : FVec F S1x1024x1024 .f32)
    (arg8 : FVec F S1x1024 .f32) (arg9 arg10 : FVec F S1x1024x2816 .f32) (arg11 : FVec F S1x2816x1024 .f32) (arg12 : FVec F S1024 .f32) : FVec F S16384x1024 .f32 :=
  let v22 := part_a (F := F) arg5 arg3 arg2 arg4 arg6
  let v26 := part_b (F := F) arg1 v22 arg7 arg0
  let v40 := part_c (F := F) arg8 v26
  let v57 := part_d (F := F) arg9 arg10 arg11 v40 v26
  let v71 := part_e (F := F) v57 arg12
  v71

theorem result (V : Valuation τ sig (Elt F)) : after (ops (F := F)) V (Proc.devRef .tc main_v71)
    = whole (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, result_e]
  rw [keep_d _ main_arg12 (by decide), result_d, keep_c _ main_arg12 (by decide), keep_c _ main_arg9 (by decide), keep_c _ main_arg10 (by decide), keep_c _ main_arg11 (by decide), keep_c _ main_v26 (by decide), result_c, keep_b _ main_arg12 (by decide), keep_b _ main_arg9 (by decide), keep_b _ main_arg10 (by decide), keep_b _ main_arg11 (by decide), keep_b _ main_arg8 (by decide), result_b, keep_a _ main_arg12 (by decide), keep_a _ main_arg9 (by decide), keep_a _ main_arg10 (by decide), keep_a _ main_arg11 (by decide), keep_a _ main_arg8 (by decide), keep_a _ main_arg1 (by decide), keep_a _ main_arg7 (by decide), keep_a _ main_arg0 (by decide), result_a]
  rfl

theorem kept (V : Valuation τ sig (Elt F)) (r : Ref sig .tc) (ha : r ∉ ([main_v0, main_v1, main_v2, main_v3, main_v4, main_v5, main_v6, main_v7, main_v8, main_v9, main_cst, main_v10, main_v11, main_cst_0, main_v12, main_v13, main_cst_1, main_v14, main_v15, main_v16, main_v17, main_v18, main_v19, main_v20, main_v21, main_v22, main_v23, main_v24, main_v25, main_v26, main_v27, main_v28, main_cst_2, main_v29, main_v30, main_cst_3, main_v31, main_v32, main_cst_4, main_v33, main_v34, main_v35, main_v36, main_v37, main_v38, main_v39, main_v40, main_v41, main_v42, main_v43, main_v44, main_v45, main_v46, main_cst_5, main_v47, main_v48, main_cst_6, main_v49, main_v50, main_v51, main_v52, main_v53, main_v54, main_cst_7, main_v55, main_v56, main_v57, main_v58, main_cst_8, main_v59, main_v60, main_cst_9, main_v61, main_v62, main_cst_10, main_v63, main_v64, main_v65, main_v66, main_v67, main_v68, main_v69, main_v70, main_v71] : List (Ref sig .tc))) :
    after (ops (F := F)) V (Proc.devRef .tc r) = V (Proc.devRef .tc r) :=
  after_of_writes_sub _ V (forall_writes_sub_of_map rfl) ha

/-- The run: the result is the program's function of its arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = whole (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v71).trans (result _),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide))⟩)
    (run_seq scopedRefs_eq scopedSems_eq defs main (fun _ => ops) main_eq (fun _ => ops_sub) m ρ)

end Cert.Reference2Ideal.Out

end
-- ==== Proof.OutReference.lean ====
/-
The reference of the closing call, element by element over the extended reals.
-/
module

public import proofs.«01_k».proof.Proof.OutPoint
public import proofs.«01_k».proof.Proof.OutRefRun

@[expose] public section

set_option maxRecDepth 16384

noncomputable section

namespace Cert.Reference2Ideal.Out

open Idealize.ShloMosaic Idealize.ShloMosaic.TcCoe Idealize.SL.Sem
open Cert.Reference2Ideal Cert.Reference2Ideal.Gen
open Cert.KernelIdeal.Ffn (unit)
open Cert.Kernel2Ideal.Out (gated grouped joined closing)

theorem part_a_at (y vv z : FVec Ideal S2x8192x512 .f32) (fb og : FVec Ideal S1x512 .f32) (b : Fin 2) (s : Fin 8192) (j : Fin 512) :
    part_a (F := Ideal) fb vv y z og (ix3 b s j)
      = grouped (gated (fun j => y (ix3 b s j)) (fun j => vv (ix3 b s j)) (fun j => fb (ix2 0 j)) (fun j => z (ix3 b s j))) (fun j => og (ix2 0 j)) j := by
  pointwise [part_a, grouped, gated]

theorem beside_at (a c : FVec Ideal S2x8192x512 .f32) (b : Fin 2) (s : Fin 8192) (j : Fin 1024) :
    beside (F := Ideal) a c (ix3 b s j) = if h : j.val < 512 then a (ix3 b s ⟨j.val, h⟩) else c (ix3 b s ⟨j.val - 512, by omega⟩) := by
  pointwise [beside]

theorem part_b_at (x : FVec Ideal S2x8192x1024 .f32) (a c : FVec Ideal S2x8192x512 .f32) (wo : FVec Ideal S1x1024x1024 .f32) (b : Fin 2) (s : Fin 8192) (k : Fin 1024) :
    part_b (F := Ideal) a c wo x (ix3 b s k)
      = joined (fun k => x (ix3 b s k)) (fun j => a (ix3 b s j)) (fun j => c (ix3 b s j))
          (fun j k => wo (ix3 0 ⟨j.val, by omega⟩ k)) (fun j k => wo (ix3 0 ⟨512 + j.val, by omega⟩ k)) k := by
  pointwise [part_b, beside_at]
  exact (add_assoc _ _ _).symm

theorem part_c_at (z : FVec Ideal S2x8192x1024 .f32) (g : FVec Ideal S1x1024 .f32) (b : Fin 2) (s : Fin 8192) (k : Fin 1024) :
    part_c (F := Ideal) g z (ix3 b s k) = Cert.KernelIdeal.Ffn.normed (fun k => z (ix3 b s k)) (fun k => g (ix2 0 k)) k := by
  pointwise [part_c, Cert.KernelIdeal.Ffn.normed]

theorem part_d_at (z n : FVec Ideal S2x8192x1024 .f32) (w0 w1 : FVec Ideal S1x1024x2816 .f32) (w2 : FVec Ideal S1x2816x1024 .f32) (b : Fin 2) (s : Fin 8192) (k : Fin 1024) :
    part_d (F := Ideal) w0 w1 w2 n z (ix3 b s k) = z (ix3 b s k) + Ideal.ofBits .f32 0x3F000000#32
          * ∑ u : Fin 2816, unit (fun k => n (ix3 b s k)) (fun j => w0 (ix3 0 (j 0) (j 1))) (fun j => w1 (ix3 0 (j 0) (j 1))) u * w2 (ix3 0 u k) := by
  pointwise [part_d, unit, Ideal.logistic]

theorem part_e_at (z : FVec Ideal S2x8192x1024 .f32) (g : FVec Ideal S1024 .f32) (r : Fin 16384) (k : Fin 1024) :
    part_e (F := Ideal) z g (ix2 r k)
      = Cert.KernelIdeal.Ffn.normed (fun k => z (ix3 ⟨r.val / 8192, by omega⟩ ⟨r.val % 8192, by omega⟩ k)) (fun k => g (ix1 k)) k := by
  pointwise [part_e, Cert.KernelIdeal.Ffn.normed]

/-- Row `r` of the flattened rows. -/
theorem whole_at (x : FVec Ideal S2x8192x1024 .f32) (a y vv z : FVec Ideal S2x8192x512 .f32) (fb og : FVec Ideal S1x512 .f32) (wo : FVec Ideal S1x1024x1024 .f32)
    (g : FVec Ideal S1x1024 .f32) (w0 w1 : FVec Ideal S1x1024x2816 .f32) (w2 : FVec Ideal S1x2816x1024 .f32) (fg : FVec Ideal S1024 .f32) (r : Fin 16384) (k : Fin 1024) (b : Fin 2) (s : Fin 8192)
    (hb : b.val = r.val / 8192) (hs : s.val = r.val % 8192) :
    whole (F := Ideal) x a y vv z fb og wo g w0 w1 w2 fg (ix2 r k)
      = closing (joined (fun k => x (ix3 b s k)) (fun j => a (ix3 b s j))
            (grouped (gated (fun j => y (ix3 b s j)) (fun j => vv (ix3 b s j)) (fun j => fb (ix2 0 j)) (fun j => z (ix3 b s j))) (fun j => og (ix2 0 j)))
            (fun j k => wo (ix3 0 ⟨j.val, by omega⟩ k)) (fun j k => wo (ix3 0 ⟨512 + j.val, by omega⟩ k)))
          (fun k => g (ix2 0 k)) (fun k => fg (ix1 k))
          (fun j => w0 (ix3 0 (j 0) (j 1))) (fun j => w1 (ix3 0 (j 0) (j 1))) (fun j => w2 (ix3 0 (j 0) (j 1))) k := by
  have eb : (⟨r.val / 8192, by omega⟩ : Fin 2) = b := Fin.ext hb.symm
  have es : (⟨r.val % 8192, by omega⟩ : Fin 8192) = s := Fin.ext hs.symm
  unfold whole
  rw [part_e_at, eb, es]
  simp only [part_d_at, part_c_at, part_b_at, part_a_at]
  rfl

end Cert.Reference2Ideal.Out

end
-- ==== Proof.OutValue.lean ====
/-
The closing call's result array after the launch, over the extended reals: the reference's function of the arguments.
-/
module

public import proofs.«01_k».proof.Proof.OutFrame
public import proofs.«01_k».proof.Proof.OutReference
public import proofs.«01_k».proof.Pre_finite_hyena
public import Idealize.ShloMosaic.Lib.Pipeline.ValueKit

@[expose] public section

set_option maxRecDepth 16384

noncomputable section

namespace Cert.Kernel2Ideal.Out

open Idealize.ShloMosaic Idealize.ShloMosaic.TcCoe Idealize.SL.Sem
open Idealize.ShloMosaic.Pipeline (Dat)
open Cert.Kernel2Ideal.Gen

/-- The precondition's shape relations. -/
instance pre_facts : Cert.Pre_finite_hyena.Facts where
  bcast_S_S2x8192x512 := by decide
  bcast_S_S1x512 := by decide
  bcast_S1x512_S1x1x512_0_2 := by decide
  bcast_S1x1x512_S2x8192x512_0_1_2 := by decide

theorem real_of_abs_lt (x : EReal) (h : max x (-x) < ⊤) : ∃ a : ℝ, x = (a : EReal) := by
  rw [max_lt_iff] at h
  refine ⟨x.toReal, (EReal.coe_toReal h.1.ne ?_).symm⟩
  rintro rfl
  simp at h

/-- Where the precondition's bit is set, what the gate multiplies is finite. -/
theorem finite_at (x : FVec Ideal S2x8192x1024 .f32) (a y vv z : FVec Ideal S2x8192x512 .f32) (fb og : FVec Ideal S1x512 .f32) (wo : FVec Ideal S1x1024x1024 .f32)
    (g : FVec Ideal S1x1024 .f32) (w0 w1 : FVec Ideal S1x1024x2816 .f32) (w2 : FVec Ideal S1x2816x1024 .f32) (fg : FVec Ideal S1024 .f32)
    (b : Fin 2) (s : Fin 8192) (j : Fin 512)
    (h : Cert.Pre_finite_hyena.fn (F := Ideal) x a y vv z fb og wo g w0 w1 w2 fg (ix3 b s j) = 1#1) :
    ∃ r : ℝ, (y (ix3 b s j) + vv (ix3 b s j) * fb (ix2 0 j)) * z (ix3 b s j) = (r : EReal) := by
  have htop : Ideal.ofBits .f32 0x7F800000#32 = ⊤ := by simp [Ideal.ofBits, Ideal.ieee]
  have e : Cert.Pre_finite_hyena.fn (F := Ideal) x a y vv z fb og wo g w0 w1 w2 fg (ix3 b s j)
      = IntOp.andi (IntOp.andi (IntOp.andi (Ideal.cmp .olt (max (y (ix3 b s j)) (-(y (ix3 b s j)))) (Ideal.ofBits .f32 0x7F800000#32))
          (Ideal.cmp .olt (max (vv (ix3 b s j)) (-(vv (ix3 b s j)))) (Ideal.ofBits .f32 0x7F800000#32)))
          (Ideal.cmp .olt (max (z (ix3 b s j)) (-(z (ix3 b s j)))) (Ideal.ofBits .f32 0x7F800000#32)))
          (Ideal.cmp .olt (max (fb (ix2 0 j)) (-(fb (ix2 0 j)))) (Ideal.ofBits .f32 0x7F800000#32)) := by
    pointwise [Cert.Pre_finite_hyena.fn]
    rfl
  rw [e, htop] at h
  have split : ∀ p q : BitVec 1, IntOp.andi p q = 1#1 → p = 1#1 ∧ q = 1#1 := by decide
  obtain ⟨h3, h4⟩ := split _ _ h
  obtain ⟨h2, hz⟩ := split _ _ h3
  obtain ⟨hy, hv⟩ := split _ _ h2
  have lt : ∀ u v : EReal, Ideal.cmp .olt u v = 1#1 → u < v := fun u v k => (Ideal.cmp_olt_eq_one (x := u) (y := v)).mp k
  obtain ⟨y', ey⟩ := real_of_abs_lt _ (lt _ _ hy)
  obtain ⟨v', ev⟩ := real_of_abs_lt _ (lt _ _ hv)
  obtain ⟨z', ez⟩ := real_of_abs_lt _ (lt _ _ hz)
  obtain ⟨f', ef⟩ := real_of_abs_lt _ (lt _ _ h4)
  refine ⟨(y' + v' * f') * z', ?_⟩
  rw [ey, ev, ez, ef]
  push_cast
  rfl

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- Row `r` of point `t`'s block of rows is row `512 t + r`. -/
theorem x_in (c : Dev nD) (t : Fin cfg0.N) (r : Fin 512) (k : Fin 1024) (R : Fin 16384) (hR : R.val = t.val * 512 + r.val) :
    (show FVec Ideal S512x1024 .f32 from iblk m c 0 t) (ix2 r k)
      = (show FVec Ideal S2x8192x1024 .f32 from m ((c : Thread nD τ).loc main_arg0)) (ix3 ⟨R.val / 8192, by omega⟩ ⟨R.val % 8192, by omega⟩ k) := by
  have e : (show FVec Ideal S512x1024 .f32 from iblk m c 0 t) (ix2 r k)
      = (show FVec Ideal S16384x1024 .f32 from V m c main_v9) (ix2 R k) := by
    blk_ext [iblk, idx t]
  rw [e]
  entry_read
  pointwise

theorem att_in (c : Dev nD) (t : Fin cfg0.N) (r : Fin 512) (k : Fin 512) (R : Fin 16384) (hR : R.val = t.val * 512 + r.val) :
    (show FVec Ideal S512x512 .bf16 from iblk m c 1 t) (ix2 r k)
      = (show FVec Ideal S2x8192x512 .f32 from m ((c : Thread nD τ).loc main_arg1)) (ix3 ⟨R.val / 8192, by omega⟩ ⟨R.val % 8192, by omega⟩ k) := by
  have e : (show FVec Ideal S512x512 .bf16 from iblk m c 1 t) (ix2 r k)
      = (show FVec Ideal S16384x512 .bf16 from V m c main_v15) (ix2 R k) := by
    blk_ext [iblk, idx t]
  rw [e]
  entry_read
  pointwise

theorem wa_in (c : Dev nD) (t : Fin cfg0.N) (j : Fin 512) (k : Fin 1024) :
    (show FVec Ideal S512x1024 .bf16 from iblk m c 2 t) (ix2 j k)
      = (show FVec Ideal S1x1024x1024 .f32 from m ((c : Thread nD τ).loc main_arg7)) (ix3 0 ⟨j.val, by omega⟩ k) := by
  have e : (show FVec Ideal S512x1024 .bf16 from iblk m c 2 t) (ix2 j k)
      = (show FVec Ideal S512x1024 .bf16 from V m c main_v16) (ix2 j k) := by
    blk_ext [iblk, idx t]
  rw [e]
  entry_read
  pointwise

theorem wh_in (c : Dev nD) (t : Fin cfg0.N) (j : Fin 512) (k : Fin 1024) :
    (show FVec Ideal S512x1024 .bf16 from iblk m c 3 t) (ix2 j k)
      = (show FVec Ideal S1x1024x1024 .f32 from m ((c : Thread nD τ).loc main_arg7)) (ix3 0 ⟨512 + j.val, by omega⟩ k) := by
  have e : (show FVec Ideal S512x1024 .bf16 from iblk m c 3 t) (ix2 j k)
      = (show FVec Ideal S512x1024 .bf16 from V m c main_v17) (ix2 j k) := by
    blk_ext [iblk, idx t]
  rw [e]
  entry_read
  pointwise

theorem y_in (c : Dev nD) (t : Fin cfg0.N) (r : Fin 512) (k : Fin 512) (R : Fin 16384) (hR : R.val = t.val * 512 + r.val) :
    (show FVec Ideal S512x512 .f32 from iblk m c 4 t) (ix2 r k)
      = (show FVec Ideal S2x8192x512 .f32 from m ((c : Thread nD τ).loc main_arg2)) (ix3 ⟨R.val / 8192, by omega⟩ ⟨R.val % 8192, by omega⟩ k) := by
  have e : (show FVec Ideal S512x512 .f32 from iblk m c 4 t) (ix2 r k)
      = (show FVec Ideal S16384x512 .f32 from V m c main_v0) (ix2 R k) := by
    blk_ext [iblk, idx t]
  rw [e]
  entry_read
  pointwise

theorem vv_in (c : Dev nD) (t : Fin cfg0.N) (r : Fin 512) (k : Fin 512) (R : Fin 16384) (hR : R.val = t.val * 512 + r.val) :
    (show FVec Ideal S512x512 .bf16 from iblk m c 5 t) (ix2 r k)
      = (show FVec Ideal S2x8192x512 .f32 from m ((c : Thread nD τ).loc main_arg3)) (ix3 ⟨R.val / 8192, by omega⟩ ⟨R.val % 8192, by omega⟩ k) := by
  have e : (show FVec Ideal S512x512 .bf16 from iblk m c 5 t) (ix2 r k)
      = (show FVec Ideal S16384x512 .bf16 from V m c main_v2) (ix2 R k) := by
    blk_ext [iblk, idx t]
  rw [e]
  entry_read
  pointwise

theorem x0_in (c : Dev nD) (t : Fin cfg0.N) (r : Fin 512) (k : Fin 512) (R : Fin 16384) (hR : R.val = t.val * 512 + r.val) :
    (show FVec Ideal S512x512 .bf16 from iblk m c 6 t) (ix2 r k)
      = (show FVec Ideal S2x8192x512 .f32 from m ((c : Thread nD τ).loc main_arg4)) (ix3 ⟨R.val / 8192, by omega⟩ ⟨R.val % 8192, by omega⟩ k) := by
  have e : (show FVec Ideal S512x512 .bf16 from iblk m c 6 t) (ix2 r k)
      = (show FVec Ideal S16384x512 .bf16 from V m c main_v4) (ix2 R k) := by
    blk_ext [iblk, idx t]
  rw [e]
  entry_read
  pointwise

theorem fb_in (c : Dev nD) (t : Fin cfg0.N) (k : Fin 512) :
    (show FVec Ideal S1x512 .f32 from iblk m c 7 t) (ix2 0 k)
      = (show FVec Ideal S1x512 .f32 from m ((c : Thread nD τ).loc main_arg5)) (ix2 0 k) := by
  have e : (show FVec Ideal S1x512 .f32 from iblk m c 7 t) (ix2 0 k)
      = (show FVec Ideal S1x512 .f32 from V m c main_v30) (ix2 0 k) := by
    blk_ext [iblk, idx t]
  rw [e]
  entry_read
  pointwise

theorem og_in (c : Dev nD) (t : Fin cfg0.N) (k : Fin 512) :
    (show FVec Ideal S1x512 .f32 from iblk m c 8 t) (ix2 0 k)
      = (show FVec Ideal S1x512 .f32 from m ((c : Thread nD τ).loc main_arg6)) (ix2 0 k) := by
  have e : (show FVec Ideal S1x512 .f32 from iblk m c 8 t) (ix2 0 k)
      = (show FVec Ideal S1x512 .f32 from V m c main_v31) (ix2 0 k) := by
    blk_ext [iblk, idx t]
  rw [e]
  entry_read
  pointwise

theorem g_in (c : Dev nD) (t : Fin cfg0.N) (k : Fin 1024) :
    (show FVec Ideal S1x1024 .f32 from iblk m c 10 t) (ix2 0 k)
      = (show FVec Ideal S1x1024 .f32 from m ((c : Thread nD τ).loc main_arg8)) (ix2 0 k) := by
  have e : (show FVec Ideal S1x1024 .f32 from iblk m c 10 t) (ix2 0 k)
      = (show FVec Ideal S1x1024 .f32 from V m c main_v32) (ix2 0 k) := by
    blk_ext [iblk, idx t]
  rw [e]
  entry_read
  pointwise

theorem fg_in (c : Dev nD) (t : Fin cfg0.N) (k : Fin 1024) :
    (show FVec Ideal S1x1024 .f32 from iblk m c 11 t) (ix2 0 k)
      = (show FVec Ideal S1024 .f32 from m ((c : Thread nD τ).loc main_arg12)) (ix1 k) := by
  have e : (show FVec Ideal S1x1024 .f32 from iblk m c 11 t) (ix2 0 k)
      = (show FVec Ideal S1x1024 .f32 from V m c main_v33) (ix2 0 k) := by
    blk_ext [iblk, idx t]
  rw [e]
  entry_read
  pointwise

theorem group_of : ∀ j : Fin 512, IntOp.divsi .host (BitVec.ofNat 32 j.val) 64#32 = BitVec.ofNat 32 (j.val / 64) := by
  decide +kernel

theorem same_bit (a : ℕ) : IntOp.cmpi .eq (BitVec.ofNat 32 a) (BitVec.ofNat 32 a) = 1#1 := IntOp.cmpi_eq_self _

theorem other_bit (a b : ℕ) (ha : a < 8) (hb : b < 8) (h : a ≠ b) : IntOp.cmpi .eq (BitVec.ofNat 32 a) (BitVec.ofNat 32 b) = 0#1 :=
  (by decide +kernel : ∀ a b : Fin 8, a ≠ b → IntOp.cmpi .eq (BitVec.ofNat 32 a.val) (BitVec.ofNat 32 b.val) = 0#1) ⟨a, ha⟩ ⟨b, hb⟩ (fun e => h (congrArg Fin.val e))

/-- The averaging matrix: one 64th within a group, nothing across. -/
theorem mg_in (c : Dev nD) (t : Fin cfg0.N) (j k : Fin 512) :
    (show FVec Ideal S512x512 .bf16 from iblk m c 9 t) (ix2 j k)
      = if j.val / 64 = k.val / 64 then (((1 / 64 : ℝ)) : EReal) else 0 := by
  have e : (show FVec Ideal S512x512 .bf16 from iblk m c 9 t) (ix2 j k)
      = (show FVec Ideal S512x512 .bf16 from V m c main_v29) (ix2 j k) := by
    blk_ext [iblk, idx t]
  rw [e]
  entry_read
  pointwise
  rw [group_of j, group_of k]
  have h64 : Ideal.ofBits .f32 0x42800000#32 = ((64 : ℝ) : EReal) := by
    simp [Ideal.ofBits, Ideal.ieee]
    rw [← EReal.coe_mul]
    norm_num
  have hne : ((64 : ℝ) : EReal) ≠ 0 := by exact_mod_cast (by norm_num : (64 : ℝ) ≠ 0)
  have hinv : ((64 : ℝ) : EReal)⁻¹ = ((1 / 64 : ℝ) : EReal) := by
    rw [← EReal.coe_inv]; norm_num
  rw [h64]
  by_cases h : j.val / 64 = k.val / 64
  · rw [if_pos h, h, same_bit]
    show Ideal.div (((1#1 : BitVec 1).toNat : ℝ) : EReal) _ = _
    unfold Ideal.div
    rw [if_neg hne, hinv]
    simp
  · rw [if_neg h, other_bit _ _ (by omega) (by omega) h]
    show Ideal.div (((0#1 : BitVec 1).toNat : ℝ) : EReal) _ = _
    unfold Ideal.div
    rw [if_neg hne, hinv]
    simp

theorem gate_in (c : Dev nD) : (show FVec Ideal S1024x2816 .f32 from V m c main_v11)
    = fun j => (show FVec Ideal S1x1024x2816 .f32 from m ((c : Thread nD τ).loc main_arg9)) (ix3 0 (j 0) (j 1)) := by
  entry_read
  funext j
  pointwise

theorem up_in (c : Dev nD) : (show FVec Ideal S1024x2816 .f32 from V m c main_v12)
    = fun j => (show FVec Ideal S1x1024x2816 .f32 from m ((c : Thread nD τ).loc main_arg10)) (ix3 0 (j 0) (j 1)) := by
  entry_read
  funext j
  pointwise

theorem down_in (c : Dev nD) : (show FVec Ideal S2816x1024 .f32 from V m c main_v13)
    = fun j => (show FVec Ideal S1x2816x1024 .f32 from m ((c : Thread nD τ).loc main_arg11)) (ix3 0 (j 0) (j 1)) := by
  entry_read
  funext j
  pointwise

/-- The reference's function of the arguments the memory holds. -/
abbrev want (c : Dev nD) : FVec Ideal S16384x1024 .f32 :=
  Cert.Reference2Ideal.Out.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What the gate multiplies is finite on every device. -/
def FiniteGate : Prop := ∀ c : Dev nD, Cert.Pre_finite_hyena.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1

/-- The block that point `t` leaves is the reference at the rows it holds. -/
theorem point (hfin : FiniteGate m) (c : Dev nD) (t : Fin cfg0.N) (r : Fin 512) (k : Fin 1024) (R : Fin 16384) (hR : R.val = t.val * 512 + r.val) :
    (outAt m c t : FVec Ideal S512x1024 .f32) (ix2 r k) = want m c (ix2 R k) := by
  refine Eq.trans ?_ (Cert.Reference2Ideal.Out.whole_at _ _ _ _ _ _ _ _ _ _ _ _ _ R k ⟨R.val / 8192, by omega⟩ ⟨R.val % 8192, by omega⟩ rfl rfl).symm
  unfold outAt
  have e := outBlock_of (show FVec Ideal S512x1024 .f32 from iblk m c 0 t) (show FVec Ideal S512x512 .bf16 from iblk m c 1 t)
    (show FVec Ideal S512x1024 .bf16 from iblk m c 2 t) (show FVec Ideal S512x1024 .bf16 from iblk m c 3 t) (show FVec Ideal S512x512 .f32 from iblk m c 4 t)
    (show FVec Ideal S512x512 .bf16 from iblk m c 5 t) (show FVec Ideal S512x512 .bf16 from iblk m c 6 t) (show FVec Ideal S1x512 .f32 from iblk m c 7 t)
    (show FVec Ideal S1x512 .f32 from iblk m c 8 t) (show FVec Ideal S512x512 .bf16 from iblk m c 9 t) (show FVec Ideal S1x1024 .f32 from iblk m c 10 t)
    (show FVec Ideal S1x1024 .f32 from iblk m c 11 t)
    (show FVec Ideal S1024x2816 .f32 from V m c main_v11) (show FVec Ideal S1024x2816 .f32 from V m c main_v12) (show FVec Ideal S2816x1024 .f32 from V m c main_v13)
    _ _ _ _ _ _ _ _ _ _ _ _ _ _ r k (x_in m c t r · R hR) (att_in m c t r · R hR) (wa_in m c t) (wh_in m c t) (y_in m c t r · R hR) (vv_in m c t r · R hR)
    (x0_in m c t r · R hR) (fb_in m c t) (og_in m c t) (mg_in m c t) (g_in m c t) (fg_in m c t) (gate_in m c) (up_in m c) (down_in m c)
    (fun j => finite_at _ _ _ _ _ _ _ _ _ _ _ _ _ ⟨R.val / 8192, by omega⟩ ⟨R.val % 8192, by omega⟩ j (congrFun (hfin c) _))
  exact e

theorem final (hfin : FiniteGate m) (c : Dev nD) : (dats m 0 c).arrAt 12 (cfgs 0).N = want m c := by
  refine (dats m 0 c).arrAt_eq_of_covers 12 _ (by decide +kernel) fun t _ y => ?_
  blk_simp
  rw [after_12]
  have hN : t.val < 32 := lt_of_lt_of_eq t.isLt (show cfg0.N = 32 from N_0)
  have hy : (y 0 : ℕ) < 512 := (y 0).isLt
  refine (congrArg (outAt m c t) (eq_ix2 (n0 := 512) (n1 := 1024) y)).trans
    ((point m hfin c t (y 0) (y 1) ⟨t.val * 512 + (y 0).val, by omega⟩ rfl).trans (congrArg _ ?_))
  blk_ext [idx t]

end Cert.Kernel2Ideal.Out

end
-- ==== Proof.AttnKit.lean ====
/-
The attention call: the points at which a head begins, the buffers of a point, and what is left of the arguments after
a run.
-/
module

public import proofs.«01_k».proof.Proof.Gen.Kernel3Ideal.Skeleton
public import proofs.«01_k».proof.Proof.Gen.Kernel3Ideal.Frame

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run that leaves every input array as it was: the argument arrays end as they began. -/
theorem arguments_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The point is a head's first query block. -/
abbrev cond0_0 (i : grid0.Coords) : Prop := (Scalar.cmpi .ne (Scalar.extui (Scalar.cmpi .eq (BitVec.ofNat 32 (i 2).val) 0#32)) 0#32) = 1#1
/-- Those are the points that eight divides. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The buffers that a point uses. -/
abbrev ms0_0 (t : Fin cfg0.N) : Memref sig .tc .vmem S1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
/-- The two scratch buffers. -/
abbrev scM0_0 : Memref sig .tc .vmem S2048x128 .bf16 := Memref.whole cc0_scratch0
abbrev scM0_1 : Memref sig .tc .vmem S8192x256 .bf16 := Memref.whole cc0_scratch1

/-- Between points the scratch buffers hold something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Attn

end
-- ==== Proof.AttnRun.lean ====
/-
The attention's body at the first query block of a head: it copies the head's values beside a column of ones into its
scratch, masks the queries and goes through the sixteen key tiles for each of its eight chains of rows.
-/
module

public import proofs.«01_k».proof.Proof.AttnKit

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile's values start at a row that is a word of the point's coordinates. -/
instance rows_closed (i : grid0.Coords) (a b c e : BitVec 32) : ClosedOff (k0_off5 i a b c e) :=
  ⟨![(k0_off5 i a b c e) 0, 0], by funext x; fin_cases x <;> rfl⟩

set_option maxHeartbeats 16000000 in
/-- At a head's first query block the body, on whole buffers, runs to its end: the inputs are as they were, the output
    and the two scratch buffers hold something. -/
theorem run_first (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x5x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x1024x128 .bf16) (harg12 : arg12.IsWhole) (arg13 : Memref sig .tc .vmem S2048x128 .bf16) (harg13 : arg13.IsWhole) (arg14 : Memref sig .tc .vmem S8192x256 .bf16) (harg14 : arg14.IsWhole) (hc0 : cond0_0 i)
    (x0 : Vec F S1x1024x128 .bf16) (x1 : Vec F S1x8192x128 .bf16) (x2 : Vec F S1x8192x128 .bf16) (x3 : Vec F S1x5x512x512 .f32) (x4 : Vec F S1x64 .f32) (x5 : Vec F S1x64 .f32) (x6 : Vec F S1x64 .f32) (x7 : Vec F S1x64 .f32) (x8 : Vec F S1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
    intro E K
    simp only [cc0_diff_attention_eq_skeleton]; unfold cc0_diff_attention_skel
    simp only [k0_part221_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part222_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part223_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part224_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel3Ideal.Attn

end
-- ==== Proof.AttnRunLater.lean ====
/-
The attention's body at a head's later query blocks: as at the first, the head's values being in the scratch already.
-/
module

public import proofs.«01_k».proof.Proof.AttnRun

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- At a head's later query blocks the body, on whole buffers, runs to its end: the inputs are as they were, the output
    and the two scratch buffers hold something. -/
theorem run_later (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x5x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x1024x128 .bf16) (harg12 : arg12.IsWhole) (arg13 : Memref sig .tc .vmem S2048x128 .bf16) (harg13 : arg13.IsWhole) (arg14 : Memref sig .tc .vmem S8192x256 .bf16) (harg14 : arg14.IsWhole) (hc0 : ¬cond0_0 i)
    (x0 : Vec F S1x1024x128 .bf16) (x1 : Vec F S1x8192x128 .bf16) (x2 : Vec F S1x8192x128 .bf16) (x3 : Vec F S1x5x512x512 .f32) (x4 : Vec F S1x64 .f32) (x5 : Vec F S1x64 .f32) (x6 : Vec F S1x64 .f32) (x7 : Vec F S1x64 .f32) (x8 : Vec F S1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
    intro E K
    simp only [cc0_diff_attention_eq_skeleton]; unfold cc0_diff_attention_skel
    simp only [k0_part221_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part222_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part223_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part224_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel3Ideal.Attn

end
-- ==== Proof.AttnFrame.lean ====
/-
The attention call as a whole: it runs to its end, leaves its arguments as they were and every counter at zero.
-/
module

public import proofs.«01_k».proof.Proof.AttnRunLater
public import Idealize.ShloMosaic.Lib.Claim

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output is the window of which nothing is stated. -/
def forgets0 : Fin 10 → Bool := fun w => w.val == 9

/-- What each window holds after the body at a point: an input its block, the output something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

/-- The arrays are those that the call finds. -/
theorem A_eq (c : Dev nD) (w : Fin cfg0.W) : (dats m 0 c).A w = V m c (Pipeline.arrRef spec0 w) := by
  dsimp only [dats]

/-- After the body an input holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Before the body an input holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 2400000 in
/-- The body at any point: a head's first query block or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_later c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The entry of the table of bodies. -/
theorem defs₀_row (t : Fin cfg0.N) :
    defs₀ (F := F) .tc cfg0.body (cfg0.bodyArgs t (cfg0.slots t)) = bodyAt0 t := by
  unfold defs₀; rw [Defs.onTc_tc]

/-- The body keeps its part of the pipeline's bargain at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program runs to its end, its input arrays unchanged and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  arguments_of m ρ (fun c => (dats m 0 c).toRForget forgets0) (A_eq m) (run_main m ρ)

/-- The frame: the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Attn

end
-- ==== Proof.AttnBits.lean ====
/-
The attention call read on words is the program read over the extended reals, term for term: what was
proved of the second for any interpretation of the floats holds of the first.
-/
module

public import proofs.«01_k».proof.Proof.Gen.Kernel3
public import proofs.«01_k».proof.Proof.AttnFrame

@[expose] public section

noncomputable section

namespace Cert.Kernel3.Attn

open Idealize.ShloMosaic Idealize.SL.Sem

variable {F : FTy → Type} [FloatOps F]

theorem body_same : @Cert.Kernel3.cc0_diff_attention F _ _ = @Cert.Kernel3Ideal.cc0_diff_attention F _ _ := rfl

theorem bodies_same : Cert.Kernel3.defs₀ (F := F) = Cert.Kernel3Ideal.defs₀ (F := F) := by
  unfold Cert.Kernel3.defs₀ Cert.Kernel3Ideal.defs₀
  refine congrArg _ (funext fun l => funext fun a => ?_)
  match l, a with
  | 0, (t, s) => rfl

theorem defs_same : Cert.Kernel3.defs (F := F) = Cert.Kernel3Ideal.defs (F := F) :=
  congrArg (Pipeline.defs Cert.Kernel3.pcfgs) bodies_same

theorem frame_run (m : (ℓ : Loc Cert.Kernel3.nD Cert.Kernel3.τ Cert.Kernel3.sig) → Buf (Elt F) ℓ) (ρ : Dev Cert.Kernel3.nD → PrngReg) :
    θ_run Cert.Kernel3.defs (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0) := by
  rw [defs_same]
  exact Cert.Kernel3Ideal.Attn.frame_run m ρ

end Cert.Kernel3.Attn

end
-- ==== Proof.MixKit.lean ====
/-
The set-up of the input projections' launch: when its body stages the weight, the buffers the body is called on, the
semaphores of its copies, and what the pipeline's invariant holds beside the windows.
-/
module

public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## When the body stages -/

/-- The condition under which the body stages the weight, from the grid coordinates. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The buffers the body is called on -/

abbrev ms0_0 (t : Fin cfg0.N) : Memref sig .tc .vmem S1024x1024 .f32 := win0_0.stage (cfg0.slots t 0)
abbrev ms0_1 (t : Fin cfg0.N) : Memref sig .tc .vmem S8x1024 .f32 := win0_1.stage (cfg0.slots t 1)
abbrev ms0_2 (t : Fin cfg0.N) : Memref sig .tc .vmem S8x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S3x1536 .f32 := win0_4.stage (cfg0.slots t 4)
abbrev ms0_5 (t : Fin cfg0.N) : Memref sig .tc .vmem S1x1536 .f32 := win0_5.stage (cfg0.slots t 5)
abbrev ms0_6 (t : Fin cfg0.N) : Memref sig .tc .vmem S1024x1536 .bf16 := win0_6.stage (cfg0.slots t 6)
abbrev ms0_7 (t : Fin cfg0.N) : Memref sig .tc .vmem S1024x512 .bf16 := win0_7.stage (cfg0.slots t 7)
abbrev ms0_8 (t : Fin cfg0.N) : Memref sig .tc .vmem S1024x512 .bf16 := win0_8.stage (cfg0.slots t 8)
abbrev scM0_0 : Memref sig .tc .vmem S1024x3072 .bf16 := Memref.whole cc0_scratch0
abbrev scM0_1 : Memref sig .tc .vmem S2x256x3072 .f32 := Memref.whole cc0_scratch1
/-- The weight left in HBM that the body copies into scratch itself, whole. -/
abbrev hbM0_0 : Memref sig .tc .hbm S1024x3072 .f32 := Memref.whole main_v2
/-- A buffer's contents on core `c`, and the buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphores: none is a window's. -/
abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The operand the body copies, as a reference: no window's array. -/
def H0 : Finset (Ref sig .tc) := {main_v2}
theorem H0_sub : H0 ⊆ Pipeline.restRefs sig spec0 := by decide
theorem hbmPts0_eq (c : Dev nD) :
    (bigSep H0 (fun b => ((c : Thread nD τ).loc b) ↦{fullShare} V m c b) : sProp 𝕄) = hbPt0 c hbM0_0 (V m c main_v2) := by
  rw [BI.bigSep_eq_bigSepL_of_eq [main_v2] (by decide) (by decide)]; rfl

/-- What the invariant of a body with copies of its own holds, conjunct by conjunct: the scratch at some contents, the
    generator register at some state, the own semaphores at zero, the weight at its launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ hbPt0 c hbM0_0 (V m c main_v2)) := by
  rw [Pipeline.ΦD_eq, scopedRest0_eq, ownSems00_eq, hbmPts0_eq]; simp only [scM0_0, scM0_1, owns_whole]; try rfl

end Cert.Kernel4Ideal.Mix

end
-- ==== Proof.MixStage.lean ====
/-
The staging of the weight: at the first grid point the body copies it out of HBM, tile by tile through two alternating
buffers, and leaves it in bf16 in the scratch the later points read.
-/
module

public import proofs.«01_k».proof.Proof.MixKit
public import proofs.«01_k».proof.Proof.FfnStage
public import Idealize.ShloMosaic.Lib.Pipeline.ValueKit

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

open Cert.KernelIdeal.Ffn (slot_hit slot_miss read_pieces rounded)

/-- The part of the body that stages the weight, run at the first grid point only. -/
def stage (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .hbm S1024x3072 .f32) (harg5 : arg5.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole) (arg13 : DmaSems sig S2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13
  k0_part2 i arg1 harg1 arg2 harg2 arg3 harg3 arg4 harg4 arg5 harg5 arg6 harg6 arg7 harg7 arg8 harg8 arg9 harg9 arg10 harg10 arg11 harg11 arg12 harg12 arg13
  let v644 : DmaSems sig S1 := arg13.slice (Rect.unit (s := S2) ![1] S1.size inb_S2_S1_1)
  let v645 : DmaSems sig S_ := v644.squeeze S_ squeezes_S1_S_
  let v646 : Memref sig .tc .vmem S1x256x3072 .f32 := arg12.slice (Rect.unit (s := S2x256x3072) ![1, 0, 0] S1x256x3072.size inb_S2x256x3072_S1x256x3072_1_0_0) (fun _ => rfl)
  let v647 : Memref sig .tc .vmem S256x3072 .f32 := v646.squeeze S256x3072 squeezes_S1x256x3072_S256x3072
  let v648 : Memref sig .tc .hbm S256x3072 .f32 := arg5.slice (Rect.unit (s := S1024x3072) ![768, 0] S256x3072.size inb_S1024x3072_S256x3072_768_0) (fun _ => rfl)
  Prog.lift (.waitDma2 v645.sem v648 v647 (View.wordExact_bits rfl) ((View.wordExact_bits rfl).reshape _ _))
  let v649 : Vec F S1x256x3072 .f32 ← Prog.lift (.load arg12 (Rect.unit (s := S2x256x3072) ![1, 0, 0] S1x256x3072.size inb_S2x256x3072_S1x256x3072_1_0_0).toLoadRect (View.loadsAt_vmem h_S1x256x3072))
  let v652 : Vec F S256x3072 .bf16 ← Prog.lift (.load arg11 (Rect.unit (s := S1024x3072) ![768, 0] S256x3072.size inb_S1024x3072_S256x3072_768_0).toLoadRect (View.loadsAt_vmem h_S256x3072))
  Prog.lift (.store arg11 (Rect.unit (s := S1024x3072) ![768, 0] S256x3072.size inb_S1024x3072_S256x3072_768_0) (k0_pay7 v649) Finset.univ (View.stores_vmem h_S256x3072 (harg11.storeExact_slice rfl _ packedbf16_S1024x3072_S256x3072_768_0) (fun _ => rfl)) (.inl rfl))
  pure ⟨⟩

/-- The rest of the body, run at every grid point. -/
def rest (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .hbm S1024x3072 .f32) (harg5 : arg5.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole) (arg13 : DmaSems sig S2) :
    Prog (TpuEff nD τ sig (Elt F) Λ₀ .tc) PUnit := do
  let v3 : Vec F S1024x1024 .f32 ← Prog.lift (.load arg1 (Rect.unit (s := S1024x1024) ![0, 0] S1024x1024.size inb_S1024x1024_S1024x1024_0_0).toLoadRect (View.loadsAt_vmem h_S1024x1024))
  let v5 : Vec F S1x1024 .f32 ← Prog.lift (.load arg4 (Rect.unit (s := S1x1024) ![0, 0] S1x1024.size inb_S1x1024_S1x1024_0_0).toLoadRect (View.loadsAt_vmem h_S1x1024))
  let v20 : Vec F S8x1024 .f32 ← Prog.lift (.load arg2 (Rect.unit (s := S8x1024) ![0, 0] S8x1024.size inb_S8x1024_S8x1024_0_0).toLoadRect (View.loadsAt_vmem h_S8x1024))
  let v22 : Vec F S8x1024 .f32 ← Prog.lift (.load arg3 (Rect.unit (s := S8x1024) ![0, 0] S8x1024.size inb_S8x1024_S8x1024_0_0).toLoadRect (View.loadsAt_vmem h_S8x1024))
  let v25 : Vec F S1x1024 .f32 ← Prog.lift (.load arg4 (Rect.unit (s := S1x1024) ![0, 0] S1x1024.size inb_S1x1024_S1x1024_0_0).toLoadRect (View.loadsAt_vmem h_S1x1024))
  let ⟨v50, v61, v62, v64, v69, v72, v73, v74⟩ : Σ' (v50 : BitVec 1) (v61 : BitVec 1) (v62 : IVec S8x256 32) (v64 : FVec F S1024x256 .f32) (v69 : FVec F S1x256 .f32) (v72 : FVec F S1x256 .f32) (v73 : FVec F S1024x256 .f32), FVec F S1024x256 .f32 ← k0_part4 i arg1 harg1 arg2 harg2 arg3 harg3 arg4 harg4 arg5 harg5 arg6 harg6 arg7 harg7 arg8 harg8 arg9 harg9 arg10 harg10 arg11 harg11 arg12 harg12 arg13 (BitVec.ofNat 32 (i 0).val) (k0_pay8 v3 v5) (k0_pay9 v20 v22 v25)
  let ⟨v92, v118⟩ : Σ' (v92 : FVec F S1024x256 .f32), FVec F S8x256 .f32 ← k0_part5 i arg1 harg1 arg2 harg2 arg3 harg3 arg4 harg4 arg5 harg5 arg6 harg6 arg7 harg7 arg8 harg8 arg9 harg9 arg10 harg10 arg11 harg11 arg12 harg12 arg13 v62 v64 v69 v73 v74
  let ⟨v146, v148, v153, v156, v157, v158⟩ : Σ' (v146 : FVec F S1024x256 .f32) (v148 : FVec F S1024x256 .f32) (v153 : FVec F S1x256 .f32) (v156 : FVec F S1x256 .f32) (v157 : FVec F S1024x256 .f32), FVec F S1024x256 .f32 ← k0_part6 i arg1 harg1 arg2 harg2 arg3 harg3 arg4 harg4 arg5 harg5 arg6 harg6 arg7 harg7 arg8 harg8 arg9 harg9 arg10 harg10 arg11 harg11 arg12 harg12 arg13 (k0_pay8 v3 v5) (k0_pay9 v20 v22 v25) v50 v61 v62 v64 v72 v73 v74 v92 v118
  let ⟨v176, v202⟩ : Σ' (v176 : FVec F S1024x256 .f32), FVec F S8x256 .f32 ← k0_part7 i arg1 harg1 arg2 harg2 arg3 harg3 arg4 harg4 arg5 harg5 arg6 harg6 arg7 harg7 arg8 harg8 arg9 harg9 arg10 harg10 arg11 harg11 arg12 harg12 arg13 v62 v148 v153 v157 v158
  let ⟨v235, v240, v241, v242⟩ : Σ' (v235 : FVec F S1024x256 .f32) (v240 : FVec F S1x256 .f32) (v241 : FVec F S1x256 .f32), FVec F S1x256 .f32 ← k0_part8 i arg1 harg1 arg2 harg2 arg3 harg3 arg4 harg4 arg5 harg5 arg6 harg6 arg7 harg7 arg8 harg8 arg9 harg9 arg10 harg10 arg11 harg11 arg12 harg12 arg13 (k0_pay8 v3 v5) (k0_pay9 v20 v22 v25) v50 v62 v146 v148 v156 v157 v158 v176 v202
  let ⟨v243, v244, v245, v263, v271, v284⟩ : Σ' (v243 : FVec F S1x256 .f32) (v244 : FVec F S1024x256 .f32) (v245 : FVec F S1024x256 .f32) (v263 : FVec F S1024x256 .f32) (v271 : FVec F S8x256 .f32), FVec F S8x256 .f32 ← k0_part9 i arg1 harg1 arg2 harg2 arg3 harg3 arg4 harg4 arg5 harg5 arg6 harg6 arg7 harg7 arg8 harg8 arg9 harg9 arg10 harg10 arg11 harg11 arg12 harg12 arg13 v61 v62 v235 v240 v241 v242
  let ⟨v321, v323, v324, cst_135⟩ : Σ' (v321 : FVec F S1024x256 .f32) (v323 : FVec F S16x256 .f32) (v324 : FVec F S1x256 .f32), F .f32 ← k0_part10 i arg1 harg1 arg2 harg2 arg3 harg3 arg4 harg4 arg5 harg5 arg6 harg6 arg7 harg7 arg8 harg8 arg9 harg9 arg10 harg10 arg11 harg11 arg12 harg12 arg13 (k0_pay8 v3 v5) (k0_pay9 v20 v22 v25) v62 v235 v243 v244 v245 v263 v271 v284
  let ⟨v329, v330, v331, v349, v356, v357, v365, v366⟩ : Σ' (v329 : FVec F S1x256 .f32) (v330 : FVec F S1024x256 .f32) (v331 : FVec F S1024x256 .f32) (v349 : FVec F S1024x256 .f32) (v356 : FVec F S8x256 .f32) (v357 : FVec F S8x256 .f32) (v365 : FVec F S8x256 .f32), Vec F S1x256 .f32 ← k0_part11 i arg1 harg1 arg2 harg2 arg3 harg3 arg4 harg4 arg5 harg5 arg6 harg6 arg7 harg7 arg8 harg8 arg9 harg9 arg10 harg10 arg11 harg11 arg12 harg12 arg13 v50 v61 v62 v321 v323 v324 cst_135
  let ⟨v403, v405, v407, v408, cst_169⟩ : Σ' (v403 : FVec F S1024x256 .f32) (v405 : FVec F S1024x256 .f32) (v407 : FVec F S16x256 .f32) (v408 : FVec F S1x256 .f32), F .f32 ← k0_part12 i arg1 harg1 arg2 harg2 arg3 harg3 arg4 harg4 arg5 harg5 arg6 harg6 arg7 harg7 arg8 harg8 arg9 harg9 arg10 harg10 arg11 harg11 arg12 harg12 arg13 (k0_pay8 v3 v5) (k0_pay9 v20 v22 v25) v62 v321 v329 v330 v331 v349 v356 v357 v365 v366
  let ⟨v413, v414, v415, v433, v440, v441, v449, v450⟩ : Σ' (v413 : FVec F S1x256 .f32) (v414 : FVec F S1024x256 .f32) (v415 : FVec F S1024x256 .f32) (v433 : FVec F S1024x256 .f32) (v440 : FVec F S8x256 .f32) (v441 : FVec F S8x256 .f32) (v449 : FVec F S8x256 .f32), Vec F S1x256 .f32 ← k0_part13 i arg1 harg1 arg2 harg2 arg3 harg3 arg4 harg4 arg5 harg5 arg6 harg6 arg7 harg7 arg8 harg8 arg9 harg9 arg10 harg10 arg11 harg11 arg12 harg12 arg13 v50 v61 v62 v405 v407 v408 cst_169
  let v492 : FVec F S1024x256 .f32 ← k0_part14 i arg1 harg1 arg2 harg2 arg3 harg3 arg4 harg4 arg5 harg5 arg6 harg6 arg7 harg7 arg8 harg8 arg9 harg9 arg10 harg10 arg11 harg11 arg12 harg12 arg13 (k0_pay8 v3 v5) v62 v403 v405 v413 v414 v415 v433 v440 v441 v449 v450
  let ⟨v500, v501, v502, v520, v526, v527, v528, v530, v533⟩ : Σ' (v500 : FVec F S1x256 .f32) (v501 : FVec F S1024x256 .f32) (v502 : FVec F S1024x256 .f32) (v520 : FVec F S1024x256 .f32) (v526 : FVec F S8x256 .f32) (v527 : FVec F S8x256 .f32) (v528 : FVec F S8x256 .f32) (v530 : FVec F S1x256 .f32), FVec F S8x256 .f32 ← k0_part15 i arg1 harg1 arg2 harg2 arg3 harg3 arg4 harg4 arg5 harg5 arg6 harg6 arg7 harg7 arg8 harg8 arg9 harg9 arg10 harg10 arg11 harg11 arg12 harg12 arg13 (k0_pay9 v20 v22 v25) v50 v61 v62 v492
  k0_part16 i arg1 harg1 arg2 harg2 arg3 harg3 arg4 harg4 arg5 harg5 arg6 harg6 arg7 harg7 arg8 harg8 arg9 harg9 arg10 harg10 arg11 harg11 arg12 harg12 arg13 v62 v492 v500 v501 v502 v520 v526 v527 v528 v530 v533
  let v577 : Vec F S1024x512 .bf16 ← Prog.lift (.load arg11 (Rect.unit (s := S1024x3072) ![0, 0] S1024x512.size inb_S1024x3072_S1024x512_0_0).toLoadRect (View.loadsAt_vmem h_S1024x512))
  let v582 : Vec F S1024x512 .bf16 ← Prog.lift (.load arg8 (Rect.unit (s := S1024x1536) ![0, 0] S1024x512.size inb_S1024x1536_S1024x512_0_0).toLoadRect (View.loadsAt_vmem h_S1024x512))
  Prog.lift (.store arg8 (Rect.unit (s := S1024x1536) ![0, 0] S1024x512.size inb_S1024x1536_S1024x512_0_0) (k0_pay1 (k0_pay8 v3 v5) v577) Finset.univ (View.stores_vmem h_S1024x512 (harg8.storeExact_slice rfl _ packedbf16_S1024x1536_S1024x512_0_0) (fun _ => rfl)) (.inl rfl))
  let v583 : Vec F S1024x512 .bf16 ← Prog.lift (.load arg11 (Rect.unit (s := S1024x3072) ![0, 512] S1024x512.size inb_S1024x3072_S1024x512_0_512).toLoadRect (View.loadsAt_vmem h_S1024x512))
  let v586 : Vec F S1024x512 .bf16 ← Prog.lift (.load arg8 (Rect.unit (s := S1024x1536) ![0, 512] S1024x512.size inb_S1024x1536_S1024x512_0_512).toLoadRect (View.loadsAt_vmem h_S1024x512))
  Prog.lift (.store arg8 (Rect.unit (s := S1024x1536) ![0, 512] S1024x512.size inb_S1024x1536_S1024x512_0_512) (k0_pay2 (k0_pay8 v3 v5) v583) Finset.univ (View.stores_vmem h_S1024x512 (harg8.storeExact_slice rfl _ packedbf16_S1024x1536_S1024x512_0_512) (fun _ => rfl)) (.inl rfl))
  let v587 : Vec F S1024x512 .bf16 ← Prog.lift (.load arg11 (Rect.unit (s := S1024x3072) ![0, 1024] S1024x512.size inb_S1024x3072_S1024x512_0_1024).toLoadRect (View.loadsAt_vmem h_S1024x512))
  let v590 : Vec F S1024x512 .bf16 ← Prog.lift (.load arg8 (Rect.unit (s := S1024x1536) ![0, 1024] S1024x512.size inb_S1024x1536_S1024x512_0_1024).toLoadRect (View.loadsAt_vmem h_S1024x512))
  Prog.lift (.store arg8 (Rect.unit (s := S1024x1536) ![0, 1024] S1024x512.size inb_S1024x1536_S1024x512_0_1024) (k0_pay3 (k0_pay8 v3 v5) v587) Finset.univ (View.stores_vmem h_S1024x512 (harg8.storeExact_slice rfl _ packedbf16_S1024x1536_S1024x512_0_1024) (fun _ => rfl)) (.inl rfl))
  pure ⟨⟩

set_option maxHeartbeats 1036000 in set_option sl_exec.dmaWindow true in set_option sl_exec.dmaWindowSet true in
theorem stage_run (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole)
    (fh0 : HbBuf0 (F := F) c hbM0_0) :
      ∀ (W : Waits sig Unit) (K : PUnit → sProp 𝕄),
        iprop((∃ d, owns (c : Thread nD τ) arg11 fullShare d) ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg11 fullShare (rounded (F := F) (s := S1024x3072) fh0) ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (stage i arg1 harg1 arg2 harg2 arg3 harg3 arg4 harg4 (Memref.whole main_v2) (Memref.isWhole_whole _) arg6 harg6 arg7 harg7 arg8 harg8 arg9 harg9 arg10 harg10 arg11 harg11 arg12 harg12 cc0_scratch2) K := by
    intro W K
    unfold stage
    simp only [k0_part1_eq_skeleton, k0_part2_eq_skeleton]
    unfold owns
    iintro ⟨⟨%ds0, %fs0, -, HS0⟩, ⟨%ds1, %fs1, -, HS1⟩, Hq0, Hq1, Hh0, HW, Hk⟩
    sl_exec
    sl_step
    iapply Hk
    isplitl [HS0]
    · iexists _; isplitr; swap; · iexact HS0
      ipureintro
      apply read_pieces
      · intro p hp
        simp only [List.mem_cons, List.mem_nil_iff, or_false] at hp
        rcases hp with rfl | rfl | rfl | rfl <;> intro x <;> sl_unfold_words <;> dsimp only <;>
          simp only [k0_pay4, k0_pay5, k0_pay6, k0_pay7, shapeCast_self] <;>
          first
          | (rw [slot_hit]; rfl)
          | (rw [slot_miss, slot_hit]; · rfl
             decide)
      · exact View.cover_of_tiled_head _ _ _ (by rfl)
    isplitl [HS1]
    · iexists _, _; isplitr; swap; · iexact HS1
      ipureintro; rfl
    isplitl [Hq0]; · iexact Hq0
    isplitl [Hq1]; · iexact Hq1
    isplitl [Hh0]; · iexact Hh0
    iexists _; iexact HW

/-- A point that stages runs the staging and the rest; -/
theorem body_first (i : grid0.Coords) (hc : cond0_0 i) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole) :
    cc0_mix (F := F) i arg1 harg1 arg2 harg2 arg3 harg3 arg4 harg4 (Memref.whole main_v2) (Memref.isWhole_whole _) arg6 harg6 arg7 harg7 arg8 harg8 arg9 harg9 arg10 harg10 arg11 harg11 arg12 harg12 cc0_scratch2 = (stage i arg1 harg1 arg2 harg2 arg3 harg3 arg4 harg4 (Memref.whole main_v2) (Memref.isWhole_whole _) arg6 harg6 arg7 harg7 arg8 harg8 arg9 harg9 arg10 harg10 arg11 harg11 arg12 harg12 cc0_scratch2 >>= fun _ => rest i arg1 harg1 arg2 harg2 arg3 harg3 arg4 harg4 (Memref.whole main_v2) (Memref.isWhole_whole _) arg6 harg6 arg7 harg7 arg8 harg8 arg9 harg9 arg10 harg10 arg11 harg11 arg12 harg12 cc0_scratch2) := by
  simp only [cc0_mix_eq_skeleton]; unfold cc0_mix_skel
  simp only [k0_part3_eq_skeleton]; unfold k0_part3_skel
  rw [dif_pos hc]
  simp only [bind_assoc, pure_bind, stage, rest]

/-- any other point runs the rest only. -/
theorem body_later (i : grid0.Coords) (hc : ¬cond0_0 i) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole) :
    cc0_mix (F := F) i arg1 harg1 arg2 harg2 arg3 harg3 arg4 harg4 (Memref.whole main_v2) (Memref.isWhole_whole _) arg6 harg6 arg7 harg7 arg8 harg8 arg9 harg9 arg10 harg10 arg11 harg11 arg12 harg12 cc0_scratch2 = rest i arg1 harg1 arg2 harg2 arg3 harg3 arg4 harg4 (Memref.whole main_v2) (Memref.isWhole_whole _) arg6 harg6 arg7 harg7 arg8 harg8 arg9 harg9 arg10 harg10 arg11 harg11 arg12 harg12 cc0_scratch2 := by
  simp only [cc0_mix_eq_skeleton]; unfold cc0_mix_skel
  simp only [k0_part3_eq_skeleton]; unfold k0_part3_skel
  rw [dif_neg hc]
  simp only [bind_assoc, pure_bind, rest]

end Cert.Kernel4Ideal.Mix

end
-- ==== Proof.MixRun.lean ====
/-
One grid point of the input projections once the weight is staged: from the block of rows, the eight rows before and
after it, and the staged weight to the three blocks of the outputs.
-/
module

public import proofs.«01_k».proof.Proof.MixStage
public import Idealize.ShloMosaic.Lib.VecWindow

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

open Cert.KernelIdeal.Ffn (read_pieces rounded)

/-- Columns `256 j … 256 j + 255` of the staged weight. -/
def wcols (w : Vec F S1024x3072 .bf16) (j : Fin 12) : Vec F S1024x256 .bf16 :=
  View.ld w (Rect.unit (s := S1024x3072) ![0, 256 * j.val] S1024x256.size
    (Fin.forall_fin_two.mpr ⟨Nat.le_refl _, show 256 * j.val + 256 ≤ 3072 by have := j.isLt; omega⟩))

/-- Columns `512 j … 512 j + 511` of the staged weight. -/
def wide (w : Vec F S1024x3072 .bf16) (j : Fin 3) : Vec F S1024x512 .bf16 :=
  View.ld w (Rect.unit (s := S1024x3072) ![0, 512 * j.val] S1024x512.size
    (Fin.forall_fin_two.mpr ⟨Nat.le_refl _, show 512 * j.val + 512 ≤ 3072 by have := j.isLt; omega⟩))

/-- Tap `s` of the short convolution at columns `256 j … 256 j + 255`. -/
def tap (cw : Vec F S3x1536 .f32) (s : Fin 3) (j : Fin 6) : Vec F S1x256 .f32 :=
  View.ld cw (Rect.unit (s := S3x1536) ![s.val, 256 * j.val] S1x256.size
    (Fin.forall_fin_two.mpr ⟨show s.val + 1 ≤ 3 by have := s.isLt; omega, show 256 * j.val + 256 ≤ 1536 by have := j.isLt; omega⟩))

/-- The convolution's bias at columns `256 j … 256 j + 255`. -/
def bias (cb : Vec F S1x1536 .f32) (j : Fin 6) : Vec F S1x256 .f32 :=
  View.ld cb (Rect.unit (s := S1x1536) ![0, 256 * j.val] S1x256.size
    (Fin.forall_fin_two.mpr ⟨Nat.le_refl _, show 256 * j.val + 256 ≤ 1536 by have := j.isLt; omega⟩))

/-- The block's place in its sequence: its number modulo the eight blocks a sequence has, as the body computes it. -/
def place (i : grid0.Coords) : BitVec 32 :=
  Scalar.select (Scalar.andi (Scalar.xori (Scalar.cmpi .slt (Scalar.remsi (BitVec.ofNat 32 (i 0).val) (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi (BitVec.ofNat 32 (i 0).val) (Scalar.select (Scalar.cmpi .eq 8#32 0#32) 1#32 8#32)) 0#32))
    (Scalar.addi (Scalar.remsi (BitVec.ofNat 32 (i 0).val) (Scalar.select (Scalar.cmpi .eq 8#32 0#32) 1#32 8#32)) (Scalar.select (Scalar.cmpi .eq 8#32 0#32) 1#32 8#32))
    (Scalar.remsi (BitVec.ofNat 32 (i 0).val) (Scalar.select (Scalar.cmpi .eq 8#32 0#32) 1#32 8#32))

/-- Whether the block opens its sequence, -/
def opens (i : grid0.Coords) : BitVec 1 := Scalar.cmpi .eq (place i) 0#32
/-- and whether it closes it. -/
def closes (i : grid0.Coords) : BitVec 1 := Scalar.cmpi .eq (place i) 7#32

/-- The row numbers of an eight-row slab. -/
abbrev slab : IVec S8x256 32 := iota .tc S8x256 32 [0] iota_S8x256_d0_w32

/-- 256 columns of the projection, convolved down the rows with the neighbouring blocks' end rows. -/
def conv (a z : BitVec 1) (xn : FVec F S1024x1024 .bf16) (halo : FVec F S16x1024 .bf16) (w : Vec F S1024x256 .bf16) (cb c0 c1 c2 : Vec F S1x256 .f32) :
    FVec F S1024x256 .f32 :=
  k0_pay18 slab (k0_pay10 xn w) (k0_pay22 halo z w) (k0_pay14 xn w) (k0_pay15 xn w)
    (k0_pay16 (k0_pay10 xn w) (k0_pay14 xn w) (k0_pay15 xn w) cb c0 c1 c2)
    (k0_pay17 slab (k0_pay10 xn w) (k0_pay21 halo a w) (k0_pay14 xn w) (k0_pay15 xn w) cb c0 c1 c2) cb c0 c1 c2

/-- The convolution at its columns `256 j … 256 j + 255`. -/
def convAt (i : grid0.Coords) (xn : FVec F S1024x1024 .bf16) (halo : FVec F S16x1024 .bf16) (w : Vec F S1024x3072 .bf16) (cw : Vec F S3x1536 .f32) (cb : Vec F S1x1536 .f32)
    (j : Fin 6) : FVec F S1024x256 .f32 :=
  conv (opens i) (closes i) xn halo (wcols w ⟨6 + j.val, by omega⟩) (bias cb j) (tap cw 0 j) (tap cw 1 j) (tap cw 2 j)

/-- Two tiles side by side. -/
def pair (p q : Vec F S1024x256 .bf16) : Vec F S1024x512 .bf16 := fun y =>
  if h : (y 1).val < 256 then p (ix2 (y 0) ⟨(y 1).val, h⟩) else q (ix2 (y 0) ⟨(y 1).val - 256, by have : (y 1).val < 512 := (y 1).isLt; omega⟩)

/-- Three tiles side by side. -/
def triple (p q r : Vec F S1024x512 .bf16) : Vec F S1024x1536 .bf16 := fun y =>
  if h : (y 1).val < 512 then p (ix2 (y 0) ⟨(y 1).val, h⟩)
  else if h' : (y 1).val < 1024 then q (ix2 (y 0) ⟨(y 1).val - 512, by omega⟩)
  else r (ix2 (y 0) ⟨(y 1).val - 1024, by have : (y 1).val < 1536 := (y 1).isLt; omega⟩)

theorem pair_fst (p q : Vec F S1024x256 .bf16) (h : ∀ a, (![0, 0] : Fin 2 → ℕ) a + S1024x256.size a ≤ S1024x512.size a) (x : S1024x256.Idx) :
    pair p q ((Rect.unit (s := S1024x512) ![0, 0] S1024x256.size h).emb x) = p x := by
  have e0 := ValueKit.rect_emb_unit_val (s := S1024x512) ![0, 0] S1024x256.size h x 0
  have e1 := ValueKit.rect_emb_unit_val (s := S1024x512) ![0, 0] S1024x256.size h x 1
  have hx : (x 1).val < 256 := (x 1).isLt
  unfold pair
  rw [dif_pos (by rw [e1]; exact lt_of_eq_of_lt (Nat.zero_add _) hx)]
  refine congrArg p (funext fun a => ?_)
  match a with
  | ⟨0, _⟩ => exact Fin.ext (e0.trans (Nat.zero_add _))
  | ⟨1, _⟩ => exact Fin.ext (e1.trans (Nat.zero_add _))

theorem pair_snd (p q : Vec F S1024x256 .bf16) (h : ∀ a, (![0, 256] : Fin 2 → ℕ) a + S1024x256.size a ≤ S1024x512.size a) (x : S1024x256.Idx) :
    pair p q ((Rect.unit (s := S1024x512) ![0, 256] S1024x256.size h).emb x) = q x := by
  have e0 := ValueKit.rect_emb_unit_val (s := S1024x512) ![0, 256] S1024x256.size h x 0
  have e1 : _ = 256 + (x 1).val := ValueKit.rect_emb_unit_val (s := S1024x512) ![0, 256] S1024x256.size h x 1
  have hx : (x 1).val < 256 := (x 1).isLt
  unfold pair
  rw [dif_neg (by rw [e1]; omega)]
  refine congrArg q (funext fun a => ?_)
  match a with
  | ⟨0, _⟩ => exact Fin.ext (e0.trans (Nat.zero_add _))
  | ⟨1, _⟩ => exact Fin.ext ((congrArg (· - 256) e1).trans (Nat.add_sub_cancel_left _ _))

theorem triple_fst (p q r : Vec F S1024x512 .bf16) (h : ∀ a, (![0, 0] : Fin 2 → ℕ) a + S1024x512.size a ≤ S1024x1536.size a) (x : S1024x512.Idx) :
    triple p q r ((Rect.unit (s := S1024x1536) ![0, 0] S1024x512.size h).emb x) = p x := by
  have e0 := ValueKit.rect_emb_unit_val (s := S1024x1536) ![0, 0] S1024x512.size h x 0
  have e1 := ValueKit.rect_emb_unit_val (s := S1024x1536) ![0, 0] S1024x512.size h x 1
  have hx : (x 1).val < 512 := (x 1).isLt
  unfold triple
  rw [dif_pos (by rw [e1]; exact lt_of_eq_of_lt (Nat.zero_add _) hx)]
  refine congrArg p (funext fun a => ?_)
  match a with
  | ⟨0, _⟩ => exact Fin.ext (e0.trans (Nat.zero_add _))
  | ⟨1, _⟩ => exact Fin.ext (e1.trans (Nat.zero_add _))

theorem triple_snd (p q r : Vec F S1024x512 .bf16) (h : ∀ a, (![0, 512] : Fin 2 → ℕ) a + S1024x512.size a ≤ S1024x1536.size a) (x : S1024x512.Idx) :
    triple p q r ((Rect.unit (s := S1024x1536) ![0, 512] S1024x512.size h).emb x) = q x := by
  have e0 := ValueKit.rect_emb_unit_val (s := S1024x1536) ![0, 512] S1024x512.size h x 0
  have e1 : _ = 512 + (x 1).val := ValueKit.rect_emb_unit_val (s := S1024x1536) ![0, 512] S1024x512.size h x 1
  have hx : (x 1).val < 512 := (x 1).isLt
  unfold triple
  rw [dif_neg (by rw [e1]; omega), dif_pos (by rw [e1]; omega)]
  refine congrArg q (funext fun a => ?_)
  match a with
  | ⟨0, _⟩ => exact Fin.ext (e0.trans (Nat.zero_add _))
  | ⟨1, _⟩ => exact Fin.ext ((congrArg (· - 512) e1).trans (Nat.add_sub_cancel_left _ _))

theorem triple_thd (p q r : Vec F S1024x512 .bf16) (h : ∀ a, (![0, 1024] : Fin 2 → ℕ) a + S1024x512.size a ≤ S1024x1536.size a) (x : S1024x512.Idx) :
    triple p q r ((Rect.unit (s := S1024x1536) ![0, 1024] S1024x512.size h).emb x) = r x := by
  have e0 := ValueKit.rect_emb_unit_val (s := S1024x1536) ![0, 1024] S1024x512.size h x 0
  have e1 : _ = 1024 + (x 1).val := ValueKit.rect_emb_unit_val (s := S1024x1536) ![0, 1024] S1024x512.size h x 1
  have hx : (x 1).val < 512 := (x 1).isLt
  unfold triple
  rw [dif_neg (by rw [e1]; omega), dif_neg (by rw [e1]; omega)]
  refine congrArg r (funext fun a => ?_)
  match a with
  | ⟨0, _⟩ => exact Fin.ext (e0.trans (Nat.zero_add _))
  | ⟨1, _⟩ => exact Fin.ext ((congrArg (· - 1024) e1).trans (Nat.add_sub_cancel_left _ _))

/-- The projections for the attention: the queries scaled, the keys and the values. -/
def qkvBlock (x : Vec F S1024x1024 .f32) (g : Vec F S1x1024 .f32) (w : Vec F S1024x3072 .bf16) : Vec F S1024x1536 .bf16 :=
  triple (k0_pay1 (k0_pay8 x g) (wide w 0)) (k0_pay2 (k0_pay8 x g) (wide w 1)) (k0_pay3 (k0_pay8 x g) (wide w 2))

/-- The product of the second and the third convolved part, 256 columns of it, -/
def prodTile (i : grid0.Coords) (xn : FVec F S1024x1024 .bf16) (halo : FVec F S16x1024 .bf16) (w : Vec F S1024x3072 .bf16) (cw : Vec F S3x1536 .f32) (cb : Vec F S1x1536 .f32)
    (k : Fin 2) : FVec F S1024x256 .bf16 :=
  truncf .bf16 (mulf (convAt i xn halo w cw cb ⟨4 + k.val, by omega⟩) (convAt i xn halo w cw cb ⟨2 + k.val, by omega⟩)) bitsLt_bf16_f32

/-- all of it, -/
def prodBlock (i : grid0.Coords) (x : Vec F S1024x1024 .f32) (xp xq : Vec F S8x1024 .f32) (g : Vec F S1x1024 .f32) (w : Vec F S1024x3072 .bf16) (cw : Vec F S3x1536 .f32) (cb : Vec F S1x1536 .f32) : Vec F S1024x512 .bf16 :=
  pair (prodTile i (k0_pay8 x g) (k0_pay9 xp xq g) w cw cb 0) (prodTile i (k0_pay8 x g) (k0_pay9 xp xq g) w cw cb 1)

/-- and the first convolved part. -/
def gateBlock (i : grid0.Coords) (x : Vec F S1024x1024 .f32) (xp xq : Vec F S8x1024 .f32) (g : Vec F S1x1024 .f32) (w : Vec F S1024x3072 .bf16) (cw : Vec F S3x1536 .f32) (cb : Vec F S1x1536 .f32) : Vec F S1024x512 .bf16 :=
  pair (truncf .bf16 (convAt i (k0_pay8 x g) (k0_pay9 xp xq g) w cw cb 0) bitsLt_bf16_f32)
    (truncf .bf16 (convAt i (k0_pay8 x g) (k0_pay9 xp xq g) w cw cb 1) bitsLt_bf16_f32)

set_option maxHeartbeats 4000000 in
theorem rest_run (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole)
    (x0 : Vec F S1024x1024 .f32) (x1 x2 : Vec F S8x1024 .f32) (x3 : Vec F S1x1024 .f32) (x4 : Vec F S3x1536 .f32) (x5 : Vec F S1x1536 .f32) (w : Vec F S1024x3072 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare w ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare (qkvBlock x0 x3 w) ∗ owns (c : Thread nD τ) arg9 fullShare (prodBlock i x0 x1 x2 x3 w x4 x5) ∗ owns (c : Thread nD τ) arg10 fullShare (gateBlock i x0 x1 x2 x3 w x4 x5) ∗ owns (c : Thread nD τ) arg11 fullShare w ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (rest i arg1 harg1 arg2 harg2 arg3 harg3 arg4 harg4 (Memref.whole main_v2) (Memref.isWhole_whole _) arg6 harg6 arg7 harg7 arg8 harg8 arg9 harg9 arg10 harg10 arg11 harg11 arg12 harg12 cc0_scratch2) K := by
    intro W K
    unfold rest
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%ds1, %fs1, -, HS1⟩, Hq0, Hq1, Hh0, HW, Hk⟩
    obtain rfl := harg1.eq_unread hf0; obtain rfl := harg2.eq_unread hf1; obtain rfl := harg3.eq_unread hf2
    obtain rfl := harg4.eq_unread hf3; obtain rfl := harg6.eq_unread hf4; obtain rfl := harg7.eq_unread hf5
    obtain rfl := harg11.eq_unread hs0
    sl_exec
    sl_step
    iapply Hk
    have e0 : View.ld x0 (Rect.unit (s := S1024x1024) ![0, 0] ![1024, 1024] inb_S1024x1024_S1024x1024_0_0) = x0 :=
      View.ld_unit_lit (S := S1024x1024) _ _ (by decide)
    have e1 : View.ld x1 (Rect.unit (s := S8x1024) ![0, 0] ![8, 1024] inb_S8x1024_S8x1024_0_0) = x1 :=
      View.ld_unit_lit (S := S8x1024) _ _ (by decide)
    have e2 : View.ld x2 (Rect.unit (s := S8x1024) ![0, 0] ![8, 1024] inb_S8x1024_S8x1024_0_0) = x2 :=
      View.ld_unit_lit (S := S8x1024) _ _ (by decide)
    have e3 : View.ld x3 (Rect.unit (s := S1x1024) ![0, 0] ![1, 1024] inb_S1x1024_S1x1024_0_0) = x3 :=
      View.ld_unit_lit (S := S1x1024) _ _ (by decide)
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, Memref.IsWhole.read_unread, e0, e1, e2, e3]
      apply read_pieces
      · refine List.forall_mem_cons.mpr ⟨fun x => ?_, List.forall_mem_cons.mpr ⟨fun x => ?_, List.forall_mem_cons.mpr ⟨fun x => ?_, fun p hp => absurd hp List.not_mem_nil⟩⟩⟩
        · exact (triple_thd _ _ _ inb_S1024x1536_S1024x512_0_1024 x).symm
        · exact (triple_snd _ _ _ inb_S1024x1536_S1024x512_0_512 x).symm
        · exact (triple_fst _ _ _ inb_S1024x1536_S1024x512_0_0 x).symm
      · exact View.cover_of_tiled_head _ _ _ (by rfl)
    isplitl [H7]
    · iexists _; isplitr; swap; · iexact H7
      ipureintro
      sl_unfold_words
      simp only [View.readAt_eq_ld, Memref.IsWhole.read_unread, e0, e1, e2, e3]
      apply read_pieces
      · refine List.forall_mem_cons.mpr ⟨fun x => ?_, List.forall_mem_cons.mpr ⟨fun x => ?_, fun p hp => absurd hp List.not_mem_nil⟩⟩
        · exact (pair_snd _ _ inb_S1024x512_S1024x256_0_256 x).symm
        · exact (pair_fst _ _ inb_S1024x512_S1024x256_0_0 x).symm
      · exact View.cover_of_tiled_head _ _ _ (by rfl)
    isplitl [H8]
    · iexists _; isplitr; swap; · iexact H8
      ipureintro
      sl_unfold_words
      simp only [View.readAt_eq_ld, Memref.IsWhole.read_unread, e0, e1, e2, e3]
      apply read_pieces
      · refine List.forall_mem_cons.mpr ⟨fun x => ?_, List.forall_mem_cons.mpr ⟨fun x => ?_, fun p hp => absurd hp List.not_mem_nil⟩⟩
        · exact (pair_snd _ _ inb_S1024x512_S1024x256_0_256 x).symm
        · exact (pair_fst _ _ inb_S1024x512_S1024x256_0_0 x).symm
      · exact View.cover_of_tiled_head _ _ _ (by rfl)
    isplitl [HS0]
    · iexists _; isplitr; · ipureintro; exact harg11.read_unread _
      iexact HS0
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Cert.Kernel4Ideal.Mix

end
-- ==== Proof.MixFrame.lean ====
/-
The input projections point by point: what the pipeline's invariant holds before the weight is staged and after, the
body at every point, and the launch's run.
-/
module

public import proofs.«01_k».proof.Proof.MixRun
public import Idealize.ShloMosaic.Lib.Claim

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

open Cert.KernelIdeal.Ffn (rounded)

/-- The body at the point that stages. -/
theorem first_run (c : Dev nD) (i : grid0.Coords) (hc : cond0_0 i) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg6 : Memref sig .tc .vmem S3x1536 .f32) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x3072 .bf16) (harg11 : arg11.IsWhole) (arg12 : Memref sig .tc .vmem S2x256x3072 .f32) (harg12 : arg12.IsWhole)
    (x0 : Vec F S1024x1024 .f32) (x1 x2 : Vec F S8x1024 .f32) (x3 : Vec F S1x1024 .f32) (x4 : Vec F S3x1536 .f32) (x5 : Vec F S1x1536 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare (qkvBlock x0 x3 (rounded (F := F) (s := S1024x3072) fh0)) ∗ owns (c : Thread nD τ) arg9 fullShare (prodBlock i x0 x1 x2 x3 (rounded (F := F) (s := S1024x3072) fh0) x4 x5) ∗ owns (c : Thread nD τ) arg10 fullShare (gateBlock i x0 x1 x2 x3 (rounded (F := F) (s := S1024x3072) fh0) x4 x5) ∗ owns (c : Thread nD τ) arg11 fullShare (rounded (F := F) (s := S1024x3072) fh0) ∗ (∃ d, owns (c : Thread nD τ) arg12 fullShare d) ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_mix i arg1 harg1 arg2 harg2 arg3 harg3 arg4 harg4 (Memref.whole main_v2) (Memref.isWhole_whole _) arg6 harg6 arg7 harg7 arg8 harg8 arg9 harg9 arg10 harg10 arg11 harg11 arg12 harg12 cc0_scratch2) K := by
    intro W K
    rw [body_first i hc, wp_bind]
    iintro ⟨H0, H1, H2, H3, H4, H5, H6, H7, H8, HS0, HS1, Hq0, Hq1, Hh0, HW, Hk⟩
    iapply (stage_run c i arg1 harg1 arg2 harg2 arg3 harg3 arg4 harg4 arg6 harg6 arg7 harg7 arg8 harg8 arg9 harg9 arg10 harg10 arg11 harg11 arg12 harg12 fh0 W _)
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨HS0, HS1, Hq0, Hq1, Hh0, ⟨%W', HW⟩⟩
    iapply (rest_run c i arg1 harg1 arg2 harg2 arg3 harg3 arg4 harg4 arg6 harg6 arg7 harg7 arg8 harg8 arg9 harg9 arg10 harg10 arg11 harg11 arg12 harg12 x0 x1 x2 x3 x4 x5 _ fh0 W' K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [Hq0]; · iexact Hq0
    isplitl [Hq1]; · iexact Hq1
    isplitl [Hh0]; · iexact Hh0
    isplitl [HW]; · iexact HW
    iexact Hk

variable (m : (ℓ : Loc nD τ sig) → Buf (Elt F) ℓ) (ρ : Dev nD → PrngReg)

/-! ## The proof data -/

/-- The weight as staged. -/
abbrev weight (c : Dev nD) : Vec F S1024x3072 .bf16 := rounded (F := F) (s := S1024x3072) (V m c main_v2)

/-- The invariant once the weight is staged: its buffer holds the rounded weight; the rest as before. -/
def staged (c : Dev nD) : sProp 𝕄 :=
  iprop(iprop(owns (c : Thread nD τ) scM0_0 fullShare (weight m c) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ hbPt0 c hbM0_0 (V m c main_v2))

/-- What point `t` leaves in the three outputs' blocks. -/
def qkvAt (c : Dev nD) (t : Fin cfg0.N) : Vec F S1024x1536 .bf16 :=
  qkvBlock (iblk m c 0 t) (iblk m c 3 t) (weight m c)
def prodAt (c : Dev nD) (t : Fin cfg0.N) : Vec F S1024x512 .bf16 :=
  prodBlock (grid0.coords t) (iblk m c 0 t) (iblk m c 1 t) (iblk m c 2 t) (iblk m c 3 t) (weight m c) (iblk m c 4 t) (iblk m c 5 t)
def gateAt (c : Dev nD) (t : Fin cfg0.N) : Vec F S1024x512 .bf16 :=
  gateBlock (grid0.coords t) (iblk m c 0 t) (iblk m c 1 t) (iblk m c 2 t) (iblk m c 3 t) (weight m c) (iblk m c 4 t) (iblk m c 5 t)

/-- The proof data: inputs are left as they are, the outputs' blocks are as above, and the weight is staged from the
    second point on. Three windows read the rows, each at a part of the array's share. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qkvAt m c t
    | ⟨7, _⟩ => prodAt m c t
    | ⟨8, _⟩ => gateAt m c t
  Φ k := if k.val = 0 then Pipeline.ΦD osem0 spec0 H0 (V m) c else staged m c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = qkvAt m c t := by dsimp only [dats]
theorem after_7 (c : Dev nD) (t : Fin cfg0.N) : (dats m 0 c).after 7 t = prodAt m c t := by dsimp only [dats]
theorem after_8 (c : Dev nD) (t : Fin cfg0.N) : (dats m 0 c).after 8 t = gateAt m c t := by dsimp only [dats]
theorem Phi_zero (c : Dev nD) (k : Fin (cfg0.N + 1)) (h : k.val = 0) : (dats m 0 c).Φ k = Pipeline.ΦD osem0 spec0 H0 (V m) c := by
  dsimp only [dats]; rw [if_pos h]
theorem Phi_pos (c : Dev nD) (k : Fin (cfg0.N + 1)) (h : ¬k.val = 0) : (dats m 0 c).Φ k = staged m c := by
  dsimp only [dats]; rw [if_neg h]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [Phi_pos m c t.succ (by simp), after_0, after_1, after_2, after_3, after_4, after_5, after_6, after_7, after_8]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val = 0
  · rw [Phi_zero m c t.castSucc h0, PhiD0_eq]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (first_run c (grid0.coords t) ((hcond0_0 t).mpr (by rw [h0])) _ _ _ _ _ _ _ _ _ _ _ _ _ _ _ _ _ _ _ _ _ _ (iblk m c 0 t) (iblk m c 1 t) (iblk m c 2 t) (iblk m c 3 t) (iblk m c 4 t) (iblk m c 5 t) (V m c main_v2) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, HS0, HS1, Hq0, Hq1, Hh0, ⟨%W', HW'⟩⟩
    unfold staged
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Phi_pos m c t.castSucc h0, body_later (grid0.coords t) (fun h => h0 (by have := (hcond0_0 t).mp h; omega))]
    unfold staged
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (rest_run c (grid0.coords t) _ _ _ _ _ _ _ _ _ _ _ _ _ _ _ _ _ _ _ _ _ _ (iblk m c 0 t) (iblk m c 1 t) (iblk m c 2 t) (iblk m c 3 t) (iblk m c 4 t) (iblk m c 5 t) (weight m c) (V m c main_v2) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands over is the invariant before the first point, -/
theorem launch_in (c : Dev nD) : Pipeline.ΦD osem0 spec0 H0 (V m) c ⊢ (dats m 0 c).Φ 0 := by
  rw [Phi_zero m c 0 rfl]

/-- and the invariant after the last point gives it back, the staged weight forgotten. -/
theorem launch_out (c : Dev nD) : (dats m 0 c).Φ (Fin.last cfg0.N) ⊢ Pipeline.ΦD osem0 spec0 H0 (V m) c := by
  rw [Phi_pos m c (Fin.last cfg0.N) (by rw [Fin.val_last, show cfg0.N = 16 from N_0]; decide), PhiD0_eq]
  unfold staged
  iintro ⟨⟨HS0, HS1⟩, Hg, Hq, Hh⟩
  isplitl [HS0 HS1]
  · isplitl [HS0]; · iexists _; iexact HS0
    iexact HS1
  isplitl [Hg]; · iexact Hg
  isplitl [Hq]; · iexact Hq
  iexact Hh

set_option maxHeartbeats 800000 in
theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data says, the other buffers as the region found them, and
    every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := main_prefix m) (hA := A_eq m) (hin := launch_in m) (hout := launch_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => unchanged m r h.1 c, h.2⟩) (run_main_quiescent m ρ)

end Cert.Kernel4Ideal.Mix

end
-- ==== Proof.MixBits.lean ====
/-
The input projections read on words are the program read over the extended reals, term for term: what was
proved of the second for any interpretation of the floats holds of the first.
-/
module

public import proofs.«01_k».proof.Proof.Gen.Kernel4
public import proofs.«01_k».proof.Proof.MixFrame

@[expose] public section

noncomputable section

namespace Cert.Kernel4.Mix

open Idealize.ShloMosaic Idealize.SL.Sem

variable {F : FTy → Type} [FloatOps F]

theorem body_same : @Cert.Kernel4.cc0_mix F _ _ = @Cert.Kernel4Ideal.cc0_mix F _ _ := rfl

theorem bodies_same : Cert.Kernel4.defs₀ (F := F) = Cert.Kernel4Ideal.defs₀ (F := F) := by
  unfold Cert.Kernel4.defs₀ Cert.Kernel4Ideal.defs₀
  refine congrArg _ (funext fun l => funext fun a => ?_)
  match l, a with
  | 0, (t, s) => rfl

theorem defs_same : Cert.Kernel4.defs (F := F) = Cert.Kernel4Ideal.defs (F := F) :=
  congrArg (Pipeline.defs Cert.Kernel4.pcfgs) bodies_same

theorem frame_run (m : (ℓ : Loc Cert.Kernel4.nD Cert.Kernel4.τ Cert.Kernel4.sig) → Buf (Elt F) ℓ) (ρ : Dev Cert.Kernel4.nD → PrngReg) :
    θ_run Cert.Kernel4.defs (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0) := by
  rw [defs_same]
  exact Cert.Kernel4Ideal.Mix.frame_run m ρ

end Cert.Kernel4.Mix

end
-- ==== Proof.MixPoint.lean ====
/-
The blocks the body of the input projections leaves, element by element over the extended reals: the projections of the
rows' norms, and of a third of them the convolution over three rows, the rows before and after the block with it.
-/
module

public import proofs.«01_k».proof.Proof.MixRun
public import proofs.«01_k».proof.Proof.FfnPoint
public import Idealize.ShloMosaic.Lib.Pointwise
public import Idealize.ShloMosaic.Lib.WordCmp

@[expose] public section

set_option maxRecDepth 16384

noncomputable section

namespace Cert.Kernel4Ideal.Mix

open Idealize.ShloMosaic Idealize.ShloMosaic.TcCoe Idealize.SL.Sem
open Cert.Kernel4Ideal.Gen
open Cert.KernelIdeal.Ffn (normed)

/-- A row against a column. -/
def dot (h w : Fin 1024 → EReal) : EReal := ∑ k : Fin 1024, h k * w k

/-- The convolution at one entry: the bias and three rows' entries times three taps. -/
def taps (b p0 p1 p2 c0 c1 c2 : EReal) : EReal := b + p0 * c0 + p1 * c1 + p2 * c2

theorem pay8_at (x : FVec Ideal S1024x1024 .f32) (g : FVec Ideal S1x1024 .f32) (r k : Fin 1024) :
    k0_pay8 (F := Ideal) x g (ix2 r k) = normed (fun k => x (ix2 r k)) (fun k => g (ix2 0 k)) k := by
  pointwise [k0_pay8, normed]

/-- The last of the eight rows before the block, -/
theorem pay9_before (xp xq : FVec Ideal S8x1024 .f32) (g : FVec Ideal S1x1024 .f32) (k : Fin 1024) :
    k0_pay9 (F := Ideal) xp xq g (ix2 7 k) = normed (fun k => xp (ix2 7 k)) (fun k => g (ix2 0 k)) k := by
  pointwise [k0_pay9, normed]

/-- and the first of the eight after it. -/
theorem pay9_after (xp xq : FVec Ideal S8x1024 .f32) (g : FVec Ideal S1x1024 .f32) (k : Fin 1024) :
    k0_pay9 (F := Ideal) xp xq g (ix2 8 k) = normed (fun k => xq (ix2 0 k)) (fun k => g (ix2 0 k)) k := by
  pointwise [k0_pay9, normed]

theorem pair_at (p q : FVec Ideal S1024x256 .bf16) (r : Fin 1024) (n : Fin 512) :
    pair (F := Ideal) p q (ix2 r n) = if h : n.val < 256 then p (ix2 r ⟨n.val, h⟩) else q (ix2 r ⟨n.val - 256, by omega⟩) := rfl

theorem triple_at (p q u : FVec Ideal S1024x512 .bf16) (r : Fin 1024) (n : Fin 1536) :
    triple (F := Ideal) p q u (ix2 r n) = if h : n.val < 512 then p (ix2 r ⟨n.val, h⟩)
      else if h' : n.val < 1024 then q (ix2 r ⟨n.val - 512, by omega⟩) else u (ix2 r ⟨n.val - 1024, by omega⟩) := rfl

theorem wcols_at (w : FVec Ideal S1024x3072 .bf16) (j : Fin 12) (k : Fin 1024) (u : Fin 256) :
    wcols (F := Ideal) w j (ix2 k u) = w (ix2 k ⟨256 * j.val + u.val, by omega⟩) := by
  pointwise [wcols]

theorem wide_at (w : FVec Ideal S1024x3072 .bf16) (j : Fin 3) (k : Fin 1024) (u : Fin 512) :
    wide (F := Ideal) w j (ix2 k u) = w (ix2 k ⟨512 * j.val + u.val, by omega⟩) := by
  pointwise [wide]

theorem tap_at (w : FVec Ideal S3x1536 .f32) (s : Fin 3) (j : Fin 6) (u : Fin 256) :
    tap (F := Ideal) w s j (ix2 0 u) = w (ix2 s ⟨256 * j.val + u.val, by omega⟩) := by
  pointwise [tap]

theorem bias_at (w : FVec Ideal S1x1536 .f32) (j : Fin 6) (u : Fin 256) :
    bias (F := Ideal) w j (ix2 0 u) = w (ix2 0 ⟨256 * j.val + u.val, by omega⟩) := by
  pointwise [bias]

theorem pay10_at (xn : FVec Ideal S1024x1024 .bf16) (w : FVec Ideal S1024x256 .bf16) (r : Fin 1024) (q : Fin 256) :
    k0_pay10 (F := Ideal) xn w (ix2 r q) = dot (fun k => xn (ix2 r k)) (fun k => w (ix2 k q)) := by
  pointwise [k0_pay10, dot]

theorem pay14_at (xn : FVec Ideal S1024x1024 .bf16) (w : FVec Ideal S1024x256 .bf16) (r : Fin 1024) (q : Fin 256) :
    k0_pay14 (F := Ideal) xn w (ix2 r q) = dot (fun k => xn (ix2 ⟨(r.val + 1023) % 1024, by omega⟩ k)) (fun k => w (ix2 k q)) := by
  refine Eq.trans ?_ (pay10_at xn w _ q)
  refine congrArg (k0_pay10 (F := Ideal) xn w) (funext fun a => ?_)
  match a with
  | ⟨0, _⟩ => rfl
  | ⟨1, _⟩ => rfl

theorem pay15_at (xn : FVec Ideal S1024x1024 .bf16) (w : FVec Ideal S1024x256 .bf16) (r : Fin 1024) (q : Fin 256) :
    k0_pay15 (F := Ideal) xn w (ix2 r q) = dot (fun k => xn (ix2 ⟨(r.val + 1) % 1024, by omega⟩ k)) (fun k => w (ix2 k q)) := by
  refine Eq.trans ?_ (pay10_at xn w _ q)
  refine congrArg (k0_pay10 (F := Ideal) xn w) (funext fun a => ?_)
  match a with
  | ⟨0, _⟩ => rfl
  | ⟨1, _⟩ => rfl

theorem pay21_at (h : FVec Ideal S16x1024 .bf16) (a : BitVec 1) (w : FVec Ideal S1024x256 .bf16) (q : Fin 256) :
    k0_pay21 (F := Ideal) h a w (ix2 0 q) = Scalar.select a 0 (dot (fun k => h (ix2 7 k)) (fun k => w (ix2 k q))) := by
  unfold k0_pay21
  have e (A B : FVec Ideal S1x256 .f32) : Scalar.select a A B (ix2 0 q) = Scalar.select a (A (ix2 0 q)) (B (ix2 0 q)) := by
    unfold Scalar.select; split <;> rfl
  refine (e _ _).trans ?_
  pointwise [k0_pay20, dot]

theorem pay22_at (h : FVec Ideal S16x1024 .bf16) (a : BitVec 1) (w : FVec Ideal S1024x256 .bf16) (q : Fin 256) :
    k0_pay22 (F := Ideal) h a w (ix2 0 q) = Scalar.select a 0 (dot (fun k => h (ix2 8 k)) (fun k => w (ix2 k q))) := by
  unfold k0_pay22
  have e (A B : FVec Ideal S1x256 .f32) : Scalar.select a A B (ix2 0 q) = Scalar.select a (A (ix2 0 q)) (B (ix2 0 q)) := by
    unfold Scalar.select; split <;> rfl
  refine (e _ _).trans ?_
  pointwise [k0_pay20, dot]

theorem pay16_at (z zm zp : FVec Ideal S1024x256 .f32) (cb c0 c1 c2 : FVec Ideal S1x256 .f32) (r : Fin 1024) (q : Fin 256) :
    k0_pay16 (F := Ideal) z zm zp cb c0 c1 c2 (ix2 r q)
      = taps (cb (ix2 0 q)) (zm (ix2 r q)) (z (ix2 r q)) (zp (ix2 r q)) (c0 (ix2 0 q)) (c1 (ix2 0 q)) (c2 (ix2 0 q)) := by
  pointwise [k0_pay16, taps]

/-- A choice by whether a small number is another. -/
theorem word_eq {α : Type} (n k : Nat) (hn : n < 2 ^ 31) (hk : k < 2 ^ 31) (x y : α) :
    Scalar.select (IntOp.cmpi .eq (BitVec.ofNat 32 n) (BitVec.ofNat 32 k)) x y = if n = k then x else y := by
  word_cmp

theorem pay17_at (z zm zp : FVec Ideal S1024x256 .f32) (p cb c0 c1 c2 : FVec Ideal S1x256 .f32) (r : Fin 8) (q : Fin 256) :
    k0_pay17 (F := Ideal) slab z p zm zp cb c0 c1 c2 (ix2 r q)
      = taps (cb (ix2 0 q)) (if r.val = 0 then p (ix2 0 q) else zm (ix2 ⟨r.val, by omega⟩ q)) (z (ix2 ⟨r.val, by omega⟩ q)) (zp (ix2 ⟨r.val, by omega⟩ q))
          (c0 (ix2 0 q)) (c1 (ix2 0 q)) (c2 (ix2 0 q)) := by
  pointwise [k0_pay17, taps, slab]
  rw [word_eq r.val 0 (by omega) (by omega)]

theorem pay18_at (z zm zp mid : FVec Ideal S1024x256 .f32) (n cb c0 c1 c2 : FVec Ideal S1x256 .f32) (top : FVec Ideal S8x256 .f32) (r : Fin 1024) (q : Fin 256) :
    k0_pay18 (F := Ideal) slab z n zm zp mid top cb c0 c1 c2 (ix2 r q)
      = if h : r.val < 8 then top (ix2 ⟨r.val, h⟩ q) else if r.val < 1016 then mid (ix2 r q)
        else taps (cb (ix2 0 q)) (zm (ix2 r q)) (z (ix2 r q)) (if r.val = 1023 then n (ix2 0 q) else zp (ix2 r q)) (c0 (ix2 0 q)) (c1 (ix2 0 q)) (c2 (ix2 0 q)) := by
  pointwise [k0_pay18, taps, slab]
  by_cases h8 : r.val < 8
  · rw [dif_pos h8, dif_pos h8]
  by_cases h16 : r.val < 1016
  · rw [dif_neg h8, dif_neg h8, dif_pos (by omega), if_pos h16]
    exact congrArg (fun i => mid (ix2 i q)) (Fin.ext (by show 8 + (r.val - 8) = r.val; omega))
  · rw [dif_neg h8, dif_neg h8, dif_neg (by omega), if_neg h16, word_eq (r.val - 8 - 1008) 7 (by omega) (by omega)]
    have e : (⟨1016 + (r.val - 8 - 1008), by omega⟩ : Fin 1024) = r := Fin.ext (by show 1016 + (r.val - 8 - 1008) = r.val; omega)
    rw [e]
    have e' : (r.val - 8 - 1008 = 7) = (r.val = 1023) := propext ⟨fun h => by omega, fun h => by omega⟩
    simp only [e']

theorem conv_at (a z : BitVec 1) (xn : FVec Ideal S1024x1024 .bf16) (halo : FVec Ideal S16x1024 .bf16) (w : FVec Ideal S1024x256 .bf16) (cb c0 c1 c2 : FVec Ideal S1x256 .f32)
    (r : Fin 1024) (q : Fin 256) :
    conv (F := Ideal) a z xn halo w cb c0 c1 c2 (ix2 r q)
      = taps (cb (ix2 0 q))
          (if r.val = 0 then Scalar.select a 0 (dot (fun k => halo (ix2 7 k)) (fun k => w (ix2 k q)))
            else dot (fun k => xn (ix2 ⟨(r.val + 1023) % 1024, by omega⟩ k)) (fun k => w (ix2 k q)))
          (dot (fun k => xn (ix2 r k)) (fun k => w (ix2 k q)))
          (if r.val = 1023 then Scalar.select z 0 (dot (fun k => halo (ix2 8 k)) (fun k => w (ix2 k q)))
            else dot (fun k => xn (ix2 ⟨(r.val + 1) % 1024, by omega⟩ k)) (fun k => w (ix2 k q)))
          (c0 (ix2 0 q)) (c1 (ix2 0 q)) (c2 (ix2 0 q)) := by
  unfold conv
  rw [pay18_at]
  simp only [pay17_at, pay16_at, pay10_at, pay14_at, pay15_at, pay21_at, pay22_at]
  by_cases h8 : r.val < 8
  · rw [dif_pos h8, if_neg (by omega : ¬r.val = 1023)]
  by_cases h16 : r.val < 1016
  · rw [dif_neg h8, if_pos h16, if_neg (by omega : ¬r.val = 0), if_neg (by omega : ¬r.val = 1023)]
  · rw [dif_neg h8, if_neg h16, if_neg (by omega : ¬r.val = 0)]

/-! ## The call at a row -/

section Rows

variable (X : Fin 16384 → Fin 1024 → EReal) (G : Fin 1024 → EReal) (W : Fin 1024 → Fin 3072 → EReal) (C : Fin 3 → Fin 1536 → EReal) (B : Fin 1536 → EReal)

/-- Column `n` of row `R`'s projection, -/
def proj (R : Fin 16384) (n : Fin 3072) : EReal := dot (normed (X R) G) (fun k => W k n)

/-- the same of the row before it in its sequence, zero where there is none, -/
def before (R : Fin 16384) (n : Fin 3072) : EReal := if R.val % 8192 = 0 then 0 else proj X G W ⟨R.val - 1, by omega⟩ n

/-- and of the row after it. -/
def after (R : Fin 16384) (n : Fin 3072) : EReal := if h : R.val % 8192 = 8191 then 0 else proj X G W ⟨R.val + 1, by omega⟩ n

/-- Column `n` of the convolved part at row `R`. -/
def convolved (R : Fin 16384) (n : Fin 1536) : EReal :=
  taps (B n) (before X G W R ⟨1536 + n.val, by omega⟩) (proj X G W R ⟨1536 + n.val, by omega⟩) (after X G W R ⟨1536 + n.val, by omega⟩) (C 0 n) (C 1 n) (C 2 n)

/-- Column `n` of what the attention reads: the queries scaled. -/
def forAttn (R : Fin 16384) (n : Fin 1536) : EReal :=
  if n.val < 512 then proj X G W R ⟨n.val, by omega⟩ * Ideal.ofBits .f32 0x3E38AA3B#32 else proj X G W R ⟨n.val, by omega⟩

theorem places : ∀ t : Fin cfg0.N, opens (grid0.coords t) = (if t.val % 8 = 0 then 1#1 else 0#1) ∧ closes (grid0.coords t) = (if t.val % 8 = 7 then 1#1 else 0#1) :=
  (by decide +kernel : ∀ t : Fin grid0.N, _)

theorem taps_congr {b b' p0 p0' p1 p1' p2 p2' c0 c1 c2 : EReal} (hb : b = b') (h0 : p0 = p0') (h1 : p1 = p1') (h2 : p2 = p2') :
    taps b p0 p1 p2 c0 c1 c2 = taps b' p0' p1' p2' c0 c1 c2 := by subst hb h0 h1 h2; rfl

variable (x : FVec Ideal S1024x1024 .f32) (xp xq : FVec Ideal S8x1024 .f32) (g : FVec Ideal S1x1024 .f32) (w : FVec Ideal S1024x3072 .bf16)
  (cw : FVec Ideal S3x1536 .f32) (cb : FVec Ideal S1x1536 .f32) (t : Fin cfg0.N)

/-- One column of the convolved part at a row of point `t`'s block. -/
theorem convAt_of (hx : ∀ (r k : Fin 1024) (R : Fin 16384), R.val = t.val * 1024 + r.val → x (ix2 r k) = X R k)
    (hp : ∀ (k : Fin 1024) (R : Fin 16384), R.val + 1 = t.val * 1024 → xp (ix2 7 k) = X R k)
    (hq : ∀ (k : Fin 1024) (R : Fin 16384), R.val = t.val * 1024 + 1024 → xq (ix2 0 k) = X R k)
    (hg : ∀ k, g (ix2 0 k) = G k) (hw : ∀ k n, w (ix2 k n) = W k n) (hcw : ∀ s n, cw (ix2 s n) = C s n) (hcb : ∀ n, cb (ix2 0 n) = B n)
    (j : Fin 6) (r : Fin 1024) (q : Fin 256) (R : Fin 16384) (hR : R.val = t.val * 1024 + r.val) (n : Fin 1536) (hn : n.val = 256 * j.val + q.val) :
    convAt (F := Ideal) (grid0.coords t) (k0_pay8 (F := Ideal) x g) (k0_pay9 (F := Ideal) xp xq g) w cw cb j (ix2 r q) = convolved X G W C B R n := by
  have hN : t.val < 16 := lt_of_lt_of_eq t.isLt (show cfg0.N = 16 from N_0)
  have en : (⟨256 * j.val + q.val, by omega⟩ : Fin 1536) = n := Fin.ext hn.symm
  have em : (⟨256 * (6 + j.val) + q.val, by omega⟩ : Fin 3072) = ⟨1536 + n.val, by omega⟩ := Fin.ext (by show 256 * (6 + j.val) + q.val = 1536 + n.val; omega)
  have row (r' : Fin 1024) (R' : Fin 16384) (h : R'.val = t.val * 1024 + r'.val) : (fun k => x (ix2 r' k)) = X R' := funext fun k => hx r' k R' h
  have eg : (fun k => g (ix2 0 k)) = G := funext hg
  unfold convAt
  rw [conv_at]
  simp only [pay8_at, pay9_before, pay9_after, wcols_at, tap_at, bias_at, eg, hw, hcw, hcb, en, em, (places t).1, (places t).2]
  refine taps_congr rfl ?_ (by rw [row r R hR]; rfl) ?_
  · unfold before
    by_cases h0 : r.val = 0
    · rw [if_pos h0]
      by_cases h8 : t.val % 8 = 0
      · rw [if_pos h8, if_pos (by omega), WordCmp.select_one]
      · rw [if_neg h8, if_neg (by omega), WordCmp.select_zero,
          show (fun k => xp (ix2 7 k)) = X ⟨R.val - 1, by omega⟩ from funext fun k => hp k _ (by show R.val - 1 + 1 = _; omega)]
        rfl
    · rw [if_neg h0, if_neg (by omega), row _ ⟨R.val - 1, by omega⟩ (by show R.val - 1 = t.val * 1024 + (r.val + 1023) % 1024; omega)]
      rfl
  · unfold after
    by_cases h0 : r.val = 1023
    · rw [if_pos h0]
      by_cases h8 : t.val % 8 = 7
      · rw [if_pos h8, dif_pos (by omega), WordCmp.select_one]
      · rw [if_neg h8, dif_neg (by omega), WordCmp.select_zero,
          show (fun k => xq (ix2 0 k)) = X ⟨R.val + 1, by omega⟩ from funext fun k => hq k _ (by show R.val + 1 = _; omega)]
        rfl
    · rw [if_neg h0, dif_neg (by omega), row _ ⟨R.val + 1, by omega⟩ (by show R.val + 1 = t.val * 1024 + (r.val + 1) % 1024; omega)]
      rfl

/-- The first output's block, -/
theorem qkvBlock_of (hx : ∀ (r k : Fin 1024) (R : Fin 16384), R.val = t.val * 1024 + r.val → x (ix2 r k) = X R k)
    (hg : ∀ k, g (ix2 0 k) = G k) (hw : ∀ k n, w (ix2 k n) = W k n)
    (r : Fin 1024) (n : Fin 1536) (R : Fin 16384) (hR : R.val = t.val * 1024 + r.val) :
    qkvBlock (F := Ideal) x g w (ix2 r n) = forAttn X G W R n := by
  have row : (fun k => x (ix2 r k)) = X R := funext fun k => hx r k R hR
  have eg : (fun k => g (ix2 0 k)) = G := funext hg
  unfold qkvBlock forAttn
  rw [triple_at]
  by_cases h : n.val < 512
  · rw [dif_pos h, if_pos h]
    pointwise [k0_pay1, pay8_at, wide_at, proj, dot]
    simp only [row, eg, hw]
  by_cases h' : n.val < 1024
  · rw [dif_neg h, dif_pos h', if_neg h]
    pointwise [k0_pay2, pay8_at, wide_at, proj, dot]
    simp only [row, eg, hw]
    have e : (⟨512 * 1 + (n.val - 512), by omega⟩ : Fin 3072) = ⟨n.val, by omega⟩ := Fin.ext (by show 512 * 1 + (n.val - 512) = n.val; omega)
    rw [e]
  · rw [dif_neg h, dif_neg h', if_neg h]
    pointwise [k0_pay3, pay8_at, wide_at, proj, dot]
    simp only [row, eg, hw]
    have e : (⟨512 * 2 + (n.val - 1024), by omega⟩ : Fin 3072) = ⟨n.val, by omega⟩ := Fin.ext (by show 512 * 2 + (n.val - 1024) = n.val; omega)
    rw [e]

/-- the second's -/
theorem prodBlock_of (hx : ∀ (r k : Fin 1024) (R : Fin 16384), R.val = t.val * 1024 + r.val → x (ix2 r k) = X R k)
    (hp : ∀ (k : Fin 1024) (R : Fin 16384), R.val + 1 = t.val * 1024 → xp (ix2 7 k) = X R k)
    (hq : ∀ (k : Fin 1024) (R : Fin 16384), R.val = t.val * 1024 + 1024 → xq (ix2 0 k) = X R k)
    (hg : ∀ k, g (ix2 0 k) = G k) (hw : ∀ k n, w (ix2 k n) = W k n) (hcw : ∀ s n, cw (ix2 s n) = C s n) (hcb : ∀ n, cb (ix2 0 n) = B n)
    (r : Fin 1024) (n : Fin 512) (R : Fin 16384) (hR : R.val = t.val * 1024 + r.val) :
    prodBlock (F := Ideal) (grid0.coords t) x xp xq g w cw cb (ix2 r n)
      = convolved X G W C B R ⟨1024 + n.val, by omega⟩ * convolved X G W C B R ⟨512 + n.val, by omega⟩ := by
  have key := convAt_of X G W C B x xp xq g w cw cb t hx hp hq hg hw hcw hcb
  unfold prodBlock
  rw [pair_at]
  by_cases h : n.val < 256
  · rw [dif_pos h]
    exact congr (congrArg (· * ·) (key 4 r ⟨n.val, h⟩ R hR ⟨1024 + n.val, by omega⟩ rfl)) (key 2 r ⟨n.val, h⟩ R hR ⟨512 + n.val, by omega⟩ rfl)
  · rw [dif_neg h]
    exact congr (congrArg (· * ·) (key 5 r ⟨n.val - 256, by omega⟩ R hR ⟨1024 + n.val, by omega⟩ (by show 1024 + n.val = 256 * 5 + (n.val - 256); omega)))
      (key 3 r ⟨n.val - 256, by omega⟩ R hR ⟨512 + n.val, by omega⟩ (by show 512 + n.val = 256 * 3 + (n.val - 256); omega))

/-- and the third's. -/
theorem gateBlock_of (hx : ∀ (r k : Fin 1024) (R : Fin 16384), R.val = t.val * 1024 + r.val → x (ix2 r k) = X R k)
    (hp : ∀ (k : Fin 1024) (R : Fin 16384), R.val + 1 = t.val * 1024 → xp (ix2 7 k) = X R k)
    (hq : ∀ (k : Fin 1024) (R : Fin 16384), R.val = t.val * 1024 + 1024 → xq (ix2 0 k) = X R k)
    (hg : ∀ k, g (ix2 0 k) = G k) (hw : ∀ k n, w (ix2 k n) = W k n) (hcw : ∀ s n, cw (ix2 s n) = C s n) (hcb : ∀ n, cb (ix2 0 n) = B n)
    (r : Fin 1024) (n : Fin 512) (R : Fin 16384) (hR : R.val = t.val * 1024 + r.val) :
    gateBlock (F := Ideal) (grid0.coords t) x xp xq g w cw cb (ix2 r n) = convolved X G W C B R ⟨n.val, by omega⟩ := by
  have key := convAt_of X G W C B x xp xq g w cw cb t hx hp hq hg hw hcw hcb
  unfold gateBlock
  rw [pair_at]
  by_cases h : n.val < 256
  · rw [dif_pos h]
    exact key 0 r ⟨n.val, h⟩ R hR ⟨n.val, by omega⟩ (Nat.zero_add _).symm
  · rw [dif_neg h]
    exact key 1 r ⟨n.val - 256, by omega⟩ R hR ⟨n.val, by omega⟩ (by show n.val = 256 * 1 + (n.val - 256); omega)

end Rows

end Cert.Kernel4Ideal.Mix

end
-- ==== Proof.MixReference.lean ====
/-
The reference of the input projections and the short convolution, element by element over the extended reals.
-/
module

public import proofs.«01_k».proof.Proof.MixPoint
public import proofs.«01_k».proof.Proof.Gen.Reference4Ideal.Run
public import proofs.«01_k».proof.Proof.Gen.Reference4Ideal.Read

@[expose] public section

set_option maxRecDepth 16384

noncomputable section

namespace Cert.Reference4Ideal.Mix

open Idealize.ShloMosaic Idealize.ShloMosaic.TcCoe Idealize.SL.Sem
open Cert.Reference4Ideal Cert.Reference4Ideal.Gen Cert.Reference4Ideal.Read
open Cert.KernelIdeal.Ffn (normed)
open Cert.Kernel4Ideal.Mix (dot taps proj before after convolved forAttn taps_congr)

/-! The arguments as the rows, the gain, the weight, the taps and the bias. -/

def rowsOf (x : FVec Ideal S2x8192x1024 .f32) (R : Fin 16384) (k : Fin 1024) : EReal := x (ix3 ⟨R.val / 8192, by omega⟩ ⟨R.val % 8192, by omega⟩ k)
def gainOf (g : FVec Ideal S1x1024 .f32) (k : Fin 1024) : EReal := g (ix2 0 k)
def weightOf (w : FVec Ideal S1x1024x3072 .f32) (k : Fin 1024) (n : Fin 3072) : EReal := w (ix3 0 k n)
def tapsOf (c : FVec Ideal S1x3x1536 .f32) (s : Fin 3) (n : Fin 1536) : EReal := c (ix3 0 s n)
def biasOf (b : FVec Ideal S1x1536 .f32) (n : Fin 1536) : EReal := b (ix2 0 n)

variable (x : FVec Ideal S2x8192x1024 .f32) (g : FVec Ideal S1x1024 .f32) (w : FVec Ideal S1x1024x3072 .f32) (c : FVec Ideal S1x3x1536 .f32) (b : FVec Ideal S1x1536 .f32)

/-- The projections. -/
theorem v15_at (i : Fin 2) (s : Fin 8192) (n : Fin 3072) (R : Fin 16384) (hi : i.val = R.val / 8192) (hs : s.val = R.val % 8192) :
    val_main_v15 (F := Ideal) x g w (ix3 i s n) = proj (rowsOf x) (gainOf g) (weightOf w) R n := by
  have ei : (⟨R.val / 8192, by omega⟩ : Fin 2) = i := Fin.ext hi.symm
  have es : (⟨R.val % 8192, by omega⟩ : Fin 8192) = s := Fin.ext hs.symm
  unfold proj rowsOf
  simp only [ei, es]
  pointwise [gainOf, weightOf, normed, dot,
    val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14, val_main_v15]

theorem v22_at (i : Fin 2) (s : Fin 8194) (n : Fin 1536) :
    val_main_v22 (F := Ideal) x g w (ix3 i s n) = if h : 1 ≤ s.val ∧ s.val ≤ 8192 then val_main_v15 (F := Ideal) x g w (ix3 i ⟨s.val - 1, by omega⟩ ⟨1536 + n.val, by omega⟩) else 0 := by
  generalize hy : val_main_v15 (F := Ideal) x g w = y
  pointwise [val_main_v22, val_main_v19, hy]
  by_cases h : 1 ≤ s.val ∧ s.val ≤ 8192
  · rw [dif_pos h, dif_pos (by omega)]
  · rw [dif_neg h, dif_neg (by omega)]
    pointwise [val_main_call0_v0, val_main_c]
    exact (congrArg (fun z : ℤ => ((z : ℝ) : EReal)) (by decide : (0#32 : BitVec 32).toInt = 0)).trans (by simp)

/-- The convolution. -/
theorem v45_at (i : Fin 2) (s : Fin 8192) (n : Fin 1536) :
    val_main_v45 (F := Ideal) x g w c b (ix3 i s n) = taps (biasOf b n) (val_main_v22 (F := Ideal) x g w (ix3 i ⟨s.val, by omega⟩ n))
      (val_main_v22 (F := Ideal) x g w (ix3 i ⟨1 + s.val, by omega⟩ n)) (val_main_v22 (F := Ideal) x g w (ix3 i ⟨2 + s.val, by omega⟩ n)) (tapsOf c 0 n) (tapsOf c 1 n) (tapsOf c 2 n) := by
  generalize hy : val_main_v22 (F := Ideal) x g w = y
  pointwise [taps, biasOf, tapsOf, hy,
    val_main_v20, val_main_v21, val_main_c, val_main_call0_v0, val_main_v23, val_main_v24, val_main_v25, val_main_v26, val_main_v27,
    val_main_v28, val_main_v29, val_main_v30, val_main_v31, val_main_v32, val_main_v33, val_main_v34, val_main_v35, val_main_v36,
    val_main_v37, val_main_v38, val_main_v39, val_main_v40, val_main_v41, val_main_v42, val_main_v43, val_main_v44, val_main_v45]

/-- The convolution at a row of the flattened rows. -/
theorem v45_row (R : Fin 16384) (n : Fin 1536) :
    val_main_v45 (F := Ideal) x g w c b (ix3 ⟨R.val / 8192, by omega⟩ ⟨R.val % 8192, by omega⟩ n)
      = convolved (rowsOf x) (gainOf g) (weightOf w) (tapsOf c) (biasOf b) R n := by
  rw [v45_at]
  simp only [v22_at]
  unfold convolved
  refine taps_congr rfl ?_ ?_ ?_
  · unfold before
    by_cases h : R.val % 8192 = 0
    · rw [dif_neg (by show ¬(1 ≤ R.val % 8192 ∧ R.val % 8192 ≤ 8192); omega), if_pos h]
    · rw [dif_pos (by show 1 ≤ R.val % 8192 ∧ R.val % 8192 ≤ 8192; omega), if_neg h]
      exact v15_at x g w _ _ _ ⟨R.val - 1, by omega⟩ (by show R.val / 8192 = (R.val - 1) / 8192; omega) (by show R.val % 8192 - 1 = (R.val - 1) % 8192; omega)
  · rw [dif_pos (by show 1 ≤ 1 + R.val % 8192 ∧ 1 + R.val % 8192 ≤ 8192; omega)]
    exact v15_at x g w _ _ _ R rfl (by show 1 + R.val % 8192 - 1 = R.val % 8192; omega)
  · unfold after
    by_cases h : R.val % 8192 = 8191
    · rw [dif_neg (by show ¬(1 ≤ 2 + R.val % 8192 ∧ 2 + R.val % 8192 ≤ 8192); omega), dif_pos h]
    · rw [dif_pos (by show 1 ≤ 2 + R.val % 8192 ∧ 2 + R.val % 8192 ≤ 8192; omega), dif_neg h]
      exact v15_at x g w _ _ _ ⟨R.val + 1, by omega⟩ (by show R.val / 8192 = (R.val + 1) / 8192; omega) (by show 2 + R.val % 8192 - 1 = (R.val + 1) % 8192; omega)

/-- The first result at a row, -/
theorem v53_at (R : Fin 16384) (n : Fin 1536) :
    val_main_v53 (F := Ideal) x g w (ix2 R n) = forAttn (rowsOf x) (gainOf g) (weightOf w) R n := by
  unfold forAttn
  have h50 : val_main_v53 (F := Ideal) x g w (ix2 R n) = if h : n.val < 512 then val_main_v15 (F := Ideal) x g w (ix3 ⟨R.val / 8192, by omega⟩ ⟨R.val % 8192, by omega⟩ ⟨n.val, by omega⟩) * Ideal.ofBits .f32 0x3E38AA3B#32
      else val_main_v15 (F := Ideal) x g w (ix3 ⟨R.val / 8192, by omega⟩ ⟨R.val % 8192, by omega⟩ ⟨512 + (n.val - 512), by omega⟩) := by
    generalize hy : val_main_v15 (F := Ideal) x g w = y
    pointwise [val_main_v53, val_main_v52, val_main_v50, val_main_v49, val_main_v18, val_main_v17, val_main_v16, val_main_cst_2, hy]
  rw [h50]
  by_cases h : n.val < 512
  · rw [dif_pos h, if_pos h, v15_at x g w _ _ _ R rfl rfl]
  · rw [dif_neg h, if_neg h, v15_at x g w _ _ _ R rfl rfl]
    exact congrArg (proj _ _ _ R) (Fin.ext (by show 512 + (n.val - 512) = n.val; omega))

/-- the second, -/
theorem v55_at (R : Fin 16384) (n : Fin 512) :
    val_main_v55 (F := Ideal) x g w c b (ix2 R n)
      = convolved (rowsOf x) (gainOf g) (weightOf w) (tapsOf c) (biasOf b) R ⟨1024 + n.val, by omega⟩
        * convolved (rowsOf x) (gainOf g) (weightOf w) (tapsOf c) (biasOf b) R ⟨512 + n.val, by omega⟩ := by
  rw [← v45_row, ← v45_row]
  generalize hy : val_main_v45 (F := Ideal) x g w c b = y
  pointwise [val_main_v55, val_main_v54, val_main_v51, val_main_v48, val_main_v47, hy]

/-- and the third. -/
theorem v57_at (R : Fin 16384) (n : Fin 512) :
    val_main_v57 (F := Ideal) x g w c b (ix2 R n)
      = convolved (rowsOf x) (gainOf g) (weightOf w) (tapsOf c) (biasOf b) R ⟨n.val, by omega⟩ := by
  rw [← v45_row]
  generalize hy : val_main_v45 (F := Ideal) x g w c b = y
  pointwise [val_main_v57, val_main_v56, val_main_v46, hy]

end Cert.Reference4Ideal.Mix

end
-- ==== Proof.MixValue.lean ====
/-
The three result arrays of the call with the input projections after the launch, over the extended reals: the reference's
terms.
-/
module

public import proofs.«01_k».proof.Proof.MixFrame
public import proofs.«01_k».proof.Proof.MixReference
public import Idealize.ShloMosaic.Lib.Pipeline.ValueKit

@[expose] public section

set_option maxRecDepth 16384

noncomputable section

namespace Cert.Kernel4Ideal.Mix

open Idealize.ShloMosaic Idealize.ShloMosaic.TcCoe Idealize.SL.Sem
open Idealize.ShloMosaic.Pipeline (Dat)
open Cert.Kernel4Ideal.Gen
open Cert.Reference4Ideal.Mix (rowsOf gainOf weightOf tapsOf biasOf)
open Cert.KernelIdeal.Ffn (rounded)

variable (m : (ℓ : Loc nD τ sig) → Buf (Elt Ideal) ℓ)

theorem idx : ∀ t : Fin cfg0.N, win0_0.index t = ![t.val, 0] ∧ win0_1.index t = ![t.val * 128 - 1, 0] ∧ win0_2.index t = ![min (t.val * 128 + 128) 2047, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-! The arguments as the launch finds them. -/

abbrev rows0 (c : Dev nD) := rowsOf (m ((c : Thread nD τ).loc main_arg0))
abbrev gain0 (c : Dev nD) := gainOf (m ((c : Thread nD τ).loc main_arg1))
abbrev weight0 (c : Dev nD) := weightOf (m ((c : Thread nD τ).loc main_arg2))
abbrev taps0 (c : Dev nD) := tapsOf (m ((c : Thread nD τ).loc main_arg3))
abbrev bias0 (c : Dev nD) := biasOf (m ((c : Thread nD τ).loc main_arg4))

/-- The flattened rows. -/
theorem flat_in (c : Dev nD) (R : Fin 16384) (k : Fin 1024) :
    (show FVec Ideal S16384x1024 .f32 from V m c main_v0) (ix2 R k) = rows0 m c R k := by
  unfold rows0 rowsOf
  entry_read
  pointwise

/-- Row `r` of point `t`'s block of rows is row `1024 t + r`, -/
theorem rows_in (c : Dev nD) (t : Fin cfg0.N) (r k : Fin 1024) (R : Fin 16384) (hR : R.val = t.val * 1024 + r.val) :
    (show FVec Ideal S1024x1024 .f32 from iblk m c 0 t) (ix2 r k) = rows0 m c R k := by
  refine Eq.trans ?_ (flat_in m c R k)
  blk_ext [iblk, idx t]

/-- the eighth of the rows before it is the row before, -/
theorem before_in (c : Dev nD) (t : Fin cfg0.N) (k : Fin 1024) (R : Fin 16384) (hR : R.val + 1 = t.val * 1024) :
    (show FVec Ideal S8x1024 .f32 from iblk m c 1 t) (ix2 7 k) = rows0 m c R k := by
  refine Eq.trans ?_ (flat_in m c R k)
  blk_ext [iblk, idx t]

/-- and the first of the rows after it is the row after. -/
theorem after_in (c : Dev nD) (t : Fin cfg0.N) (k : Fin 1024) (R : Fin 16384) (hR : R.val = t.val * 1024 + 1024) :
    (show FVec Ideal S8x1024 .f32 from iblk m c 2 t) (ix2 0 k) = rows0 m c R k := by
  refine Eq.trans ?_ (flat_in m c R k)
  blk_ext [iblk, idx t]

theorem gain_in (c : Dev nD) (t : Fin cfg0.N) (k : Fin 1024) :
    (show FVec Ideal S1x1024 .f32 from iblk m c 3 t) (ix2 0 k) = gain0 m c k := by
  have e : (show FVec Ideal S1x1024 .f32 from iblk m c 3 t) (ix2 0 k)
      = (show FVec Ideal S1x1024 .f32 from V m c main_v5) (ix2 0 k) := by
    blk_ext [iblk, idx t]
  rw [e]
  unfold gain0 gainOf
  entry_read
  pointwise

theorem taps_in (c : Dev nD) (t : Fin cfg0.N) (s : Fin 3) (n : Fin 1536) :
    (show FVec Ideal S3x1536 .f32 from iblk m c 4 t) (ix2 s n) = taps0 m c s n := by
  have e : (show FVec Ideal S3x1536 .f32 from iblk m c 4 t) (ix2 s n)
      = (show FVec Ideal S3x1536 .f32 from V m c main_v3) (ix2 s n) := by
    blk_ext [iblk, idx t]
  rw [e]
  unfold taps0 tapsOf
  entry_read
  pointwise

theorem bias_in (c : Dev nD) (t : Fin cfg0.N) (n : Fin 1536) :
    (show FVec Ideal S1x1536 .f32 from iblk m c 5 t) (ix2 0 n) = bias0 m c n := by
  have e : (show FVec Ideal S1x1536 .f32 from iblk m c 5 t) (ix2 0 n)
      = (show FVec Ideal S1x1536 .f32 from V m c main_v6) (ix2 0 n) := by
    blk_ext [iblk, idx t]
  rw [e]
  unfold bias0 biasOf
  entry_read
  pointwise

theorem weight_in (c : Dev nD) (k : Fin 1024) (n : Fin 3072) :
    (show FVec Ideal S1024x3072 .bf16 from weight m c) (ix2 k n) = weight0 m c k n := by
  have e : (show FVec Ideal S1024x3072 .bf16 from weight m c) (ix2 k n) = (show FVec Ideal S1024x3072 .f32 from V m c main_v2) (ix2 k n) := rfl
  rw [e]
  unfold weight0 weightOf
  entry_read
  pointwise

/-! ## The results -/

theorem final_qkv (c : Dev nD) : (dats m 0 c).arrAt 6 (cfgs 0).N
    = Cert.Reference4Ideal.Read.val_main_v53 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after_6]
  have hN : t.val < 16 := lt_of_lt_of_eq t.isLt (show cfg0.N = 16 from N_0)
  have hy : (y 0 : ℕ) < 1024 := (y 0).isLt
  have e := qkvBlock_of (rows0 m c) (gain0 m c) (weight0 m c) _ _ _ t (rows_in m c t) (gain_in m c t) (weight_in m c)
    (y 0) (y 1) ⟨t.val * 1024 + (y 0).val, by omega⟩ rfl
  refine (congrArg (qkvAt m c t) (eq_ix2 (n0 := 1024) (n1 := 1536) y)).trans
    (e.trans ((Cert.Reference4Ideal.Mix.v53_at _ _ _ _ _).symm.trans (congrArg _ ?_)))
  blk_ext [idx t]

theorem final_prod (c : Dev nD) : (dats m 0 c).arrAt 7 (cfgs 0).N
    = Cert.Reference4Ideal.Read.val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after_7]
  have hN : t.val < 16 := lt_of_lt_of_eq t.isLt (show cfg0.N = 16 from N_0)
  have hy : (y 0 : ℕ) < 1024 := (y 0).isLt
  have e := prodBlock_of (rows0 m c) (gain0 m c) (weight0 m c) (taps0 m c) (bias0 m c) _ _ _ _ _ _ _ t (rows_in m c t) (before_in m c t) (after_in m c t)
    (gain_in m c t) (weight_in m c) (taps_in m c t) (bias_in m c t) (y 0) (y 1) ⟨t.val * 1024 + (y 0).val, by omega⟩ rfl
  refine (congrArg (prodAt m c t) (eq_ix2 (n0 := 1024) (n1 := 512) y)).trans
    (e.trans ((Cert.Reference4Ideal.Mix.v55_at _ _ _ _ _ _ _).symm.trans (congrArg _ ?_)))
  blk_ext [idx t]

theorem final_gate (c : Dev nD) : (dats m 0 c).arrAt 8 (cfgs 0).N
    = Cert.Reference4Ideal.Read.val_main_v57 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after_8]
  have hN : t.val < 16 := lt_of_lt_of_eq t.isLt (show cfg0.N = 16 from N_0)
  have hy : (y 0 : ℕ) < 1024 := (y 0).isLt
  have e := gateBlock_of (rows0 m c) (gain0 m c) (weight0 m c) (taps0 m c) (bias0 m c) _ _ _ _ _ _ _ t (rows_in m c t) (before_in m c t) (after_in m c t)
    (gain_in m c t) (weight_in m c) (taps_in m c t) (bias_in m c t) (y 0) (y 1) ⟨t.val * 1024 + (y 0).val, by omega⟩ rfl
  refine (congrArg (gateAt m c t) (eq_ix2 (n0 := 1024) (n1 := 512) y)).trans
    (e.trans ((Cert.Reference4Ideal.Mix.v57_at _ _ _ _ _ _ _).symm.trans (congrArg _ ?_)))
  blk_ext [idx t]

end Cert.Kernel4Ideal.Mix

end
-- ==== Proof.TapsMath.lean ====
/-
The kernel multiplies with both factors split into a leading part and a rest, three sums for one. Over the extended reals
the rest of a finite number is zero and the rest of an infinite one is not, so the three sums and the one may differ where
an infinity stands. Under a sine they do not, since both are infinite there; and they do not where the second factors are
finite and the first are sines, whose only infinity is the one below.
-/
module

public import Idealize.ShloMosaic.PureOps.Ideal
public import Mathlib.Algebra.BigOperators.Fin

@[expose] public section

noncomputable section

namespace Cert.Taps

open Idealize.ShloMosaic

variable {n : ℕ}

/-- One row against one column, -/
def one (a b : Fin n → EReal) : EReal := ∑ k, a k * b k

/-- and both split: the leading parts, the first's with the second's rest, the first's rest with the second's. -/
def three (a b : Fin n → EReal) : EReal := (∑ k, a k * b k) + (∑ k, a k * (b k - b k)) + ∑ k, (a k - a k) * b k

def Infinite (x : EReal) : Prop := x = ⊤ ∨ x = ⊥

theorem infinite_or_real (x : EReal) : Infinite x ∨ ∃ r : ℝ, x = r := by
  induction x using EReal.rec with
  | bot => exact Or.inl (Or.inr rfl)
  | coe r => exact Or.inr ⟨r, rfl⟩
  | top => exact Or.inl (Or.inl rfl)

theorem Infinite.add {x : EReal} (h : Infinite x) (y : EReal) : Infinite (x + y) := by
  rcases h with rfl | rfl
  · induction y using EReal.rec with
    | bot => exact Or.inr (by simp)
    | coe r => exact Or.inl (by simp)
    | top => exact Or.inl (by simp)
  · exact Or.inr (by simp)

theorem Infinite.mul {x : EReal} (h : Infinite x) {y : EReal} (hy : y ≠ 0) : Infinite (x * y) := by
  rcases lt_or_gt_of_ne hy with hn | hp
  · rcases h with rfl | rfl
    · exact Or.inr (EReal.top_mul_of_neg hn)
    · exact Or.inl (EReal.bot_mul_of_neg hn)
  · rcases h with rfl | rfl
    · exact Or.inl (EReal.top_mul_of_pos hp)
    · exact Or.inr (EReal.bot_mul_of_pos hp)

theorem Infinite.sum {g : Fin n → EReal} (j : Fin n) (h : Infinite (g j)) : Infinite (∑ k, g k) := by
  rw [← Finset.add_sum_erase Finset.univ g (Finset.mem_univ j)]
  exact h.add _

theorem Infinite.sin_mul {x y : EReal} (hx : Infinite x) (hy : Infinite y) (f : EReal) : Ideal.sin (f * x) = Ideal.sin (f * y) := by
  by_cases hf : f = 0
  · rw [hf, zero_mul, zero_mul]
  · have e : ∀ z, Infinite z → Ideal.sin (f * z) = ⊥ := fun z hz => by
      rw [mul_comm]
      rcases hz.mul hf with h | h <;> rw [h] <;> rfl
    rw [e x hx, e y hy]

theorem real_sub_self (r : ℝ) : (r : EReal) - r = 0 := by
  rw [← EReal.coe_sub, sub_self, EReal.coe_zero]

/-- Three sums and one are the same, or both are infinite. -/
theorem three_eq_or (a b : Fin n → EReal) : three a b = one a b ∨ Infinite (three a b) ∧ Infinite (one a b) := by
  by_cases h : ∃ k, Infinite (a k * b k)
  · obtain ⟨k, hk⟩ := h
    have h1 : Infinite (∑ k, a k * b k) := Infinite.sum k hk
    exact Or.inr ⟨(h1.add _).add _, h1⟩
  · left
    have hb : ∀ k, a k * (b k - b k) = 0 := fun k => by
      rcases infinite_or_real (b k) with hi | ⟨r, hr⟩
      · by_cases ha : a k = 0
        · rw [ha, zero_mul]
        · exact absurd ⟨k, by rw [mul_comm]; exact hi.mul ha⟩ h
      · rw [hr, real_sub_self, mul_zero]
    have ha : ∀ k, (a k - a k) * b k = 0 := fun k => by
      rcases infinite_or_real (a k) with hi | ⟨r, hr⟩
      · by_cases hb' : b k = 0
        · rw [hb', mul_zero]
        · exact absurd ⟨k, hi.mul hb'⟩ h
      · rw [hr, real_sub_self, zero_mul]
    unfold three one
    simp only [ha, hb, Finset.sum_const_zero, add_zero]

/-- Under a sine the three sums are the one. -/
theorem sin_three (f c : EReal) (a b : Fin n → EReal) : Ideal.sin (f * (three a b + c)) = Ideal.sin (f * (one a b + c)) := by
  rcases three_eq_or a b with h | ⟨h1, h2⟩
  · rw [h]
  · exact (h1.add c).sin_mul (h2.add c) f

theorem one_comm (a b : Fin n → EReal) : one a b = one b a := Finset.sum_congr rfl fun k _ => mul_comm _ _

theorem sin_cases (x : EReal) : Ideal.sin x = ⊥ ∨ ∃ r : ℝ, Ideal.sin x = r := by
  induction x using EReal.rec with
  | bot => exact Or.inl rfl
  | coe r => exact Or.inr ⟨_, rfl⟩
  | top => exact Or.inl rfl

/-- Sines against finite numbers: the three sums are the one. -/
theorem three_sin (x w : Fin n → EReal) (hw : ∀ k, ∃ r : ℝ, w k = r) : three (fun k => Ideal.sin (x k)) w = one (fun k => Ideal.sin (x k)) w := by
  have h2 : ∀ k, Ideal.sin (x k) * (w k - w k) = 0 := fun k => by
    obtain ⟨r, hr⟩ := hw k
    rw [hr, real_sub_self, mul_zero]
  unfold three one
  simp only [h2, Finset.sum_const_zero, add_zero]
  rw [← Finset.sum_add_distrib]
  refine Finset.sum_congr rfl fun k _ => ?_
  rcases sin_cases (x k) with h | ⟨r, h⟩
  · have hb : (⊥ : EReal) - ⊥ = ⊥ := by rw [sub_eq_add_neg, EReal.bot_add]
    rw [h, hb]
    by_cases hz : w k = 0
    · rw [hz, mul_zero, add_zero]
    · rcases Infinite.mul (x := ⊥) (Or.inr rfl) hz with e | e <;> rw [e] <;> rfl
  · rw [h, real_sub_self, zero_mul, add_zero]

/-- Rows and columns with zeros after the thirty-third. -/
theorem one_padded (a b : Fin 128 → EReal) (ha : ∀ k : Fin 128, 33 ≤ k.val → a k = 0) :
    one a b = one (fun k : Fin 33 => a ⟨k.val, by omega⟩) (fun k => b ⟨k.val, by omega⟩) := by
  unfold one
  rw [show (∑ k : Fin 128, a k * b k) = _ from Fin.sum_univ_add (a := 33) (b := 95) (fun k => a k * b k)]
  have hz : (∑ k : Fin 95, a (Fin.natAdd 33 k) * b (Fin.natAdd 33 k)) = 0 :=
    Finset.sum_eq_zero fun k _ => by rw [ha _ (by simp), zero_mul]
  rw [hz, add_zero]
  rfl

end Cert.Taps

end
-- ==== Proof.TapsPoint.lean ====
/-
The blocks the body of the filters' call leaves, element by element over the extended reals.
-/
module

public import proofs.«01_k».proof.Proof.TapsMath
public import proofs.«01_k».proof.Proof.Gen.Kernel5Ideal.Value
public import Idealize.ShloMosaic.Lib.Pipeline.ValueKit
public import Idealize.ShloMosaic.Lib.Pointwise
public import Idealize.ShloMosaic.Lib.WordCmp

@[expose] public section

set_option maxRecDepth 16384

noncomputable section

namespace Cert.Kernel5Ideal.Taps

open Idealize.ShloMosaic Idealize.ShloMosaic.TcCoe Idealize.SL.Sem
open Cert.Kernel5Ideal.Gen
open Cert.Taps

/-- The second hidden layer before its bias. -/
theorem pay5_at (f : FVec Ideal S64x1 .f32) (w : FVec Ideal S64x128 .f32) (z : FVec Ideal S128x1024 .f32) (b : FVec Ideal S64x1 .f32) (v : FVec Ideal S64x64 .f32)
    (i : Fin 64) (u : Fin 1024) :
    k0_pay5 (F := Ideal) f w z b v (ix2 i u)
      = three (fun k => v (ix2 i k)) (fun k => Ideal.sin (f (ix2 k 0) * (three (fun j => w (ix2 k j)) (fun j => z (ix2 j u)) + b (ix2 k 0)))) := by
  pointwise [k0_pay5, k0_pay4, three]

/-- The last layer's rows from the second's. -/
theorem pay6_at (f : FVec Ideal S64x1 .f32) (y : FVec Ideal S64x1024 .f32) (b : FVec Ideal S64x1 .f32) (v : FVec Ideal S64x64 .f32) (c : FVec Ideal S64x1 .f32)
    (w : FVec Ideal S64x1024 .f32) (r n : Fin 1024) :
    k0_pay6 (F := Ideal) f y b v c w (ix2 r n)
      = three (fun k => Ideal.sin (f (ix2 k 0) * (three (fun j => v (ix2 k j)) (fun j => Ideal.sin (f (ix2 j 0) * (y (ix2 j r) + b (ix2 j 0)))) + c (ix2 k 0))))
          (fun k => w (ix2 k n)) := by
  pointwise [k0_pay6, three]

/-- The decay. -/
theorem pay1_at (t : FVec Ideal S1024x1 .f32) (d : FVec Ideal S1x512 .f32) (r : Fin 1024) (n : Fin 512) :
    k0_pay1 (F := Ideal) t d (ix2 r n) = Ideal.exp (-t (ix2 r 0) * max (d (ix2 0 n)) (-d (ix2 0 n))) := by
  pointwise [k0_pay1]
  rw [zero_sub]
  rfl

/-- The block of the filters that look back, -/
theorem pay2_at (h : FVec Ideal S1024x1024 .f32) (t : FVec Ideal S1024x1 .f32) (d : FVec Ideal S1x512 .f32) (r : Fin 1024) (n : Fin 512) :
    k0_pay2 (F := Ideal) h t d (ix2 r n) = h (ix2 r ⟨n.val, by omega⟩) * k0_pay1 (F := Ideal) t d (ix2 r n) := by
  pointwise [k0_pay2]

/-- and of those that look ahead, without their first tap. -/
theorem pay3_at (a : BitVec 32) (h : FVec Ideal S1024x1024 .f32) (t : FVec Ideal S1024x1 .f32) (d : FVec Ideal S1x512 .f32) (r : Fin 1024) (n : Fin 512) :
    k0_pay3 (F := Ideal) a h t d (ix2 r n) = if a = 0#32 ∧ r.val = 0 then 0 else h (ix2 r ⟨512 + n.val, by omega⟩) * k0_pay1 (F := Ideal) t d (ix2 r n) := by
  pointwise [k0_pay3]
  have hr := r.isLt
  by_cases ha : a = 0#32
  · by_cases h0 : r.val = 0
    · rw [if_pos ⟨ha, h0⟩, ha, h0]
      rfl
    · have e : IntOp.cmpi .eq (BitVec.ofNat 32 r.val) 0#32 = 0#1 := by
        word_cmp
      rw [if_neg (fun h => h0 h.2), e, ha]
      rfl
  · have e : Scalar.cmpi .eq a 0#32 = 0#1 := by
      show BitVec.ofBool (a == 0#32) = 0#1
      rw [beq_false_of_ne ha]
      rfl
    rw [if_neg (fun h => ha h.1), e]
    simp [IntOp.andi, Scalar.select]

theorem pay4_eq (f : FVec Ideal S64x1 .f32) : k0_pay4 (F := Ideal) f = f := by
  funext i
  pointwise [k0_pay4]

theorem pay7_eq (t : FVec Ideal S1024x1 .f32) : k0_pay7 (F := Ideal) t = t := by
  funext i
  pointwise [k0_pay7]

theorem off (a : Fin 2) : (![0, 0] : Fin 2 → Nat) a = 0 := by
  fin_cases a <;> rfl

theorem off_eq : (![0, 0] : Fin 2 → Nat) = fun _ => 0 := funext off

/-! A load of a whole window is the window. -/

theorem ld_col (x : Vec Ideal S64x1 .f32) : View.ld (Val := Elt Ideal) (e' := .f32) x r0_0 = x := View.ld_unit_zero (S := S64x1) off_eq _ _
theorem ld_first (x : Vec Ideal S64x128 .f32) : View.ld (Val := Elt Ideal) (e' := .f32) x r0_1 = x := View.ld_unit_zero (S := S64x128) off_eq _ _
theorem ld_features (x : Vec Ideal S128x1024 .f32) : View.ld (Val := Elt Ideal) (e' := .f32) x r0_2 = x := View.ld_unit_zero (S := S128x1024) off_eq _ _
theorem ld_square (x : Vec Ideal S64x64 .f32) : View.ld (Val := Elt Ideal) (e' := .f32) x r0_3 = x := View.ld_unit_zero (S := S64x64) off_eq _ _
theorem ld_last (x : Vec Ideal S64x1024 .f32) : View.ld (Val := Elt Ideal) (e' := .f32) x r0_4 = x := View.ld_unit_zero (S := S64x1024) off_eq _ _
theorem ld_far (x : Vec Ideal S1024x1 .f32) : View.ld (Val := Elt Ideal) (e' := .f32) x r0_5 = x := View.ld_unit_zero (S := S1024x1) off_eq _ _
theorem ld_rate (x : Vec Ideal S1x512 .f32) : View.ld (Val := Elt Ideal) (e' := .f32) x r0_6 = x := View.ld_unit_zero (S := S1x512) off_eq _ _

/-- What the layers give for a block of rows. -/
def layers (z : FVec Ideal S128x1024 .f32) (w1 : FVec Ideal S64x128 .f32) (b1 : FVec Ideal S64x1 .f32) (w2 : FVec Ideal S64x64 .f32) (b2 : FVec Ideal S64x1 .f32)
    (w3 : FVec Ideal S64x64 .f32) (b3 : FVec Ideal S64x1 .f32) (w4 : FVec Ideal S64x1024 .f32) (f : FVec Ideal S64x1 .f32) : FVec Ideal S1024x1024 .f32 :=
  k0_pay6 f (k0_pay5 f w1 z b1 w2) b2 w3 b3 w4

/-- The two blocks a point leaves. -/
theorem out11_eq (i : grid0.Coords) (x0 : FVec Ideal S128x1024 .f32) (x1 : FVec Ideal S1024x1 .f32) (x2 : FVec Ideal S64x128 .f32) (x3 : FVec Ideal S64x1 .f32)
    (x4 : FVec Ideal S64x64 .f32) (x5 : FVec Ideal S64x1 .f32) (x6 : FVec Ideal S64x64 .f32) (x7 : FVec Ideal S64x1 .f32) (x8 : FVec Ideal S64x1024 .f32)
    (x9 : FVec Ideal S64x1 .f32) (x10 : FVec Ideal S1x512 .f32) :
    out0_11 (F := Ideal) i x0 x1 x2 x3 x4 x5 x6 x7 x8 x9 x10 = k0_pay2 (layers x0 x2 x3 x4 x5 x6 x7 x8 x9) x1 x10 := by
  unfold out0_11 k0_pay9 k0_pay8 layers
  rw [View.canon_unit_zero off_eq]
  simp only [ld_col, ld_first, ld_features, ld_square, ld_last, ld_far, ld_rate, pay4_eq, pay7_eq]

theorem out12_eq (i : grid0.Coords) (x0 : FVec Ideal S128x1024 .f32) (x1 : FVec Ideal S1024x1 .f32) (x2 : FVec Ideal S64x128 .f32) (x3 : FVec Ideal S64x1 .f32)
    (x4 : FVec Ideal S64x64 .f32) (x5 : FVec Ideal S64x1 .f32) (x6 : FVec Ideal S64x64 .f32) (x7 : FVec Ideal S64x1 .f32) (x8 : FVec Ideal S64x1024 .f32)
    (x9 : FVec Ideal S64x1 .f32) (x10 : FVec Ideal S1x512 .f32) :
    out0_12 (F := Ideal) i x0 x1 x2 x3 x4 x5 x6 x7 x8 x9 x10 = k0_pay3 (BitVec.ofNat 32 (i 0).val) (layers x0 x2 x3 x4 x5 x6 x7 x8 x9) x1 x10 := by
  unfold out0_12 k0_pay9 k0_pay8 layers
  rw [View.canon_unit_zero off_eq]
  simp only [ld_col, ld_first, ld_features, ld_square, ld_last, ld_far, ld_rate, pay4_eq, pay7_eq]

end Cert.Kernel5Ideal.Taps

end
-- ==== Proof.TapsReference.lean ====
/-
The reference of the filters, element by element over the extended reals.
-/
module

public import proofs.«01_k».proof.Proof.TapsMath
public import proofs.«01_k».proof.Proof.Gen.Reference5Ideal.Run
public import proofs.«01_k».proof.Proof.Gen.Reference5Ideal.Read
public import Idealize.ShloMosaic.Lib.Pointwise
public import Idealize.ShloMosaic.Lib.WordCmp

@[expose] public section

set_option maxRecDepth 16384

noncomputable section

namespace Cert.Reference5Ideal.Taps

open Idealize.ShloMosaic Idealize.ShloMosaic.TcCoe Idealize.SL.Sem
open Cert.Reference5Ideal Cert.Reference5Ideal.Gen Cert.Reference5Ideal.Read
open Cert.Taps

variable (w1 : FVec Ideal S1x33x64 .f32) (b1 : FVec Ideal S1x64 .f32) (w2 : FVec Ideal S1x64x64 .f32) (b2 : FVec Ideal S1x64 .f32)
  (w3 : FVec Ideal S1x64x64 .f32) (b3 : FVec Ideal S1x64 .f32) (w4 : FVec Ideal S1x64x1024 .f32) (f : FVec Ideal S1x64 .f32)

/-- The features of a position, -/
def feature (s : Fin 8192) (k : Fin 33) : EReal := val_main_v24 (F := Ideal) (ix2 s k)

/-- how far along it is, -/
def far (s : Fin 8192) : EReal := val_main_v9 (F := Ideal) (ix2 s 0)

/-- a channel's rate, -/
def rate (n : Fin 512) : EReal := val_main_v50 (F := Ideal) (ix1 n)

/-- and how far the channel has decayed there. -/
def decay (s : Fin 8192) (n : Fin 512) : EReal := Ideal.exp (-far s * max (rate n) (-rate n))

/-- The first hidden layer, -/
def hidden1 (s : Fin 8192) (k : Fin 64) : EReal := Ideal.sin (f (ix2 0 k) * (one (feature s) (fun j => w1 (ix3 0 j k)) + b1 (ix2 0 k)))

/-- the second -/
def hidden2 (s : Fin 8192) (k : Fin 64) : EReal := Ideal.sin (f (ix2 0 k) * (one (hidden1 w1 b1 f s) (fun j => w2 (ix3 0 j k)) + b2 (ix2 0 k)))

/-- and the third. -/
def hidden3 (s : Fin 8192) (k : Fin 64) : EReal := Ideal.sin (f (ix2 0 k) * (one (hidden2 w1 b1 w2 b2 f s) (fun j => w3 (ix3 0 j k)) + b3 (ix2 0 k)))

/-- What they give before the decay. -/
def raw (s : Fin 8192) (n : Fin 1024) : EReal := one (hidden3 w1 b1 w2 b2 w3 b3 f s) (fun j => w4 (ix3 0 j n))

theorem v32_at (s : Fin 8192) (k : Fin 64) : val_main_v32 (F := Ideal) w1 b1 f (ix2 s k) = hidden1 w1 b1 f s k := by
  unfold hidden1 feature
  generalize hz : val_main_v24 (F := Ideal) = z
  pointwise [one, hz, val_main_v0, val_main_v1, val_main_v7, val_main_v25, val_main_v26, val_main_v27, val_main_v28, val_main_v29, val_main_v30,
    val_main_v31, val_main_v32]

theorem v40_at (s : Fin 8192) (k : Fin 64) : val_main_v40 (F := Ideal) w1 b1 w2 b2 f (ix2 s k) = hidden2 w1 b1 w2 b2 f s k := by
  unfold hidden2
  simp only [funext fun k => (v32_at w1 b1 f s k).symm]
  generalize hz : val_main_v32 (F := Ideal) w1 b1 f = z
  pointwise [one, hz, val_main_v2, val_main_v3, val_main_v7, val_main_v33, val_main_v34, val_main_v35, val_main_v36, val_main_v37, val_main_v38,
    val_main_v39, val_main_v40]

theorem v48_at (s : Fin 8192) (k : Fin 64) : val_main_v48 (F := Ideal) w1 b1 w2 b2 w3 b3 f (ix2 s k) = hidden3 w1 b1 w2 b2 w3 b3 f s k := by
  unfold hidden3
  simp only [funext fun k => (v40_at w1 b1 w2 b2 f s k).symm]
  generalize hz : val_main_v40 (F := Ideal) w1 b1 w2 b2 f = z
  pointwise [one, hz, val_main_v4, val_main_v5, val_main_v7, val_main_v41, val_main_v42, val_main_v43, val_main_v44, val_main_v45, val_main_v46,
    val_main_v47, val_main_v48]

theorem v49_at (s : Fin 8192) (n : Fin 1024) : val_main_v49 (F := Ideal) w1 b1 w2 b2 w3 b3 w4 f (ix2 s n) = raw w1 b1 w2 b2 w3 b3 w4 f s n := by
  unfold raw
  simp only [funext fun k => (v48_at w1 b1 w2 b2 w3 b3 f s k).symm]
  generalize hz : val_main_v48 (F := Ideal) w1 b1 w2 b2 w3 b3 f = z
  pointwise [one, hz, val_main_v6, val_main_v49]

theorem v57_at (s : Fin 8192) (n : Fin 512) : val_main_v57 (F := Ideal) (ix2 s n) = decay s n := by
  unfold decay far rate
  generalize ht : val_main_v9 (F := Ideal) = t
  generalize hd : val_main_v50 (F := Ideal) = d
  pointwise [ht, hd, val_main_v51, val_main_v52, val_main_v53, val_main_v54, val_main_v55, val_main_v56, val_main_v57]
  rfl

/-- The two halves with the decay. -/
theorem v61_at (s : Fin 8192) (h : Fin 2) (n : Fin 512) :
    val_main_v61 (F := Ideal) w1 b1 w2 b2 w3 b3 w4 f (ix3 s h n) = raw w1 b1 w2 b2 w3 b3 w4 f s ⟨512 * h.val + n.val, by omega⟩ * decay s n := by
  rw [← v49_at, ← v57_at]
  generalize hy : val_main_v49 (F := Ideal) w1 b1 w2 b2 w3 b3 w4 f = y
  generalize ht : val_main_v57 (F := Ideal) = t
  pointwise [hy, ht, val_main_v58, val_main_v59, val_main_v60, val_main_v61]
  exact congrArg (fun k => y (ix2 s k) * t (ix2 s n)) (Fin.ext (by show h.val * 512 + n.val = 512 * h.val + n.val; omega))

/-- The filters that look back, -/
theorem v69_at (s : Fin 8192) (n : Fin 512) :
    val_main_v69 (F := Ideal) w1 b1 w2 b2 w3 b3 w4 f (ix2 s n) = raw w1 b1 w2 b2 w3 b3 w4 f s ⟨n.val, by omega⟩ * decay s n := by
  have e := v61_at w1 b1 w2 b2 w3 b3 w4 f s 0 n
  refine Eq.trans ?_ (e.trans (by congr 2; exact Fin.ext (by simp)))
  generalize hy : val_main_v61 (F := Ideal) w1 b1 w2 b2 w3 b3 w4 f = y
  pointwise [hy, val_main_v62, val_main_v63, val_main_v69]

/-- and those that look ahead. -/
theorem v70_at (s : Fin 8192) (n : Fin 512) :
    val_main_v70 (F := Ideal) w1 b1 w2 b2 w3 b3 w4 f (ix2 s n)
      = if s.val = 0 then 0 else raw w1 b1 w2 b2 w3 b3 w4 f s ⟨512 + n.val, by omega⟩ * decay s n := by
  have e := v61_at w1 b1 w2 b2 w3 b3 w4 f s 1 n
  refine Eq.trans (b := if s.val = 0 then 0 else val_main_v61 (F := Ideal) w1 b1 w2 b2 w3 b3 w4 f (ix3 s 1 n)) ?_ (by rw [e]; rfl)
  generalize hy : val_main_v61 (F := Ideal) w1 b1 w2 b2 w3 b3 w4 f = y
  pointwise [hy, val_main_v64, val_main_v65, val_main_cst_6, val_main_v66, val_main_v67, val_main_v68, val_main_v70]
  by_cases h : s.val = 0
  · rw [dif_pos (by omega), if_pos h]
  · rw [dif_neg (by omega), if_neg h]
    exact congrArg (fun k => y (ix3 k 1 n)) (Fin.ext (by show 1 + (s.val - 1) = s.val; omega))

end Cert.Reference5Ideal.Taps

end
-- ==== Proof.TapsHost.lean ====
/-
What the filters' call finds when it is launched: the reference's features, positions and rates, which both compute alike from
no argument, and the arguments on their sides, the first with zeros after it.
-/
module

public import proofs.«01_k».proof.Proof.Gen.Kernel5Ideal.Value
public import proofs.«01_k».proof.Proof.TapsReference
public import Idealize.ShloMosaic.Lib.Claim

@[expose] public section

set_option maxRecDepth 16384

noncomputable section

namespace Cert.Kernel5Ideal.Taps

open Idealize.ShloMosaic Idealize.ShloMosaic.TcCoe Idealize.SL.Sem
open Idealize.ShloMosaic.Pipeline (Dat)
open Cert.Kernel5Ideal.Gen
open Cert.Taps
open Cert.Reference5Ideal.Taps (feature far rate decay hidden1 hidden2 hidden3 raw)

variable (m : (ℓ : Loc nD τ sig) → Buf (Elt Ideal) ℓ)

set_option maxHeartbeats 4000000 in
theorem features_flat (c : Dev nD) : V m c main_v27
    = transpose S128x8192 [1, 0] (pad S8192x128 ![0, 0] ![0, 95] ![0, 0] (Cert.Reference5Ideal.Read.val_main_v24 (F := Ideal) : FVec Ideal S8192x33 .f32)
        (sitofp .f32 (constantI S_ 32 0#32) : FVec Ideal S_ .f32) pads_S8192x33_S8192x128_000_0950 h_S_) transposes_S8192x128_S128x8192_1_0 := by
  rfl

set_option maxHeartbeats 4000000 in
theorem far_flat (c : Dev nD) : V m c main_v28
    = extractStridedSlice S8192x1 ![0, 0] (Cert.Reference5Ideal.Read.val_main_v24 (F := Ideal)) slices_S8192x33_S8192x1_0_0 := by
  rfl

set_option maxHeartbeats 4000000 in
theorem rate_flat (c : Dev nD) : V m c main_v37 = shapeCast S1x512 (Cert.Reference5Ideal.Read.val_main_v50 (F := Ideal)) shapeCasts_S512_S1x512 := by
  rfl

set_option maxHeartbeats 4000000 in
theorem w1_flat (c : Dev nD) : V m c main_v30
    = transpose S64x128 [1, 0] (pad S128x64 ![0, 0] ![95, 0] ![0, 0]
        (shapeCast S33x64 (m ((c : Thread nD τ).loc main_arg0) : FVec Ideal S1x33x64 .f32) shapeCasts_S1x33x64_S33x64 : FVec Ideal S33x64 .f32)
        (sitofp .f32 (constantI S_ 32 0#32) : FVec Ideal S_ .f32) pads_S33x64_S128x64_0950_000 h_S_) transposes_S128x64_S64x128_1_0 := by
  rfl

set_option maxHeartbeats 4000000 in
theorem b1_flat (c : Dev nD) : V m c main_v31
    = shapeCast S64x1 (shapeCast S64 (m ((c : Thread nD τ).loc main_arg1) : FVec Ideal S1x64 .f32) shapeCasts_S1x64_S64) shapeCasts_S64_S64x1 := by
  rfl

set_option maxHeartbeats 4000000 in
theorem w2_flat (c : Dev nD) : V m c main_v32
    = transpose S64x64 [1, 0] (shapeCast S64x64 (m ((c : Thread nD τ).loc main_arg2) : FVec Ideal S1x64x64 .f32) shapeCasts_S1x64x64_S64x64) transposes_S64x64_S64x64_1_0 := by
  rfl

set_option maxHeartbeats 4000000 in
theorem b2_flat (c : Dev nD) : V m c main_v33
    = shapeCast S64x1 (shapeCast S64 (m ((c : Thread nD τ).loc main_arg3) : FVec Ideal S1x64 .f32) shapeCasts_S1x64_S64) shapeCasts_S64_S64x1 := by
  rfl

set_option maxHeartbeats 4000000 in
theorem w3_flat (c : Dev nD) : V m c main_v34
    = transpose S64x64 [1, 0] (shapeCast S64x64 (m ((c : Thread nD τ).loc main_arg4) : FVec Ideal S1x64x64 .f32) shapeCasts_S1x64x64_S64x64) transposes_S64x64_S64x64_1_0 := by
  rfl

set_option maxHeartbeats 4000000 in
theorem b3_flat (c : Dev nD) : V m c main_v35
    = shapeCast S64x1 (shapeCast S64 (m ((c : Thread nD τ).loc main_arg5) : FVec Ideal S1x64 .f32) shapeCasts_S1x64_S64) shapeCasts_S64_S64x1 := by
  rfl

set_option maxHeartbeats 4000000 in
theorem w4_flat (c : Dev nD) : V m c main_v24 = shapeCast S64x1024 (m ((c : Thread nD τ).loc main_arg6) : FVec Ideal S1x64x1024 .f32) shapeCasts_S1x64x1024_S64x1024 := by
  rfl

set_option maxHeartbeats 4000000 in
theorem freq_flat (c : Dev nD) : V m c main_v36
    = shapeCast S64x1 (shapeCast S64 (m ((c : Thread nD τ).loc main_arg7) : FVec Ideal S1x64 .f32) shapeCasts_S1x64_S64) shapeCasts_S64_S64x1 := by
  rfl

/-! The same element by element. -/

theorem features_at (y : FVec Ideal S8192x33 .f32) (z : FVec Ideal S_ .f32) (k : Fin 33) (s : Fin 8192) :
    transpose S128x8192 [1, 0] (pad S8192x128 ![0, 0] ![0, 95] ![0, 0] y z pads_S8192x33_S8192x128_000_0950 h_S_) transposes_S8192x128_S128x8192_1_0
      (ix2 ⟨k.val, by omega⟩ s) = y (ix2 s k) := by
  have hk := k.isLt
  pointwise

theorem w1_at (y : FVec Ideal S1x33x64 .f32) (z : FVec Ideal S_ .f32) (i : Fin 64) (k : Fin 33) :
    transpose S64x128 [1, 0] (pad S128x64 ![0, 0] ![95, 0] ![0, 0] (shapeCast S33x64 y shapeCasts_S1x33x64_S33x64 : FVec Ideal S33x64 .f32) z
      pads_S33x64_S128x64_0950_000 h_S_) transposes_S128x64_S64x128_1_0 (ix2 i ⟨k.val, by omega⟩) = y (ix3 0 k i) := by
  have hk := k.isLt
  pointwise

theorem w1_after (y : FVec Ideal S33x64 .f32) (z : FVec Ideal S_ .f32) (i : Fin 64) (k : Fin 128) (hk : 33 ≤ k.val) :
    transpose S64x128 [1, 0] (pad S128x64 ![0, 0] ![95, 0] ![0, 0] y z pads_S33x64_S128x64_0950_000 h_S_) transposes_S128x64_S64x128_1_0 (ix2 i k)
      = z (fun a => a.elim0) := by
  pointwise
  rw [dif_neg (by omega)]
  exact congrArg z (funext fun a => a.elim0)

theorem col_at (y : FVec Ideal S1x64 .f32) (i : Fin 64) :
    shapeCast S64x1 (shapeCast S64 y shapeCasts_S1x64_S64 : FVec Ideal S64 .f32) shapeCasts_S64_S64x1 (ix2 i 0) = y (ix2 0 i) := by
  pointwise

theorem square_at (y : FVec Ideal S1x64x64 .f32) (i j : Fin 64) :
    transpose S64x64 [1, 0] (shapeCast S64x64 y shapeCasts_S1x64x64_S64x64 : FVec Ideal S64x64 .f32) transposes_S64x64_S64x64_1_0 (ix2 i j) = y (ix3 0 j i) := by
  pointwise

theorem last_at (y : FVec Ideal S1x64x1024 .f32) (i : Fin 64) (n : Fin 1024) :
    shapeCast S64x1024 y shapeCasts_S1x64x1024_S64x1024 (ix2 i n) = y (ix3 0 i n) := by
  pointwise

theorem rate_at (y : FVec Ideal S512 .f32) (n : Fin 512) : shapeCast S1x512 y shapeCasts_S512_S1x512 (ix2 0 n) = y (ix1 n) := by
  pointwise

theorem far_at (s : Fin 8192) :
    extractStridedSlice S8192x1 ![0, 0] (Cert.Reference5Ideal.Read.val_main_v24 (F := Ideal)) slices_S8192x33_S8192x1_0_0 (ix2 s 0)
      = Cert.Reference5Ideal.Read.val_main_v9 (F := Ideal) (ix2 s 0) := by
  generalize hy : Cert.Reference5Ideal.Read.val_main_v9 (F := Ideal) = y
  pointwise [Cert.Reference5Ideal.Read.val_main_v24, hy]

end Cert.Kernel5Ideal.Taps

end
-- ==== Proof.TapsValue.lean ====
/-
The two result arrays of the filters' call after the launch, over the extended reals: the reference's terms.
-/
module

public import proofs.«01_k».proof.Proof.TapsPoint
public import proofs.«01_k».proof.Proof.TapsReference
public import proofs.«01_k».proof.Proof.TapsHost
public import proofs.«01_k».proof.Proof.Gen.Pre_finite_taps
public import Idealize.ShloMosaic.Lib.Claim

@[expose] public section

set_option maxRecDepth 16384

noncomputable section

namespace Cert.Kernel5Ideal.Taps

open Idealize.ShloMosaic Idealize.ShloMosaic.TcCoe Idealize.SL.Sem
open Idealize.ShloMosaic.Pipeline (Dat)
open Cert.Kernel5Ideal.Gen
open Cert.Taps
open Cert.Reference5Ideal.Taps (feature far rate decay hidden1 hidden2 hidden3 raw)

theorem real_of_abs_lt (x : EReal) (h : max x (-x) < ⊤) : ∃ a : ℝ, x = (a : EReal) := by
  rw [max_lt_iff] at h
  refine ⟨x.toReal, (EReal.coe_toReal h.1.ne ?_).symm⟩
  rintro rfl
  simp at h

/-- Where the precondition's bit is set, the last layer's weight is finite. -/
theorem finite_at (w1 : FVec Ideal S1x33x64 .f32) (b1 : FVec Ideal S1x64 .f32) (w2 : FVec Ideal S1x64x64 .f32) (b2 : FVec Ideal S1x64 .f32)
    (w3 : FVec Ideal S1x64x64 .f32) (b3 : FVec Ideal S1x64 .f32) (w4 : FVec Ideal S1x64x1024 .f32) (f : FVec Ideal S1x64 .f32) (k : Fin 64) (n : Fin 1024)
    (h : Cert.Pre_finite_taps.fn (F := Ideal) w1 b1 w2 b2 w3 b3 w4 f (ix3 0 k n) = 1#1) : ∃ r : ℝ, w4 (ix3 0 k n) = (r : EReal) := by
  have htop : Ideal.ofBits .f32 0x7F800000#32 = ⊤ := by simp [Ideal.ofBits, Ideal.ieee]
  have e : Cert.Pre_finite_taps.fn (F := Ideal) w1 b1 w2 b2 w3 b3 w4 f (ix3 0 k n)
      = Ideal.cmp .olt (max (w4 (ix3 0 k n)) (-(w4 (ix3 0 k n)))) (Ideal.ofBits .f32 0x7F800000#32) := by
    pointwise [Cert.Pre_finite_taps.fn]
    rfl
  rw [e, htop] at h
  refine real_of_abs_lt _ ?_
  by_contra hc
  simp [Ideal.cmp, hc] at h

/-- What the layers give at a row of a block whose windows hold the features and the weights. -/
theorem layers_of (z : FVec Ideal S128x1024 .f32) (w1 : FVec Ideal S64x128 .f32) (b1 : FVec Ideal S64x1 .f32) (w2 : FVec Ideal S64x64 .f32) (b2 : FVec Ideal S64x1 .f32)
    (w3 : FVec Ideal S64x64 .f32) (b3 : FVec Ideal S64x1 .f32) (w4 : FVec Ideal S64x1024 .f32) (f : FVec Ideal S64x1 .f32)
    (W1 : FVec Ideal S1x33x64 .f32) (B1 : FVec Ideal S1x64 .f32) (W2 : FVec Ideal S1x64x64 .f32) (B2 : FVec Ideal S1x64 .f32)
    (W3 : FVec Ideal S1x64x64 .f32) (B3 : FVec Ideal S1x64 .f32) (W4 : FVec Ideal S1x64x1024 .f32) (G : FVec Ideal S1x64 .f32)
    (r : Fin 1024) (s : Fin 8192)
    (hz : ∀ k : Fin 33, z (ix2 ⟨k.val, by omega⟩ r) = feature s k)
    (hw1 : ∀ (i : Fin 64) (k : Fin 33), w1 (ix2 i ⟨k.val, by omega⟩) = W1 (ix3 0 k i))
    (hw1' : ∀ (i : Fin 64) (k : Fin 128), 33 ≤ k.val → w1 (ix2 i k) = 0)
    (hb1 : ∀ i, b1 (ix2 i 0) = B1 (ix2 0 i)) (hw2 : ∀ i j, w2 (ix2 i j) = W2 (ix3 0 j i)) (hb2 : ∀ i, b2 (ix2 i 0) = B2 (ix2 0 i))
    (hw3 : ∀ i j, w3 (ix2 i j) = W3 (ix3 0 j i)) (hb3 : ∀ i, b3 (ix2 i 0) = B3 (ix2 0 i)) (hw4 : ∀ i n, w4 (ix2 i n) = W4 (ix3 0 i n))
    (hf : ∀ i, f (ix2 i 0) = G (ix2 0 i)) (hfin : ∀ i n, ∃ a : ℝ, W4 (ix3 0 i n) = (a : EReal)) (n : Fin 1024) :
    layers z w1 b1 w2 b2 w3 b3 w4 f (ix2 r n) = raw W1 B1 W2 B2 W3 B3 W4 G s n := by
  have h1 : ∀ i, Ideal.sin (f (ix2 i 0) * (three (fun j => w1 (ix2 i j)) (fun j => z (ix2 j r)) + b1 (ix2 i 0))) = hidden1 W1 B1 G s i := fun i => by
    rw [sin_three, one_padded _ _ (hw1' i), one_comm]
    simp only [hz, hw1, hb1, hf]
    rfl
  have h2 : ∀ i, Ideal.sin (f (ix2 i 0) * (three (fun j => w2 (ix2 i j)) (hidden1 W1 B1 G s) + b2 (ix2 i 0))) = hidden2 W1 B1 W2 B2 G s i := fun i => by
    rw [sin_three, one_comm]
    simp only [hw2, hb2, hf]
    rfl
  have h3 : ∀ i, Ideal.sin (f (ix2 i 0) * (three (fun j => w3 (ix2 i j)) (hidden2 W1 B1 W2 B2 G s) + b3 (ix2 i 0))) = hidden3 W1 B1 W2 B2 W3 B3 G s i := fun i => by
    rw [sin_three, one_comm]
    simp only [hw3, hb3, hf]
    rfl
  unfold layers
  rw [pay6_at, three_sin _ _ (fun k => by rw [hw4]; exact hfin k n)]
  simp only [pay5_at, h1]
  simp only [h2]
  simp only [h3, hw4]
  rfl

variable (m : (ℓ : Loc nD τ sig) → Buf (Elt Ideal) ℓ)

theorem idx : ∀ t : Fin cfg0.N, win0_0.index t = ![0, t.val] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

/-! ## The windows' blocks -/

theorem features_in (c : Dev nD) (t : Fin cfg0.N) (r : Fin 1024) (k : Fin 33) (s : Fin 8192) (hs : s.val = t.val * 1024 + r.val) :
    (show FVec Ideal S128x1024 .f32 from iblk m c 0 t) (ix2 ⟨k.val, by omega⟩ r) = feature s k := by
  have e : (show FVec Ideal S128x1024 .f32 from iblk m c 0 t) (ix2 ⟨k.val, by omega⟩ r) = (show FVec Ideal S128x8192 .f32 from V m c main_v27) (ix2 ⟨k.val, by omega⟩ s) := by
    blk_ext [iblk, idx t]
  exact e.trans ((congrFun (features_flat m c) _).trans (features_at _ _ k s))

theorem far_in (c : Dev nD) (t : Fin cfg0.N) (r : Fin 1024) (s : Fin 8192) (hs : s.val = t.val * 1024 + r.val) :
    (show FVec Ideal S1024x1 .f32 from iblk m c 1 t) (ix2 r 0) = far s := by
  have e : (show FVec Ideal S1024x1 .f32 from iblk m c 1 t) (ix2 r 0) = (show FVec Ideal S8192x1 .f32 from V m c main_v28) (ix2 s 0) := by
    blk_ext [iblk, idx t]
  exact e.trans ((congrFun (far_flat m c) _).trans (far_at s))

theorem rate_in (c : Dev nD) (t : Fin cfg0.N) (n : Fin 512) :
    (show FVec Ideal S1x512 .f32 from iblk m c 10 t) (ix2 0 n) = rate n := by
  have e : (show FVec Ideal S1x512 .f32 from iblk m c 10 t) (ix2 0 n) = (show FVec Ideal S1x512 .f32 from V m c main_v37) (ix2 0 n) := by
    blk_ext [iblk, idx t]
  exact e.trans ((congrFun (rate_flat m c) _).trans (rate_at _ n))

theorem w1_in (c : Dev nD) (t : Fin cfg0.N) (i : Fin 64) (k : Fin 33) :
    (show FVec Ideal S64x128 .f32 from iblk m c 2 t) (ix2 i ⟨k.val, by omega⟩) = (show FVec Ideal S1x33x64 .f32 from m ((c : Thread nD τ).loc main_arg0)) (ix3 0 k i) := by
  have e : (show FVec Ideal S64x128 .f32 from iblk m c 2 t) (ix2 i ⟨k.val, by omega⟩) = (show FVec Ideal S64x128 .f32 from V m c main_v30) (ix2 i ⟨k.val, by omega⟩) := by
    blk_ext [iblk, idx t]
  exact e.trans ((congrFun (w1_flat m c) _).trans (w1_at _ _ i k))

theorem zero_at : (sitofp .f32 (constantI S_ 32 0#32) : FVec Ideal S_ .f32) (fun a => a.elim0) = 0 :=
  (congrArg (fun z : ℤ => ((z : ℝ) : EReal)) (by decide : (0#32 : BitVec 32).toInt = 0)).trans (by simp)

theorem w1_zero (c : Dev nD) (t : Fin cfg0.N) (i : Fin 64) (k : Fin 128) (hk : 33 ≤ k.val) :
    (show FVec Ideal S64x128 .f32 from iblk m c 2 t) (ix2 i k) = 0 := by
  have e : (show FVec Ideal S64x128 .f32 from iblk m c 2 t) (ix2 i k) = (show FVec Ideal S64x128 .f32 from V m c main_v30) (ix2 i k) := by
    blk_ext [iblk, idx t]
  exact e.trans ((congrFun (w1_flat m c) _).trans ((w1_after _ _ i k hk).trans zero_at))

theorem b1_in (c : Dev nD) (t : Fin cfg0.N) (i : Fin 64) :
    (show FVec Ideal S64x1 .f32 from iblk m c 3 t) (ix2 i 0) = (show FVec Ideal S1x64 .f32 from m ((c : Thread nD τ).loc main_arg1)) (ix2 0 i) := by
  have e : (show FVec Ideal S64x1 .f32 from iblk m c 3 t) (ix2 i 0) = (show FVec Ideal S64x1 .f32 from V m c main_v31) (ix2 i 0) := by
    blk_ext [iblk, idx t]
  exact e.trans ((congrFun (b1_flat m c) _).trans (col_at _ i))

theorem b2_in (c : Dev nD) (t : Fin cfg0.N) (i : Fin 64) :
    (show FVec Ideal S64x1 .f32 from iblk m c 5 t) (ix2 i 0) = (show FVec Ideal S1x64 .f32 from m ((c : Thread nD τ).loc main_arg3)) (ix2 0 i) := by
  have e : (show FVec Ideal S64x1 .f32 from iblk m c 5 t) (ix2 i 0) = (show FVec Ideal S64x1 .f32 from V m c main_v33) (ix2 i 0) := by
    blk_ext [iblk, idx t]
  exact e.trans ((congrFun (b2_flat m c) _).trans (col_at _ i))

theorem b3_in (c : Dev nD) (t : Fin cfg0.N) (i : Fin 64) :
    (show FVec Ideal S64x1 .f32 from iblk m c 7 t) (ix2 i 0) = (show FVec Ideal S1x64 .f32 from m ((c : Thread nD τ).loc main_arg5)) (ix2 0 i) := by
  have e : (show FVec Ideal S64x1 .f32 from iblk m c 7 t) (ix2 i 0) = (show FVec Ideal S64x1 .f32 from V m c main_v35) (ix2 i 0) := by
    blk_ext [iblk, idx t]
  exact e.trans ((congrFun (b3_flat m c) _).trans (col_at _ i))

theorem freq_in (c : Dev nD) (t : Fin cfg0.N) (i : Fin 64) :
    (show FVec Ideal S64x1 .f32 from iblk m c 9 t) (ix2 i 0) = (show FVec Ideal S1x64 .f32 from m ((c : Thread nD τ).loc main_arg7)) (ix2 0 i) := by
  have e : (show FVec Ideal S64x1 .f32 from iblk m c 9 t) (ix2 i 0) = (show FVec Ideal S64x1 .f32 from V m c main_v36) (ix2 i 0) := by
    blk_ext [iblk, idx t]
  exact e.trans ((congrFun (freq_flat m c) _).trans (col_at _ i))

theorem w2_in (c : Dev nD) (t : Fin cfg0.N) (i j : Fin 64) :
    (show FVec Ideal S64x64 .f32 from iblk m c 4 t) (ix2 i j) = (show FVec Ideal S1x64x64 .f32 from m ((c : Thread nD τ).loc main_arg2)) (ix3 0 j i) := by
  have e : (show FVec Ideal S64x64 .f32 from iblk m c 4 t) (ix2 i j) = (show FVec Ideal S64x64 .f32 from V m c main_v32) (ix2 i j) := by
    blk_ext [iblk, idx t]
  exact e.trans ((congrFun (w2_flat m c) _).trans (square_at _ i j))

theorem w3_in (c : Dev nD) (t : Fin cfg0.N) (i j : Fin 64) :
    (show FVec Ideal S64x64 .f32 from iblk m c 6 t) (ix2 i j) = (show FVec Ideal S1x64x64 .f32 from m ((c : Thread nD τ).loc main_arg4)) (ix3 0 j i) := by
  have e : (show FVec Ideal S64x64 .f32 from iblk m c 6 t) (ix2 i j) = (show FVec Ideal S64x64 .f32 from V m c main_v34) (ix2 i j) := by
    blk_ext [iblk, idx t]
  exact e.trans ((congrFun (w3_flat m c) _).trans (square_at _ i j))

theorem w4_in (c : Dev nD) (t : Fin cfg0.N) (i : Fin 64) (n : Fin 1024) :
    (show FVec Ideal S64x1024 .f32 from iblk m c 8 t) (ix2 i n) = (show FVec Ideal S1x64x1024 .f32 from m ((c : Thread nD τ).loc main_arg6)) (ix3 0 i n) := by
  have e : (show FVec Ideal S64x1024 .f32 from iblk m c 8 t) (ix2 i n) = (show FVec Ideal S64x1024 .f32 from V m c main_v24) (ix2 i n) := by
    blk_ext [iblk, idx t]
  exact e.trans ((congrFun (w4_flat m c) _).trans (last_at _ i n))

/-! ## The results -/

/-- The last layer's weight is finite on every device. -/
def FiniteTaps : Prop := ∀ c : Dev nD, Cert.Pre_finite_taps.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1

theorem layers_in (hfin : FiniteTaps m) (c : Dev nD) (t : Fin cfg0.N) (r n : Fin 1024) (s : Fin 8192) (hs : s.val = t.val * 1024 + r.val) :
    layers (iblk m c 0 t) (iblk m c 2 t) (iblk m c 3 t) (iblk m c 4 t) (iblk m c 5 t) (iblk m c 6 t) (iblk m c 7 t) (iblk m c 8 t) (iblk m c 9 t) (ix2 r n)
      = raw (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) s n :=
  layers_of _ _ _ _ _ _ _ _ _ _ _ _ _ _ _ _ _ r s (fun k => features_in m c t r k s hs) (w1_in m c t) (w1_zero m c t) (b1_in m c t) (w2_in m c t) (b2_in m c t)
    (w3_in m c t) (b3_in m c t) (w4_in m c t) (freq_in m c t) (fun i n => finite_at _ _ _ _ _ _ _ _ i n (congrFun (hfin c) _)) n

theorem decay_in (c : Dev nD) (t : Fin cfg0.N) (r : Fin 1024) (n : Fin 512) (s : Fin 8192) (hs : s.val = t.val * 1024 + r.val) :
    k0_pay1 (F := Ideal) (iblk m c 1 t) (iblk m c 10 t) (ix2 r n) = decay s n := by
  refine (pay1_at _ _ r n).trans ?_
  have h1 := far_in m c t r s hs
  have h2 := rate_in m c t n
  unfold decay
  rw [← h1, ← h2]

theorem coord : ∀ t : Fin cfg0.N, (grid0.coords t 0).val = t.val := (by decide +kernel : ∀ t : Fin grid0.N, _)

theorem final_back (hfin : FiniteTaps m) (c : Dev nD) : (dats m 0 c).arrAt 11 (cfgs 0).N
    = Cert.Reference5Ideal.Read.val_main_v69 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11, out11_eq]
  have hN : t.val < 8 := lt_of_lt_of_eq t.isLt (show cfg0.N = 8 from N_0)
  have hy : (y 0 : ℕ) < 1024 := (y 0).isLt
  have e := (pay2_at _ (iblk m c 1 t) (iblk m c 10 t) (y 0) (y 1)).trans
    (congrArg₂ (· * ·) (layers_in m hfin c t (y 0) _ ⟨t.val * 1024 + (y 0).val, by omega⟩ rfl) (decay_in m c t (y 0) (y 1) ⟨t.val * 1024 + (y 0).val, by omega⟩ rfl))
  refine (congrArg _ (eq_ix2 (n0 := 1024) (n1 := 512) y)).trans
    (e.trans ((Cert.Reference5Ideal.Taps.v69_at _ _ _ _ _ _ _ _ _ _).symm.trans (congrArg _ ?_)))
  blk_ext [idx t]

theorem final_ahead (hfin : FiniteTaps m) (c : Dev nD) : (dats m 0 c).arrAt 12 (cfgs 0).N
    = Cert.Reference5Ideal.Read.val_main_v70 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12, out12_eq, coord t]
  have hN : t.val < 8 := lt_of_lt_of_eq t.isLt (show cfg0.N = 8 from N_0)
  have hy : (y 0 : ℕ) < 1024 := (y 0).isLt
  have hfirst : (BitVec.ofNat 32 t.val = 0#32 ∧ (y 0).val = 0) ↔ t.val * 1024 + (y 0).val = 0 := by
    constructor
    · rintro ⟨h, h0⟩
      have h' := congrArg BitVec.toNat h
      rw [BitVec.toNat_ofNat] at h'
      have : t.val = 0 := by
        rw [Nat.mod_eq_of_lt (by omega)] at h'
        exact h'
      omega
    · intro h
      have : t.val = 0 := by omega
      exact ⟨by rw [this], by omega⟩
  have e : _ = if t.val * 1024 + (y 0).val = 0 then (0 : EReal) else _ := (pay3_at (BitVec.ofNat 32 t.val) _ (iblk m c 1 t) (iblk m c 10 t) (y 0) (y 1)).trans
    (if_congr hfirst rfl (congrArg₂ (· * ·) (layers_in m hfin c t (y 0) _ ⟨t.val * 1024 + (y 0).val, by omega⟩ rfl) (decay_in m c t (y 0) (y 1) ⟨t.val * 1024 + (y 0).val, by omega⟩ rfl)))
  refine (congrArg _ (eq_ix2 (n0 := 1024) (n1 := 512) y)).trans
    (e.trans ((Cert.Reference5Ideal.Taps.v70_at _ _ _ _ _ _ _ _ ⟨t.val * 1024 + (y 0).val, by omega⟩ (y 1)).symm.trans (congrArg _ ?_)))
  blk_ext [idx t]

end Cert.Kernel5Ideal.Taps

end
-- ==== Proof.lean ====
/-
The claims: the kernels and their ideal readings run to the end and leave their arguments alone, and so do the
references; over the extended reals the first feed-forward call, the closing call, the call with the input projections and
the filters' call compute what their references compute. Of the attention call the frame is stated.
-/
module

public import proofs.«01_k».proof.Defs
public import proofs.«01_k».proof.Proof.Gen.Kernel
public import proofs.«01_k».proof.Proof.FfnBits
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.FfnValue
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.OutBits
public import proofs.«01_k».proof.Proof.OutValue
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.AttnBits
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.MixBits
public import proofs.«01_k».proof.Proof.MixValue
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.TapsValue
public import Idealize.ShloMosaic.Adequacy
public import Idealize.ShloMosaic.Init
public import Idealize.ShloMosaic.Lib.Claim

@[expose] public section

noncomputable section

namespace Cert.Proof

open Idealize.ShloMosaic Idealize.SL.Sem

theorem frame_kernel : Cert.quiescent_Kernel := fun m ρ _ => Cert.Kernel.Ffn.frame_run m ρ

theorem frame_ideal : Cert.quiescent_KernelIdeal := fun m ρ _ => Cert.KernelIdeal.Ffn.frame_run m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxHeartbeats 1600000 in
/-- Over the extended reals the first feed-forward call is `x + ½ swiglu(rmsnorm x)`. -/
theorem algebraic : Cert.algebraic_KernelIdeal_ReferenceIdeal := by
  pair_intro
  · run_from Cert.KernelIdeal.Ffn.run_main m g
  · run_from Cert.ReferenceIdeal.Value.run m' g'
    exact (Cert.KernelIdeal.Ffn.final m c).symm

theorem frame_kernel2 : Cert.quiescent_Kernel2 := fun m ρ _ => Cert.Kernel2.Out.frame_run m ρ

theorem frame_ideal2 : Cert.quiescent_Kernel2Ideal := fun m ρ _ => Cert.Kernel2Ideal.Out.frame_run m ρ

theorem frame_ideal2_pre : Cert.quiescent_Kernel2Ideal_pre_finite_hyena := fun m ρ _ => Cert.Kernel2Ideal.Out.frame_run m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Out.run (F := Ideal) m ρ)

theorem frame_reference2_pre : Cert.quiescent_Reference2Ideal_pre_finite_hyena := fun m ρ _ => frame_reference2 m ρ trivial

set_option maxHeartbeats 1600000 in
/-- Over the extended reals, where what the gate multiplies is finite, the closing call is the layer's tail: both mixers'
    outputs joined and added, the second feed-forward layer, the last norm. -/
theorem algebraic2 : Cert.algebraic_Kernel2Ideal_Reference2Ideal_pre_finite_hyena := by
  pair_intro
  · run_from Cert.Kernel2Ideal.Out.run_main m g
  · run_from Cert.Reference2Ideal.Out.run m' g'
    exact (Cert.Kernel2Ideal.Out.final m ‹_› c).symm

theorem frame_kernel3 : Cert.quiescent_Kernel3 := fun m ρ _ => Cert.Kernel3.Attn.frame_run m ρ

theorem frame_ideal3 : Cert.quiescent_Kernel3Ideal := fun m ρ _ => Cert.Kernel3Ideal.Attn.frame_run m ρ

theorem frame_kernel4 : Cert.quiescent_Kernel4 := fun m ρ _ => Cert.Kernel4.Mix.frame_run m ρ

theorem frame_ideal4 : Cert.quiescent_Kernel4Ideal := fun m ρ _ => Cert.Kernel4Ideal.Mix.frame_run m ρ

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

set_option maxHeartbeats 1600000 in
/-- Over the extended reals the call with the projections gives what the attention reads, and of the convolved parts the
    product of the second and third and the first. -/
theorem algebraic4 : Cert.algebraic_Kernel4Ideal_Reference4Ideal := by
  pair_intro
  · run_from Cert.Kernel4Ideal.Mix.run_main m g
  · run_from Cert.Reference4Ideal.Value.run m' g'
    · exact (Cert.Kernel4Ideal.Mix.final_qkv m c).symm
    · refine (Cert.Reference4Ideal.Read.val_main_v55_eq _ c).trans ?_
      rw [(hagree c).1, (hagree c).2.1, (hagree c).2.2.1, (hagree c).2.2.2.1, (hagree c).2.2.2.2]
      exact (Cert.Kernel4Ideal.Mix.final_prod m c).symm
    · refine (Cert.Reference4Ideal.Read.val_main_v57_eq _ c).trans ?_
      rw [(hagree c).1, (hagree c).2.1, (hagree c).2.2.1, (hagree c).2.2.2.1, (hagree c).2.2.2.2]
      exact (Cert.Kernel4Ideal.Mix.final_gate m c).symm

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_ideal5_pre : Cert.quiescent_Kernel5Ideal_pre_finite_taps := fun m ρ _ => Cert.Kernel5Ideal.Gen.frame m ρ

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_reference5_pre : Cert.quiescent_Reference5Ideal_pre_finite_taps := fun m ρ _ => frame_reference5 m ρ trivial

set_option maxHeartbeats 1600000 in
/-- Over the extended reals, where the last layer's weight is finite, the filters' call gives both directions' taps. -/
theorem algebraic5 : Cert.algebraic_Kernel5Ideal_Reference5Ideal_pre_finite_taps := by
  pair_intro
  · run_from Cert.Kernel5Ideal.Value.run_blocks m g
  · run_from Cert.Reference5Ideal.Value.run m' g'
    · refine (Cert.Reference5Ideal.Read.val_main_v69_eq _ c).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (Cert.Kernel5Ideal.Taps.final_back m ‹_› c).symm
    · refine (Cert.Reference5Ideal.Read.val_main_v70_eq _ c).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (Cert.Kernel5Ideal.Taps.final_ahead m ‹_› c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel2Ideal.Out.pre_facts, Cert.Pre_finite_taps.Gen.facts,
  frame_kernel, frame_ideal, frame_reference, frame_kernel2, frame_ideal2, frame_ideal2_pre, frame_reference2, frame_reference2_pre,
  frame_kernel3, frame_ideal3, frame_kernel4, frame_ideal4, frame_reference4,
  frame_kernel5, frame_ideal5, frame_ideal5_pre, frame_reference5, frame_reference5_pre,
  trivial, algebraic, trivial, algebraic2, trivial, trivial, algebraic4, trivial, algebraic5⟩

end Cert.Proof

end
